-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_weights [hPre_finite_weights : Cert.Pre_finite_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_weights [hPre_finite_weights : Cert.Pre_finite_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scores [hPre_finite_scores : Cert.Pre_finite_scores.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scores.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scores [hPre_finite_scores : Cert.Pre_finite_scores.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scores.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_weights [hKernel3Ideal : Cert.Kernel3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_weights m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_weights [hReference3Ideal : Cert.Reference3Ideal.Facts] [hPre_finite_weights : Cert.Pre_finite_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_scores [hKernel4Ideal : Cert.Kernel4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scores m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_scores [hReference4Ideal : Cert.Reference4Ideal.Facts] [hPre_finite_scores : Cert.Pre_finite_scores.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scores m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.bf16_pair.BufferStatement Cert.KernelIdeal.S87808x2x512 Cert.KernelIdeal.S87808x1x512
  ∧ IdealRules.bf16_pair.BufferStatement Cert.KernelIdeal.S256x2x512 Cert.KernelIdeal.S256x1x512
  ∧ IdealRules.bf16_pair.PackStatement Cert.KernelIdeal.S256x512
  ∧ IdealRules.bf16_pair.Statement Cert.KernelIdeal.S256x2x512 Cert.KernelIdeal.S256x1x512
  ∧ IdealRules.bf16_pair.Statement Cert.KernelIdeal.S512x512 Cert.KernelIdeal.S256x512

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite_weights [hKernel3Ideal : Cert.Kernel3Ideal.Facts] [hReference3Ideal : Cert.Reference3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_weights m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v50_0)) (v1 : (c : Dev Cert.Kernel3Ideal.nD) → Buf (Elt Ideal) ((c.tc : Thread Cert.Kernel3Ideal.nD Cert.Kernel3Ideal.τ).loc Cert.Kernel3Ideal.main_v50_1)) (v2 : (c : Dev Cert.Kernel3Ideal.nD) → Buf (Elt Ideal) ((c.tc : Thread Cert.Kernel3Ideal.nD Cert.Kernel3Ideal.τ).loc Cert.Kernel3Ideal.main_v50_3)) (v3 : (c : Dev Cert.Kernel3Ideal.nD) → Buf (Elt Ideal) ((c.tc : Thread Cert.Kernel3Ideal.nD Cert.Kernel3Ideal.τ).loc Cert.Kernel3Ideal.main_v50_4)) (v4 : (c : Dev Cert.Kernel3Ideal.nD) → Buf (Elt Ideal) ((c.tc : Thread Cert.Kernel3Ideal.nD Cert.Kernel3Ideal.τ).loc Cert.Kernel3Ideal.main_v50_5)) (v5 : (c : Dev Cert.Kernel3Ideal.nD) → Buf (Elt Ideal) ((c.tc : Thread Cert.Kernel3Ideal.nD Cert.Kernel3Ideal.τ).loc Cert.Kernel3Ideal.main_v50_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v50_0) = v0 c
          ∧ r.2.mem ((c.tc : Thread Cert.Kernel3Ideal.nD Cert.Kernel3Ideal.τ).loc Cert.Kernel3Ideal.main_v50_1) = v1 c
          ∧ r.2.mem ((c.tc : Thread Cert.Kernel3Ideal.nD Cert.Kernel3Ideal.τ).loc Cert.Kernel3Ideal.main_v50_3) = v2 c
          ∧ r.2.mem ((c.tc : Thread Cert.Kernel3Ideal.nD Cert.Kernel3Ideal.τ).loc Cert.Kernel3Ideal.main_v50_4) = v3 c
          ∧ r.2.mem ((c.tc : Thread Cert.Kernel3Ideal.nD Cert.Kernel3Ideal.τ).loc Cert.Kernel3Ideal.main_v50_5) = v4 c
          ∧ r.2.mem ((c.tc : Thread Cert.Kernel3Ideal.nD Cert.Kernel3Ideal.τ).loc Cert.Kernel3Ideal.main_v50_6) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v91) = v0 c
          ∧ r.2.mem ((c.tc : Thread Cert.Reference3Ideal.nD Cert.Reference3Ideal.τ).loc Cert.Reference3Ideal.main_v93) = v1 c
          ∧ r.2.mem ((c.tc : Thread Cert.Reference3Ideal.nD Cert.Reference3Ideal.τ).loc Cert.Reference3Ideal.main_v102) = v2 c
          ∧ r.2.mem ((c.tc : Thread Cert.Reference3Ideal.nD Cert.Reference3Ideal.τ).loc Cert.Reference3Ideal.main_v104) = v3 c
          ∧ r.2.mem ((c.tc : Thread Cert.Reference3Ideal.nD Cert.Reference3Ideal.τ).loc Cert.Reference3Ideal.main_v106) = v4 c
          ∧ r.2.mem ((c.tc : Thread Cert.Reference3Ideal.nD Cert.Reference3Ideal.τ).loc Cert.Reference3Ideal.main_v115) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "mask" .f32 0xF149F2CA#32 ⊥

def algebraic_Kernel4Ideal_Reference4Ideal_pre_finite_scores [hKernel4Ideal : Cert.Kernel4Ideal.Facts] [hReference4Ideal : Cert.Reference4Ideal.Facts] [hPre_finite_scores : Cert.Pre_finite_scores.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scores m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v84) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_in_range : Cert.Pre_in_range.Facts) (hPre_finite_weights : Cert.Pre_finite_weights.Facts) (hPre_finite_scores : Cert.Pre_finite_scores.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_weights (hKernel3Ideal := hKernel3Ideal) (hPre_finite_weights := hPre_finite_weights)
    ∧ quiescent_Reference3Ideal (hReference3Ideal := hReference3Ideal)
    ∧ quiescent_Reference3Ideal_pre_finite_weights (hReference3Ideal := hReference3Ideal) (hPre_finite_weights := hPre_finite_weights)
    ∧ quiescent_Kernel4 (hKernel4 := hKernel4)
    ∧ quiescent_Kernel4Ideal (hKernel4Ideal := hKernel4Ideal)
    ∧ quiescent_Kernel4Ideal_pre_finite_scores (hKernel4Ideal := hKernel4Ideal) (hPre_finite_scores := hPre_finite_scores)
    ∧ quiescent_Reference4Ideal (hReference4Ideal := hReference4Ideal)
    ∧ quiescent_Reference4Ideal_pre_finite_scores (hReference4Ideal := hReference4Ideal) (hPre_finite_scores := hPre_finite_scores)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_weights (hKernel3Ideal := hKernel3Ideal) (hReference3Ideal := hReference3Ideal) (hPre_finite_weights := hPre_finite_weights)
    ∧ preserves_Kernel4_Kernel4Ideal
    ∧ algebraic_Kernel4Ideal_Reference4Ideal_pre_finite_scores (hKernel4Ideal := hKernel4Ideal) (hReference4Ideal := hReference4Ideal) (hPre_finite_scores := hPre_finite_scores)
-- ==== Pre_finite_scores.lean ====
abbrev S4x4096x512 : Shape := ⟨3, ![4, 4096, 512]⟩
abbrev S4x4096x128 : Shape := ⟨3, ![4, 4096, 128]⟩
abbrev S4x8x8x128x512 : Shape := ⟨5, ![4, 8, 8, 128, 512]⟩
abbrev S1x128x512 : Shape := ⟨3, ![1, 128, 512]⟩
abbrev S1x128x128 : Shape := ⟨3, ![1, 128, 128]⟩
abbrev S1x8x1x128x128 : Shape := ⟨5, ![1, 8, 1, 128, 128]⟩
abbrev S_ : Shape := ⟨0, ![]⟩
abbrev S4x8x8x1x512 : Shape := ⟨5, ![4, 8, 8, 1, 512]⟩
abbrev S4x8x8x512 : Shape := ⟨4, ![4, 8, 8, 512]⟩
abbrev S1x8x1x1x128 : Shape := ⟨5, ![1, 8, 1, 1, 128]⟩
abbrev S1x8x1x128 : Shape := ⟨4, ![1, 8, 1, 128]⟩

class Facts : Prop where
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S1x128x512 : S_.BroadcastsInDim S1x128x512 (![] : Fin 0 → Fin S1x128x512.rank)
  reducesTo_S1x128x512_S_d0_1_2 : S1x128x512.ReducesTo [0, 1, 2] S_
  bcast_S_S1x128x128 : S_.BroadcastsInDim S1x128x128 (![] : Fin 0 → Fin S1x128x128.rank)
  reducesTo_S1x128x128_S_d0_1_2 : S1x128x128.ReducesTo [0, 1, 2] S_
  slices_S4x8x8x128x512_S4x8x8x1x512_0_0_0_64_0 : S4x8x8x128x512.Slices ![0, 0, 0, 64, 0] S4x8x8x1x512
  shapeCasts_S4x8x8x1x512_S4x8x8x512 : S4x8x8x1x512.ShapeCasts S4x8x8x512
  bcast_S_S4x8x8x512 : S_.BroadcastsInDim S4x8x8x512 (![] : Fin 0 → Fin S4x8x8x512.rank)
  reducesTo_S4x8x8x512_S_d0_1_2_3 : S4x8x8x512.ReducesTo [0, 1, 2, 3] S_
  slices_S1x8x1x128x128_S1x8x1x1x128_0_0_0_64_0 : S1x8x1x128x128.Slices ![0, 0, 0, 64, 0] S1x8x1x1x128
  shapeCasts_S1x8x1x1x128_S1x8x1x128 : S1x8x1x1x128.ShapeCasts S1x8x1x128
  bcast_S_S1x8x1x128 : S_.BroadcastsInDim S1x8x1x128 (![] : Fin 0 → Fin S1x8x1x128.rank)
  reducesTo_S1x8x1x128_S_d0_1_2_3 : S1x8x1x128.ReducesTo [0, 1, 2, 3] S_

variable [Facts]

def fn_part2 {F : FTy → Type} [FloatOps F] (main_v28 : IVec S_ 1) (main_v34 : IVec S_ 1) (main_v35 : FVec F S1x8x1x1x128 .bf16) : IVec S_ 1 :=
  let main_v36 : FVec F S1x8x1x128 .bf16 := shapeCast S1x8x1x128 main_v35 shapeCasts_S1x8x1x1x128_S1x8x1x128
  let main_v37 : FVec F S1x8x1x128 .f32 := (extf .f32 · bitsLt_bf16_f32) main_v36
  let main_cst_10 : FVec F S_ .f32 := constant S_ .f32 0x3F800000#32
  let main_v38 : FVec F S1x8x1x128 .f32 := broadcastInDim S1x8x1x128 ![] bcast_S_S1x8x1x128 main_cst_10
  let main_v39 : IVec S1x8x1x128 1 := cmpf .oeq main_v37 main_v38
  let main_c_11 : IVec S_ 1 := constantI S_ 1 1#1
  let main_v40 : IVec S_ 1 := (fun x v => Host.reduce IntOp.andi x v reducesTo_S1x8x1x128_S_d0_1_2_3 h_S_) main_v39 main_c_11
  let main_v41 : IVec S_ 1 := andi main_v34 main_v40
  let main_v42 : IVec S_ 1 := andi main_v28 main_v41
  main_v42

def fn_part1 {F : FTy → Type} [FloatOps F] (main_arg3 : FVec F S4x8x8x128x512 .bf16) (main_arg5 : FVec F S1x128x128 .bf16) (main_arg6 : FVec F S1x8x1x128x128 .bf16) (main_v16 : IVec S_ 1) (main_v17 : FVec F S1x128x512 .f32) : IVec S_ 1 :=
  let main_v18 : FVec F S1x128x512 .f32 := Host.absf main_v17
  let main_cst_4 : FVec F S_ .f32 := constant S_ .f32 0x7F800000#32
  let main_v19 : FVec F S1x128x512 .f32 := broadcastInDim S1x128x512 ![] bcast_S_S1x128x512 main_cst_4
  let main_v20 : IVec S1x128x512 1 := cmpf .olt main_v18 main_v19
  let main_c_5 : IVec S_ 1 := constantI S_ 1 1#1
  let main_v21 : IVec S_ 1 := (fun x v => Host.reduce IntOp.andi x v reducesTo_S1x128x512_S_d0_1_2 h_S_) main_v20 main_c_5
  let main_v22 : IVec S_ 1 := andi main_v16 main_v21
  let main_v23 : FVec F S1x128x128 .f32 := (extf .f32 · bitsLt_bf16_f32) main_arg5
  let main_v24 : FVec F S1x128x128 .f32 := Host.absf main_v23
  let main_cst_6 : FVec F S_ .f32 := constant S_ .f32 0x7F800000#32
  let main_v25 : FVec F S1x128x128 .f32 := broadcastInDim S1x128x128 ![] bcast_S_S1x128x128 main_cst_6
  let main_v26 : IVec S1x128x128 1 := cmpf .olt main_v24 main_v25
  let main_c_7 : IVec S_ 1 := constantI S_ 1 1#1
  let main_v27 : IVec S_ 1 := (fun x v => Host.reduce IntOp.andi x v reducesTo_S1x128x128_S_d0_1_2 h_S_) main_v26 main_c_7
  let main_v28 : IVec S_ 1 := andi main_v22 main_v27
  let main_v29 : FVec F S4x8x8x1x512 .bf16 := (extractStridedSlice S4x8x8x1x512 ![0, 0, 0, 64, 0] · slices_S4x8x8x128x512_S4x8x8x1x512_0_0_0_64_0) main_arg3
  let main_v30 : FVec F S4x8x8x512 .bf16 := shapeCast S4x8x8x512 main_v29 shapeCasts_S4x8x8x1x512_S4x8x8x512
  let main_v31 : FVec F S4x8x8x512 .f32 := (extf .f32 · bitsLt_bf16_f32) main_v30
  let main_cst_8 : FVec F S_ .f32 := constant S_ .f32 0x3F800000#32
  let main_v32 : FVec F S4x8x8x512 .f32 := broadcastInDim S4x8x8x512 ![] bcast_S_S4x8x8x512 main_cst_8
  let main_v33 : IVec S4x8x8x512 1 := cmpf .oeq main_v31 main_v32
  let main_c_9 : IVec S_ 1 := constantI S_ 1 1#1
  let main_v34 : IVec S_ 1 := (fun x v => Host.reduce IntOp.andi x v reducesTo_S4x8x8x512_S_d0_1_2_3 h_S_) main_v33 main_c_9
  let main_v35 : FVec F S1x8x1x1x128 .bf16 := (extractStridedSlice S1x8x1x1x128 ![0, 0, 0, 64, 0] · slices_S1x8x1x128x128_S1x8x1x1x128_0_0_0_64_0) main_arg6
  fn_part2 (F := F) main_v28 main_v34 main_v35

def fn {F : FTy → Type} [FloatOps F] (main_arg0 : FVec F S4x4096x512 .bf16) (main_arg1 : FVec F S4x4096x512 .bf16) (main_arg2 : FVec F S4x4096x128 .bf16) (main_arg3 : FVec F S4x8x8x128x512 .bf16) (main_arg4 : FVec F S1x128x512 .bf16) (main_arg5 : FVec F S1x128x128 .bf16) (main_arg6 : FVec F S1x8x1x128x128 .bf16) : IVec S_ 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_c : IVec S_ 1 := constantI S_ 1 1#1
  let main_v4 : IVec S_ 1 := (fun x v => Host.reduce IntOp.andi x v reducesTo_S4x4096x512_S_d0_1_2 h_S_) main_v3 main_c
  let main_v5 : FVec F S4x4096x512 .f32 := (extf .f32 · bitsLt_bf16_f32) main_arg1
  let main_v6 : FVec F S4x4096x512 .f32 := Host.absf main_v5
  let main_cst_0 : FVec F S_ .f32 := constant S_ .f32 0x7F800000#32
  let main_v7 : FVec F S4x4096x512 .f32 := broadcastInDim S4x4096x512 ![] bcast_S_S4x4096x512 main_cst_0
  let main_v8 : IVec S4x4096x512 1 := cmpf .olt main_v6 main_v7
  let main_c_1 : IVec S_ 1 := constantI S_ 1 1#1
  let main_v9 : IVec S_ 1 := (fun x v => Host.reduce IntOp.andi x v reducesTo_S4x4096x512_S_d0_1_2 h_S_) main_v8 main_c_1
  let main_v10 : IVec S_ 1 := andi main_v4 main_v9
  let main_v11 : FVec F S4x4096x128 .f32 := (extf .f32 · bitsLt_bf16_f32) main_arg2
  let main_v12 : FVec F S4x4096x128 .f32 := Host.absf main_v11
  let main_cst_2 : FVec F S_ .f32 := constant S_ .f32 0x7F800000#32
  let main_v13 : FVec F S4x4096x128 .f32 := broadcastInDim S4x4096x128 ![] bcast_S_S4x4096x128 main_cst_2
  let main_v14 : IVec S4x4096x128 1 := cmpf .olt main_v12 main_v13
  let main_c_3 : IVec S_ 1 := constantI S_ 1 1#1
  let main_v15 : IVec S_ 1 := (fun x v => Host.reduce IntOp.andi x v reducesTo_S4x4096x128_S_d0_1_2 h_S_) main_v14 main_c_3
  let main_v16 : IVec S_ 1 := andi main_v10 main_v15
  let main_v17 : FVec F S1x128x512 .f32 := (extf .f32 · bitsLt_bf16_f32) main_arg4
  fn_part1 (F := F) main_arg3 main_arg5 main_arg6 main_v16 main_v17
-- ==== Pre_finite_weights.lean ====
abbrev S4x4096x1024 : Shape := ⟨3, ![4, 4096, 1024]⟩
abbrev S8x1 : Shape := ⟨2, ![8, 1]⟩
abbrev S1x1024 : Shape := ⟨2, ![1, 1024]⟩
abbrev S1x1024x4360 : Shape := ⟨3, ![1, 1024, 4360]⟩
abbrev S1x8 : Shape := ⟨2, ![1, 8]⟩
abbrev S1x64 : Shape := ⟨2, ![1, 64]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x4360 : S_.BroadcastsInDim S1x1024x4360 (![] : Fin 0 → Fin S1x1024x4360.rank)
  reducesTo_S1x1024x4360_S_d0_1_2 : S1x1024x4360.ReducesTo [0, 1, 2] S_

variable [Facts]

def fn {F : FTy → Type} [FloatOps F] (main_arg0 : FVec F S4x4096x1024 .f32) (main_arg1 : FVec F S8x1 .f32) (main_arg2 : FVec F S1x1024 .f32) (main_arg3 : FVec F S1x1024x4360 .f32) (main_arg4 : FVec F S1x8 .f32) (main_arg5 : FVec F S1x64 .f32) (main_arg6 : FVec F S1x64 .f32) (main_arg7 : FVec F S1x64 .f32) (main_arg8 : FVec F S1x64 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x4360 .f32 := Host.absf main_arg3
  let main_cst_0 : FVec F S_ .f32 := constant S_ .f32 0x7F800000#32
  let main_v5 : FVec F S1x1024x4360 .f32 := broadcastInDim S1x1024x4360 ![] bcast_S_S1x1024x4360 main_cst_0
  let main_v6 : IVec S1x1024x4360 1 := cmpf .olt main_v4 main_v5
  let main_c_1 : IVec S_ 1 := constantI S_ 1 1#1
  let main_v7 : IVec S_ 1 := (fun x v => Host.reduce IntOp.andi x v reducesTo_S1x1024x4360_S_d0_1_2 h_S_) main_v6 main_c_1
  let main_v8 : IVec S_ 1 := andi main_v3 main_v7
  main_v8
-- ==== Pre_in_range.lean ====
abbrev S343 : Shape := ⟨1, ![343]⟩
abbrev S1 : Shape := ⟨1, ![1]⟩
abbrev S87808x512 : Shape := ⟨2, ![87808, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S343 : S_.BroadcastsInDim S343 (![] : Fin 0 → Fin S343.rank)
  reducesTo_S343_S_d0 : S343.ReducesTo [0] S_
  h_S_ : 0 < S_.numel
  shapeCasts_S1_S_ : S1.ShapeCasts S_

variable [Facts]

def fn {F : FTy → Type} [FloatOps F] (main_arg0 : IVec S343 32) (main_arg1 : IVec S1 32) (main_arg2 : IVec S87808x512 32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S343 32 := broadcastInDim S343 ![] bcast_S_S343 main_c
  let main_v1 : IVec S343 1 := cmpi .sge main_arg0 main_v0
  let main_c_0 : IVec S_ 32 := constantI S_ 32 32#32
  let main_v2 : IVec S343 32 := broadcastInDim S343 ![] bcast_S_S343 main_c_0
  let main_v3 : IVec S343 1 := cmpi .slt main_arg0 main_v2
  let main_v4 : IVec S343 1 := andi main_v1 main_v3
  let main_c_1 : IVec S_ 1 := constantI S_ 1 1#1
  let main_v5 : IVec S_ 1 := (fun x v => Host.reduce IntOp.andi x v reducesTo_S343_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S343 : Shape := ⟨1, ![343]⟩
abbrev S1 : Shape := ⟨1, ![1]⟩
abbrev S87808x512 : Shape := ⟨2, ![87808, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x512 : Shape := ⟨2, ![256, 512]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1x512x2048 : Shape := ⟨3, ![1, 512, 2048]⟩
abbrev S512x2048 : Shape := ⟨2, ![512, 2048]⟩
abbrev S256x2048 : Shape := ⟨2, ![256, 2048]⟩
abbrev S1x2048 : Shape := ⟨2, ![1, 2048]⟩
abbrev S256x1024 : Shape := ⟨2, ![256, 1024]⟩
abbrev S1024x1024 : Shape := ⟨2, ![1024, 1024]⟩
abbrev S1x1024 : Shape := ⟨2, ![1, 1024]⟩
abbrev S175616x512 : Shape := ⟨2, ![175616, 512]⟩
abbrev S512x512 : Shape := ⟨2, ![512, 512]⟩

abbrev nBuf : Space → Nat
  | .hbm => 11
  | .vmem => 16
  | .smem => 2
  | _ => 0

abbrev bufTy : (tb : Table) → Fin (tcTables nBuf tb) → BufTy
  | .hbm, ⟨0, _⟩ => ⟨S87808x512, .i32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x2048, .bf16⟩
  | .hbm, ⟨6, _⟩ => ⟨S32x1024x1024, .bf16⟩
  | .hbm, ⟨7, _⟩ => ⟨S32x1x2048, .f32⟩
  | .hbm, ⟨8, _⟩ => ⟨S32x1x1024, .f32⟩
  | .hbm, ⟨9, _⟩ => ⟨S87808x512, .i32⟩
  | .hbm, ⟨10, _⟩ => ⟨S175616x512, .bf16⟩
  | .local _ .vmem, ⟨0, _⟩ => ⟨S256x512, .i32⟩
  | .local _ .vmem, ⟨1, _⟩ => ⟨S256x512, .i32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x512, .i32⟩
  | .local _ .vmem, ⟨11, _⟩ => ⟨S256x512, .i32⟩
  | .local _ .vmem, ⟨12, _⟩ => ⟨S256x512, .i32⟩
  | .local _ .vmem, ⟨13, _⟩ => ⟨S256x512, .i32⟩
  | .local _ .vmem, ⟨14, _⟩ => ⟨S512x512, .bf16⟩
  | .local _ .vmem, ⟨15, _⟩ => ⟨S512x512, .bf16⟩
  | .local _ .smem, ⟨0, _⟩ => ⟨S343, .i32⟩
  | .local _ .smem, ⟨1, _⟩ => ⟨S1, .i32⟩
  | _, _ => ⟨S87808x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15

abbrev nD : Nat := 1
abbrev τ : Topo := Topo.v7x

variable {F : FTy → Type} [BitOps F]

abbrev grid0 : Pipeline.Grid := ⟨1, ![343], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S343.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S343) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S343.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S343) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S343.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S343) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S343.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S343) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![343], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== KernelIdeal.lean ====
abbrev S343 : Shape := ⟨1, ![343]⟩
abbrev S1 : Shape := ⟨1, ![1]⟩
abbrev S87808x512 : Shape := ⟨2, ![87808, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S87808x2x512 : Shape := ⟨3, ![87808, 2, 512]⟩
abbrev S87808x1x512 : Shape := ⟨3, ![87808, 1, 512]⟩
abbrev S256x512 : Shape := ⟨2, ![256, 512]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S256x2x512 : Shape := ⟨3, ![256, 2, 512]⟩
abbrev S256x1x512 : Shape := ⟨3, ![256, 1, 512]⟩
abbrev S1x512x2048 : Shape := ⟨3, ![1, 512, 2048]⟩
abbrev S512x2048 : Shape := ⟨2, ![512, 2048]⟩
abbrev S256x2048 : Shape := ⟨2, ![256, 2048]⟩
abbrev S1x2048 : Shape := ⟨2, ![1, 2048]⟩
abbrev S256x1024 : Shape := ⟨2, ![256, 1024]⟩
abbrev S1024x1024 : Shape := ⟨2, ![1024, 1024]⟩
abbrev S1x1024 : Shape := ⟨2, ![1, 1024]⟩
abbrev S175616x512 : Shape := ⟨2, ![175616, 512]⟩
abbrev S512x512 : Shape := ⟨2, ![512, 512]⟩

abbrev nBuf : Space → Nat
  | .hbm => 11
  | .vmem => 16
  | .smem => 2
  | _ => 0

abbrev bufTy : (tb : Table) → Fin (tcTables nBuf tb) → BufTy
  | .hbm, ⟨0, _⟩ => ⟨S87808x512, .i32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x2048, .bf16⟩
  | .hbm, ⟨6, _⟩ => ⟨S32x1024x1024, .bf16⟩
  | .hbm, ⟨7, _⟩ => ⟨S32x1x2048, .f32⟩
  | .hbm, ⟨8, _⟩ => ⟨S32x1x1024, .f32⟩
  | .hbm, ⟨9, _⟩ => ⟨S87808x2x512, .bf16⟩
  | .hbm, ⟨10, _⟩ => ⟨S175616x512, .bf16⟩
  | .local _ .vmem, ⟨0, _⟩ => ⟨S256x512, .i32⟩
  | .local _ .vmem, ⟨1, _⟩ => ⟨S256x512, .i32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x2x512, .bf16⟩
  | .local _ .vmem, ⟨11, _⟩ => ⟨S256x2x512, .bf16⟩
  | .local _ .vmem, ⟨12, _⟩ => ⟨S256x2x512, .bf16⟩
  | .local _ .vmem, ⟨13, _⟩ => ⟨S256x2x512, .bf16⟩
  | .local _ .vmem, ⟨14, _⟩ => ⟨S512x512, .bf16⟩
  | .local _ .vmem, ⟨15, _⟩ => ⟨S512x512, .bf16⟩
  | .local _ .smem, ⟨0, _⟩ => ⟨S343, .i32⟩
  | .local _ .smem, ⟨1, _⟩ => ⟨S1, .i32⟩
  | _, _ => ⟨S87808x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15

abbrev nD : Nat := 1
abbrev τ : Topo := Topo.v7x

variable {F : FTy → Type} [FloatOps F]

abbrev grid0 : Pipeline.Grid := ⟨1, ![343], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S343.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S343) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S343.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S343) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S343.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S343) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S343.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S343) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![343], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S343 : Shape := ⟨1, ![343]⟩
abbrev S1 : Shape := ⟨1, ![1]⟩
abbrev S87808x512 : Shape := ⟨2, ![87808, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S87808x512x2 : Shape := ⟨3, ![87808, 512, 2]⟩
abbrev S87808x512x1 : Shape := ⟨3, ![87808, 512, 1]⟩
abbrev S87808x1024 : Shape := ⟨2, ![87808, 1024]⟩
abbrev S343x256x1024 : Shape := ⟨3, ![343, 256, 1024]⟩
abbrev S_ : Shape := ⟨0, ![]⟩
abbrev S343x1 : Shape := ⟨2, ![343, 1]⟩
abbrev S343x1024x2048 : Shape := ⟨3, ![343, 1024, 2048]⟩
abbrev S343x256x2048 : Shape := ⟨3, ![343, 256, 2048]⟩
abbrev S343x2048 : Shape := ⟨2, ![343, 2048]⟩
abbrev S343x1x2048 : Shape := ⟨3, ![343, 1, 2048]⟩
abbrev S343x1024x1024 : Shape := ⟨3, ![343, 1024, 1024]⟩
abbrev S343x1024 : Shape := ⟨2, ![343, 1024]⟩
abbrev S343x1x1024 : Shape := ⟨3, ![343, 1, 1024]⟩
abbrev S343x1x1 : Shape := ⟨3, ![343, 1, 1]⟩
abbrev S175616x512 : Shape := ⟨2, ![175616, 512]⟩

abbrev nBuf : Space → Nat
  | .hbm => 100
  | .vmem => 0
  | .smem => 0
  | _ => 0

abbrev bufTy : (tb : Table) → Fin (tcTables nBuf tb) → BufTy
  | .hbm, ⟨0, _⟩ => ⟨S343, .i32⟩
  | .hbm, ⟨1, _⟩ => ⟨S1, .i32⟩
  | .hbm, ⟨2, _⟩ => ⟨S87808x512, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S87808x512x2, .bf16⟩
  | .hbm, ⟨8, _⟩ => ⟨S87808x512x2, .f32⟩
  | .hbm, ⟨9, _⟩ => ⟨S87808x512x1, .f32⟩
  | .hbm, ⟨10, _⟩ => ⟨S87808x512, .f32⟩
  | .hbm, ⟨11, _⟩ => ⟨S87808x512x1, .f32⟩
  | .hbm, ⟨12, _⟩ => ⟨S87808x512, .f32⟩
  | .hbm, ⟨13, _⟩ => ⟨S87808x1024, .f32⟩
  | .hbm, ⟨14, _⟩ => ⟨S343x256x1024, .f32⟩
  | .hbm, ⟨15, _⟩ => ⟨S_, .i32⟩
  | .hbm, ⟨16, _⟩ => ⟨S343, .i32⟩
  | .hbm, ⟨17, _⟩ => ⟨S343, .i1⟩
  | .hbm, ⟨18, _⟩ => ⟨S_, .i32⟩
  | .hbm, ⟨19, _⟩ => ⟨S343, .i32⟩
  | .hbm, ⟨20, _⟩ => ⟨S343, .i32⟩
  | .hbm, ⟨21, _⟩ => ⟨S343, .i32⟩
  | .hbm, ⟨22, _⟩ => ⟨S343x1, .i32⟩
  | .hbm, ⟨23, _⟩ => ⟨S343x1024x2048, .f32⟩
  | .hbm, ⟨24, _⟩ => ⟨S343x256x2048, .f32⟩
  | .hbm, ⟨25, _⟩ => ⟨S_, .i32⟩
  | .hbm, ⟨26, _⟩ => ⟨S343, .i32⟩
  | .hbm, ⟨27, _⟩ => ⟨S343, .i1⟩
  | .hbm, ⟨28, _⟩ => ⟨S_, .i32⟩
  | .hbm, ⟨29, _⟩ => ⟨S343, .i32⟩
  | .hbm, ⟨30, _⟩ => ⟨S343, .i32⟩
  | .hbm, ⟨31, _⟩ => ⟨S343, .i32⟩
  | .hbm, ⟨32, _⟩ => ⟨S343x1, .i32⟩
  | .hbm, ⟨33, _⟩ => ⟨S343x2048, .f32⟩
  | .hbm, ⟨34, _⟩ => ⟨S343x1x2048, .f32⟩
  | .hbm, ⟨35, _⟩ => ⟨S343x256x2048, .f32⟩
  | .hbm, ⟨36, _⟩ => ⟨S343x256x2048, .f32⟩
  | .hbm, ⟨37, _⟩ => ⟨S343x256x1024, .f32⟩
  | .hbm, ⟨38, _⟩ => ⟨S343x256x1024, .f32⟩
  | .hbm, ⟨39, _⟩ => ⟨S_, .f32⟩
  | .hbm, ⟨40, _⟩ => ⟨S343x256x1024, .f32⟩
  | .hbm, ⟨41, _⟩ => ⟨S343x256x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S343x256x1024, .f32⟩
  | .hbm, ⟨46, _⟩ => ⟨S343x256x1024, .f32⟩
  | .hbm, ⟨47, _⟩ => ⟨S_, .f32⟩
  | .hbm, ⟨48, _⟩ => ⟨S343x256x1024, .f32⟩
  | .hbm, ⟨49, _⟩ => ⟨S343x256x1024, .f32⟩
  | .hbm, ⟨50, _⟩ => ⟨S_, .f32⟩
  | .hbm, ⟨51, _⟩ => ⟨S343x256x1024, .f32⟩
  | .hbm, ⟨52, _⟩ => ⟨S343x256x1024, .f32⟩
  | .hbm, ⟨53, _⟩ => ⟨S_, .f32⟩
  | .hbm, ⟨54, _⟩ => ⟨S343x256x1024, .f32⟩
  | .hbm, ⟨55, _⟩ => ⟨S343x256x1024, .f32⟩
  | .hbm, ⟨56, _⟩ => ⟨S343x256x1024, .f32⟩
  | .hbm, ⟨57, _⟩ => ⟨S343x256x1024, .f32⟩
  | .hbm, ⟨58, _⟩ => ⟨S_, .f32⟩
  | .hbm, ⟨59, _⟩ => ⟨S343x256x1024, .f32⟩
  | .hbm, ⟨60, _⟩ => ⟨S343x256x1024, .f32⟩
  | .hbm, ⟨61, _⟩ => ⟨S_, .f32⟩
  | .hbm, ⟨62, _⟩ => ⟨S343x256x1024, .f32⟩
  | .hbm, ⟨63, _⟩ => ⟨S343x256x1024, .f32⟩
  | .hbm, ⟨64, _⟩ => ⟨S343x256x1024, .f32⟩
  | .hbm, ⟨65, _⟩ => ⟨S343x256x1024, .f32⟩
  | .hbm, ⟨66, _⟩ => ⟨S_, .i32⟩
  | .hbm, ⟨67, _⟩ => ⟨S343, .i32⟩
  | .hbm, ⟨68, _⟩ => ⟨S343, .i1⟩
  | .hbm, ⟨69, _⟩ => ⟨S_, .i32⟩
  | .hbm, ⟨70, _⟩ => ⟨S343, .i32⟩
  | .hbm, ⟨71, _⟩ => ⟨S343, .i32⟩
  | .hbm, ⟨72, _⟩ => ⟨S343, .i32⟩
  | .hbm, ⟨73, _⟩ => ⟨S343x1, .i32⟩
  | .hbm, ⟨74, _⟩ => ⟨S343x1024x1024, .f32⟩
  | .hbm, ⟨75, _⟩ => ⟨S343x256x1024, .f32⟩
  | .hbm, ⟨76, _⟩ => ⟨S_, .i32⟩
  | .hbm, ⟨77, _⟩ => ⟨S343, .i32⟩
  | .hbm, ⟨78, _⟩ => ⟨S343, .i1⟩
  | .hbm, ⟨79, _⟩ => ⟨S_, .i32⟩
  | .hbm, ⟨80, _⟩ => ⟨S343, .i32⟩
  | .hbm, ⟨81, _⟩ => ⟨S343, .i32⟩
  | .hbm, ⟨82, _⟩ => ⟨S343, .i32⟩
  | .hbm, ⟨83, _⟩ => ⟨S343x1, .i32⟩
  | .hbm, ⟨84, _⟩ => ⟨S343x1024, .f32⟩
  | .hbm, ⟨85, _⟩ => ⟨S343x1x1024, .f32⟩
  | .hbm, ⟨86, _⟩ => ⟨S343x256x1024, .f32⟩
  | .hbm, ⟨87, _⟩ => ⟨S343x256x1024, .f32⟩
  | .hbm, ⟨88, _⟩ => ⟨S343, .i32⟩
  | .hbm, ⟨89, _⟩ => ⟨S_, .i32⟩
  | .hbm, ⟨90, _⟩ => ⟨S343, .i32⟩
  | .hbm, ⟨91, _⟩ => ⟨S343, .i1⟩
  | .hbm, ⟨92, _⟩ => ⟨S343x1x1, .i1⟩
  | .hbm, ⟨93, _⟩ => ⟨S_, .f32⟩
  | .hbm, ⟨94, _⟩ => ⟨S_, .f32⟩
  | .hbm, ⟨95, _⟩ => ⟨S343x256x1024, .i1⟩
  | .hbm, ⟨96, _⟩ => ⟨S343x256x1024, .f32⟩
  | .hbm, ⟨97, _⟩ => ⟨S343x256x1024, .f32⟩
  | .hbm, ⟨98, _⟩ => ⟨S175616x512, .f32⟩
  | .hbm, ⟨99, _⟩ => ⟨S175616x512, .bf16⟩
  | _, _ => ⟨S343, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S1x1024 : Shape := ⟨2, ![1, 1024]⟩
abbrev S1x1024x4360 : Shape := ⟨3, ![1, 1024, 4360]⟩
abbrev S1x512x1024 : Shape := ⟨3, ![1, 512, 1024]⟩
abbrev S1x1024x1024 : Shape := ⟨3, ![1, 1024, 1024]⟩
abbrev S1x1024x32 : Shape := ⟨3, ![1, 1024, 32]⟩
abbrev S1x32 : Shape := ⟨2, ![1, 32]⟩
abbrev S512 : Shape := ⟨1, ![512]⟩
abbrev S1024x4360 : Shape := ⟨2, ![1024, 4360]⟩
abbrev S1024x1024 : Shape := ⟨2, ![1024, 1024]⟩
abbrev S1024 : Shape := ⟨1, ![1024]⟩
abbrev S512x1024 : Shape := ⟨2, ![512, 1024]⟩
abbrev S_ : Shape := ⟨0, ![]⟩
abbrev S512x1 : Shape := ⟨2, ![512, 1]⟩
abbrev S1024x32 : Shape := ⟨2, ![1024, 32]⟩
abbrev S1024x128 : Shape := ⟨2, ![1024, 128]⟩
abbrev S32 : Shape := ⟨1, ![32]⟩
abbrev S128 : Shape := ⟨1, ![128]⟩
abbrev S1x128 : Shape := ⟨2, ![1, 128]⟩
abbrev S16384x1024 : Shape := ⟨2, ![16384, 1024]⟩
abbrev S16384x512 : Shape := ⟨2, ![16384, 512]⟩
abbrev S16384x128 : Shape := ⟨2, ![16384, 128]⟩
abbrev S512x512 : Shape := ⟨2, ![512, 512]⟩
abbrev S512x128 : Shape := ⟨2, ![512, 128]⟩

abbrev nBuf : Space → Nat
  | .hbm => 49
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1x1024, .f32⟩
  | .hbm, ⟨4, _⟩ => ⟨S1x1024x4360, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S512, .i32⟩
  | .hbm, ⟨12, _⟩ => ⟨S512, .i1⟩
  | .hbm, ⟨13, _⟩ => ⟨S1024x4360, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S512x1024, .f32⟩
  | .hbm, ⟨31, _⟩ => ⟨S512x1024, .bf16⟩
  | .hbm, ⟨32, _⟩ => ⟨S1024x1024, .f32⟩
  | .hbm, ⟨33, _⟩ => ⟨S1024x1024, .bf16⟩
  | .hbm, ⟨34, _⟩ => ⟨S1024x32, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S32, .f32⟩
  | .hbm, ⟨39, _⟩ => ⟨S_, .f32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S16384x1024, .f32⟩
  | .hbm, ⟨44, _⟩ => ⟨S16384x512, .bf16⟩
  | .hbm, ⟨45, _⟩ => ⟨S16384x512, .bf16⟩
  | .hbm, ⟨46, _⟩ => ⟨S16384x1024, .f32⟩
  | .hbm, ⟨47, _⟩ => ⟨S16384x1024, .bf16⟩
  | .hbm, ⟨48, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x128, .f32⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x128, .f32⟩
  | .local _ .vmem, ⟨20, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v28_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S4x4096x1024 : Shape := ⟨3, ![4, 4096, 1024]⟩
abbrev S4x4096x512 : Shape := ⟨3, ![4, 4096, 512]⟩
abbrev S1x1024 : Shape := ⟨2, ![1, 1024]⟩
abbrev S1x1024x4360 : Shape := ⟨3, ![1, 1024, 4360]⟩
abbrev S1x512x1024 : Shape := ⟨3, ![1, 512, 1024]⟩
abbrev S1x1024x1024 : Shape := ⟨3, ![1, 1024, 1024]⟩
abbrev S1x1024x32 : Shape := ⟨3, ![1, 1024, 32]⟩
abbrev S1x32 : Shape := ⟨2, ![1, 32]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4360 : Shape := ⟨2, ![1024, 4360]⟩
abbrev S4x4096x4360 : Shape := ⟨3, ![4, 4096, 4360]⟩
abbrev S4x4096x4x2x64 : Shape := ⟨5, ![4, 4096, 4, 2, 64]⟩
abbrev S4x4096x2x4x64 : Shape := ⟨5, ![4, 4096, 2, 4, 64]⟩
abbrev S512x1024 : Shape := ⟨2, ![512, 1024]⟩
abbrev S1024x1024 : Shape := ⟨2, ![1024, 1024]⟩
abbrev S16384x1024 : Shape := ⟨2, ![16384, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1x1024, .f32⟩
  | .hbm, ⟨4, _⟩ => ⟨S1x1024x4360, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x32, .f32⟩
  | .hbm, ⟨10, _⟩ => ⟨S1x32, .f32⟩
  | .hbm, ⟨11, _⟩ => ⟨S1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S1024x4360, .f32⟩
  | .hbm, ⟨29, _⟩ => ⟨S4x4096x4360, .f32⟩
  | .hbm, ⟨30, _⟩ => ⟨S4x4096x1024, .f32⟩
  | .hbm, ⟨31, _⟩ => ⟨S4x4096x1024, .f32⟩
  | .hbm, ⟨32, _⟩ => ⟨S4x4096x4x2x64, .bf16⟩
  | .hbm, ⟨33, _⟩ => ⟨S4x4096x2x4x64, .bf16⟩
  | .hbm, ⟨34, _⟩ => ⟨S4x4096x512, .bf16⟩
  | .hbm, ⟨35, _⟩ => ⟨S4x4096x1024, .f32⟩
  | .hbm, ⟨36, _⟩ => ⟨S4x4096x1024, .f32⟩
  | .hbm, ⟨37, _⟩ => ⟨S_, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096x1024, .f32⟩
  | .hbm, ⟨42, _⟩ => ⟨S4x4096x1024, .f32⟩
  | .hbm, ⟨43, _⟩ => ⟨S4x4096x512, .f32⟩
  | .hbm, ⟨44, _⟩ => ⟨S512x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096x1024, .f32⟩
  | .hbm, ⟨54, _⟩ => ⟨S4x4096x1024, .f32⟩
  | .hbm, ⟨55, _⟩ => ⟨S4x4096x512, .f32⟩
  | .hbm, ⟨56, _⟩ => ⟨S512x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S1024x1024, .f32⟩
  | .hbm, ⟨61, _⟩ => ⟨S4x4096x1024, .f32⟩
  | .hbm, ⟨62, _⟩ => ⟨S4x4096x1024, .f32⟩
  | .hbm, ⟨63, _⟩ => ⟨S1024, .f32⟩
  | .hbm, ⟨64, _⟩ => ⟨S4x4096x1024, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1x1x1024, .f32⟩
  | .hbm, ⟨78, _⟩ => ⟨S4x4096x1024, .f32⟩
  | .hbm, ⟨79, _⟩ => ⟨S4x4096x1024, .f32⟩
  | .hbm, ⟨80, _⟩ => ⟨S16384x1024, .f32⟩
  | .hbm, ⟨81, _⟩ => ⟨S16384x1024, .f32⟩
  | .hbm, ⟨82, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel3.lean ====
abbrev S4x4096x1024 : Shape := ⟨3, ![4, 4096, 1024]⟩
abbrev S8x1 : Shape := ⟨2, ![8, 1]⟩
abbrev S1x1024 : Shape := ⟨2, ![1, 1024]⟩
abbrev S1x1024x4360 : Shape := ⟨3, ![1, 1024, 4360]⟩
abbrev S1x8 : Shape := ⟨2, ![1, 8]⟩
abbrev S1x64 : Shape := ⟨2, ![1, 64]⟩
abbrev S512 : Shape := ⟨1, ![512]⟩
abbrev S1024x4360 : Shape := ⟨2, ![1024, 4360]⟩
abbrev S1024x1024 : Shape := ⟨2, ![1024, 1024]⟩
abbrev S1024x512 : Shape := ⟨2, ![1024, 512]⟩
abbrev S512x1024 : Shape := ⟨2, ![512, 1024]⟩
abbrev S1024x8 : Shape := ⟨2, ![1024, 8]⟩
abbrev S8x1024 : Shape := ⟨2, ![8, 1024]⟩
abbrev S1024x768 : Shape := ⟨2, ![1024, 768]⟩
abbrev S_ : Shape := ⟨0, ![]⟩
abbrev S512x1 : Shape := ⟨2, ![512, 1]⟩
abbrev S1024x128 : Shape := ⟨2, ![1024, 128]⟩
abbrev S1024x640 : Shape := ⟨2, ![1024, 640]⟩
abbrev S128x1024 : Shape := ⟨2, ![128, 1024]⟩
abbrev S1024 : Shape := ⟨1, ![1024]⟩
abbrev S8 : Shape := ⟨1, ![8]⟩
abbrev S64 : Shape := ⟨1, ![64]⟩
abbrev S8x64 : Shape := ⟨2, ![8, 64]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S4x4096x512 : Shape := ⟨3, ![4, 4096, 512]⟩
abbrev S4x4096x128 : Shape := ⟨3, ![4, 4096, 128]⟩
abbrev S4x8x8x128x512 : Shape := ⟨5, ![4, 8, 8, 128, 512]⟩
abbrev S4x2x32x128x128 : Shape := ⟨5, ![4, 2, 32, 128, 128]⟩
abbrev S4x8x1 : Shape := ⟨3, ![4, 8, 1]⟩
abbrev S1x512x1024 : Shape := ⟨3, ![1, 512, 1024]⟩
abbrev S1x512x512 : Shape := ⟨3, ![1, 512, 512]⟩
abbrev S1x512x128 : Shape := ⟨3, ![1, 512, 128]⟩
abbrev S1x8x1x128x512 : Shape := ⟨5, ![1, 8, 1, 128, 512]⟩
abbrev S1x2x4x128x128 : Shape := ⟨5, ![1, 2, 4, 128, 128]⟩
abbrev S1x8x1 : Shape := ⟨3, ![1, 8, 1]⟩
abbrev S512x640 : Shape := ⟨2, ![512, 640]⟩
abbrev S128x512 : Shape := ⟨2, ![128, 512]⟩
abbrev S512x512 : Shape := ⟨2, ![512, 512]⟩
abbrev S8x512 : Shape := ⟨2, ![8, 512]⟩
abbrev S512x128 : Shape := ⟨2, ![512, 128]⟩
abbrev S64x512 : Shape := ⟨2, ![64, 512]⟩
abbrev S1x1x1x128x512 : Shape := ⟨5, ![1, 1, 1, 128, 512]⟩
abbrev S128x128 : Shape := ⟨2, ![128, 128]⟩
abbrev S1x1x1x128x128 : Shape := ⟨5, ![1, 1, 1, 128, 128]⟩
abbrev S104x512 : Shape := ⟨2, ![104, 512]⟩

abbrev nBuf : Space → Nat
  | .hbm => 72
  | .vmem => 31
  | .smem => 0
  | _ => 0

abbrev bufTy : (tb : Table) → Fin (tcTables nBuf tb) → BufTy
  | .hbm, ⟨0, _⟩ => ⟨S4x4096x1024, .f32⟩
  | .hbm, ⟨1, _⟩ => ⟨S8x1, .f32⟩
  | .hbm, ⟨2, _⟩ => ⟨S1x1024, .f32⟩
  | .hbm, ⟨3, _⟩ => ⟨S1x1024x4360, .f32⟩
  | .hbm, ⟨4, _⟩ => ⟨S1x8, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S512, .i32⟩
  | .hbm, ⟨10, _⟩ => ⟨S512, .i1⟩
  | .hbm, ⟨11, _⟩ => ⟨S1024x4360, .f32⟩
  | .hbm, ⟨12, _⟩ => ⟨S1024x1024, .f32⟩
  | .hbm, ⟨13, _⟩ => ⟨S1024x1024, .bf16⟩
  | .hbm, ⟨14, _⟩ => ⟨S1024x512, .f32⟩
  | .hbm, ⟨15, _⟩ => ⟨S512x1024, .f32⟩
  | .hbm, ⟨16, _⟩ => ⟨S512x1024, .bf16⟩
  | .hbm, ⟨17, _⟩ => ⟨S1024x8, .f32⟩
  | .hbm, ⟨18, _⟩ => ⟨S8x1024, .f32⟩
  | .hbm, ⟨19, _⟩ => ⟨S8x1024, .bf16⟩
  | .hbm, ⟨20, _⟩ => ⟨S1024x768, .f32⟩
  | .hbm, ⟨21, _⟩ => ⟨S1024x512, .f32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S1024x512, .f32⟩
  | .hbm, ⟨28, _⟩ => ⟨S1024x128, .f32⟩
  | .hbm, ⟨29, _⟩ => ⟨S1024x640, .f32⟩
  | .hbm, ⟨30, _⟩ => ⟨S1024x640, .bf16⟩
  | .hbm, ⟨31, _⟩ => ⟨S1024x128, .f32⟩
  | .hbm, ⟨32, _⟩ => ⟨S128x1024, .f32⟩
  | .hbm, ⟨33, _⟩ => ⟨S128x1024, .bf16⟩
  | .hbm, ⟨34, _⟩ => ⟨S1024, .f32⟩
  | .hbm, ⟨35, _⟩ => ⟨S1x1024, .f32⟩
  | .hbm, ⟨36, _⟩ => ⟨S8, .f32⟩
  | .hbm, ⟨37, _⟩ => ⟨S8x1, .f32⟩
  | .hbm, ⟨38, _⟩ => ⟨S64, .f32⟩
  | .hbm, ⟨39, _⟩ => ⟨S1x64, .f32⟩
  | .hbm, ⟨40, _⟩ => ⟨S8x64, .f32⟩
  | .hbm, ⟨41, _⟩ => ⟨S512, .f32⟩
  | .hbm, ⟨42, _⟩ => ⟨S1x512, .f32⟩
  | .hbm, ⟨43, _⟩ => ⟨S_, .f32⟩
  | .hbm, ⟨44, _⟩ => ⟨S1x512, .f32⟩
  | .hbm, ⟨45, _⟩ => ⟨S1x512, .f32⟩
  | .hbm, ⟨46, _⟩ => ⟨S64, .f32⟩
  | .hbm, ⟨47, _⟩ => ⟨S1x64, .f32⟩
  | .hbm, ⟨48, _⟩ => ⟨S8x64, .f32⟩
  | .hbm, ⟨49, _⟩ => ⟨S512, .f32⟩
  | .hbm, ⟨50, _⟩ => ⟨S1x512, .f32⟩
  | .hbm, ⟨51, _⟩ => ⟨S64, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S1x512, .f32⟩
  | .hbm, ⟨58, _⟩ => ⟨S1x512, .f32⟩
  | .hbm, ⟨59, _⟩ => ⟨S64, .f32⟩
  | .hbm, ⟨60, _⟩ => ⟨S1x64, .f32⟩
  | .hbm, ⟨61, _⟩ => ⟨S2x64, .f32⟩
  | .hbm, ⟨62, _⟩ => ⟨S128, .f32⟩
  | .hbm, ⟨63, _⟩ => ⟨S1x128, .f32⟩
  | .hbm, ⟨64, _⟩ => ⟨S4x4096x512, .bf16⟩
  | .hbm, ⟨65, _⟩ => ⟨S4x4096x512, .bf16⟩
  | .hbm, ⟨66, _⟩ => ⟨S4x4096x128, .bf16⟩
  | .hbm, ⟨67, _⟩ => ⟨S4x8x8x128x512, .bf16⟩
  | .hbm, ⟨68, _⟩ => ⟨S4x4096x512, .bf16⟩
  | .hbm, ⟨69, _⟩ => ⟨S4x4096x128, .bf16⟩
  | .hbm, ⟨70, _⟩ => ⟨S4x2x32x128x128, .bf16⟩
  | .hbm, ⟨71, _⟩ => ⟨S4x8x1, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S8x1024, .bf16⟩
  | .local _ .vmem, ⟨6, _⟩ => ⟨S1024x640, .bf16⟩
  | .local _ .vmem, ⟨7, _⟩ => ⟨S128x1024, .bf16⟩
  | .local _ .vmem, ⟨8, _⟩ => ⟨S8x1, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x128, .f32⟩
  | .local _ .vmem, ⟨13, _⟩ => ⟨S8x1, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x128, .bf16⟩
  | .local _ .vmem, ⟨19, _⟩ => ⟨S1x512x128, .bf16⟩
  | .local _ .vmem, ⟨20, _⟩ => ⟨S1x8x1x128x512, .bf16⟩
  | .local _ .vmem, ⟨21, _⟩ => ⟨S1x8x1x128x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x128, .bf16⟩
  | .local _ .vmem, ⟨25, _⟩ => ⟨S1x512x128, .bf16⟩
  | .local _ .vmem, ⟨26, _⟩ => ⟨S1x2x4x128x128, .bf16⟩
  | .local _ .vmem, ⟨27, _⟩ => ⟨S1x2x4x128x128, .bf16⟩
  | .local _ .vmem, ⟨28, _⟩ => ⟨S1x8x1, .f32⟩
  | .local _ .vmem, ⟨29, _⟩ => ⟨S1x8x1, .f32⟩
  | .local _ .vmem, ⟨30, _⟩ => ⟨S8x1, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50_0 : Ref sig .tc := ⟨.hbm, 64, rfl⟩
abbrev main_v50_1 : Ref sig .tc := ⟨.hbm, 65, rfl⟩
abbrev main_v50_2 : Ref sig .tc := ⟨.hbm, 66, rfl⟩
abbrev main_v50_3 : Ref sig .tc := ⟨.hbm, 67, rfl⟩
abbrev main_v50_4 : Ref sig .tc := ⟨.hbm, 68, rfl⟩
abbrev main_v50_5 : Ref sig .tc := ⟨.hbm, 69, rfl⟩
abbrev main_v50_6 : Ref sig .tc := ⟨.hbm, 70, rfl⟩
abbrev main_v50_7 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x1x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x4x128x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== Reference3Ideal.lean ====
abbrev S4x4096x1024 : Shape := ⟨3, ![4, 4096, 1024]⟩
abbrev S8x1 : Shape := ⟨2, ![8, 1]⟩
abbrev S1x1024 : Shape := ⟨2, ![1, 1024]⟩
abbrev S1x1024x4360 : Shape := ⟨3, ![1, 1024, 4360]⟩
abbrev S1x8 : Shape := ⟨2, ![1, 8]⟩
abbrev S1x64 : Shape := ⟨2, ![1, 64]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4360 : Shape := ⟨2, ![1024, 4360]⟩
abbrev S4x4096x4360 : Shape := ⟨3, ![4, 4096, 4360]⟩
abbrev S4x4096x512 : Shape := ⟨3, ![4, 4096, 512]⟩
abbrev S4x4096x8x64 : Shape := ⟨4, ![4, 4096, 8, 64]⟩
abbrev S4x8x512x8x64 : Shape := ⟨5, ![4, 8, 512, 8, 64]⟩
abbrev S4x4096x128 : Shape := ⟨3, ![4, 4096, 128]⟩
abbrev S4x4096x2x64 : Shape := ⟨4, ![4, 4096, 2, 64]⟩
abbrev S4x32x128x2x64 : Shape := ⟨5, ![4, 32, 128, 2, 64]⟩
abbrev S64 : Shape := ⟨1, ![64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x2 : Shape := ⟨3, ![4, 4096, 2]⟩
abbrev S4x4096x2x1 : Shape := ⟨4, ![4, 4096, 2, 1]⟩
abbrev S4x4096x2x4x64 : Shape := ⟨5, ![4, 4096, 2, 4, 64]⟩
abbrev S4x4096x4x2x64 : Shape := ⟨5, ![4, 4096, 4, 2, 64]⟩
abbrev S4x8x8x64x512 : Shape := ⟨5, ![4, 8, 8, 64, 512]⟩
abbrev S64x1 : Shape := ⟨2, ![64, 1]⟩
abbrev S4x8x8x128x512 : Shape := ⟨5, ![4, 8, 8, 128, 512]⟩
abbrev S4x2x32x64x128 : Shape := ⟨5, ![4, 2, 32, 64, 128]⟩
abbrev S4x2x32x128x128 : Shape := ⟨5, ![4, 2, 32, 128, 128]⟩

abbrev nBuf : Space → Nat
  | .hbm => 144
  | .vmem => 0
  | .smem => 0
  | _ => 0

abbrev hbmTy0_0 (i : Nat) : BufTy := match i % 128 with
  | 0 => ⟨S4x4096x1024, .f32⟩
  | 1 => ⟨S8x1, .f32⟩
  | 2 => ⟨S1x1024, .f32⟩
  | 3 => ⟨S1x1024x4360, .f32⟩
  | 4 => ⟨S1x8, .f32⟩
  | 5 => ⟨S1x64, .f32⟩
  | 6 => ⟨S1x64, .f32⟩
  | 7 => ⟨S1x64, .f32⟩
  | 8 => ⟨S1x64, .f32⟩
  | 9 => ⟨S1024, .f32⟩
  | 10 => ⟨S4x4096x1024, .f32⟩
  | 11 => ⟨S_, .f32⟩
  | 12 => ⟨S4x4096, .f32⟩
  | 13 => ⟨S4x4096x1, .f32⟩
  | 14 => ⟨S_, .f32⟩
  | 15 => ⟨S4x4096x1, .f32⟩
  | 16 => ⟨S4x4096x1, .f32⟩
  | 17 => ⟨S_, .f32⟩
  | 18 => ⟨S4x4096x1, .f32⟩
  | 19 => ⟨S4x4096x1, .f32⟩
  | 20 => ⟨S4x4096x1, .f32⟩
  | 21 => ⟨S4x4096x1024, .f32⟩
  | 22 => ⟨S4x4096x1024, .f32⟩
  | 23 => ⟨S1x1x1024, .f32⟩
  | 24 => ⟨S4x4096x1024, .f32⟩
  | 25 => ⟨S4x4096x1024, .f32⟩
  | 26 => ⟨S1024x4360, .f32⟩
  | 27 => ⟨S4x4096x4360, .f32⟩
  | 28 => ⟨S4x4096x512, .f32⟩
  | 29 => ⟨S4x4096x8x64, .f32⟩
  | 30 => ⟨S4x4096x512, .f32⟩
  | 31 => ⟨S4x4096x8x64, .f32⟩
  | 32 => ⟨S4x4096x512, .f32⟩
  | 33 => ⟨S4x8x512x8x64, .f32⟩
  | 34 => ⟨S4x4096x512, .f32⟩
  | 35 => ⟨S4x4096x8x64, .f32⟩
  | 36 => ⟨S4x4096x128, .f32⟩
  | 37 => ⟨S4x4096x2x64, .f32⟩
  | 38 => ⟨S4x4096x128, .f32⟩
  | 39 => ⟨S4x32x128x2x64, .f32⟩
  | 40 => ⟨S64, .f32⟩
  | 41 => ⟨S4x4096x8x64, .f32⟩
  | 42 => ⟨S_, .f32⟩
  | 43 => ⟨S4x4096x8, .f32⟩
  | 44 => ⟨S4x4096x8x1, .f32⟩
  | 45 => ⟨S_, .f32⟩
  | 46 => ⟨S4x4096x8x1, .f32⟩
  | 47 => ⟨S4x4096x8x1, .f32⟩
  | 48 => ⟨S_, .f32⟩
  | 49 => ⟨S4x4096x8x1, .f32⟩
  | 50 => ⟨S4x4096x8x1, .f32⟩
  | 51 => ⟨S4x4096x8x1, .f32⟩
  | 52 => ⟨S4x4096x8x64, .f32⟩
  | 53 => ⟨S4x4096x8x64, .f32⟩
  | 54 => ⟨S1x1x1x64, .f32⟩
  | 55 => ⟨S4x4096x8x64, .f32⟩
  | 56 => ⟨S4x4096x8x64, .f32⟩
  | 57 => ⟨S_, .f32⟩
  | 58 => ⟨S4x4096x8x64, .f32⟩
  | 59 => ⟨S4x4096x8x64, .f32⟩
  | 60 => ⟨S64, .f32⟩
  | 61 => ⟨S4x4096x8x64, .f32⟩
  | 62 => ⟨S_, .f32⟩
  | 63 => ⟨S4x4096x8, .f32⟩
  | 64 => ⟨S4x4096x8x1, .f32⟩
  | 65 => ⟨S_, .f32⟩
  | 66 => ⟨S4x4096x8x1, .f32⟩
  | 67 => ⟨S4x4096x8x1, .f32⟩
  | 68 => ⟨S_, .f32⟩
  | 69 => ⟨S4x4096x8x1, .f32⟩
  | 70 => ⟨S4x4096x8x1, .f32⟩
  | 71 => ⟨S4x4096x8x1, .f32⟩
  | 72 => ⟨S4x4096x8x64, .f32⟩
  | 73 => ⟨S4x4096x8x64, .f32⟩
  | 74 => ⟨S1x1x1x64, .f32⟩
  | 75 => ⟨S4x4096x8x64, .f32⟩
  | 76 => ⟨S4x4096x8x64, .f32⟩
  | 77 => ⟨S64, .f32⟩
  | 78 => ⟨S4x4096x8x64, .f32⟩
  | 79 => ⟨S_, .f32⟩
  | 80 => ⟨S4x4096x8, .f32⟩
  | 81 => ⟨S4x4096x8x1, .f32⟩
  | 82 => ⟨S_, .f32⟩
  | 83 => ⟨S4x4096x8x1, .f32⟩
  | 84 => ⟨S4x4096x8x1, .f32⟩
  | 85 => ⟨S_, .f32⟩
  | 86 => ⟨S4x4096x8x1, .f32⟩
  | 87 => ⟨S4x4096x8x1, .f32⟩
  | 88 => ⟨S4x4096x8x1, .f32⟩
  | 89 => ⟨S4x4096x8x64, .f32⟩
  | 90 => ⟨S4x4096x8x64, .f32⟩
  | 91 => ⟨S1x1x1x64, .f32⟩
  | 92 => ⟨S4x4096x8x64, .f32⟩
  | 93 => ⟨S4x4096x8x64, .f32⟩
  | 94 => ⟨S_, .f32⟩
  | 95 => ⟨S4x4096x8x64, .f32⟩
  | 96 => ⟨S4x4096x8x64, .f32⟩
  | 97 => ⟨S64, .f32⟩
  | 98 => ⟨S4x4096x2x64, .f32⟩
  | 99 => ⟨S_, .f32⟩
  | 100 => ⟨S4x4096x2, .f32⟩
  | 101 => ⟨S4x4096x2x1, .f32⟩
  | 102 => ⟨S_, .f32⟩
  | 103 => ⟨S4x4096x2x1, .f32⟩
  | 104 => ⟨S4x4096x2x1, .f32⟩
  | 105 => ⟨S_, .f32⟩
  | 106 => ⟨S4x4096x2x1, .f32⟩
  | 107 => ⟨S4x4096x2x1, .f32⟩
  | 108 => ⟨S4x4096x2x1, .f32⟩
  | 109 => ⟨S4x4096x2x64, .f32⟩
  | 110 => ⟨S4x4096x2x64, .f32⟩
  | 111 => ⟨S1x1x1x64, .f32⟩
  | 112 => ⟨S4x4096x2x64, .f32⟩
  | 113 => ⟨S4x4096x2x64, .f32⟩
  | 114 => ⟨S4x4096x2x4x64, .f32⟩
  | 115 => ⟨S4x4096x4x2x64, .f32⟩
  | 116 => ⟨S4x4096x512, .f32⟩
  | 117 => ⟨S4x4096x512, .bf16⟩
  | 118 => ⟨S4x4096x512, .f32⟩
  | 119 => ⟨S4x4096x512, .bf16⟩
  | 120 => ⟨S4x8x8x64x512, .f32⟩
  | 121 => ⟨S64, .i32⟩
  | 122 => ⟨S_, .i32⟩
  | 123 => ⟨S64, .i32⟩
  | 124 => ⟨S64, .i1⟩
  | 125 => ⟨S64, .f32⟩
  | 126 => ⟨S64x1, .f32⟩
  | 127 => ⟨S4x8x8x64x512, .f32⟩
  | _ => ⟨S4x4096x1024, .f32⟩

abbrev hbmTy0_1 (i : Nat) : BufTy := match i % 128 with
  | 0 => ⟨S4x8x8x128x512, .f32⟩
  | 1 => ⟨S4x8x8x128x512, .bf16⟩
  | 2 => ⟨S4x4096x512, .f32⟩
  | 3 => ⟨S4x4096x512, .bf16⟩
  | 4 => ⟨S4x4096x128, .f32⟩
  | 5 => ⟨S4x4096x128, .bf16⟩
  | 6 => ⟨S4x2x32x64x128, .f32⟩
  | 7 => ⟨S64, .i32⟩
  | 8 => ⟨S_, .i32⟩
  | 9 => ⟨S64, .i32⟩
  | 10 => ⟨S64, .i1⟩
  | 11 => ⟨S64, .f32⟩
  | 12 => ⟨S64x1, .f32⟩
  | 13 => ⟨S4x2x32x64x128, .f32⟩
  | 14 => ⟨S4x2x32x128x128, .f32⟩
  | 15 => ⟨S4x2x32x128x128, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_13 : Ref sig .tc := ⟨.hbm, 99, rfl⟩
abbrev main_v76 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_c_16 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩

abbrev nD : Nat := 1
abbrev τ : Topo := Topo.v7x

variable {F : FTy → Type} [FloatOps F]
-- ==== Kernel4.lean ====
abbrev S4x4096x512 : Shape := ⟨3, ![4, 4096, 512]⟩
abbrev S4x4096x128 : Shape := ⟨3, ![4, 4096, 128]⟩
abbrev S4x8x8x128x512 : Shape := ⟨5, ![4, 8, 8, 128, 512]⟩
abbrev S1x128x512 : Shape := ⟨3, ![1, 128, 512]⟩
abbrev S1x128x128 : Shape := ⟨3, ![1, 128, 128]⟩
abbrev S1x8x1x128x128 : Shape := ⟨5, ![1, 8, 1, 128, 128]⟩
abbrev S128x512 : Shape := ⟨2, ![128, 512]⟩
abbrev S128x128 : Shape := ⟨2, ![128, 128]⟩
abbrev S8x128x128 : Shape := ⟨3, ![8, 128, 128]⟩
abbrev S1x512x128 : Shape := ⟨3, ![1, 512, 128]⟩
abbrev S1x4096x128 : Shape := ⟨3, ![1, 4096, 128]⟩
abbrev S1x2x8x128x512 : Shape := ⟨5, ![1, 2, 8, 128, 512]⟩
abbrev S2x128x128 : Shape := ⟨3, ![2, 128, 128]⟩
abbrev S1x1024 : Shape := ⟨2, ![1, 1024]⟩
abbrev S2x128x512 : Shape := ⟨3, ![2, 128, 512]⟩
abbrev S512x1024 : Shape := ⟨2, ![512, 1024]⟩
abbrev S512x128 : Shape := ⟨2, ![512, 128]⟩
abbrev S512x256 : Shape := ⟨2, ![512, 256]⟩
abbrev S1024x256 : Shape := ⟨2, ![1024, 256]⟩
abbrev S128x1024 : Shape := ⟨2, ![128, 1024]⟩
abbrev S128x256 : Shape := ⟨2, ![128, 256]⟩
abbrev S1024 : Shape := ⟨1, ![1024]⟩
abbrev S1x1x1x128x512 : Shape := ⟨5, ![1, 1, 1, 128, 512]⟩
abbrev S512x512 : Shape := ⟨2, ![512, 512]⟩
abbrev S1x512 : Shape := ⟨2, ![1, 512]⟩
abbrev S64x512 : Shape := ⟨2, ![64, 512]⟩

abbrev nBuf : Space → Nat
  | .hbm => 11
  | .vmem => 18
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x128, .bf16⟩
  | .hbm, ⟨3, _⟩ => ⟨S4x8x8x128x512, .bf16⟩
  | .hbm, ⟨4, _⟩ => ⟨S1x128x512, .bf16⟩
  | .hbm, ⟨5, _⟩ => ⟨S1x128x128, .bf16⟩
  | .hbm, ⟨6, _⟩ => ⟨S1x8x1x128x128, .bf16⟩
  | .hbm, ⟨7, _⟩ => ⟨S128x512, .bf16⟩
  | .hbm, ⟨8, _⟩ => ⟨S128x128, .bf16⟩
  | .hbm, ⟨9, _⟩ => ⟨S8x128x128, .bf16⟩
  | .hbm, ⟨10, _⟩ => ⟨S4x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x2x8x128x512, .bf16⟩
  | .local _ .vmem, ⟨7, _⟩ => ⟨S1x2x8x128x512, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S2x128x128, .bf16⟩
  | .local _ .vmem, ⟨12, _⟩ => ⟨S2x128x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x1024, .f32⟩
  | .local _ .vmem, ⟨16, _⟩ => ⟨S2x128x512, .f32⟩
  | .local _ .vmem, ⟨17, _⟩ => ⟨S512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 4, 8], ![false, false, false]⟩

def k0_mult1 : BitVec 32 :=
  let c0_i32_11 : BitVec 32 := 0#32
  c0_i32_11
@[reducible] def k0_t1_loop (i : grid0.Coords) : Scf.Loop 32 :=
  let c0_i32_42 : BitVec 32 := 0#32
  let arg2 : BitVec 32 := BitVec.ofNat 32 (i 2).val
  let v86 : BitVec 32 := Scalar.subi arg2 c0_i32_42
  let c1_i32_43 : BitVec 32 := 1#32
  let v88 : BitVec 32 := Scalar.divsi v86 c1_i32_43
  let v89 : BitVec 32 := Scalar.muli v88 c1_i32_43
  let v90 : BitVec 32 := Scalar.addi c0_i32_42 v89
  let c1_i32_44 : BitVec 32 := 1#32
  ⟨c0_i32_42, v90, c1_i32_44⟩
def k0_mult2 (i : grid0.Coords) (k0_t1 : Fin (k0_t1_loop i).trips) : BitVec 32 :=
  let c0_i32_42 : BitVec 32 := 0#32
  let c1_i32_44 : BitVec 32 := 1#32
  let arg14 : BitVec 32 := Scf.iv c0_i32_42 c1_i32_44 k0_t1
  let c1_i32_87 : BitVec 32 := 1#32
  let v159 : BitVec 32 := Scalar.addi arg14 c1_i32_87
  let c512_i32 : BitVec 32 := 512#32
  let v160 : BitVec 32 := Scalar.muli v159 c512_i32
  v160
def k0_off1 (i : grid0.Coords) (k0_t1 : Fin (k0_t1_loop i).trips) : Fin 3 → Nat :=
  let c0_88 : Index := 0#32
  let c0_i32_42 : BitVec 32 := 0#32
  let c1_i32_44 : BitVec 32 := 1#32
  let arg14 : BitVec 32 := Scf.iv c0_i32_42 c1_i32_44 k0_t1
  let c1_i32_87 : BitVec 32 := 1#32
  let v159 : BitVec 32 := Scalar.addi arg14 c1_i32_87
  let c512_i32 : BitVec 32 := 512#32
  let v160 : BitVec 32 := Scalar.muli v159 c512_i32
  let v161 : BitVec 32 := v160
  let v162 : Index := Scalar.indexCast v161
  let c0_89 : Index := 0#32
  ![0, v162.toNat, 0]
def k0_off2 (i : grid0.Coords) (k0_t1 : Fin (k0_t1_loop i).trips) : Fin 5 → Nat :=
  let c0_95 : Index := 0#32
  let c0_96 : Index := 0#32
  let c0_i32_42 : BitVec 32 := 0#32
  let c1_i32_44 : BitVec 32 := 1#32
  let arg14 : BitVec 32 := Scf.iv c0_i32_42 c1_i32_44 k0_t1
  let v171 : Index := Scalar.indexCast arg14
  let c0_97 : Index := 0#32
  let c0_98 : Index := 0#32
  ![0, 0, v171.toNat, 0, 0]
def k0_off3 (i : grid0.Coords) (k0_t1 : Fin (k0_t1_loop i).trips) : Fin 5 → Nat :=
  let c0_99 : Index := 0#32
  let c1_100 : Index := 1#32
  let c0_i32_42 : BitVec 32 := 0#32
  let c1_i32_44 : BitVec 32 := 1#32
  let arg14 : BitVec 32 := Scf.iv c0_i32_42 c1_i32_44 k0_t1
  let v174 : Index := Scalar.indexCast arg14
  let c0_101 : Index := 0#32
  let c0_102 : Index := 0#32
  ![0, 1, v174.toNat, 0, 0]
@[reducible] def k0_t2_loop (i : grid0.Coords) : Scf.Loop 32 :=
  let c0_i32_42 : BitVec 32 := 0#32
  let arg2 : BitVec 32 := BitVec.ofNat 32 (i 2).val
  let v86 : BitVec 32 := Scalar.subi arg2 c0_i32_42
  let c1_i32_43 : BitVec 32 := 1#32
  let v88 : BitVec 32 := Scalar.divsi v86 c1_i32_43
  let v89 : BitVec 32 := Scalar.muli v88 c1_i32_43
  let v90 : BitVec 32 := Scalar.addi c0_i32_42 v89
  let v87 : BitVec 32 := Scalar.addi c0_i32_42 v86
  let c1_i32_45 : BitVec 32 := 1#32
  ⟨v90, v87, c1_i32_45⟩
def k0_mult3 (i : grid0.Coords) (k0_t2 : Fin (k0_t2_loop i).trips) : BitVec 32 :=
  let c0_i32_42 : BitVec 32 := 0#32
  let arg2 : BitVec 32 := BitVec.ofNat 32 (i 2).val
  let v86 : BitVec 32 := Scalar.subi arg2 c0_i32_42
  let c1_i32_43 : BitVec 32 := 1#32
  let v88 : BitVec 32 := Scalar.divsi v86 c1_i32_43
  let v89 : BitVec 32 := Scalar.muli v88 c1_i32_43
  let v90 : BitVec 32 := Scalar.addi c0_i32_42 v89
  let c1_i32_45 : BitVec 32 := 1#32
  let arg14 : BitVec 32 := Scf.iv v90 c1_i32_45 k0_t2
  let c1_i32_87 : BitVec 32 := 1#32
  let v159 : BitVec 32 := Scalar.addi arg14 c1_i32_87
  let c512_i32 : BitVec 32 := 512#32
  let v160 : BitVec 32 := Scalar.muli v159 c512_i32
  v160
def k0_off4 (i : grid0.Coords) (k0_t2 : Fin (k0_t2_loop i).trips) : Fin 3 → Nat :=
  let c0_88 : Index := 0#32
  let c0_i32_42 : BitVec 32 := 0#32
  let arg2 : BitVec 32 := BitVec.ofNat 32 (i 2).val
  let v86 : BitVec 32 := Scalar.subi arg2 c0_i32_42
  let c1_i32_43 : BitVec 32 := 1#32
  let v88 : BitVec 32 := Scalar.divsi v86 c1_i32_43
  let v89 : BitVec 32 := Scalar.muli v88 c1_i32_43
  let v90 : BitVec 32 := Scalar.addi c0_i32_42 v89
  let c1_i32_45 : BitVec 32 := 1#32
  let arg14 : BitVec 32 := Scf.iv v90 c1_i32_45 k0_t2
  let c1_i32_87 : BitVec 32 := 1#32
  let v159 : BitVec 32 := Scalar.addi arg14 c1_i32_87
  let c512_i32 : BitVec 32 := 512#32
  let v160 : BitVec 32 := Scalar.muli v159 c512_i32
  let v161 : BitVec 32 := v160
  let v162 : Index := Scalar.indexCast v161
  let c0_89 : Index := 0#32
  ![0, v162.toNat, 0]
def k0_off5 (i : grid0.Coords) (k0_t2 : Fin (k0_t2_loop i).trips) : Fin 5 → Nat :=
  let c0_95 : Index := 0#32
  let c0_96 : Index := 0#32
  let c0_i32_42 : BitVec 32 := 0#32
  let arg2 : BitVec 32 := BitVec.ofNat 32 (i 2).val
  let v86 : BitVec 32 := Scalar.subi arg2 c0_i32_42
  let c1_i32_43 : BitVec 32 := 1#32
  let v88 : BitVec 32 := Scalar.divsi v86 c1_i32_43
  let v89 : BitVec 32 := Scalar.muli v88 c1_i32_43
  let v90 : BitVec 32 := Scalar.addi c0_i32_42 v89
  let c1_i32_45 : BitVec 32 := 1#32
  let arg14 : BitVec 32 := Scf.iv v90 c1_i32_45 k0_t2
  let v171 : Index := Scalar.indexCast arg14
  let c0_97 : Index := 0#32
  let c0_98 : Index := 0#32
  ![0, 0, v171.toNat, 0, 0]
def k0_off6 (i : grid0.Coords) (k0_t2 : Fin (k0_t2_loop i).trips) : Fin 5 → Nat :=
  let c0_99 : Index := 0#32
  let c1_100 : Index := 1#32
  let c0_i32_42 : BitVec 32 := 0#32
  let arg2 : BitVec 32 := BitVec.ofNat 32 (i 2).val
  let v86 : BitVec 32 := Scalar.subi arg2 c0_i32_42
  let c1_i32_43 : BitVec 32 := 1#32
  let v88 : BitVec 32 := Scalar.divsi v86 c1_i32_43
  let v89 : BitVec 32 := Scalar.muli v88 c1_i32_43
  let v90 : BitVec 32 := Scalar.addi c0_i32_42 v89
  let c1_i32_45 : BitVec 32 := 1#32
  let arg14 : BitVec 32 := Scf.iv v90 c1_i32_45 k0_t2
  let v174 : Index := Scalar.indexCast arg14
  let c0_101 : Index := 0#32
  let c0_102 : Index := 0#32
  ![0, 1, v174.toNat, 0, 0]
def k0_off7 (i : grid0.Coords) : Fin 5 → Nat :=
  let c0_48 : Index := 0#32
  let c0_49 : Index := 0#32
  let arg2 : BitVec 32 := BitVec.ofNat 32 (i 2).val
  let v96 : Index := Scalar.indexCast arg2
  let c0_50 : Index := 0#32
  let c0_51 : Index := 0#32
  ![0, 0, v96.toNat, 0, 0]
def k0_off8 (i : grid0.Coords) : Fin 5 → Nat :=
  let c0_52 : Index := 0#32
  let c1_53 : Index := 1#32
  let arg2 : BitVec 32 := BitVec.ofNat 32 (i 2).val
  let v99 : Index := Scalar.indexCast arg2
  let c0_54 : Index := 0#32
  let c0_55 : Index := 0#32
  ![0, 1, v99.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2x8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S2x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S4x4096x512 : Shape := ⟨3, ![4, 4096, 512]⟩
abbrev S4x4096x128 : Shape := ⟨3, ![4, 4096, 128]⟩
abbrev S4x8x8x128x512 : Shape := ⟨5, ![4, 8, 8, 128, 512]⟩
abbrev S1x128x512 : Shape := ⟨3, ![1, 128, 512]⟩
abbrev S1x128x128 : Shape := ⟨3, ![1, 128, 128]⟩
abbrev S1x8x1x128x128 : Shape := ⟨5, ![1, 8, 1, 128, 128]⟩
abbrev S4x4096x8x64 : Shape := ⟨4, ![4, 4096, 8, 64]⟩
abbrev S4x8x4096x64 : Shape := ⟨4, ![4, 8, 4096, 64]⟩
abbrev S4x4096x8 : Shape := ⟨3, ![4, 4096, 8]⟩
abbrev S4x8x4096 : Shape := ⟨3, ![4, 8, 4096]⟩
abbrev S4x8x4096x4096 : Shape := ⟨4, ![4, 8, 4096, 4096]⟩
abbrev S4x8x1x4096 : Shape := ⟨4, ![4, 8, 1, 4096]⟩
abbrev S4x8x4096x1 : Shape := ⟨4, ![4, 8, 4096, 1]⟩
abbrev S1x128x8x64 : Shape := ⟨4, ![1, 128, 8, 64]⟩
abbrev S1x8x128x64 : Shape := ⟨4, ![1, 8, 128, 64]⟩
abbrev S8x128x64 : Shape := ⟨3, ![8, 128, 64]⟩
abbrev S8x128x4x4096 : Shape := ⟨4, ![8, 128, 4, 4096]⟩
abbrev S4x8x4096x128 : Shape := ⟨4, ![4, 8, 4096, 128]⟩
abbrev S1x128x8 : Shape := ⟨3, ![1, 128, 8]⟩
abbrev S1x8x128 : Shape := ⟨3, ![1, 8, 128]⟩
abbrev S1x8x1x128 : Shape := ⟨4, ![1, 8, 1, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S128 : Shape := ⟨1, ![128]⟩
abbrev S4x8x8x64x512 : Shape := ⟨5, ![4, 8, 8, 64, 512]⟩
abbrev S4x8x8x512x64 : Shape := ⟨5, ![4, 8, 8, 512, 64]⟩
abbrev S1x8x1x64x128 : Shape := ⟨5, ![1, 8, 1, 64, 128]⟩
abbrev S1x8x1x128x64 : Shape := ⟨5, ![1, 8, 1, 128, 64]⟩
abbrev S8x64x4x4096 : Shape := ⟨4, ![8, 64, 4, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x128, .bf16⟩
  | .hbm, ⟨3, _⟩ => ⟨S4x8x8x128x512, .bf16⟩
  | .hbm, ⟨4, _⟩ => ⟨S1x128x512, .bf16⟩
  | .hbm, ⟨5, _⟩ => ⟨S1x128x128, .bf16⟩
  | .hbm, ⟨6, _⟩ => ⟨S1x8x1x128x128, .bf16⟩
  | .hbm, ⟨7, _⟩ => ⟨S4x4096x512, .f32⟩
  | .hbm, ⟨8, _⟩ => ⟨S4x4096x8x64, .f32⟩
  | .hbm, ⟨9, _⟩ => ⟨S4x8x4096x64, .f32⟩
  | .hbm, ⟨10, _⟩ => ⟨S4x4096x128, .f32⟩
  | .hbm, ⟨11, _⟩ => ⟨S4x4096x8, .f32⟩
  | .hbm, ⟨12, _⟩ => ⟨S4x4096x8, .f32⟩
  | .hbm, ⟨13, _⟩ => ⟨S4x4096x8, .f32⟩
  | .hbm, ⟨14, _⟩ => ⟨S4x4096x8, .f32⟩
  | .hbm, ⟨15, _⟩ => ⟨S4x4096x8, .f32⟩
  | .hbm, ⟨16, _⟩ => ⟨S4x8x4096, .f32⟩
  | .hbm, ⟨17, _⟩ => ⟨S4x4096x512, .f32⟩
  | .hbm, ⟨18, _⟩ => ⟨S4x4096x8x64, .f32⟩
  | .hbm, ⟨19, _⟩ => ⟨S4x8x4096x64, .f32⟩
  | .hbm, ⟨20, _⟩ => ⟨S4x8x4096x4096, .f32⟩
  | .hbm, ⟨21, _⟩ => ⟨S4x8x1x4096, .f32⟩
  | .hbm, ⟨22, _⟩ => ⟨S4x8x4096x4096, .f32⟩
  | .hbm, ⟨23, _⟩ => ⟨S4x8x4096x4096, .f32⟩
  | .hbm, ⟨24, _⟩ => ⟨S4x8x4096x1, .f32⟩
  | .hbm, ⟨25, _⟩ => ⟨S4x8x4096x4096, .f32⟩
  | .hbm, ⟨26, _⟩ => ⟨S4x8x4096x4096, .f32⟩
  | .hbm, ⟨27, _⟩ => ⟨S1x128x512, .f32⟩
  | .hbm, ⟨28, _⟩ => ⟨S1x128x8x64, .f32⟩
  | .hbm, ⟨29, _⟩ => ⟨S1x8x128x64, .f32⟩
  | .hbm, ⟨30, _⟩ => ⟨S8x128x64, .f32⟩
  | .hbm, ⟨31, _⟩ => ⟨S8x128x4x4096, .f32⟩
  | .hbm, ⟨32, _⟩ => ⟨S4x8x4096x128, .f32⟩
  | .hbm, ⟨33, _⟩ => ⟨S1x128x128, .f32⟩
  | .hbm, ⟨34, _⟩ => ⟨S1x128x8, .f32⟩
  | .hbm, ⟨35, _⟩ => ⟨S1x128x8, .f32⟩
  | .hbm, ⟨36, _⟩ => ⟨S1x128x8, .f32⟩
  | .hbm, ⟨37, _⟩ => ⟨S1x128x8, .f32⟩
  | .hbm, ⟨38, _⟩ => ⟨S1x128x8, .f32⟩
  | .hbm, ⟨39, _⟩ => ⟨S1x8x128, .f32⟩
  | .hbm, ⟨40, _⟩ => ⟨S1x8x1x128, .f32⟩
  | .hbm, ⟨41, _⟩ => ⟨S4x8x4096x128, .f32⟩
  | .hbm, ⟨42, _⟩ => ⟨S4x8x4096x128, .f32⟩
  | .hbm, ⟨43, _⟩ => ⟨S4x8x4096x1, .f32⟩
  | .hbm, ⟨44, _⟩ => ⟨S4x8x4096x128, .f32⟩
  | .hbm, ⟨45, _⟩ => ⟨S4x8x4096x128, .f32⟩
  | .hbm, ⟨46, _⟩ => ⟨S4096, .i32⟩
  | .hbm, ⟨47, _⟩ => ⟨S1x4096, .i32⟩
  | .hbm, ⟨48, _⟩ => ⟨S4096, .i32⟩
  | .hbm, ⟨49, _⟩ => ⟨S4096x1, .i32⟩
  | .hbm, ⟨50, _⟩ => ⟨S4096x4096, .i32⟩
  | .hbm, ⟨51, _⟩ => ⟨S4096x4096, .i32⟩
  | .hbm, ⟨52, _⟩ => ⟨S4096x4096, .i1⟩
  | .hbm, ⟨53, _⟩ => ⟨S_, .f32⟩
  | .hbm, ⟨54, _⟩ => ⟨S_, .f32⟩
  | .hbm, ⟨55, _⟩ => ⟨S4x8x4096x4096, .i1⟩
  | .hbm, ⟨56, _⟩ => ⟨S4x8x4096x4096, .f32⟩
  | .hbm, ⟨57, _⟩ => ⟨S4x8x4096x4096, .f32⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i1⟩
  | .hbm, ⟨62, _⟩ => ⟨S_, .f32⟩
  | .hbm, ⟨63, _⟩ => ⟨S_, .f32⟩
  | .hbm, ⟨64, _⟩ => ⟨S4x8x4096x128, .i1⟩
  | .hbm, ⟨65, _⟩ => ⟨S4x8x4096x128, .f32⟩
  | .hbm, ⟨66, _⟩ => ⟨S4x8x4096x128, .f32⟩
  | .hbm, ⟨67, _⟩ => ⟨S_, .f32⟩
  | .hbm, ⟨68, _⟩ => ⟨S4x8x4096, .f32⟩
  | .hbm, ⟨69, _⟩ => ⟨S_, .f32⟩
  | .hbm, ⟨70, _⟩ => ⟨S4x8x4096, .f32⟩
  | .hbm, ⟨71, _⟩ => ⟨S4x8x4096, .f32⟩
  | .hbm, ⟨72, _⟩ => ⟨S4x8x4096x1, .f32⟩
  | .hbm, ⟨73, _⟩ => ⟨S_, .f32⟩
  | .hbm, ⟨74, _⟩ => ⟨S4x8x4096x4096, .f32⟩
  | .hbm, ⟨75, _⟩ => ⟨S4x8x4096x4096, .f32⟩
  | .hbm, ⟨76, _⟩ => ⟨S4x8x4096x4096, .f32⟩
  | .hbm, ⟨77, _⟩ => ⟨S4x8x4096x4096, .f32⟩
  | .hbm, ⟨78, _⟩ => ⟨S_, .f32⟩
  | .hbm, ⟨79, _⟩ => ⟨S4x8x4096x128, .f32⟩
  | .hbm, ⟨80, _⟩ => ⟨S4x8x4096x128, .f32⟩
  | .hbm, ⟨81, _⟩ => ⟨S4x8x4096x128, .f32⟩
  | .hbm, ⟨82, _⟩ => ⟨S4x8x4096x128, .f32⟩
  | .hbm, ⟨83, _⟩ => ⟨S_, .f32⟩
  | .hbm, ⟨84, _⟩ => ⟨S4x8x4096, .f32⟩
  | .hbm, ⟨85, _⟩ => ⟨S_, .f32⟩
  | .hbm, ⟨86, _⟩ => ⟨S4x8x4096, .f32⟩
  | .hbm, ⟨87, _⟩ => ⟨S4x8x4096, .f32⟩
  | .hbm, ⟨88, _⟩ => ⟨S4x8x8x64x512, .bf16⟩
  | .hbm, ⟨89, _⟩ => ⟨S4x8x8x64x512, .f32⟩
  | .hbm, ⟨90, _⟩ => ⟨S4x8x8x512x64, .f32⟩
  | .hbm, ⟨91, _⟩ => ⟨S4x8x4096x64, .f32⟩
  | .hbm, ⟨92, _⟩ => ⟨S4x8x4096x64, .f32⟩
  | .hbm, ⟨93, _⟩ => ⟨S1x8x1x64x128, .bf16⟩
  | .hbm, ⟨94, _⟩ => ⟨S1x8x1x64x128, .f32⟩
  | .hbm, ⟨95, _⟩ => ⟨S1x8x1x128x64, .f32⟩
  | .hbm, ⟨96, _⟩ => ⟨S1x8x128x64, .f32⟩
  | .hbm, ⟨97, _⟩ => ⟨S8x128x64, .f32⟩
  | .hbm, ⟨98, _⟩ => ⟨S8x64x4x4096, .f32⟩
  | .hbm, ⟨99, _⟩ => ⟨S4x8x4096x64, .f32⟩
  | .hbm, ⟨100, _⟩ => ⟨S4x8x4096x64, .f32⟩
  | .hbm, ⟨101, _⟩ => ⟨S4x8x4096x1, .f32⟩
  | .hbm, ⟨102, _⟩ => ⟨S4x8x4096x64, .f32⟩
  | .hbm, ⟨103, _⟩ => ⟨S4x8x4096x64, .f32⟩
  | .hbm, ⟨104, _⟩ => ⟨S4x4096x8x64, .f32⟩
  | .hbm, ⟨105, _⟩ => ⟨S4x4096x512, .f32⟩
  | .hbm, ⟨106, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v46 : Ref sig .tc := ⟨.hbm, 57, rfl⟩
abbrev main_v47 : Ref sig .tc := ⟨.hbm, 58, rfl⟩
abbrev main_c : Ref sig .tc := ⟨.hbm, 59, rfl⟩
abbrev main_v48 : Ref sig .tc := ⟨.hbm, 60, rfl⟩
abbrev main_v49 : Ref sig .tc := ⟨.hbm, 61, rfl⟩
abbrev main_cst_0 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v50 : Ref sig .tc := ⟨.hbm, 66, rfl⟩
abbrev main_cst_1 : Ref sig .tc := ⟨.hbm, 67, rfl⟩
abbrev main_v51 : Ref sig .tc := ⟨.hbm, 68, rfl⟩
abbrev main_cst_2 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_3 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_4 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_5 : Ref sig .tc := ⟨.hbm, 83, rfl⟩
abbrev main_v63 : Ref sig .tc := ⟨.hbm, 84, rfl⟩
abbrev main_cst_6 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩

abbrev nD : Nat := 1
abbrev τ : Topo := Topo.v7x

variable {F : FTy → Type} [FloatOps F]
-- ==== Proof.Plan.lean ====
/- What the precondition says of the block plan: every block's expert is one of the 32, and at least one block is live. -/
module

public import proofs.«01_k».proof.Defs
public import proofs.«01_k».proof.Proof.Gen.Pre_in_range
public import Idealize.ShloMosaic.Lib.ReduceAll

@[expose] public section

namespace Cert.Plan

open Idealize.ShloMosaic Cert.Pre_in_range

/-- A block plan in range: experts below 32, and a live-block count of at least one. -/
structure InRange (blk : IVec S343 32) (info : IVec S1 32) : Prop where
  expert : ∀ b, (blk b).toNat < 32
  live : ∀ j, 1 ≤ (info j).toInt

theorem toNat_lt_of_signed {x : BitVec 32} (h0 : (0#32).toInt ≤ x.toInt) (h1 : x.toInt < (32#32).toInt) : x.toNat < 32 := by
  have e0 : (0#32).toInt = 0 := by decide
  have e1 : (32#32).toInt = 32 := by decide
  rw [e0] at h0; rw [e1] at h1
  rw [BitVec.toInt_eq_toNat_cond] at h0 h1
  split at h0 <;> omega

instance : Subsingleton S_.Idx := ⟨fun a b => funext fun i => i.elim0⟩

theorem one_idx (k j : S1.Idx) : k = j := funext fun i => by
  match i with
  | ⟨0, _⟩ => exact Fin.ext (by have a : (k ⟨0, by decide⟩).val < 1 := (k ⟨0, _⟩).isLt; have b : (j ⟨0, by decide⟩).val < 1 := (j ⟨0, _⟩).isLt; omega)

variable {F : FTy → Type} [FloatOps F]

/-- The printed precondition, read back. -/
theorem inRange_of_fn (a0 : IVec S343 32) (a1 : IVec S1 32) (a2 : IVec S87808x512 32) (a3 : FVec F S32x1024x2048 .f32)
    (a4 : FVec F S32x2048 .f32) (a5 : FVec F S32x1024x1024 .f32) (a6 : FVec F S32x1024 .f32)
    (h : fn (F := F) a0 a1 a2 a3 a4 a5 a6 = fun _ => 1#1) : InRange a0 a1 := by
  have h0 := congrFun h (fun i => i.elim0)
  obtain ⟨hl, hr⟩ := IntOp.andi_eq_one.1 h0
  refine ⟨fun b => ?_, fun j => ?_⟩
  · obtain ⟨h1, h2⟩ := IntOp.andi_eq_one.1 (Host.reduce_andi_all _ _ _ _ _ hl b)
    exact toNat_lt_of_signed (IntOp.cmpi_sge.1 h1) (IntOp.cmpi_slt.1 h2)
  · have h3 := IntOp.cmpi_sge.1 hr
    have e : (1#32).toInt = 1 := by decide
    unfold shapeCast at h3
    exact e ▸ (one_idx _ j ▸ h3)

end Cert.Plan
-- ==== Proof.IdealBody.lean ====
/- The idealized kernel's two bodies: what a grid point of the experts call, and of the call that reads its packed rows
   back, leaves in its output's staging buffer; and the side condition on the prefetched block plan. -/
module

public import proofs.«01_k».proof.Proof.Plan
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Work

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The block plan as the tables -/

/-- The one index of the live-block count. -/
abbrev one0 : S1.Idx := fun a => ⟨0, by match a with | ⟨0, _⟩ => exact Nat.one_pos⟩

theorem eq_one0 (j : S1.Idx) : j = one0 := Plan.one_idx j one0

/-- The two tables side by side. -/
abbrev tables (blk : IVec S343 32) (info : IVec S1 32) : pre0.Contents (Elt F)
  | ⟨0, _⟩ => blk
  | ⟨1, _⟩ => info
  | ⟨_ + 2, h⟩ => absurd h (Nat.not_lt.2 (Nat.le_add_left _ _))

theorem coord_lt (i : grid0.Coords) : (i 0).val < 343 := (i 0).isLt

theorem point_word (i : grid0.Coords) : (BitVec.ofNat 32 (i 0).val).toInt = (i 0).val := by
  have h := coord_lt i
  rw [BitVec.toInt_eq_toNat_cond, BitVec.toNat_ofNat, Nat.mod_eq_of_lt (by omega), if_pos (by omega)]

/-- The row block a point stages: the smaller of the point and the last live block. -/
theorem row_block_lt (i : grid0.Coords) (w : BitVec 32) (h : 1 ≤ w.toInt) :
    (Scalar.minsi (BitVec.ofNat 32 (i 0).val) (Scalar.subi w 1#32)).toNat < 343 := by
  have hp := point_word i
  have hi := coord_lt i
  have hw : w.toInt < 2 ^ 31 := by have := BitVec.toInt_lt (x := w); simpa using this
  have hs : (w - 1#32).toInt = w.toInt - 1 := by
    rw [BitVec.toInt_sub]
    have : (1#32).toInt = 1 := by decide
    rw [this]
    exact Int.bmod_eq_of_le (by omega) (by omega)
  show (IntOp.minsi _ (IntOp.subi w 1#32)).toNat < 343
  unfold IntOp.minsi IntOp.subi
  split
  · rw [BitVec.toNat_ofNat, Nat.mod_eq_of_lt (by omega)]; exact hi
  · rename_i hn
    have hle : (w - 1#32).toInt ≤ (i 0).val := by
      rw [← hp]
      simp only [BitVec.sle, BitVec.slt, decide_eq_true_eq, not_le, not_lt] at hn
      omega
    have h0 : 0 ≤ (w - 1#32).toInt := by omega
    have := BitVec.toInt_eq_toNat_cond (w - 1#32)
    split at this <;> omega

variable {blk : IVec S343 32} {info : IVec S1 32}

theorem t0_lt (h : Plan.InRange blk info) (i : grid0.Coords) : cc0_transform_0 (F := F) inb_S1_S1_0 numel1_S1 (tables blk info) i 0 < 343 :=
  row_block_lt i _ (h.live _)
theorem t1_lt (h : Plan.InRange blk info) (i : grid0.Coords) : cc0_transform_1 (F := F) k0_off1_inb numel1_S1 (tables blk info) i 0 < 32 := h.expert _
theorem t2_lt (h : Plan.InRange blk info) (i : grid0.Coords) : cc0_transform_2 (F := F) k0_off1_inb numel1_S1 (tables blk info) i 0 < 32 := h.expert _
theorem t3_lt (h : Plan.InRange blk info) (i : grid0.Coords) : cc0_transform_3 (F := F) k0_off1_inb numel1_S1 (tables blk info) i 0 < 32 := h.expert _
theorem t4_lt (h : Plan.InRange blk info) (i : grid0.Coords) : cc0_transform_4 (F := F) k0_off1_inb numel1_S1 (tables blk info) i 0 < 32 := h.expert _

/-- A rank-3 block with one index in range and the others whole lies in its array. -/
theorem inb3 {t : Fin 3 → Nat} {n a b : Nat} (h : t 0 < n) (h1 : t 1 = 0) (h2 : t 2 = 0) :
    ∀ k, (t k + 1) * (⟨3, ![1, a, b]⟩ : Shape).size k ≤ (⟨3, ![n, a, b]⟩ : Shape).size k
  | ⟨0, _⟩ => by show (t 0 + 1) * 1 ≤ n; omega
  | ⟨1, _⟩ => by show (t 1 + 1) * a ≤ a; rw [h1]; omega
  | ⟨2, _⟩ => by show (t 2 + 1) * b ≤ b; rw [h2]; omega

theorem inb2 {t : Fin 2 → Nat} {n a b : Nat} (h : t 0 < n) (h1 : t 1 = 0) :
    ∀ k, (t k + 1) * (⟨2, ![a, b]⟩ : Shape).size k ≤ (⟨2, ![n * a, b]⟩ : Shape).size k
  | ⟨0, _⟩ => by show (t 0 + 1) * a ≤ n * a; exact Nat.mul_le_mul_right _ h
  | ⟨1, _⟩ => by show (t 1 + 1) * b ≤ b; rw [h1]; omega

/-- The tables are admissible: every block they name lies in its array. -/
theorem tables_ok (h : Plan.InRange blk info) : ok0 (F := F) (tables blk info) :=
  ⟨fun i => ⟨inb2 (n := 343) (t0_lt h i) rfl, .inl rfl⟩,
    fun i => ⟨inb3 (t1_lt h i) rfl rfl, .inr (Affine.block_words_dvd (of_decide_eq_true rfl) (by decide))⟩,
    fun i => ⟨inb3 (t2_lt h i) rfl rfl, .inl rfl⟩,
    fun i => ⟨inb3 (t3_lt h i) rfl rfl, .inr (Affine.block_words_dvd (of_decide_eq_true rfl) (by decide))⟩,
    fun i => ⟨inb3 (t4_lt h i) rfl rfl, .inl rfl⟩⟩

/-! ## The accesses -/

abbrev rX : Rect S256x512 := Rect.unit (s := S256x512) ![0, 0] S256x512.size inb_S256x512_S256x512_0_0
abbrev rU0 : Rect S1x1024x2048 := Rect.unit (s := S1x1024x2048) ![0, 0, 0] S1x512x2048.size inb_S1x1024x2048_S1x512x2048_0_0_0
abbrev rU1 : Rect S1x1024x2048 := Rect.unit (s := S1x1024x2048) ![0, 512, 0] S1x512x2048.size inb_S1x1024x2048_S1x512x2048_0_512_0
abbrev rBU : Rect S1x1x2048 := Rect.unit (s := S1x1x2048) ![0, 0, 0] S1x1x2048.size inb_S1x1x2048_S1x1x2048_0_0_0
abbrev rD : Rect S1x1024x1024 := Rect.unit (s := S1x1024x1024) ![0, 0, 0] S1x1024x1024.size inb_S1x1024x1024_S1x1024x1024_0_0_0
abbrev rBD : Rect S1x1x1024 := Rect.unit (s := S1x1x1024) ![0, 0, 0] S1x1x1024.size inb_S1x1x1024_S1x1x1024_0_0_0
abbrev rO : Rect S256x2x512 := Rect.unit (s := S256x2x512) ![0, 0, 0] S256x2x512.size inb_S256x2x512_S256x2x512_0_0_0
abbrev rR : Rect S512x512 := Rect.unit (s := S512x512) ![0, 0] S512x512.size inb_S512x512_S512x512_0_0

/-- What the experts call stores at a live point: the expert's rows, packed. -/
def livePay (x0 : Vec F S256x512 .i32) (x1 : Vec F S1x1024x2048 .bf16) (x2 : Vec F S1x1x2048 .f32) (x3 : Vec F S1x1024x1024 .bf16)
    (x4 : Vec F S1x1x1024 .f32) : Vec F S256x2x512 .bf16 :=
  k0_pay1 (k0_pay3 (View.ld x0 rX) (View.ld x1 rU0) (View.ld x1 rU1) (View.ld x2 rBU) (View.ld x3 rD)) (View.ld x4 rBD)

/-- What it leaves in its output's staging buffer: the packed rows at a live point, packed zeros past the last. -/
def outE (i : grid0.Coords) (w : BitVec 32) (x0 : Vec F S256x512 .i32) (x1 : Vec F S1x1024x2048 .bf16) (x2 : Vec F S1x1x2048 .f32)
    (x3 : Vec F S1x1024x1024 .bf16) (x4 : Vec F S1x1x1024 .f32) : Vec F S256x2x512 .bf16 :=
  if k0_cond1 i w = 1#1 then View.canon [⟨rO, livePay x0 x1 x2 x3 x4⟩] else View.canon [⟨rO, k0_pay2 (F := F)⟩]

theorem coverE (p0 : Vec F S256x2x512 .bf16) (y : S256x2x512.Idx) :
    ∃ pc ∈ ([⟨rO, p0⟩] : List (View.Piece (Elt F) S256x2x512 .bf16)), y ∈ pc.1.set :=
  View.cover_of_tiled [⟨rO, p0⟩] S256x2x512.size (by rfl) y

/-- A point is live or past the last live block, never both. -/
theorem cond2_iff (i : grid0.Coords) (w : BitVec 32) : k0_cond2 i w = 1#1 ↔ ¬ k0_cond1 i w = 1#1 := by
  unfold k0_cond1 k0_cond2
  refine (Scalar.guard_iff _).trans (Iff.trans ?_ (not_congr (Scalar.guard_iff _)).symm)
  refine IntOp.cmpi_sge.trans (Iff.trans ?_ (not_congr IntOp.cmpi_slt).symm)
  exact not_lt.symm

set_option maxHeartbeats 4000000 in
/-- The experts body on whole staging memrefs and the live-block count's table. -/
theorem sound_experts (c : Dev nD) (E : Set ℕ) (i : grid0.Coords) (info : IVec S1 32)
    (arg1 : Memref sig .tc .smem S343 .i32) (harg1 : arg1.IsWhole)
    (arg3 : Memref sig .tc .vmem S256x512 .i32) (harg3 : arg3.IsWhole)
    (arg4 : Memref sig .tc .vmem S1x1024x2048 .bf16) (harg4 : arg4.IsWhole) (arg5 : Memref sig .tc .vmem S1x1x2048 .f32) (harg5 : arg5.IsWhole)
    (arg6 : Memref sig .tc .vmem S1x1024x1024 .bf16) (harg6 : arg6.IsWhole) (arg7 : Memref sig .tc .vmem S1x1x1024 .f32) (harg7 : arg7.IsWhole)
    (arg8 : Memref sig .tc .vmem S256x2x512 .bf16) (harg8 : arg8.IsWhole)
    (x0 : Vec F S256x512 .i32) (x1 : Vec F S1x1024x2048 .bf16) (x2 : Vec F S1x1x2048 .f32) (x3 : Vec F S1x1024x1024 .bf16) (x4 : Vec F S1x1x1024 .f32)
    (K : PUnit → sProp 𝕄) :
    iprop((((c : Thread nD τ).loc main_arg1) ↦{fullShare} (show Buf (Elt F) ((c : Thread nD τ).loc main_arg1) from info))
        ∗ owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop((((c : Thread nD τ).loc main_arg1) ↦{fullShare} (show Buf (Elt F) ((c : Thread nD τ).loc main_arg1) from info))
        ∗ owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare (outE i (info one0) x0 x1 x2 x3 x4)) -∗ K ⟨⟩))
      ⊢ wp frame (wpE (defs₀ (F := F)) Variants.none c none) E
          (cc0_experts i arg1 harg1 (Memref.whole main_arg1) (Memref.isWhole_whole _) arg3 harg3 arg4 harg4 arg5 harg5 arg6 harg6 arg7 harg7 arg8 harg8) K := by
  simp only [cc0_experts_eq_skeleton]; unfold cc0_experts_skel
  simp only [k0_part1_eq_skeleton]; unfold k0_part1_skel
  unfold owns
  iintro ⟨Ht, ⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  unfold smemLoad
  simp only [smemLoadElt_bind]
  named_smem Ht (info one0) (congrArg info (eq_one0 _).symm)
  by_cases hc : k0_cond1 i (info one0) = 1#1
  · have hn : ∀ j, ¬ k0_cond2 i (info j) = 1#1 := fun j h => (cond2_iff i _).1 h (eq_one0 j ▸ hc)
    sl_exec
    sl_step
    iapply Hk
    isplitl [Ht]; · iexact Ht
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    unfold outE; rw [if_pos hc]
    exact View.read_writes_eq_canon _ _ _ (coverE _)
  · have hn : ∀ j, k0_cond2 i (info j) = 1#1 := fun j => (cond2_iff i _).2 (eq_one0 j ▸ hc)
    sl_exec
    sl_step
    iapply Hk
    isplitl [Ht]; · iexact Ht
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    unfold outE; rw [if_neg hc]
    exact View.read_writes_eq_canon _ _ _ (coverE _)

/-- What the reading call leaves in its output's staging buffer. -/
def outR (x0 : Vec F S256x2x512 .bf16) : Vec F S512x512 .bf16 := View.canon [⟨rR, k1_pay1 (View.ld x0 rO)⟩]

theorem coverR (p0 : Vec F S512x512 .bf16) (y : S512x512.Idx) :
    ∃ pc ∈ ([⟨rR, p0⟩] : List (View.Piece (Elt F) S512x512 .bf16)), y ∈ pc.1.set :=
  View.cover_of_tiled [⟨rR, p0⟩] S512x512.size (by rfl) y

set_option maxHeartbeats 1000000 in
/-- The reading body on whole staging memrefs. -/
theorem sound_read (c : Dev nD) (E : Set ℕ) (i : grid1.Coords) (arg1 : Memref sig .tc .vmem S256x2x512 .bf16) (harg1 : arg1.IsWhole)
    (arg2 : Memref sig .tc .vmem S512x512 .bf16) (harg2 : arg2.IsWhole) (x0 : Vec F S256x2x512 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outR x0)) -∗ K ⟨⟩))
      ⊢ wp frame (wpE (defs₀ (F := F)) Variants.none c none) E (cc1_read i arg1 harg1 arg2 harg2) K := by
  simp only [cc1_read_eq_skeleton]; unfold cc1_read_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverR _)

end Cert.KernelIdeal.Work

end
-- ==== Proof.IdealRun.lean ====
/- The idealized kernel's run: both calls' proof data over the buffers as each region finds them, their body obligations,
   and @main as host operations and two regions. -/
module

public import proofs.«01_k».proof.Proof.IdealBody
public import proofs.«01_k».proof.Proof.Gen.KernelIdeal.Regions
public import Idealize.ShloMosaic.Lib.Pipeline.RegionArraysTS

@[expose] public section

set_option maxRecDepth 16384

noncomputable section

namespace Cert.KernelIdeal.Work

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block plan the run is launched with, in range. -/
def PlanOK : Prop := ∀ c : Dev nD, Plan.InRange (m ((c : Thread nD τ).loc main_arg0)) (m ((c : Thread nD τ).loc main_arg1))

abbrev c₀ : Dev nD := ⟨0, Nat.one_pos⟩

theorem eq_c₀ (c : Dev nD) : c = c₀ := Fin.ext (by have h : c.val < 1 := c.isLt; show c.val = 0; omega)

/-- The block plan and the live-block count. -/
abbrev blkOf : IVec S343 32 := m ((c₀ : Thread nD τ).loc main_arg0)
abbrev infoOf : IVec S1 32 := m ((c₀ : Thread nD τ).loc main_arg1)

variable {m}
variable (hp : PlanOK m)

/-- The tables both calls are pinned at: the experts call's as launched, the reading call's none. -/
def adm : (p : Fin 2) → (pcfgs (F := F) p).Adm
  | ⟨0, _⟩ => ⟨tables (blkOf m) (infoOf m), tables_ok (hp c₀)⟩
  | ⟨1, _⟩ => cfg1.toPCfg_adm
  | ⟨_ + 2, h⟩ => absurd h (Nat.not_lt.2 (Nat.le_add_left _ _))

abbrev cfgE : Cfg sig Λ₀ := cfg0 (adm hp 0)

/-! ## The experts call -/

/-- Window `w`'s block at point `t`, read off its array as the region finds it. -/
def iblkE (c : Dev nD) (w : Fin 6) (t : Fin (cfgE hp).N) : (((cfgE hp).win w).xblock ((cfgE hp).grid.coords t)).Idx → Elt F ((cfgE hp).win w).elt :=
  (((cfgE hp).win w).blk t).view.read (Elt F) (V1 m c (Proc.devRef .tc (Pipeline.arrRef spec0 w)))

/-- What the experts call leaves in its output's staging buffer at point `t`. -/
def aftE (c : Dev nD) (t : Fin (cfgE hp).N) : Vec F S256x2x512 .bf16 :=
  outE (grid0.coords t) (infoOf m one0) (iblkE hp c 0 t) (iblkE hp c 1 t) (iblkE hp c 2 t) (iblkE hp c 3 t) (iblkE hp c 4 t)

def datE (c : Dev nD) : Dat τ (Elt F) Unit ℕ (UR sig nD τ) ℕ (cfgE hp) c where
  A w := V1 m c (Proc.devRef .tc (Pipeline.arrRef spec0 w))
  after w t := match w with
    | ⟨0, _⟩ => iblkE hp c 0 t
    | ⟨1, _⟩ => iblkE hp c 1 t
    | ⟨2, _⟩ => iblkE hp c 2 t
    | ⟨3, _⟩ => iblkE hp c 3 t
    | ⟨4, _⟩ => iblkE hp c 4 t
    | ⟨5, _⟩ => aftE hp c t
  Φ _ := iprop(Pipeline.scopedRest spec0 c ∗ Pipeline.tablesAt pcfgs (adm hp) 0 c)
  q _ := fullShare
  owed _ := 0

theorem A_E (c : Dev nD) (w : Fin 6) : (datE hp c).A w = V1 m c (Proc.devRef .tc (Pipeline.arrRef spec0 w)) := by dsimp only [datE]

theorem after_E0 (c : Dev nD) (t : Fin (cfgE hp).N) : (datE hp c).after 0 t = iblkE hp c 0 t := rfl
theorem after_E1 (c : Dev nD) (t : Fin (cfgE hp).N) : (datE hp c).after 1 t = iblkE hp c 1 t := rfl
theorem after_E2 (c : Dev nD) (t : Fin (cfgE hp).N) : (datE hp c).after 2 t = iblkE hp c 2 t := rfl
theorem after_E3 (c : Dev nD) (t : Fin (cfgE hp).N) : (datE hp c).after 3 t = iblkE hp c 3 t := rfl
theorem after_E4 (c : Dev nD) (t : Fin (cfgE hp).N) : (datE hp c).after 4 t = iblkE hp c 4 t := rfl
theorem after_E5 (c : Dev nD) (t : Fin (cfgE hp).N) : (datE hp c).after 5 t = aftE hp c t := rfl

theorem before_E0 (c : Dev nD) (t : Fin (cfgE hp).N) (d) : (datE hp c).before 0 t d = iblkE hp c 0 t :=
  ((datE hp c).before_in_eq_fetched 0 rfl (fun _ => rfl) (fun _ _ _ => rfl) (fun t => by rw [after_E0]; unfold Dat.blockOf iblkE; rw [A_E]; try rfl) t d).trans
    (by unfold Dat.fetched Dat.blockOf iblkE; rw [A_E]; try rfl)
theorem before_E1 (c : Dev nD) (t : Fin (cfgE hp).N) (d) : (datE hp c).before 1 t d = iblkE hp c 1 t :=
  ((datE hp c).before_in_eq_fetched 1 rfl (fun _ => rfl) (fun _ _ _ => rfl) (fun t => by rw [after_E1]; unfold Dat.blockOf iblkE; rw [A_E]; try rfl) t d).trans
    (by unfold Dat.fetched Dat.blockOf iblkE; rw [A_E]; try rfl)
theorem before_E2 (c : Dev nD) (t : Fin (cfgE hp).N) (d) : (datE hp c).before 2 t d = iblkE hp c 2 t :=
  ((datE hp c).before_in_eq_fetched 2 rfl (fun _ => rfl) (fun _ _ _ => rfl) (fun t => by rw [after_E2]; unfold Dat.blockOf iblkE; rw [A_E]; try rfl) t d).trans
    (by unfold Dat.fetched Dat.blockOf iblkE; rw [A_E]; try rfl)
theorem before_E3 (c : Dev nD) (t : Fin (cfgE hp).N) (d) : (datE hp c).before 3 t d = iblkE hp c 3 t :=
  ((datE hp c).before_in_eq_fetched 3 rfl (fun _ => rfl) (fun _ _ _ => rfl) (fun t => by rw [after_E3]; unfold Dat.blockOf iblkE; rw [A_E]; try rfl) t d).trans
    (by unfold Dat.fetched Dat.blockOf iblkE; rw [A_E]; try rfl)
theorem before_E4 (c : Dev nD) (t : Fin (cfgE hp).N) (d) : (datE hp c).before 4 t d = iblkE hp c 4 t :=
  ((datE hp c).before_in_eq_fetched 4 rfl (fun _ => rfl) (fun _ _ _ => rfl) (fun t => by rw [after_E4]; unfold Dat.blockOf iblkE; rw [A_E]; try rfl) t d).trans
    (by unfold Dat.fetched Dat.blockOf iblkE; rw [A_E]; try rfl)

/-- The two tables as points-tos. -/
theorem tables_pair (c : Dev nD) (v : pre0.Contents (Elt F)) :
    (Pipeline.prefHeld pre0 c (fun _ => fullShare) v : sProp 𝕄)
      = iprop((((c : Thread nD τ).loc main_arg0) ↦{fullShare} (show Buf (Elt F) ((c : Thread nD τ).loc main_arg0) from v 0))
          ∗ (((c : Thread nD τ).loc main_arg1) ↦{fullShare} (show Buf (Elt F) ((c : Thread nD τ).loc main_arg1) from v 1))) := by
  unfold Pipeline.prefHeld
  rw [show (Finset.univ : Finset (Fin 2)) = insert 0 {1} from by decide, bigSep_insert (by decide), bigSep_singleton]
  rfl

/-- The output is stored at every point. -/
theorem idle_E5 (i : grid0.Coords) : (cfgE hp).idle 5 i = false := by
  show (!(k0_cond1 i _ == 1#1) && !(k0_cond2 i _ == 1#1)) = false
  rw [Bool.eq_false_iff]
  intro h
  obtain ⟨h1, h2⟩ := Bool.and_eq_true_iff.1 h
  rw [Bool.not_eq_true', beq_eq_false_iff_ne] at h1 h2
  exact h2 ((cond2_iff i _).2 h1)

abbrev stE (w : Fin 6) (t : Fin (cfgE hp).N) := ((cfgE hp).win w).stage ((cfgE hp).slots t w)

abbrev bodyAtE (t : Fin (cfgE hp).N) : Prog (TpuEff nD τ sig (Elt F) Λ₀ .tc) PUnit :=
  cc0_experts (grid0.coords t) (Memref.whole main_arg0) (Memref.isWhole_whole _) (Memref.whole main_arg1) (Memref.isWhole_whole _)
    (stE hp 0 t) (hstage0_0 (((cfgE hp).slots t 0).cast nbuf0_0)) (stE hp 1 t) (hstage0_1 (((cfgE hp).slots t 1).cast nbuf0_1))
    (stE hp 2 t) (hstage0_2 (((cfgE hp).slots t 2).cast nbuf0_2)) (stE hp 3 t) (hstage0_3 (((cfgE hp).slots t 3).cast nbuf0_3))
    (stE hp 4 t) (hstage0_4 (((cfgE hp).slots t 4).cast nbuf0_4)) (stE hp 5 t) (hstage0_5 (((cfgE hp).slots t 5).cast nbuf0_5))

def preE (c : Dev nD) (t : Fin (cfgE hp).N) : sProp 𝕄 :=
  iprop((datE hp c).Φ t.castSucc ∗ (datE hp c).owesAt () t.castSucc
    ∗ (∃ d, owns (c : Thread nD τ) (stE hp 0 t) fullShare ((datE hp c).before 0 t d))
    ∗ (∃ d, owns (c : Thread nD τ) (stE hp 1 t) fullShare ((datE hp c).before 1 t d))
    ∗ (∃ d, owns (c : Thread nD τ) (stE hp 2 t) fullShare ((datE hp c).before 2 t d))
    ∗ (∃ d, owns (c : Thread nD τ) (stE hp 3 t) fullShare ((datE hp c).before 3 t d))
    ∗ (∃ d, owns (c : Thread nD τ) (stE hp 4 t) fullShare ((datE hp c).before 4 t d))
    ∗ (∃ d, owns (c : Thread nD τ) (stE hp 5 t) fullShare ((datE hp c).before 5 t d)))

def postE (c : Dev nD) (t : Fin (cfgE hp).N) : sProp 𝕄 :=
  iprop((datE hp c).Φ t.succ ∗ (datE hp c).owesAt () t.succ
    ∗ owns (c : Thread nD τ) (stE hp 0 t) fullShare ((datE hp c).after 0 t)
    ∗ owns (c : Thread nD τ) (stE hp 1 t) fullShare ((datE hp c).after 1 t)
    ∗ owns (c : Thread nD τ) (stE hp 2 t) fullShare ((datE hp c).after 2 t)
    ∗ owns (c : Thread nD τ) (stE hp 3 t) fullShare ((datE hp c).after 3 t)
    ∗ owns (c : Thread nD τ) (stE hp 4 t) fullShare ((datE hp c).after 4 t)
    ∗ owns (c : Thread nD τ) (stE hp 5 t) fullShare ((datE hp c).after 5 t))

theorem bodyE (c : Dev nD) (t : Fin (cfgE hp).N) :
    preE hp c t ⊢ wp frame (wpE (defs₀ (F := F)) Variants.none c none) Set.univ (bodyAtE hp t) (fun _ => postE hp c t) := by
  unfold preE postE bodyAtE
  simp only [before_E0, before_E1, before_E2, before_E3, before_E4]
  rw [show (datE hp c).Φ t.succ = iprop(Pipeline.scopedRest spec0 c ∗ Pipeline.prefHeld pre0 c (fun _ => fullShare) (tables (blkOf m) (infoOf m))) from rfl,
    show (datE hp c).Φ t.castSucc = iprop(Pipeline.scopedRest spec0 c ∗ Pipeline.prefHeld pre0 c (fun _ => fullShare) (tables (blkOf m) (infoOf m))) from rfl,
    show (datE hp c).owesAt () t.succ = (datE hp c).owesAt () t.castSucc from rfl,
    after_E0, after_E1, after_E2, after_E3, after_E4, after_E5, tables_pair]
  iintro ⟨⟨Hs, Ht0, Ht1⟩, Ho, ⟨%d0, H0⟩, ⟨%d1, H1⟩, ⟨%d2, H2⟩, ⟨%d3, H3⟩, ⟨%d4, H4⟩, ⟨%d5, H5⟩⟩
  iapply (sound_experts c Set.univ (grid0.coords t) (infoOf m) _ _ _ _ _ _ _ _ _ _ _ _ _ _ (iblkE hp c 0 t) (iblkE hp c 1 t) (iblkE hp c 2 t) (iblkE hp c 3 t) (iblkE hp c 4 t) _)
  isplitl [Ht1]; · iexact Ht1
  isplitl [H0]; · iexact H0
  isplitl [H1]; · iexact H1
  isplitl [H2]; · iexact H2
  isplitl [H3]; · iexact H3
  isplitl [H4]; · iexact H4
  isplitl [H5]; · iexists _; iexact H5
  iintro ⟨Ht1, H0, H1, H2, H3, H4, H5⟩
  isplitl [Hs Ht0 Ht1]
  · isplitl [Hs]; · iexact Hs
    isplitl [Ht0]; · iexact Ht0
    iexact Ht1
  isplitl [Ho]; · iexact Ho
  isplitl [H0]; · iexact H0
  isplitl [H1]; · iexact H1
  isplitl [H2]; · iexact H2
  isplitl [H3]; · iexact H3
  isplitl [H4]; · iexact H4
  iexact H5

theorem defs₀_rowE (t : Fin (cfgE hp).N) :
    defs₀ (F := F) .tc (cfgE hp).body ((cfgE hp).bodyArgs t ((cfgE hp).slots t)) = bodyAtE hp t := by
  unfold defs₀; rw [Defs.onTc_tc]

theorem obligationE (c : Dev nD) : BodyObligation (datE hp c) (defs₀ (F := F)) Variants.none () Set.univ := fun t => by
  rw [bigSep_W0, bigSep_W0, defs₀_rowE, idle_E5]
  exact triple_restated (bodyE hp c t) rfl .rfl fun _ => .rfl

/-! ## The reading call -/

/-- Core `c`'s buffers once the experts call is done, -/
abbrev W2 (c : Dev nD) : Valuation τ sig (Elt F) := Pipeline.afterRegion (datE hp c) (V1 m c)

def iblkR (c : Dev nD) (w : Fin 2) (t : Fin cfg1.N) : ((cfg1.win w).xblock (cfg1.grid.coords t)).Idx → Elt F (cfg1.win w).elt :=
  ((cfg1.win w).blk t).view.read (Elt F) (W2 hp c (Proc.devRef .tc (Pipeline.arrRef spec1 w)))

def datR (c : Dev nD) : Dat τ (Elt F) Unit ℕ (UR sig nD τ) ℕ cfg1 c where
  A w := W2 hp c (Proc.devRef .tc (Pipeline.arrRef spec1 w))
  after w t := match w with
    | ⟨0, _⟩ => iblkR hp c 0 t
    | ⟨1, _⟩ => outR (iblkR hp c 0 t)
  Φ _ := Pipeline.scopedRest spec1 c
  q _ := fullShare
  owed _ := 0

theorem A_R (c : Dev nD) (w : Fin 2) : (datR hp c).A w = W2 hp c (Proc.devRef .tc (Pipeline.arrRef spec1 w)) := by dsimp only [datR]
theorem after_R0 (c : Dev nD) (t : Fin cfg1.N) : (datR hp c).after 0 t = iblkR hp c 0 t := by dsimp only [datR]
theorem after_R1 (c : Dev nD) (t : Fin cfg1.N) : (datR hp c).after 1 t = outR (iblkR hp c 0 t) := by dsimp only [datR]

theorem before_R0 (c : Dev nD) (t : Fin cfg1.N) (d) : (datR hp c).before 0 t d = iblkR hp c 0 t :=
  ((datR hp c).before_in_eq_fetched 0 rfl (fun _ => rfl) (fun _ _ _ => rfl) (fun t => by rw [after_R0]; unfold Dat.blockOf iblkR; rw [A_R]; try rfl) t d).trans
    (by unfold Dat.fetched Dat.blockOf iblkR; rw [A_R]; try rfl)

def preR (c : Dev nD) (t : Fin cfg1.N) : sProp 𝕄 :=
  iprop((datR hp c).Φ t.castSucc ∗ (datR hp c).owesAt () t.castSucc
    ∗ (∃ d, owns (c : Thread nD τ) (st1_0 t) fullShare ((datR hp c).before 0 t d))
    ∗ (∃ d, owns (c : Thread nD τ) (st1_1 t) fullShare ((datR hp c).before 1 t d)))

def postR (c : Dev nD) (t : Fin cfg1.N) : sProp 𝕄 :=
  iprop((datR hp c).Φ t.succ ∗ (datR hp c).owesAt () t.succ
    ∗ owns (c : Thread nD τ) (st1_0 t) fullShare ((datR hp c).after 0 t)
    ∗ owns (c : Thread nD τ) (st1_1 t) fullShare ((datR hp c).after 1 t))

theorem bodyR (c : Dev nD) (t : Fin cfg1.N) :
    preR hp c t ⊢ wp frame (wpE (defs₀ (F := F)) Variants.none c none) Set.univ (bodyAt1 t) (fun _ => postR hp c t) := by
  unfold preR postR bodyAt1
  simp only [before_R0]
  rw [show (datR hp c).Φ t.succ = (datR hp c).Φ t.castSucc from rfl,
    show (datR hp c).owesAt () t.succ = (datR hp c).owesAt () t.castSucc from rfl,
    after_R0, after_R1]
  iintro ⟨HΦ, Ho, ⟨%d0, H0⟩, ⟨%d1, H1⟩⟩
  iapply (sound_read c Set.univ (grid1.coords t) _ _ _ _ (iblkR hp c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_rowR (t : Fin cfg1.N) :
    defs₀ (F := F) .tc cfg1.body (cfg1.bodyArgs t (cfg1.slots t)) = bodyAt1 t := by
  unfold defs₀; rw [Defs.onTc_tc]

theorem obligationR (c : Dev nD) : BodyObligation (datR hp c) (defs₀ (F := F)) Variants.none () Set.univ := fun t => by
  rw [bigSep_W1, bigSep_W1, defs₀_rowR]
  exact triple_restated (bodyR hp c t) rfl .rfl fun _ => .rfl

/-! ## The two regions -/

/-- Both calls' proof data. -/
def pdats : (p : Fin 2) → (c : Dev nD) → Dat τ (Elt F) Unit ℕ (UR sig nD τ) ℕ (Pipeline.pin (pcfgs (F := F)) (adm hp) p) c
  | ⟨0, _⟩ => datE hp
  | ⟨1, _⟩ => datR hp
  | ⟨_ + 2, h⟩ => absurd h (Nat.not_lt.2 (Nat.le_add_left _ _))

abbrev L : GSem nD τ sig → Finset Unit := fun g => if g.1.2 = .tc then {()} else ∅
abbrev lv : GSem nD τ sig → Unit → ℕ := fun _ _ => 0

theorem cut (p : Fin 2) : Pipeline.LevelCut (pcfgs (F := F)) (adm hp) () L lv p (fun _ => 0) (fun _ => 0) where
  hι _ _ _ := by show () ∈ (if _ then _ else _); rw [if_pos rfl]; exact Finset.mem_singleton_self _
  hιb _ _ _ := le_refl 0
  hD _ _ _ h := absurd h (lt_irrefl 0)

def regE : RegionSeg (pcfgs (F := F)) (adm hp) (pdats hp) () defs₀ Variants.none L lv 0 :=
  RegionSeg.ofHeldInT (pcfgs (F := F)) (adm hp) (pdats hp) () defs₀ Variants.none L lv 0 (fun _ => 0) (Pipeline.ucRefs τ sig)
    (fun _ => iprop(emp)) (fun _ => iprop(emp)) launch0
    (fun c => (obligationE hp c).loose) (fun _ _ => rfl) (fun _ => rfl) (fun c w => (datE hp c).share_full (fun _ => rfl) w)
    (fun c => by
      show _ ⊢ iprop(Pipeline.scopedRest spec0 c ∗ Pipeline.tablesAt pcfgs (adm hp) 0 c)
      iintro ⟨⟨H, -⟩, Ht⟩
      isplitl [H]; · iexact H
      iexact Ht)
    (fun c => by
      show iprop(Pipeline.scopedRest spec0 c ∗ Pipeline.tablesAt pcfgs (adm hp) 0 c) ⊢ _
      iintro ⟨H, Ht⟩
      isplitl [H]
      · isplitl [H]; · iexact H
        iempintro
      iexact Ht)
    (fun _ => 0) (cut hp 0) (fun _ => iprop(emp)) (V1 m)
    (fun c w => A_E hp c w)
    (fun c k => by
      rw [eq_c₀ c]
      match k with
      | ⟨0, _⟩ => exact (V1_of m c₀ main_arg0 (by decide)).symm
      | ⟨1, _⟩ => exact (V1_of m c₀ main_arg1 (by decide)).symm)

def regR : RegionSeg (pcfgs (F := F)) (adm hp) (pdats hp) () defs₀ Variants.none L lv 1 :=
  RegionSeg.ofHeldIn (pcfgs (F := F)) (adm hp) (pdats hp) () defs₀ Variants.none L lv 1 (fun _ => 0) (Pipeline.ucRefs τ sig)
    (fun _ => iprop(emp)) (fun _ => iprop(emp)) launch1 rfl
    (fun c => (obligationR hp c).loose) (fun _ _ => rfl) (fun _ => rfl) (fun c w => (datR hp c).share_full (fun _ => rfl) w)
    (fun c => by
      show _ ⊢ Pipeline.scopedRest spec1 c
      iintro ⟨H, -⟩; iexact H)
    (fun c => by
      show Pipeline.scopedRest spec1 c ⊢ _
      iintro H
      isplitl [H]; · iexact H
      iempintro)
    (fun _ => 0) (cut hp 1) (fun _ => iprop(emp)) (W2 hp)
    (fun c w => A_R hp c w)

/-! ## @main: the host operations, the experts call, the reading call -/

/-- Core `c`'s buffers once the reading call is done. -/
abbrev W3 (c : Dev nD) : Valuation τ sig (Elt F) := Pipeline.afterRegion (datR hp c) (W2 hp c)

/-- What rides along: owing nothing. -/
abbrev rest (c : Dev nD) : sProp 𝕄 := iprop(∃ W, owes (c : Thread nD τ) (0 : CellTallies nD τ sig Unit) W)

theorem rest_in (c : Dev nD) (P : sProp 𝕄) :
    iprop(P ∗ rest c) ⊢ iprop(P ∗ ((∃ W, owes (c : Thread nD τ) (0 : CellTallies nD τ sig Unit) W) ∗ emp ∗ emp)) := by
  iintro ⟨HP, HO⟩
  isplitl [HP]; · iexact HP
  isplitl [HO]; · iexact HO
  isplitl []
  · iempintro
  · iempintro

theorem rest_out (c : Dev nD) (P : sProp 𝕄) :
    iprop(P ∗ ((∃ W, owes (c : Thread nD τ) (0 : CellTallies nD τ sig Unit) W) ∗ emp ∗ emp)) ⊢ iprop(P ∗ rest c) := by
  iintro ⟨HP, HO, -, -⟩
  isplitl [HP]; · iexact HP
  iexact HO

theorem refsE : Pipeline.arrRefs (pcfgs (F := F) 0).spec ⊆ Pipeline.ucRefs τ sig := Pipeline.arrRefs_sub_ucRefs spec0 (by decide)
theorem refsR : Pipeline.arrRefs (pcfgs (F := F) 1).spec ⊆ Pipeline.ucRefs τ sig := Pipeline.arrRefs_sub_ucRefs spec1 (by decide)
theorem refsT : Pipeline.tblRefs (pcfgs (F := F) 0).pre ⊆ Pipeline.ucRefs τ sig := Pipeline.tblRefs_sub_ucRefs pre0 (by decide)

theorem pre_E (c : Dev nD) : iprop(StableHlo.held (c : Thread nD τ) (Pipeline.ucRefs τ sig) (V1 m c) ∗ rest c) ⊢ (regE hp).pre c := by
  unfold regE
  refine BI.Entails.trans ?_ (RegionSeg.ofHeldInT_pre (pcs := pcfgs (F := F)) (a := adm hp) (pdats := pdats hp) (ι := ()) (defs₀ := defs₀) (𝒱₀ := Variants.none) (L := L) (lv := lv) (p := 0) (D := fun _ => 0) refsE refsT c)
  exact rest_in c _

theorem post_E (c : Dev nD) : (regE hp).post c ⊢ iprop(StableHlo.held (c : Thread nD τ) (Pipeline.ucRefs τ sig) (W2 hp c) ∗ rest c) := by
  unfold regE
  refine BI.Entails.trans (RegionSeg.ofHeldInT_post (pcs := pcfgs (F := F)) (a := adm hp) (pdats := pdats hp) (ι := ()) (defs₀ := defs₀) (𝒱₀ := Variants.none) (L := L) (lv := lv) (p := 0) (D := fun _ => 0) refsE refsT c) ?_
  exact rest_out c _

theorem pre_R (c : Dev nD) : iprop(StableHlo.held (c : Thread nD τ) (Pipeline.ucRefs τ sig) (W2 hp c) ∗ rest c) ⊢ (regR hp).pre c := by
  unfold regR
  refine BI.Entails.trans ?_ (RegionSeg.ofHeldIn_pre (pcs := pcfgs (F := F)) (a := adm hp) (pdats := pdats hp) (ι := ()) (defs₀ := defs₀) (𝒱₀ := Variants.none) (L := L) (lv := lv) (p := 1) (D := fun _ => 0) refsR c)
  exact rest_in c _

theorem post_R (c : Dev nD) : (regR hp).post c ⊢ iprop(StableHlo.held (c : Thread nD τ) (Pipeline.ucRefs τ sig) (W3 hp c) ∗ rest c) := by
  unfold regR
  refine BI.Entails.trans (RegionSeg.ofHeldIn_post (pcs := pcfgs (F := F)) (a := adm hp) (pdats := pdats hp) (ι := ()) (defs₀ := defs₀) (𝒱₀ := Variants.none) (L := L) (lv := lv) (p := 1) (D := fun _ => 0) refsR c) ?_
  exact rest_out c _

/-- A buffer that is no output of either call reaches the end as the host operations left it. -/
theorem W3_keeps (c : Dev nD) (r : Ref sig .tc) (h0 : ∀ w, Pipeline.arrRef spec0 w = r → (spec0 w).isOut = false)
    (h1 : ∀ w, Pipeline.arrRef spec1 w = r → (spec1 w).isOut = false) : W3 hp c (Proc.devRef .tc r) = V1 m c r :=
  (Pipeline.afterRegion_keeps (datR hp c) (W2 hp c) (launch1 (F := F)).win.arr_inj (A_R hp c) r h1).trans
    (Pipeline.afterRegion_keeps (datE hp c) (V1 m c) (launch0 (F := F)).win.arr_inj (A_E hp c) r h0)

set_option backward.isDefEq.respectTransparency.types false in
/-- Every weakly fair execution of @main on a plan in range terminates, nothing faulting; every final state holds each unscoped
    buffer as the reading call leaves it, with every counter at zero. -/
theorem run_main : θ_run defs (onTc (τ := τ) (main (F := F))) ⟨m, fun _ => 0, ρ⟩ (fun r => (∀ c : Dev nD, ∀ b : Ref sig .tc,
      Proc.devRef .tc b ∈ Pipeline.ucRefs τ sig → r.2.mem ((c : Thread nD τ).loc b) = W3 hp c (Proc.devRef .tc b)) ∧ r.2.sem = fun _ => 0) := by
  refine Pipeline.θ_run_regions_kit_dev_sems (pcfgs (F := F)) (adm hp) (pdats hp) () (cellOf_inj (adm hp)) emb₁ defs₀ Variants.none L lv m ρ main
    (segs m Variants.none L lv (fun _ c => rest c) () (adm hp) (pdats hp) (regE hp) (regR hp))
    (fun c Q => by
      rewrite [main_chain c, Seg.run_eq_chain,
        show (segs m Variants.none L lv (fun _ c => rest c) () (adm hp) (pdats hp) (regE hp) (regR hp) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g h => if_neg h) (fun _ => iprop(emp))
    (initOf (Pipeline.cells (Pipeline.pin (pcfgs (F := F)) (adm hp)) (cellOf_inj (adm hp))) (Pipeline.launchToks (Pipeline.pin (pcfgs (F := F)) (adm hp)) (cellOf_inj (adm hp))))
    (by
      iintro Hu
      imodintro
      isplitl [Hu]
      · iapply (show (ownU _ : sProp 𝕄) ⊢ BI.own (emb₁ (initOf (Pipeline.cells (Pipeline.pin (pcfgs (F := F)) (adm hp)) (cellOf_inj (adm hp))) (Pipeline.launchToks (Pipeline.pin (pcfgs (F := F)) (adm hp)) (cellOf_inj (adm hp))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (W3 hp c))
    (hch := fun c => ⟨.rfl, pre_E hp c, (post_E hp c).trans (pre_R hp c), post_R hp c⟩)
    (hinit := ?_)
    (QY := fun c s => ∀ b : Ref sig .tc, Proc.devRef .tc b ∈ Pipeline.ucRefs τ sig → s.mem ((c : Thread nD τ).loc b) = W3 hp c (Proc.devRef .tc b))
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W3 hp c) s') $$ [Hh HSI]
    · isplitl [Hh] <;> iassumption
    icases Hr with ⟨%h, HSI⟩
    imodintro
    isplitr
    · ipureintro
      exact fun b hb => h (Proc.devRef .tc b) hb
    · iexact HSI

theorem mem_uc (b : Ref sig .tc) (h : b.isScoped = false) : Proc.devRef .tc b ∈ Pipeline.ucRefs τ sig :=
  Finset.mem_filter.mpr ⟨StableHlo.devRef_mem_tcRefs b, by rw [show (Proc.devRef (τ := τ) .tc b).isScoped = b.isScoped from rfl, h]; exact Bool.false_ne_true⟩

theorem W3_arg (c : Dev nD) (r : Ref sig .tc) (h0 : ∀ w, Pipeline.arrRef spec0 w = r → (spec0 w).isOut = false)
    (h1 : ∀ w, Pipeline.arrRef spec1 w = r → (spec1 w).isOut = false) (h : r ∉ hostOps0_W) :
    W3 hp c (Proc.devRef .tc r) = m ((c : Thread nD τ).loc r) :=
  (W3_keeps hp c r h0 h1).trans (V1_of m c r h)

/-- The run, read at the arguments and the result. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v5) = (datR hp c).arrAt 1 cfg1.N)
      ∧ r.2.sem = fun _ => 0) := by
  refine θ_run_mono (run_main ρ hp) ?_
  rintro r ⟨h, hs⟩
  refine ⟨fun c => ⟨⟨?_, ?_, ?_, ?_, ?_, ?_, ?_⟩, ?_⟩, hs⟩
  · exact (h c main_arg0 (mem_uc _ rfl)).trans (W3_arg hp c main_arg0 (by decide) (by decide) (by decide))
  · exact (h c main_arg1 (mem_uc _ rfl)).trans (W3_arg hp c main_arg1 (by decide) (by decide) (by decide))
  · exact (h c main_arg2 (mem_uc _ rfl)).trans (W3_arg hp c main_arg2 (by decide) (by decide) (by decide))
  · exact (h c main_arg3 (mem_uc _ rfl)).trans (W3_arg hp c main_arg3 (by decide) (by decide) (by decide))
  · exact (h c main_arg4 (mem_uc _ rfl)).trans (W3_arg hp c main_arg4 (by decide) (by decide) (by decide))
  · exact (h c main_arg5 (mem_uc _ rfl)).trans (W3_arg hp c main_arg5 (by decide) (by decide) (by decide))
  · exact (h c main_arg6 (mem_uc _ rfl)).trans (W3_arg hp c main_arg6 (by decide) (by decide) (by decide))
  · exact (h c main_v5 (mem_uc _ rfl)).trans (Pipeline.afterRegion_arr (datR hp c) (W2 hp c) (launch1 (F := F)).win.arr_inj 1)

end Cert.KernelIdeal.Work

end
-- ==== Proof.Claims.lean ====
/- The frames and `preserves`: both programs' runs at any plan in range, the reference's run, and the pairs' statements. -/
module

public import proofs.«01_k».proof.Defs
public import proofs.«01_k».proof.Proof.KernelRun
public import proofs.«01_k».proof.Proof.IdealRun
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof

theorem plan_bits (m : (ℓ : Loc Cert.Kernel.nD Cert.Kernel.τ Cert.Kernel.sig) → Buf (Elt Bits) ℓ) (h : Cert.Pre_Kernel m) : Cert.Kernel.Work.PlanOK m :=
  fun c => Plan.inRange_of_fn (F := Bits) _ _ _ _ _ _ _ (h c)

theorem plan_ideal (m : (ℓ : Loc Cert.KernelIdeal.nD Cert.KernelIdeal.τ Cert.KernelIdeal.sig) → Buf (Elt Ideal) ℓ) (h : Cert.Pre_KernelIdeal m) :
    Cert.KernelIdeal.Work.PlanOK m :=
  fun c => Plan.inRange_of_fn (F := Ideal) _ _ _ _ _ _ _ (h c)

theorem frame_p : Cert.quiescent_Kernel := fun m ρ h =>
  θ_run_mono (Cert.Kernel.Work.run ρ (plan_bits m h)) fun _ hr => ⟨fun c => (hr.1 c).1, hr.2⟩

theorem frame_pi : Cert.quiescent_KernelIdeal := fun m ρ h =>
  θ_run_mono (Cert.KernelIdeal.Work.run ρ (plan_ideal m h)) fun _ hr => ⟨fun c => (hr.1 c).1, hr.2⟩

theorem frame_ri : Cert.quiescent_ReferenceIdeal := fun m ρ _ =>
  θ_run_mono (Cert.ReferenceIdeal.Value.run (F := Ideal) m ρ) fun r h => ⟨fun c => (h c).2,
      Idealize.ShloMosaic.sem_eq_zero_of_no_sems (by decide) r.2⟩

theorem frame_ri_pre : Cert.quiescent_ReferenceIdeal_pre_in_range := fun m ρ _ =>
  θ_run_mono (Cert.ReferenceIdeal.Value.run (F := Ideal) m ρ) fun r h => ⟨fun c => (h c).2,
      Idealize.ShloMosaic.sem_eq_zero_of_no_sems (by decide) r.2⟩

theorem preserves : Cert.preserves_Kernel_KernelIdeal :=
  open Cert.KernelIdeal IdealRules.bf16_pair in
  ⟨bufferStatement S87808x2x512 S87808x1x512, bufferStatement S256x2x512 S256x1x512, packStatement S256x512,
    statement S256x2x512 S256x1x512, statement S512x512 S256x512⟩

end Cert.Proof

end
-- ==== Proof.Model.lean ====
/- What one row of the experts' result is: the mathematics both programs are compared with. -/
module

public import Idealize.ShloMosaic.Lib.Pointwise

@[expose] public section

noncomputable section

namespace Cert.Work

open Idealize.ShloMosaic

/-- The bf16 number in the sixteen bits of a word from bit `k` on. -/
def half (k : Nat) (w : BitVec 32) : EReal := Ideal.ofBits .bf16 (w.extractLsb' k 16)

/-- A row's up-projection at column `j`: its low halves against the first 512 rows of the expert's matrix, its high halves
    against the other 512, plus the bias. -/
def up (X : (⟨2, ![87808, 512]⟩ : Shape).Idx → BitVec 32) (W : (⟨3, ![32, 1024, 2048]⟩ : Shape).Idx → EReal)
    (β : (⟨2, ![32, 2048]⟩ : Shape).Idx → EReal) (R : Fin 87808) (e : Fin 32) (j : Fin 2048) : EReal :=
  ∑ k : Fin 512, half 0 (X (ix2 R k)) * W (ix3 e ⟨k.val, by omega⟩ j)
    + ∑ k : Fin 512, half 16 (X (ix2 R k)) * W (ix3 e ⟨512 + k.val, by omega⟩ j) + β (ix2 e j)

/-- The clipped gate with its swish, times the clipped linear part plus one. -/
def swiglu (g u : EReal) : EReal :=
  (min (Ideal.ofBits .f32 0x40E00000#32) (max (Ideal.ofBits .f32 0xC0E00000#32) u) + 1)
    * (min g (Ideal.ofBits .f32 0x40E00000#32)
        * Ideal.logistic (Ideal.ofBits .f32 0x3FD9DB23#32 * min g (Ideal.ofBits .f32 0x40E00000#32)))

/-- A row of an expert's result at column `n`. -/
def expertRow (X : (⟨2, ![87808, 512]⟩ : Shape).Idx → BitVec 32) (W : (⟨3, ![32, 1024, 2048]⟩ : Shape).Idx → EReal)
    (β : (⟨2, ![32, 2048]⟩ : Shape).Idx → EReal) (V : (⟨3, ![32, 1024, 1024]⟩ : Shape).Idx → EReal)
    (γ : (⟨2, ![32, 1024]⟩ : Shape).Idx → EReal) (R : Fin 87808) (e : Fin 32) (n : Fin 1024) : EReal :=
  ∑ x : Fin 1024, swiglu (up X W β R e ⟨x.val, by omega⟩) (up X W β R e ⟨1024 + x.val, by omega⟩) * V (ix3 e x n) + γ (ix2 e n)

end Cert.Work

end
-- ==== Proof.KernelValue.lean ====
/- The idealized kernel's result, read at an index. -/
module

public import proofs.«01_k».proof.Proof.IdealRun
public import proofs.«01_k».proof.Proof.Model
public import Idealize.ShloMosaic.Lib.Pipeline.ValueKit
public import Idealize.ShloMosaic.Lib.BitcastConvert
public import Idealize.ShloMosaic.Lib.StableHlo.ReadAt

@[expose] public section

noncomputable section

namespace Cert.KernelIdeal.Work

open Cert.KernelIdeal Cert.KernelIdeal.Gen Cert.Work
open Idealize.ShloMosaic Idealize.ShloMosaic.TcCoe
open Idealize.ShloMosaic.Pipeline (Dat Cfg Window)

variable {m : (ℓ : Loc nD τ sig) → Buf (Elt Ideal) ℓ} (hp : PlanOK m)

theorem V1_x (c : Dev nD) : V1 m c (Proc.devRef .tc main_arg2) = m ((c : Thread nD τ).loc main_arg2) := V1_of m c main_arg2 (by decide)

theorem V1_up (c : Dev nD) (e : Fin 32) (k : Fin 1024) (j : Fin 2048) :
    V1 m c (Proc.devRef .tc main_v0) (ix3 e k j) = m ((c : Thread nD τ).loc main_arg3) (ix3 e k j) := by
  after_reads_at
theorem V1_down (c : Dev nD) (e : Fin 32) (k n : Fin 1024) :
    V1 m c (Proc.devRef .tc main_v1) (ix3 e k n) = m ((c : Thread nD τ).loc main_arg5) (ix3 e k n) := by
  after_reads_at
theorem V1_upBias (c : Dev nD) (e : Fin 32) (j : Fin 2048) :
    V1 m c (Proc.devRef .tc main_v2) (ix3 e 0 j) = m ((c : Thread nD τ).loc main_arg4) (ix2 e j) := by
  after_reads_at
theorem V1_downBias (c : Dev nD) (e : Fin 32) (n : Fin 1024) :
    V1 m c (Proc.devRef .tc main_v3) (ix3 e 0 n) = m ((c : Thread nD τ).loc main_arg6) (ix2 e n) := by
  after_reads_at

/-- The expert a point's block plan names. -/
def expertAt (t : Fin grid0.N) : Fin 32 :=
  ⟨(blkOf m (ix1 ((grid0.coords t) 0))).toNat, (hp c₀).expert _⟩

theorem point_nat (i : grid0.Coords) : (BitVec.ofNat 32 (i 0).val).toNat = (i 0).val := by
  have h := coord_lt i
  rw [BitVec.toNat_ofNat, Nat.mod_eq_of_lt (by omega)]

theorem plan_read (blk : IVec S343 32) (info : IVec S1 32) (i : grid0.Coords) :
    cc0_transform_1 (F := Ideal) k0_off1_inb numel1_S1 (tables blk info) i 0 = (blk (ix1 (i 0))).toNat := by
  show (blk _).toNat = _
  congr 2
  funext a
  match a with
  | ⟨0, _⟩ =>
    apply Fin.ext
    show (BitVec.ofNat 32 (i 0).val).toNat + _ = (i 0).val
    rw [point_nat]
    rfl

/-- A live point's row block is the point. -/
theorem rows_read (blk : IVec S343 32) (info : IVec S1 32) (i : grid0.Coords) (h : ((i 0).val : Int) < (info (ix1 0)).toInt) :
    cc0_transform_0 (F := Ideal) inb_S1_S1_0 numel1_S1 (tables blk info) i 0 = (i 0).val := by
  have hi := point_nat i
  have hw := point_word i
  have hs : ∀ w : BitVec 32, w = info (ix1 0) → (Scalar.minsi (BitVec.ofNat 32 (i 0).val) (Scalar.subi w 1#32)).toNat = (i 0).val := by
    rintro w rfl
    have h31 : (info (ix1 0)).toInt < 2 ^ 31 := by have := BitVec.toInt_lt (x := info (ix1 0)); simpa using this
    have h1 : (info (ix1 0) - 1#32).toInt = (info (ix1 0)).toInt - 1 := by
      rw [BitVec.toInt_sub]
      have : (1#32).toInt = 1 := by decide
      rw [this]
      exact Int.bmod_eq_of_le (by omega) (by omega)
    show (IntOp.minsi _ (IntOp.subi _ 1#32)).toNat = _
    unfold IntOp.minsi IntOp.subi
    split
    · exact hi
    · next hn =>
      simp only [BitVec.sle, BitVec.slt, decide_eq_true_eq, not_le, not_lt] at hn
      rw [hw, h1] at hn
      have hc := BitVec.toInt_eq_toNat_cond (info (ix1 0) - 1#32)
      split at hc <;> omega
  exact hs _ (congrArg info (Plan.one_idx _ _))

theorem blkE0 (c : Dev nD) (t : Fin grid0.N) (h : (((grid0.coords t) 0).val : Int) < (infoOf m (ix1 0)).toInt) (r : Fin 256) (k : Fin 512)
    (R : Fin 87808) (hR : R.val = ((grid0.coords t) 0).val * 256 + r.val) :
    iblkE hp c 0 t (ix2 r k) = m ((c : Thread nD τ).loc main_arg2) (ix2 R k) := by
  refine Eq.trans ?_ (congrFun (V1_x c) _)
  unfold iblkE
  show V1 m c (Proc.devRef .tc main_arg2) ((((cfgE hp).win 0).blk t).view.emb (ix2 r k)) = _
  congr 1
  funext a
  apply Fin.ext
  refine (Pipeline.Window.rect_emb_val _ _ _ _).trans ?_
  match a with
  | ⟨0, _⟩ =>
    show cc0_transform_0 (F := Ideal) inb_S1_S1_0 numel1_S1 (tables (blkOf m) (infoOf m)) (grid0.coords t) 0 * 256 + r.val = R.val
    rw [rows_read _ _ _ h, hR]
  | ⟨1, _⟩ => exact (congrArg (· + k.val) (Nat.zero_mul _)).trans (Nat.zero_add _)

theorem blkE1 (c : Dev nD) (t : Fin grid0.N) (k : Fin 1024) (j : Fin 2048) :
    iblkE hp c 1 t (ix3 0 k j) = m ((c : Thread nD τ).loc main_arg3) (ix3 (expertAt hp t) k j) := by
  refine Eq.trans ?_ (V1_up c _ _ _)
  unfold iblkE
  show V1 m c (Proc.devRef .tc main_v0) ((((cfgE hp).win 1).blk t).view.emb (ix3 0 k j)) = _
  congr 1
  funext a
  apply Fin.ext
  refine (Pipeline.Window.rect_emb_val _ _ _ _).trans ?_
  match a with
  | ⟨0, _⟩ =>
    show cc0_transform_1 (F := Ideal) k0_off1_inb numel1_S1 (tables (blkOf m) (infoOf m)) (grid0.coords t) 0 * 1 + 0 = _
    rw [plan_read]
    exact Nat.mul_one _
  | ⟨1, _⟩ => exact (congrArg (· + k.val) (Nat.zero_mul _)).trans (Nat.zero_add _)
  | ⟨2, _⟩ => exact (congrArg (· + j.val) (Nat.zero_mul _)).trans (Nat.zero_add _)

theorem blkE2 (c : Dev nD) (t : Fin grid0.N) (j : Fin 2048) :
    iblkE hp c 2 t (ix3 0 0 j) = m ((c : Thread nD τ).loc main_arg4) (ix2 (expertAt hp t) j) := by
  refine Eq.trans ?_ (V1_upBias c _ _)
  unfold iblkE
  show V1 m c (Proc.devRef .tc main_v2) ((((cfgE hp).win 2).blk t).view.emb (ix3 0 0 j)) = _
  congr 1
  funext a
  apply Fin.ext
  refine (Pipeline.Window.rect_emb_val _ _ _ _).trans ?_
  match a with
  | ⟨0, _⟩ =>
    show cc0_transform_1 (F := Ideal) k0_off1_inb numel1_S1 (tables (blkOf m) (infoOf m)) (grid0.coords t) 0 * 1 + 0 = _
    rw [plan_read]
    exact Nat.mul_one _
  | ⟨1, _⟩ => rfl
  | ⟨2, _⟩ => exact (congrArg (· + j.val) (Nat.zero_mul _)).trans (Nat.zero_add _)

theorem blkE3 (c : Dev nD) (t : Fin grid0.N) (k n : Fin 1024) :
    iblkE hp c 3 t (ix3 0 k n) = m ((c : Thread nD τ).loc main_arg5) (ix3 (expertAt hp t) k n) := by
  refine Eq.trans ?_ (V1_down c _ _ _)
  unfold iblkE
  show V1 m c (Proc.devRef .tc main_v1) ((((cfgE hp).win 3).blk t).view.emb (ix3 0 k n)) = _
  congr 1
  funext a
  apply Fin.ext
  refine (Pipeline.Window.rect_emb_val _ _ _ _).trans ?_
  match a with
  | ⟨0, _⟩ =>
    show cc0_transform_1 (F := Ideal) k0_off1_inb numel1_S1 (tables (blkOf m) (infoOf m)) (grid0.coords t) 0 * 1 + 0 = _
    rw [plan_read]
    exact Nat.mul_one _
  | ⟨1, _⟩ => exact (congrArg (· + k.val) (Nat.zero_mul _)).trans (Nat.zero_add _)
  | ⟨2, _⟩ => exact (congrArg (· + n.val) (Nat.zero_mul _)).trans (Nat.zero_add _)

theorem blkE4 (c : Dev nD) (t : Fin grid0.N) (n : Fin 1024) :
    iblkE hp c 4 t (ix3 0 0 n) = m ((c : Thread nD τ).loc main_arg6) (ix2 (expertAt hp t) n) := by
  refine Eq.trans ?_ (V1_downBias c _ _)
  unfold iblkE
  show V1 m c (Proc.devRef .tc main_v3) ((((cfgE hp).win 4).blk t).view.emb (ix3 0 0 n)) = _
  congr 1
  funext a
  apply Fin.ext
  refine (Pipeline.Window.rect_emb_val _ _ _ _).trans ?_
  match a with
  | ⟨0, _⟩ =>
    show cc0_transform_1 (F := Ideal) k0_off1_inb numel1_S1 (tables (blkOf m) (infoOf m)) (grid0.coords t) 0 * 1 + 0 = _
    rw [plan_read]
    exact Nat.mul_one _
  | ⟨1, _⟩ => rfl
  | ⟨2, _⟩ => exact (congrArg (· + n.val) (Nat.zero_mul _)).trans (Nat.zero_add _)

theorem flushes : ∀ t : Fin grid0.N, (decide (t.val + 1 = grid0.N) || decide (∃ h : t.val + 1 < grid0.N,
    cc0_transform_5 (grid0.coords ⟨t.val + 1, h⟩) ≠ cc0_transform_5 (grid0.coords t))) = true := by decide +kernel

theorem ixE5 : ∀ t : Fin grid0.N, cc0_transform_5 (grid0.coords t) = ![t.val, 0, 0] := by decide +kernel

theorem nblkE : ((cfgE hp).win 5).nblk (0 : Fin 3) = 343 ∧ ((cfgE hp).win 5).nblk (1 : Fin 3) = 1
    ∧ ((cfgE hp).win 5).nblk (2 : Fin 3) = 1 := by
  unfold Pipeline.Window.nblk
  refine ⟨?_, ?_, ?_⟩
  · show (87808 + 256 - 1) / 256 = 343
    rfl
  · show (2 + 2 - 1) / 2 = 1
    rfl
  · show (512 + 512 - 1) / 512 = 1
    rfl

theorem covE : ((cfgE hp).win 5).Covers := by
  refine ⟨fun a => ?_, fun β => ⟨⟨(β (0 : Fin 3)).val, Nat.lt_of_lt_of_eq (β (0 : Fin 3)).isLt (nblkE hp).1⟩, ?_, fun a => ⟨?_, .inl rfl⟩⟩⟩
  · match a with
    | ⟨0, _⟩ => show 0 < 256; omega
    | ⟨1, _⟩ => show 0 < 2; omega
    | ⟨2, _⟩ => show 0 < 512; omega
  · exact flushes _
  · show cc0_transform_5 (grid0.coords _) a = _
    rw [ixE5]
    match a with
    | ⟨0, _⟩ => rfl
    | ⟨1, _⟩ =>
      have h : (β (1 : Fin 3)).val < 1 := Nat.lt_of_lt_of_eq (β (1 : Fin 3)).isLt (nblkE hp).2.1
      exact (Nat.lt_one_iff.1 h).symm
    | ⟨2, _⟩ =>
      have h : (β (2 : Fin 3)).val < 1 := Nat.lt_of_lt_of_eq (β (2 : Fin 3)).isLt (nblkE hp).2.2
      exact (Nat.lt_one_iff.1 h).symm

/-- What a live point stores, read at an index, from its blocks. -/
theorem live_at (x0 : Vec Ideal S256x512 .i32) (x1 : Vec Ideal S1x1024x2048 .bf16) (x2 : Vec Ideal S1x1x2048 .f32)
    (x3 : Vec Ideal S1x1024x1024 .bf16) (x4 : Vec Ideal S1x1x1024 .f32)
    (X : S87808x512.Idx → BitVec 32) (W : S32x1024x2048.Idx → EReal) (β : S32x2048.Idx → EReal)
    (V : S32x1024x1024.Idx → EReal) (γ : S32x1024.Idx → EReal) (R : Fin 87808) (e : Fin 32) (r : Fin 256) (h : Fin 2) (l : Fin 512)
    (h0 : ∀ k, x0 (ix2 r k) = X (ix2 R k)) (h1 : ∀ k j, x1 (ix3 0 k j) = W (ix3 e k j)) (h2 : ∀ j, x2 (ix3 0 0 j) = β (ix2 e j))
    (h3 : ∀ k n, x3 (ix3 0 k n) = V (ix3 e k n)) (h4 : ∀ n, x4 (ix3 0 0 n) = γ (ix2 e n)) :
    livePay (F := Ideal) x0 x1 x2 x3 x4 (ix3 r h l) = expertRow X W β V γ R e ⟨h.val * 512 + l.val, by omega⟩ := by
  unfold livePay k0_pay1 k0_pay3 rX rU0 rU1 rBU rD rBD expertRow swiglu up half
  match h with
  | 0 => pointwise [h0, h1, h2, h3, h4]
  | 1 => pointwise [h0, h1, h2, h3, h4]

theorem coordsE : ∀ t : Fin grid0.N, ((grid0.coords t) 0).val = t.val := by decide +kernel

theorem cond1_iff (i : grid0.Coords) (w : BitVec 32) : k0_cond1 i w = 1#1 ↔ ((i 0).val : Int) < w.toInt := by
  unfold k0_cond1
  refine (Scalar.guard_iff _).trans (IntOp.cmpi_slt.trans ?_)
  rw [point_word]

/-- The packed rows the experts call leaves: half `h` of packed row `R` is the expert's row at columns `512 h …`, where the
    row's block is live, and zeros elsewhere. -/
def packed : S87808x2x512.Idx → EReal := fun i =>
  if ((((i 0).val / 256 : Nat) : Int) < (infoOf m (ix1 0)).toInt) then
    expertRow (m ((c₀ : Thread nD τ).loc main_arg2)) (m ((c₀ : Thread nD τ).loc main_arg3)) (m ((c₀ : Thread nD τ).loc main_arg4))
      (m ((c₀ : Thread nD τ).loc main_arg5)) (m ((c₀ : Thread nD τ).loc main_arg6)) (i 0)
      ⟨(blkOf m (ix1 ⟨(i 0).val / 256, by have h : (i 0).val < 87808 := (i 0).isLt; omega⟩)).toNat, (hp c₀).expert _⟩
      ⟨(i 1).val * 512 + (i 2).val, by
        have h : (i 1).val < 2 := (i 1).isLt
        have h' : (i 2).val < 512 := (i 2).isLt
        omega⟩
  else 0

theorem emb5 (t : Fin grid0.N) (r : Fin 256) (h : Fin 2) (l : Fin 512) :
    (((cfgE hp).win 5).blk t).view.emb (ix3 r h l) = (ix3 ⟨t.val * 256 + r.val, by have := t.isLt; have : grid0.N = 343 := rfl; omega⟩ h l : S87808x2x512.Idx) := by
  funext a
  apply Fin.ext
  refine (Pipeline.Window.rect_emb_val _ _ _ _).trans ?_
  show cc0_transform_5 (grid0.coords t) a * _ + _ = _
  rw [ixE5]
  match a with
  | ⟨0, _⟩ => rfl
  | ⟨1, _⟩ => exact (congrArg (· + h.val) (Nat.zero_mul _)).trans (Nat.zero_add _)
  | ⟨2, _⟩ => exact (congrArg (· + l.val) (Nat.zero_mul _)).trans (Nat.zero_add _)

theorem zeros_at (r : Fin 256) (h : Fin 2) (l : Fin 512) : k0_pay2 (F := Ideal) (ix3 r h l) = 0 := by
  unfold k0_pay2
  pointwise
  exact ite_self _

/-- What the experts call leaves in its output's staging buffer at a point, read at an index. -/
theorem aft_at (t : Fin grid0.N) (r : Fin 256) (h : Fin 2) (l : Fin 512) :
    aftE hp c₀ t (ix3 r h l) = packed hp (ix3 ⟨t.val * 256 + r.val, by have := t.isLt; have : grid0.N = 343 := rfl; omega⟩ h l) := by
  have hc := coordsE t
  have hq : (t.val * 256 + r.val) / 256 = t.val := by omega
  have hone : infoOf m one0 = infoOf m (ix1 0) := congrArg _ (Plan.one_idx _ _)
  unfold aftE outE packed rO
  rw [View.canon_cons_unit_lit _ _ _ (by decide), View.canon_cons_unit_lit _ _ _ (by decide)]
  by_cases hl : (((grid0.coords t) 0).val : Int) < (infoOf m (ix1 0)).toInt
  · rw [if_pos ((cond1_iff _ _).2 (hone ▸ hl))]
    have hR : (((t.val * 256 + r.val) / 256 : Nat) : Int) < (infoOf m (ix1 0)).toInt := by rw [hq, ← hc]; exact hl
    refine Eq.trans ?_ (if_pos hR).symm
    refine (live_at _ _ _ _ _ _ _ _ _ _ _ (expertAt hp t) r h l
      (fun k => blkE0 hp c₀ t hl r k ⟨t.val * 256 + r.val, by have := t.isLt; have : grid0.N = 343 := rfl; omega⟩ (by rw [hc]))
      (blkE1 hp c₀ t) (blkE2 hp c₀ t) (blkE3 hp c₀ t) (blkE4 hp c₀ t)).trans ?_
    have he : expertAt hp t = ⟨(blkOf m (ix1 ⟨(t.val * 256 + r.val) / 256, by have := t.isLt; have : grid0.N = 343 := rfl; omega⟩)).toNat,
        (hp c₀).expert _⟩ := by
      unfold expertAt
      congr 4
      exact Fin.ext (hc.trans hq.symm)
    rw [he]
    rfl
  · rw [if_neg (fun h' => hl (hone ▸ (cond1_iff _ _).1 h'))]
    have hR : ¬ (((t.val * 256 + r.val) / 256 : Nat) : Int) < (infoOf m (ix1 0)).toInt := by rw [hq, ← hc]; exact hl
    exact (zeros_at r h l).trans (if_neg hR).symm

theorem arr_E (c : Dev nD) : (datE hp c).arrAt 5 (cfgE hp).N = packed hp := by
  rw [eq_c₀ c]
  refine (datE hp c₀).arrAt_eq_of_covers 5 _ (covE hp) fun t hf y => ?_
  obtain ⟨r, h, l, hy⟩ : ∃ (r : Fin 256) (h : Fin 2) (l : Fin 512), y = (ix3 r h l : S256x2x512.Idx) :=
    ⟨y (0 : Fin 3), y (1 : Fin 3), y (2 : Fin 3), by
      funext a
      match a with
      | ⟨0, _⟩ => rfl
      | ⟨1, _⟩ => rfl
      | ⟨2, _⟩ => rfl⟩
  subst hy
  have hx : ((cfgE hp).win 5).xinj ((cfgE hp).grid.coords t) (ix3 r h l : S256x2x512.Idx) = (ix3 r h l : S256x2x512.Idx) := by
    funext a
    match a with
    | ⟨0, _⟩ => rfl
    | ⟨1, _⟩ => rfl
    | ⟨2, _⟩ => rfl
  exact ((congrArg (aftE hp c₀ t) hx).trans (aft_at hp t r h l)).trans (congrArg (packed hp) (emb5 hp t r h l)).symm

/-- The rows read back: row `2 r + h` of the result is half `h` of packed row `r`. -/
def readBack (P : S87808x2x512.Idx → EReal) : S175616x512.Idx → EReal :=
  fun i => P (ix3 ⟨(i 0).val / 2, by have h : (i 0).val < 175616 := (i 0).isLt; omega⟩ ⟨(i 0).val % 2, by omega⟩ (i 1))

theorem read_pay (x : Vec Ideal S256x2x512 .bf16) (r l : Fin 512) :
    k1_pay1 (F := Ideal) x (ix2 r l) = x (ix3 ⟨r.val / 2, by omega⟩ ⟨r.val % 2, by omega⟩ l) := by
  unfold k1_pay1
  pointwise
  split
  · next h => congr 2; exact Fin.ext h.symm
  · next h => congr 2; exact Fin.ext (by show 1 = r.val % 2; omega)

theorem ixR0 : ∀ t : Fin cfg1.N, win1_0.index t = ![(grid1.coords t 0).val, 0, 0] := by decide +kernel
theorem ixR1 : ∀ t : Fin cfg1.N, win1_1.index t = ![(grid1.coords t 0).val, 0] := by decide +kernel

theorem covR : (cfg1.win 1).Covers := by decide +kernel

theorem arr_R (c : Dev nD) : (datR hp c).arrAt 1 cfg1.N = readBack (W2 hp c (Proc.devRef .tc main_v4)) := by
  refine (datR hp c).arrAt_eq_of_covers 1 _ covR fun t hf y => ?_
  blk_simp
  rw [after_R1]
  unfold outR rR rO
  rw [View.canon_cons_unit_lit _ _ _ (by decide), View.ld_unit_lit _ _ (by decide)]
  have hy : y = ix2 (y 0) (y 1) := by pointwise
  rw [hy]
  refine (read_pay _ _ _).trans ?_
  unfold readBack
  blk_ext [iblkR, ixR0, ixR1]

/-- The program's result: the packed rows of the experts call, read back as rows. -/
theorem result (c : Dev nD) : (datR hp c).arrAt 1 cfg1.N = readBack (packed hp) :=
  (arr_R hp c).trans (congrArg readBack
    ((Pipeline.afterRegion_arr (datE hp c) (V1 m c) (launch0 (F := Ideal)).win.arr_inj 5).trans (arr_E hp c)))

end Cert.KernelIdeal.Work

end
-- ==== Proof.Take.lean ====
/- Taking one of `N` matrices by a word per block: `table[idx]` over a rank-3 table, read at an index. -/
module

public import Idealize.ShloMosaic.Lib.Pointwise.Index
public import Idealize.ShloMosaic.Lib.StableHlo.Predicate

@[expose] public section

namespace Cert.Work

open Idealize.ShloMosaic

/-- An entry of a list that is known, at a position that is known. -/
theorem entry_eq {α : Type} {l : List α} {k : Nat} (h : k < l.length) (l' : List α) (k' : Nat) (hl : l = l') (hk : k = k')
    (h' : k' < l'.length) : l[k] = l'[k'] := by
  subst hl hk
  rfl

/-- `table[idx]` over a stack of matrices: block `b` of the result is the matrix whose number the word of block `b` holds. -/
theorem take_stack {α : Type} {N C D n : Nat}
    (d : GatherDims ⟨3, ![N, C, D]⟩ ⟨2, ![n, 1]⟩ ⟨3, ![n, C, D]⟩)
    (hoff : d.offsetDims = [1, 2]) (hcoll : d.collapsedSliceDims = [0]) (hob : d.operandBatchingDims = [])
    (hsim : d.startIndexMap = [0]) (hivd : d.indexVectorDim = 1)
    (x : (⟨3, ![N, C, D]⟩ : Shape).Idx → α) (idx : IVec ⟨2, ![n, 1]⟩ 32) (b : Fin n) (y : Fin C) (z : Fin D)
    (e : Fin N) (he : (idx (ix2 b (0 : Fin 1))).toInt.toNat = e.val) :
    Host.gather d x idx (ix3 b y z) = x (ix3 e y z) := by
  have hbatch : d.batchDims = [0] := by
    unfold GatherDims.batchDims
    rw [hoff]
    rfl
  have hkept : d.sKept = [1, 2] := by
    unfold GatherDims.sKept
    rw [hcoll, hob]
    rfl
  have hnb : ∀ a, a ∉ d.operandBatchingDims := fun a => by rw [hob]; exact List.not_mem_nil
  have at0 : ∀ X : Fin 3, X = 0 → ((ix3 b y z : (⟨3, ![n, C, D]⟩ : Shape).Idx) X).val = b.val := by rintro _ rfl; rfl
  have at1 : ∀ X : Fin 3, X = 1 → ((ix3 b y z : (⟨3, ![n, C, D]⟩ : Shape).Idx) X).val = y.val := by rintro _ rfl; rfl
  have at2 : ∀ X : Fin 3, X = 2 → ((ix3 b y z : (⟨3, ![n, C, D]⟩ : Shape).Idx) X).val = z.val := by rintro _ rfl; rfl
  unfold Host.gather
  refine congrArg x (funext fun a => Fin.ext ?_)
  match a with
  | ⟨0, _⟩ =>
    have hm : (0 : Fin 3) ∈ d.startIndexMap := by rw [hsim]; exact List.mem_singleton.2 rfl
    have hk : (0 : Fin 3) ∉ d.sKept := by rw [hkept]; simp
    have hs : d.sliceSizes 0 = 1 := d.slice_collapsed 0 (by rw [hcoll]; exact List.mem_singleton.2 rfl)
    show d.start (ix3 b y z) idx 0 + d.batchCoord (ix3 b y z) 0 + d.offCoord (ix3 b y z) 0 = e.val
    rw [d.batchCoord_eq_zero _ _ (hnb 0), d.offCoord_eq_zero _ _ hk]
    unfold GatherDims.start
    rw [dif_pos hm]
    have hread : d.siIdx (ix3 b y z) ⟨d.startIndexMap.idxOf 0, List.idxOf_lt_length_iff.2 hm⟩ = ix2 b (0 : Fin 1) := by
      funext a'
      apply Fin.ext
      match a' with
      | ⟨0, _⟩ =>
        unfold GatherDims.siIdx
        rw [dif_neg (by rw [hivd]; exact Nat.zero_ne_one)]
        unfold GatherDims.siCoord
        simp only [Fin.val_cast]
        refine at0 _ ?_
        have hall : ∀ X ∈ d.batchDims, X = (0 : Fin 3) := fun X hX => by
          rw [hbatch] at hX
          exact List.mem_singleton.1 hX
        exact hall _ (List.getElem_mem _)
      | ⟨1, _⟩ =>
        unfold GatherDims.siIdx
        rw [dif_pos (by rw [hivd])]
        show List.idxOf (0 : Fin 3) d.startIndexMap = 0
        rw [hsim]
        rfl
    rw [hread, he, hs]
    have := e.isLt
    show min e.val (N - 1) + 0 + 0 = e.val
    omega
  | ⟨1, _⟩ =>
    have hm : (1 : Fin 3) ∉ d.startIndexMap := by rw [hsim]; simp
    have hk : (1 : Fin 3) ∈ d.sKept := by rw [hkept]; simp
    show d.start (ix3 b y z) idx 1 + d.batchCoord (ix3 b y z) 1 + d.offCoord (ix3 b y z) 1 = y.val
    rw [d.batchCoord_eq_zero _ _ (hnb 1)]
    unfold GatherDims.start GatherDims.offCoord
    rw [dif_neg hm, dif_pos hk, Nat.zero_add]
    exact at1 _ (entry_eq _ [1, 2] 0 hoff (by rw [hkept]; rfl) (by simp))
  | ⟨2, _⟩ =>
    have hm : (2 : Fin 3) ∉ d.startIndexMap := by rw [hsim]; simp
    have hk : (2 : Fin 3) ∈ d.sKept := by rw [hkept]; simp
    show d.start (ix3 b y z) idx 2 + d.batchCoord (ix3 b y z) 2 + d.offCoord (ix3 b y z) 2 = z.val
    rw [d.batchCoord_eq_zero _ _ (hnb 2)]
    unfold GatherDims.start GatherDims.offCoord
    rw [dif_neg hm, dif_pos hk, Nat.zero_add]
    exact at2 _ (entry_eq _ [1, 2] 1 hoff (by rw [hkept]; rfl) (by simp))

/-- `table[idx]` over a matrix: row `b` of the result is the row whose number the word of block `b` holds. -/
theorem take_row {α : Type} {N C n : Nat}
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ 32) (b : Fin n) (y : Fin C)
    (e : Fin N) (he : (idx (ix2 b (0 : Fin 1))).toInt.toNat = e.val) :
    Host.gather d x idx (ix2 b y) = x (ix2 e y) := by
  have hbatch : d.batchDims = [0] := by
    unfold GatherDims.batchDims
    rw [hoff]
    rfl
  have hkept : d.sKept = [1] := by
    unfold GatherDims.sKept
    rw [hcoll, hob]
    rfl
  have hnb : ∀ a, a ∉ d.operandBatchingDims := fun a => by rw [hob]; exact List.not_mem_nil
  have at0 : ∀ X : Fin 2, X = 0 → ((ix2 b y : (⟨2, ![n, C]⟩ : Shape).Idx) X).val = b.val := by rintro _ rfl; rfl
  have at1 : ∀ X : Fin 2, X = 1 → ((ix2 b y : (⟨2, ![n, C]⟩ : Shape).Idx) X).val = y.val := by rintro _ rfl; rfl
  unfold Host.gather
  refine congrArg x (funext fun a => Fin.ext ?_)
  match a with
  | ⟨0, _⟩ =>
    have hm : (0 : Fin 2) ∈ d.startIndexMap := by rw [hsim]; exact List.mem_singleton.2 rfl
    have hk : (0 : Fin 2) ∉ d.sKept := by rw [hkept]; simp
    have hs : d.sliceSizes 0 = 1 := d.slice_collapsed 0 (by rw [hcoll]; exact List.mem_singleton.2 rfl)
    show d.start (ix2 b y) idx 0 + d.batchCoord (ix2 b y) 0 + d.offCoord (ix2 b y) 0 = e.val
    rw [d.batchCoord_eq_zero _ _ (hnb 0), d.offCoord_eq_zero _ _ hk]
    unfold GatherDims.start
    rw [dif_pos hm]
    have hread : d.siIdx (ix2 b y) ⟨d.startIndexMap.idxOf 0, List.idxOf_lt_length_iff.2 hm⟩ = ix2 b (0 : Fin 1) := by
      funext a'
      apply Fin.ext
      match a' with
      | ⟨0, _⟩ =>
        unfold GatherDims.siIdx
        rw [dif_neg (by rw [hivd]; exact Nat.zero_ne_one)]
        unfold GatherDims.siCoord
        simp only [Fin.val_cast]
        refine at0 _ ?_
        have hall : ∀ X ∈ d.batchDims, X = (0 : Fin 2) := fun X hX => by
          rw [hbatch] at hX
          exact List.mem_singleton.1 hX
        exact hall _ (List.getElem_mem _)
      | ⟨1, _⟩ =>
        unfold GatherDims.siIdx
        rw [dif_pos (by rw [hivd])]
        show List.idxOf (0 : Fin 2) d.startIndexMap = 0
        rw [hsim]
        rfl
    rw [hread, he, hs]
    have := e.isLt
    show min e.val (N - 1) + 0 + 0 = e.val
    omega
  | ⟨1, _⟩ =>
    have hm : (1 : Fin 2) ∉ d.startIndexMap := by rw [hsim]; simp
    have hk : (1 : Fin 2) ∈ d.sKept := by rw [hkept]; simp
    show d.start (ix2 b y) idx 1 + d.batchCoord (ix2 b y) 1 + d.offCoord (ix2 b y) 1 = y.val
    rw [d.batchCoord_eq_zero _ _ (hnb 1)]
    unfold GatherDims.start GatherDims.offCoord
    rw [dif_neg hm, dif_pos hk, Nat.zero_add]
    exact at1 _ (entry_eq _ [1] 0 hoff (by rw [hkept]; rfl) (by simp))

end Cert.Work
-- ==== Proof.RefValue.lean ====
/- The reference's result, read at an index. -/
module

public import proofs.«01_k».proof.Proof.Gen.ReferenceIdeal.Run
public import proofs.«01_k».proof.Proof.Plan
public import proofs.«01_k».proof.Proof.Take
public import proofs.«01_k».proof.Proof.Model
public import Idealize.ShloMosaic.Lib.BitcastConvert

@[expose] public section

noncomputable section

namespace Cert.ReferenceIdeal.Value

open Idealize.ShloMosaic Cert.ReferenceIdeal Cert.Work

/-- The number of the expert block `b` names, of the word the reference looks it up by. -/
theorem word_at (blk : IVec S343 32) (h : ∀ b, (blk b).toNat < 32) (b : Fin 343) :
    ((broadcastInDim S343x1 ![0] Gen.bcast_S343_S343x1_0
      (select (cmpi .slt blk (broadcastInDim S343 ![] Gen.bcast_S_S343 (constantI S_ 32 0#32)))
        (addi blk (broadcastInDim S343 ![] Gen.bcast_S_S343 (constantI S_ 32 32#32))) blk)) (ix2 b (0 : Fin 1))).toInt.toNat
      = (blk (ix1 b)).toNat := by
  pointwise
  have hb := h (ix1 b)
  have e0 : IntOp.cmpi .slt (blk (ix1 b)) 0#32 = 0#1 := by
    refine ValueIdx.eq_zero_of_ne_one fun h1 => ?_
    have h2 := IntOp.cmpi_slt.1 h1
    rw [StableHlo.Predicate.toInt_eq_toNat_of_lt (by omega)] at h2
    have e0 : (0#32).toInt = 0 := by decide
    omega
  rw [e0, ValueIdx.select_zero, StableHlo.Predicate.toInt_eq_toNat_of_lt (by omega)]
  rfl

set_option maxHeartbeats 4000000 in
theorem res_at (m : (ℓ : Loc nD τ sig) → Buf (Elt Ideal) ℓ) (c : Dev nD)
    (hx : ∀ b, ((m ((c.tc : Thread nD τ).loc main_arg0) : IVec S343 32) b).toNat < 32) (r : Fin 175616) (l : Fin 512) :
    res_main_v68 m c (ix2 r l)
      = Scalar.select (IntOp.cmpi .slt (BitVec.ofNat 32 (r.val / 512)) (m ((c.tc : Thread nD τ).loc main_arg1) (ix1 0)))
          (expertRow (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) ⟨r.val / 512 * 256 + r.val / 2 % 256, by omega⟩
            ⟨_, hx (ix1 ⟨r.val / 512, by omega⟩)⟩ ⟨r.val % 2 * 512 + l.val, by omega⟩) (0 : EReal) := by
  have hw := word_at (m ((c.tc : Thread nD τ).loc main_arg0)) hx
  unfold res_main_v68
  generalize broadcastInDim S343x1 ![0] Gen.bcast_S343_S343x1_0
      (select (cmpi .slt (m ((c.tc : Thread nD τ).loc main_arg0)) (broadcastInDim S343 ![] Gen.bcast_S_S343 (constantI S_ 32 0#32)))
        (addi (m ((c.tc : Thread nD τ).loc main_arg0)) (broadcastInDim S343 ![] Gen.bcast_S_S343 (constantI S_ 32 32#32)))
        (m ((c.tc : Thread nD τ).loc main_arg0))) = I at hw ⊢
  have t3 := fun b y z => take_stack gather_S32x1024x2048_S343x1_S343x1024x2048_12_0_n_n_0_1_110242048 rfl rfl rfl rfl rfl
    (m ((c.tc : Thread nD τ).loc main_arg3)) I b y z ⟨_, hx (ix1 b)⟩ (hw b)
  have t5 := fun b y z => take_stack gather_S32x1024x1024_S343x1_S343x1024x1024_12_0_n_n_0_1_110241024 rfl rfl rfl rfl rfl
    (m ((c.tc : Thread nD τ).loc main_arg5)) I b y z ⟨_, hx (ix1 b)⟩ (hw b)
  have t4 := fun b y => take_row gather_S32x2048_S343x1_S343x2048_1_0_n_n_0_1_12048 rfl rfl rfl rfl rfl
    (m ((c.tc : Thread nD τ).loc main_arg4)) I b y ⟨_, hx (ix1 b)⟩ (hw b)
  have t6 := fun b y => take_row gather_S32x1024_S343x1_S343x1024_1_0_n_n_0_1_11024 rfl rfl rfl rfl rfl
    (m ((c.tc : Thread nD τ).loc main_arg6)) I b y ⟨_, hx (ix1 b)⟩ (hw b)
  have td : ∀ (R : Fin 87808) (k : Fin 512) (p : Fin 2), Gen.splits_S87808x512_w32_S87808x512x2_w16.drop (ix3 R k p) = ix2 R k := by
    intro R k p
    funext a
    match a with
    | ⟨0, _⟩ => rfl
    | ⟨1, _⟩ => rfl
  unfold expertRow swiglu up half Ideal.logistic
  pointwise [t3, t4, t5, t6, td, id_eq]

end Cert.ReferenceIdeal.Value

end
-- ==== Proof.Algebraic.lean ====
/- The value claim: the program's result is the reference's, at every launch state with a plan in range. -/
module

public import proofs.«01_k».proof.Proof.Claims
public import proofs.«01_k».proof.Proof.KernelValue
public import proofs.«01_k».proof.Proof.RefValue
public import Idealize.ShloMosaic.Lib.Claim

@[expose] public section

noncomputable section

open Idealize.ShloMosaic Idealize.SL.Sem

namespace Cert.Proof

/-- The selection the reference writes by a mask, as the case distinction on the block's number. -/
theorem select_block {n : Nat} (hn : n < 2 ^ 31) (w : BitVec 32) (a b : EReal) :
    Scalar.select (IntOp.cmpi .slt (BitVec.ofNat 32 n) w) a b = if (n : Int) < w.toInt then a else b := by
  have e : (BitVec.ofNat 32 n).toInt = (n : Int) := StableHlo.Predicate.toInt_ofNat_small n hn
  by_cases h : (n : Int) < w.toInt
  · rw [if_pos h, IntOp.cmpi_slt.2 (by rw [e]; exact h)]
    rfl
  · have hz : IntOp.cmpi .slt (BitVec.ofNat 32 n) w ≠ 1#1 := fun h' => h (by have := IntOp.cmpi_slt.1 h'; rwa [e] at this)
    rw [if_neg h, ValueIdx.eq_zero_of_ne_one hz]
    exact ValueIdx.select_zero _ _

theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.KernelIdeal.Work.PlanOK m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Cert.ReferenceIdeal.Value.res_main_v68 m' c : Cert.ReferenceIdeal.S175616x512.Idx → EReal)
      = Cert.KernelIdeal.Work.readBack (Cert.KernelIdeal.Work.packed hp) := by
  obtain rfl := Cert.KernelIdeal.Work.eq_c₀ c
  funext i
  obtain ⟨r, l, rfl⟩ : ∃ (r : Fin 175616) (l : Fin 512), i = ix2 r l :=
    ⟨i (0 : Fin 2), i (1 : Fin 2), by
      funext a
      match a with
      | ⟨0, _⟩ => rfl
      | ⟨1, _⟩ => rfl⟩
  have hx : ∀ b, ((m' ((Cert.KernelIdeal.Work.c₀.tc : Thread Cert.ReferenceIdeal.nD Cert.ReferenceIdeal.τ).loc Cert.ReferenceIdeal.main_arg0) : IVec Cert.ReferenceIdeal.S343 32) b).toNat < 32 := by
    intro b
    rw [h0]
    exact (hp Cert.KernelIdeal.Work.c₀).expert b
  refine (Cert.ReferenceIdeal.Value.res_at m' Cert.KernelIdeal.Work.c₀ hx r l).trans ?_
  rw [select_block (by omega)]
  have hb : r.val / 2 / 256 = r.val / 512 := by omega
  have hr : (⟨r.val / 512 * 256 + r.val / 2 % 256, by omega⟩ : Fin 87808) = ⟨r.val / 2, by omega⟩ := Fin.ext (by show r.val / 512 * 256 + r.val / 2 % 256 = r.val / 2; omega)
  have e0 : ∀ b, (m' ((Cert.KernelIdeal.Work.c₀.tc : Thread Cert.ReferenceIdeal.nD Cert.ReferenceIdeal.τ).loc Cert.ReferenceIdeal.main_arg0) : IVec Cert.ReferenceIdeal.S343 32) b
      = Cert.KernelIdeal.Work.blkOf m b := fun b => congrFun h0 b
  have e1 : ∀ b, (m' ((Cert.KernelIdeal.Work.c₀.tc : Thread Cert.ReferenceIdeal.nD Cert.ReferenceIdeal.τ).loc Cert.ReferenceIdeal.main_arg1) : IVec Cert.ReferenceIdeal.S1 32) b
      = Cert.KernelIdeal.Work.infoOf m b := fun b => congrFun h1 b
  have he : (⟨_, hx (ix1 ⟨r.val / 512, by omega⟩)⟩ : Fin 32)
      = ⟨(Cert.KernelIdeal.Work.blkOf m (ix1 ⟨r.val / 2 / 256, by omega⟩)).toNat, (hp Cert.KernelIdeal.Work.c₀).expert _⟩ := by
    apply Fin.ext
    show BitVec.toNat _ = BitVec.toNat _
    rw [e0]
    simp only [hb]
  have hi : (((r.val / 512 : Nat) : Int) < (Cert.KernelIdeal.Work.infoOf m (ix1 0)).toInt)
      = (((r.val / 2 / 256 : Nat) : Int) < (Cert.KernelIdeal.Work.infoOf m (ix1 0)).toInt) := by rw [hb]
  rw [e1, he, hr, h2, h3, h4, h5, h6]
  unfold Cert.KernelIdeal.Work.readBack Cert.KernelIdeal.Work.packed
  exact if_congr (iff_of_eq hi) rfl rfl

theorem algebraic : Cert.algebraic_KernelIdeal_ReferenceIdeal := by
  intro m g m' g' hpre hargs
  have hp := plan_ideal m hpre
  refine ⟨fun _ => Cert.KernelIdeal.Work.readBack (Cert.KernelIdeal.Work.packed hp), ?_, ?_⟩
  · refine θ_run_mono (Cert.KernelIdeal.Work.run g hp) fun r h c => ?_
    exact ⟨(h.1 c).2.trans (Cert.KernelIdeal.Work.result hp c), (h.1 c).1⟩
  · refine θ_run_mono (Cert.ReferenceIdeal.Value.run (F := Ideal) m' g') fun r h c => ?_
    obtain ⟨h0, h1, h2, h3, h4, h5, h6⟩ := hargs c
    exact ⟨(h c).1.trans (values m m' hp c h0 h1 h2 h3 h4 h5 h6), (h c).2⟩

end Cert.Proof

end
-- ==== Proof.MixModel.lean ====
/- The gated mix of the two attention branches, one entry of its results. -/
module

public import Idealize.ShloMosaic.Lib.Pointwise

@[expose] public section

noncomputable section

namespace Cert.Mix

open Idealize.ShloMosaic

/-- A row divided by the root of its mean square, times the gain. -/
def normed (X G : Fin 1024 → EReal) (k : Fin 1024) : EReal :=
  X k * Ideal.rsqrt (Ideal.div (∑ i : Fin 1024, X i * X i) (Ideal.ofBits .f32 0x44800000#32) + Ideal.ofBits .f32 0x358637BD#32) * G k

/-- A gate: the logistic of the normed row against a column of its weights. -/
def gate (X G W : Fin 1024 → EReal) : EReal := Ideal.logistic (∑ k : Fin 1024, normed X G k * W k)

/-- The two branches' projections, each times its gate, added. -/
def mixed (X G Wa Wb : Fin 1024 → EReal) (A B Va Vb : Fin 512 → EReal) : EReal :=
  gate X G Wa * ∑ k : Fin 512, A k * Va k + gate X G Wb * ∑ k : Fin 512, B k * Vb k

/-- The row after the mix, at column `j`. -/
def mixRow (X G : Fin 1024 → EReal) (Wa Wb : Fin 1024 → Fin 1024 → EReal) (A B : Fin 512 → EReal)
    (Va Vb : Fin 512 → Fin 1024 → EReal) (Wo : Fin 1024 → Fin 1024 → EReal) (j : Fin 1024) : EReal :=
  X j + ∑ q : Fin 1024, mixed X G (fun k => Wa k q) (fun k => Wb k q) A B (fun k => Va k q) (fun k => Vb k q) * Wo q j

theorem normed_congr {X X' G G' : Fin 1024 → EReal} (hX : ∀ k, X k = X' k) (hG : ∀ k, G k = G' k) : normed X G = normed X' G' := by
  obtain rfl : X = X' := funext hX
  obtain rfl : G = G' := funext hG
  rfl

theorem mixRow_congr {X X' G G' : Fin 1024 → EReal} {Wa Wa' Wb Wb' : Fin 1024 → Fin 1024 → EReal} {A A' B B' : Fin 512 → EReal}
    {Va Va' Vb Vb' : Fin 512 → Fin 1024 → EReal} {Wo Wo' : Fin 1024 → Fin 1024 → EReal}
    (hX : ∀ k, X k = X' k) (hG : ∀ k, G k = G' k) (hWa : ∀ k q, Wa k q = Wa' k q) (hWb : ∀ k q, Wb k q = Wb' k q)
    (hA : ∀ k, A k = A' k) (hB : ∀ k, B k = B' k) (hVa : ∀ k q, Va k q = Va' k q) (hVb : ∀ k q, Vb k q = Vb' k q)
    (hWo : ∀ k q, Wo k q = Wo' k q) : mixRow X G Wa Wb A B Va Vb Wo = mixRow X' G' Wa' Wb' A' B' Va' Vb' Wo' := by
  obtain rfl : X = X' := funext hX
  obtain rfl : G = G' := funext hG
  obtain rfl : Wa = Wa' := funext fun k => funext (hWa k)
  obtain rfl : Wb = Wb' := funext fun k => funext (hWb k)
  obtain rfl : A = A' := funext hA
  obtain rfl : B = B' := funext hB
  obtain rfl : Va = Va' := funext fun k => funext (hVa k)
  obtain rfl : Vb = Vb' := funext fun k => funext (hVb k)
  obtain rfl : Wo = Wo' := funext fun k => funext (hWo k)
  rfl

/-- The row after the mix, from the whole arrays, at flat row `R` and column `j`. -/
def rowOf (A0 : (⟨3, ![4, 4096, 1024]⟩ : Shape).Idx → EReal) (A1 A2 : (⟨3, ![4, 4096, 512]⟩ : Shape).Idx → EReal)
    (A3 : (⟨2, ![1, 1024]⟩ : Shape).Idx → EReal) (A4 : (⟨3, ![1, 1024, 4360]⟩ : Shape).Idx → EReal)
    (A5 : (⟨3, ![1, 512, 1024]⟩ : Shape).Idx → EReal) (A6 : Fin 512 → Fin 1024 → EReal)
    (A7 : (⟨3, ![1, 1024, 1024]⟩ : Shape).Idx → EReal) (R : Fin 16384) : Fin 1024 → EReal :=
  mixRow (fun k => A0 (ix3 ⟨R.val / 4096, by omega⟩ ⟨R.val % 4096, by omega⟩ k)) (fun k => A3 (ix2 0 k))
    (fun k q => A4 (ix3 0 k ⟨2312 + q.val, by omega⟩)) (fun k q => A4 (ix3 0 k ⟨3336 + q.val, by omega⟩))
    (fun k => A1 (ix3 ⟨R.val / 4096, by omega⟩ ⟨R.val % 4096, by omega⟩ k))
    (fun k => A2 (ix3 ⟨R.val / 4096, by omega⟩ ⟨R.val % 4096, by omega⟩ k)) (fun k q => A5 (ix3 0 k q)) A6
    (fun k q => A7 (ix3 0 k q))

/-- Head order: the column of the projection that the kernel's column `k` of the second branch belongs to. -/
def toHead (k : Fin 512) : Fin 512 := ⟨(k.val / 64 % 2 * 4 + k.val / 128) * 64 + k.val % 64, by omega⟩

/-- Its inverse. -/
def ofHead (k : Fin 512) : Fin 512 := ⟨k.val / 64 % 4 * 128 + k.val / 256 * 64 + k.val % 64, by omega⟩

theorem ofHead_toHead : ∀ k, ofHead (toHead k) = k := by decide +kernel

theorem toHead_ofHead : ∀ k, toHead (ofHead k) = k := by decide +kernel

/-- The two orders of the heads. -/
def heads : Fin 512 ≃ Fin 512 where
  toFun := toHead
  invFun := ofHead
  left_inv := ofHead_toHead
  right_inv := toHead_ofHead

/-- The sum over the second branch's columns in either order. -/
theorem sum_heads (B V : Fin 512 → EReal) : ∑ k, B (ofHead k) * V k = ∑ k, B k * V (toHead k) :=
  Fintype.sum_equiv heads.symm _ _ fun k => by
    show B (ofHead k) * V k = B (ofHead k) * V (toHead (ofHead k))
    rw [toHead_ofHead k]

end Cert.Mix

end
-- ==== Proof.MixKernel.lean ====
/- The mix call's results, read at an index. -/
module

public import proofs.«01_k».proof.Proof.Gen.Kernel2Ideal.Value
public import proofs.«01_k».proof.Proof.MixModel
public import proofs.«01_k».proof.Proof.Take
public import Idealize.ShloMosaic.Lib.Pipeline.ValueKit
public import Idealize.ShloMosaic.Lib.StableHlo.ReadAt

@[expose] public section

noncomputable section

namespace Cert.Kernel2Ideal.Work

open Cert.Kernel2Ideal Cert.Kernel2Ideal.Gen Cert.Mix
open Idealize.ShloMosaic Idealize.ShloMosaic.TcCoe
open Idealize.ShloMosaic.Pipeline (Dat Cfg Window)

variable (m : (ℓ : Loc nD τ sig) → Buf (Elt Ideal) ℓ)

section Block

variable (x0 : Vec Ideal S512x1024 .f32) (x1 x2 : Vec Ideal S512x512 .bf16) (x3 : Vec Ideal S1x1024 .f32)
  (x4 x5 : Vec Ideal S1024x1024 .bf16) (x6 x7 : Vec Ideal S512x1024 .bf16) (x8 : Vec Ideal S1024x1024 .bf16)
  (x9 : Vec Ideal S1x1024 .f32) (x10 : Vec Ideal S1024x128 .f32) (x11 : Vec Ideal S1x128 .f32)

theorem normed_at (r : Fin 512) (k : Fin 1024) :
    k0_pay3 x0 x3 (ix2 r k) = normed (fun k => x0 (ix2 r k)) (fun k => x3 (ix2 0 k)) k := by
  unfold k0_pay3 k0_pay2 normed
  pointwise

theorem gateB_at (r : Fin 512) (q : Fin 1024) :
    k0_pay4 x0 x3 x5 (ix2 r q) = gate (fun k => x0 (ix2 r k)) (fun k => x3 (ix2 0 k)) (fun k => x5 (ix2 k q)) := by
  unfold k0_pay4 gate
  pointwise [normed_at]

theorem partA_at (r : Fin 512) (q : Fin 1024) :
    k0_pay5 x0 x3 x4 x1 x6 (ix2 r q) = gate (fun k => x0 (ix2 r k)) (fun k => x3 (ix2 0 k)) (fun k => x4 (ix2 k q))
      * ∑ k : Fin 512, x1 (ix2 r k) * x6 (ix2 k q) := by
  unfold k0_pay5 gate
  pointwise [normed_at]

theorem partB_at (r : Fin 512) (q : Fin 1024) :
    k0_pay6 x2 x7 (ix2 r q) = ∑ k : Fin 512, x2 (ix2 r k) * x7 (ix2 k q) := by
  unfold k0_pay6
  pointwise

/-- A row of the block, after the mix. -/
abbrev blockRow (r : Fin 512) : Fin 1024 → EReal :=
  mixRow (fun k => x0 (ix2 r k)) (fun k => x3 (ix2 0 k)) (fun k q => x4 (ix2 k q)) (fun k q => x5 (ix2 k q))
    (fun k => x1 (ix2 r k)) (fun k => x2 (ix2 r k)) (fun k q => x6 (ix2 k q)) (fun k q => x7 (ix2 k q)) (fun k q => x8 (ix2 k q))

theorem row_at (r : Fin 512) (j : Fin 1024) :
    k0_pay7 (k0_pay2 x0) (k0_pay4 x0 x3 x5) (k0_pay5 x0 x3 x4 x1 x6) (k0_pay6 x2 x7) x8 (ix2 r j)
      = blockRow x0 x1 x2 x3 x4 x5 x6 x7 x8 r j := by
  unfold k0_pay7 k0_pay2 blockRow mixRow mixed
  pointwise [gateB_at, partA_at, partB_at]

theorem normed2_at (r : Fin 512) (j : Fin 1024) :
    k0_pay9 (k0_pay2 x0) (k0_pay4 x0 x3 x5) (k0_pay5 x0 x3 x4 x1 x6) (k0_pay6 x2 x7) x8 x9 (ix2 r j)
      = normed (blockRow x0 x1 x2 x3 x4 x5 x6 x7 x8 r) (fun k => x9 (ix2 0 k)) j := by
  unfold k0_pay9 k0_pay8 normed
  pointwise [row_at]

theorem ld0 {e : EltTy} (x : Vec Ideal S512x1024 e) : View.ld x r0_0 = x := View.ld_unit_lit _ _ (by decide)
theorem ld1 {e : EltTy} (x : Vec Ideal S1x1024 e) : View.ld x r0_1 = x := View.ld_unit_lit _ _ (by decide)
theorem ld2 {e : EltTy} (x : Vec Ideal S1024x1024 e) : View.ld x r0_2 = x := View.ld_unit_lit _ _ (by decide)
theorem ld3 {e : EltTy} (x : Vec Ideal S512x512 e) : View.ld x r0_3 = x := View.ld_unit_lit _ _ (by decide)

theorem out12_at (r : Fin 512) (j : Fin 1024) :
    out0_12 x0 x1 x2 x3 x4 x5 x6 x7 x8 x9 x10 x11 (ix2 r j) = blockRow x0 x1 x2 x3 x4 x5 x6 x7 x8 r j := by
  unfold out0_12 k0_pay14 k0_pay13 k0_pay12 k0_pay11
  rw [ld0 x0, ld1 x3, ld2 x4, ld2 x5, ld3 x1, ld0 x6, ld3 x2, ld0 x7, ld2 x8]
  refine (congrFun (View.canon_cons_unit_lit _ _ _ (by decide)) _).trans ?_
  exact row_at x0 x1 x2 x3 x4 x5 x6 x7 x8 r j

theorem out13_at (r : Fin 512) (j : Fin 1024) :
    out0_13 x0 x1 x2 x3 x4 x5 x6 x7 x8 x9 x10 x11 (ix2 r j)
      = normed (blockRow x0 x1 x2 x3 x4 x5 x6 x7 x8 r) (fun k => x9 (ix2 0 k)) j := by
  unfold out0_13 k0_pay14 k0_pay13 k0_pay12 k0_pay11
  rw [ld0 x0, ld1 x3, ld2 x4, ld2 x5, ld3 x1, ld0 x6, ld3 x2, ld0 x7, ld2 x8, ld1 x9]
  refine (congrFun (View.canon_cons_unit_lit _ _ _ (by decide)) _).trans ?_
  exact normed2_at x0 x1 x2 x3 x4 x5 x6 x7 x8 x9 r j

end Block

/-! The arrays at the call, read at an index. -/

theorem V_x (c : Dev nD) (R : Fin 16384) (k : Fin 1024) :
    V m c main_v25 (ix2 R k) = (m ((c : Thread nD τ).loc main_arg0)) (ix3 ⟨R.val / 4096, by omega⟩ ⟨R.val % 4096, by omega⟩ k) := by
  after_reads_at

theorem V_a (c : Dev nD) (R : Fin 16384) (k : Fin 512) :
    V m c main_v26 (ix2 R k) = (m ((c : Thread nD τ).loc main_arg1)) (ix3 ⟨R.val / 4096, by omega⟩ ⟨R.val % 4096, by omega⟩ k) := by
  after_reads_at

theorem V_b (c : Dev nD) (R : Fin 16384) (k : Fin 512) :
    V m c main_v27 (ix2 R k) = (m ((c : Thread nD τ).loc main_arg2)) (ix3 ⟨R.val / 4096, by omega⟩ ⟨R.val % 4096, by omega⟩ k) := by
  after_reads_at

/-- The kernel's table of columns is the order of the heads. -/
theorem table_at : ∀ k : Fin 512, (lit0 (S512.rowMajor (ix1 k))).toInt.toNat = (toHead k).val := by decide +kernel

theorem V_index (c : Dev nD) (k : Fin 512) : V m c main_v15 (ix2 k 0) = lit0 (S512.rowMajor (ix1 k)) := by
  after_reads_at

theorem V_gain (c : Dev nD) (k : Fin 1) (j : Fin 1024) : V m c main_v6 (ix2 k j) = (m ((c : Thread nD τ).loc main_arg3)) (ix2 0 j) := by
  after_reads_at

theorem V_gateA (c : Dev nD) (k : Fin 1024) (j : Fin 1024) : V m c main_v2 (ix2 k j) = (m ((c : Thread nD τ).loc main_arg4)) (ix3 0 k ⟨2312 + j.val, by omega⟩) := by
  after_reads_at

theorem V_gateB (c : Dev nD) (k : Fin 1024) (j : Fin 1024) : V m c main_v4 (ix2 k j) = (m ((c : Thread nD τ).loc main_arg4)) (ix3 0 k ⟨3336 + j.val, by omega⟩) := by
  after_reads_at

theorem V_outA (c : Dev nD) (k : Fin 512) (j : Fin 1024) : V m c main_v10 (ix2 k j) = (m ((c : Thread nD τ).loc main_arg5)) (ix3 0 k j) := by
  after_reads_at

theorem V_outB (c : Dev nD) (k : Fin 512) (j : Fin 1024) : V m c main_v17 (ix2 k j) = (m ((c : Thread nD τ).loc main_arg6)) (ix3 0 (toHead k) j) := by
  have h : V m c main_v17 (ix2 k j) = Host.gather gather_S512x1024_S512x1_S512x1024_1_0_n_n_0_1_11024 (V m c main_v11) (V m c main_v15) (ix2 k j) := by
    after_reads_at
  have h' : V m c main_v11 (ix2 (toHead k) j) = (m ((c : Thread nD τ).loc main_arg6)) (ix3 0 (toHead k) j) := by after_reads_at
  refine h.trans ((Cert.Work.take_row _ rfl rfl rfl rfl rfl _ _ k j (toHead k) ?_).trans h')
  rw [V_index]
  exact table_at k

theorem V_out (c : Dev nD) (k : Fin 1024) (j : Fin 1024) : V m c main_v19 (ix2 k j) = (m ((c : Thread nD τ).loc main_arg7)) (ix3 0 k j) := by
  after_reads_at

theorem V_gain2 (c : Dev nD) (k : Fin 1) (j : Fin 1024) : V m c main_v8 (ix2 k j) = (m ((c : Thread nD τ).loc main_arg8)) (ix2 0 j) := by
  after_reads_at

/-! The windows' blocks at a point. -/

theorem index0 : ∀ t : Fin grid0.N, cc0_transform_0 (grid0.coords t) = ![t.val, 0] := by decide +kernel
theorem index1 : ∀ t : Fin grid0.N, cc0_transform_1 (grid0.coords t) = ![t.val, 0] := by decide +kernel
theorem index2 : ∀ t : Fin grid0.N, cc0_transform_2 (grid0.coords t) = ![t.val, 0] := by decide +kernel
theorem index12 : ∀ t : Fin grid0.N, cc0_transform_12 (grid0.coords t) = ![t.val, 0] := by decide +kernel
theorem index13 : ∀ t : Fin grid0.N, cc0_transform_13 (grid0.coords t) = ![t.val, 0] := by decide +kernel

theorem blk0 (c : Dev nD) (t : Fin grid0.N) (r : Fin 512) (k : Fin 1024) (R : Fin 16384) (hR : R.val = t.val * 512 + r.val) :
    iblk m c 0 t (ix2 r k) = (m ((c : Thread nD τ).loc main_arg0)) (ix3 ⟨R.val / 4096, by omega⟩ ⟨R.val % 4096, by omega⟩ k) := by
  refine Eq.trans ?_ (V_x m c R k)
  unfold iblk
  show V m c main_v25 (((cfg0.win 0).blk t).view.emb (ix2 r k)) = _
  congr 1
  funext a
  apply Fin.ext
  refine (Pipeline.Window.rect_emb_val _ _ _ _).trans ?_
  match a with
  | ⟨0, _⟩ =>
    show cc0_transform_0 (grid0.coords t) 0 * 512 + r.val = R.val
    rw [index0, hR]
    rfl
  | ⟨1, _⟩ => exact (congrArg (· + k.val) (Nat.zero_mul _)).trans (Nat.zero_add _)

theorem blk1 (c : Dev nD) (t : Fin grid0.N) (r : Fin 512) (k : Fin 512) (R : Fin 16384) (hR : R.val = t.val * 512 + r.val) :
    iblk m c 1 t (ix2 r k) = (m ((c : Thread nD τ).loc main_arg1)) (ix3 ⟨R.val / 4096, by omega⟩ ⟨R.val % 4096, by omega⟩ k) := by
  refine Eq.trans ?_ (V_a m c R k)
  unfold iblk
  show V m c main_v26 (((cfg0.win 1).blk t).view.emb (ix2 r k)) = _
  congr 1
  funext a
  apply Fin.ext
  refine (Pipeline.Window.rect_emb_val _ _ _ _).trans ?_
  match a with
  | ⟨0, _⟩ =>
    show cc0_transform_1 (grid0.coords t) 0 * 512 + r.val = R.val
    rw [index1, hR]
    rfl
  | ⟨1, _⟩ => exact (congrArg (· + k.val) (Nat.zero_mul _)).trans (Nat.zero_add _)

theorem blk2 (c : Dev nD) (t : Fin grid0.N) (r : Fin 512) (k : Fin 512) (R : Fin 16384) (hR : R.val = t.val * 512 + r.val) :
    iblk m c 2 t (ix2 r k) = (m ((c : Thread nD τ).loc main_arg2)) (ix3 ⟨R.val / 4096, by omega⟩ ⟨R.val % 4096, by omega⟩ k) := by
  refine Eq.trans ?_ (V_b m c R k)
  unfold iblk
  show V m c main_v27 (((cfg0.win 2).blk t).view.emb (ix2 r k)) = _
  congr 1
  funext a
  apply Fin.ext
  refine (Pipeline.Window.rect_emb_val _ _ _ _).trans ?_
  match a with
  | ⟨0, _⟩ =>
    show cc0_transform_2 (grid0.coords t) 0 * 512 + r.val = R.val
    rw [index2, hR]
    rfl
  | ⟨1, _⟩ => exact (congrArg (· + k.val) (Nat.zero_mul _)).trans (Nat.zero_add _)

theorem blk3 (c : Dev nD) (t : Fin grid0.N) (k : Fin 1) (j : Fin 1024) :
    iblk m c 3 t (ix2 k j) = (m ((c : Thread nD τ).loc main_arg3)) (ix2 0 j) := by
  refine Eq.trans ?_ (V_gain m c k j)
  unfold iblk
  show V m c main_v6 (((cfg0.win 3).blk t).view.emb (ix2 k j)) = _
  congr 1
  funext a
  apply Fin.ext
  refine (Pipeline.Window.rect_emb_val _ _ _ _).trans ?_
  match a with
  | ⟨0, _⟩ => exact (congrArg (· + k.val) (Nat.zero_mul _)).trans (Nat.zero_add _)
  | ⟨1, _⟩ => exact (congrArg (· + j.val) (Nat.zero_mul _)).trans (Nat.zero_add _)

theorem blk4 (c : Dev nD) (t : Fin grid0.N) (k : Fin 1024) (j : Fin 1024) :
    iblk m c 4 t (ix2 k j) = (m ((c : Thread nD τ).loc main_arg4)) (ix3 0 k ⟨2312 + j.val, by omega⟩) := by
  refine Eq.trans ?_ (V_gateA m c k j)
  unfold iblk
  show V m c main_v2 (((cfg0.win 4).blk t).view.emb (ix2 k j)) = _
  congr 1
  funext a
  apply Fin.ext
  refine (Pipeline.Window.rect_emb_val _ _ _ _).trans ?_
  match a with
  | ⟨0, _⟩ => exact (congrArg (· + k.val) (Nat.zero_mul _)).trans (Nat.zero_add _)
  | ⟨1, _⟩ => exact (congrArg (· + j.val) (Nat.zero_mul _)).trans (Nat.zero_add _)

theorem blk5 (c : Dev nD) (t : Fin grid0.N) (k : Fin 1024) (j : Fin 1024) :
    iblk m c 5 t (ix2 k j) = (m ((c : Thread nD τ).loc main_arg4)) (ix3 0 k ⟨3336 + j.val, by omega⟩) := by
  refine Eq.trans ?_ (V_gateB m c k j)
  unfold iblk
  show V m c main_v4 (((cfg0.win 5).blk t).view.emb (ix2 k j)) = _
  congr 1
  funext a
  apply Fin.ext
  refine (Pipeline.Window.rect_emb_val _ _ _ _).trans ?_
  match a with
  | ⟨0, _⟩ => exact (congrArg (· + k.val) (Nat.zero_mul _)).trans (Nat.zero_add _)
  | ⟨1, _⟩ => exact (congrArg (· + j.val) (Nat.zero_mul _)).trans (Nat.zero_add _)

theorem blk6 (c : Dev nD) (t : Fin grid0.N) (k : Fin 512) (j : Fin 1024) :
    iblk m c 6 t (ix2 k j) = (m ((c : Thread nD τ).loc main_arg5)) (ix3 0 k j) := by
  refine Eq.trans ?_ (V_outA m c k j)
  unfold iblk
  show V m c main_v10 (((cfg0.win 6).blk t).view.emb (ix2 k j)) = _
  congr 1
  funext a
  apply Fin.ext
  refine (Pipeline.Window.rect_emb_val _ _ _ _).trans ?_
  match a with
  | ⟨0, _⟩ => exact (congrArg (· + k.val) (Nat.zero_mul _)).trans (Nat.zero_add _)
  | ⟨1, _⟩ => exact (congrArg (· + j.val) (Nat.zero_mul _)).trans (Nat.zero_add _)

theorem blk7 (c : Dev nD) (t : Fin grid0.N) (k : Fin 512) (j : Fin 1024) :
    iblk m c 7 t (ix2 k j) = (m ((c : Thread nD τ).loc main_arg6)) (ix3 0 (toHead k) j) := by
  refine Eq.trans ?_ (V_outB m c k j)
  unfold iblk
  show V m c main_v17 (((cfg0.win 7).blk t).view.emb (ix2 k j)) = _
  congr 1
  funext a
  apply Fin.ext
  refine (Pipeline.Window.rect_emb_val _ _ _ _).trans ?_
  match a with
  | ⟨0, _⟩ => exact (congrArg (· + k.val) (Nat.zero_mul _)).trans (Nat.zero_add _)
  | ⟨1, _⟩ => exact (congrArg (· + j.val) (Nat.zero_mul _)).trans (Nat.zero_add _)

theorem blk8 (c : Dev nD) (t : Fin grid0.N) (k : Fin 1024) (j : Fin 1024) :
    iblk m c 8 t (ix2 k j) = (m ((c : Thread nD τ).loc main_arg7)) (ix3 0 k j) := by
  refine Eq.trans ?_ (V_out m c k j)
  unfold iblk
  show V m c main_v19 (((cfg0.win 8).blk t).view.emb (ix2 k j)) = _
  congr 1
  funext a
  apply Fin.ext
  refine (Pipeline.Window.rect_emb_val _ _ _ _).trans ?_
  match a with
  | ⟨0, _⟩ => exact (congrArg (· + k.val) (Nat.zero_mul _)).trans (Nat.zero_add _)
  | ⟨1, _⟩ => exact (congrArg (· + j.val) (Nat.zero_mul _)).trans (Nat.zero_add _)

theorem blk9 (c : Dev nD) (t : Fin grid0.N) (k : Fin 1) (j : Fin 1024) :
    iblk m c 9 t (ix2 k j) = (m ((c : Thread nD τ).loc main_arg8)) (ix2 0 j) := by
  refine Eq.trans ?_ (V_gain2 m c k j)
  unfold iblk
  show V m c main_v8 (((cfg0.win 9).blk t).view.emb (ix2 k j)) = _
  congr 1
  funext a
  apply Fin.ext
  refine (Pipeline.Window.rect_emb_val _ _ _ _).trans ?_
  match a with
  | ⟨0, _⟩ => exact (congrArg (· + k.val) (Nat.zero_mul _)).trans (Nat.zero_add _)
  | ⟨1, _⟩ => exact (congrArg (· + j.val) (Nat.zero_mul _)).trans (Nat.zero_add _)

/-! The results. -/

/-- The row after the mix at flat row `R`. -/
def rowAt (c : Dev nD) (R : Fin 16384) : Fin 1024 → EReal :=
  rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (fun k q => (m ((c : Thread nD τ).loc main_arg6)) (ix3 0 (toHead k) q)) (m ((c : Thread nD τ).loc main_arg7)) R

/-- The first result: every row after the mix. -/
def rows (c : Dev nD) : S16384x1024.Idx → EReal := fun i => rowAt m c (i 0) (i 1)

/-- The second: the same rows normed, times the second gain. -/
def normedRows (c : Dev nD) : S16384x1024.Idx → EReal := fun i =>
  normed (rowAt m c (i 0)) (fun k => (m ((c : Thread nD τ).loc main_arg8)) (ix2 0 k)) (i 1)

theorem row_block (c : Dev nD) (t : Fin grid0.N) (r : Fin 512) (R : Fin 16384) (hR : R.val = t.val * 512 + r.val) :
    blockRow (iblk m c 0 t) (iblk m c 1 t) (iblk m c 2 t) (iblk m c 3 t) (iblk m c 4 t) (iblk m c 5 t) (iblk m c 6 t)
      (iblk m c 7 t) (iblk m c 8 t) r = rowAt m c R := by
  unfold blockRow rowAt rowOf
  apply mixRow_congr
  · intro k
    exact blk0 m c t r k R hR
  · intro k
    exact blk3 m c t 0 k
  · intro k q
    exact blk4 m c t k q
  · intro k q
    exact blk5 m c t k q
  · intro k
    exact blk1 m c t r k R hR
  · intro k
    exact blk2 m c t r k R hR
  · intro k q
    exact blk6 m c t k q
  · intro k q
    exact blk7 m c t k q
  · intro k q
    exact blk8 m c t k q

theorem emb12 (t : Fin grid0.N) (r : Fin 512) (j : Fin 1024) :
    ((cfg0.win 12).blk t).view.emb (ix2 r j) = (ix2 ⟨t.val * 512 + r.val, by have := t.isLt; have : grid0.N = 32 := rfl; omega⟩ j : S16384x1024.Idx) := by
  funext a
  apply Fin.ext
  refine (Pipeline.Window.rect_emb_val _ _ _ _).trans ?_
  show cc0_transform_12 (grid0.coords t) a * _ + _ = _
  rw [index12]
  match a with
  | ⟨0, _⟩ => rfl
  | ⟨1, _⟩ => exact (congrArg (· + j.val) (Nat.zero_mul _)).trans (Nat.zero_add _)

theorem covers12 : (cfg0.win 12).Covers := by decide +kernel

theorem out12_block (c : Dev nD) (t : Fin grid0.N) (r : Fin 512) (j : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = rows m c (ix2 ⟨t.val * 512 + r.val, by have := t.isLt; have : grid0.N = 32 := rfl; omega⟩ j) := by
  have hR := row_block m c t r ⟨t.val * 512 + r.val, by have := t.isLt; have : grid0.N = 32 := rfl; omega⟩ rfl
  refine (out12_at _ _ _ _ _ _ _ _ _ _ _ _ r j).trans ?_
  exact congrFun hR j

theorem arr12 (c : Dev nD) : (dats m 0 c).arrAt 12 cfg0.N = rows m c := by
  refine (dats m 0 c).arrAt_eq_of_covers 12 _ covers12 fun t hf y => ?_
  rw [after0_12]
  have ho := out12_block m c t
  generalize out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = o at ho ⊢
  generalize rows m c = g at ho ⊢
  obtain ⟨r, j, hy⟩ : ∃ (r : Fin 512) (j : Fin 1024), y = (ix2 r j : S512x1024.Idx) :=
    ⟨y (0 : Fin 2), y (1 : Fin 2), by
      funext a
      match a with
      | ⟨0, _⟩ => rfl
      | ⟨1, _⟩ => rfl⟩
  subst hy
  have hx : (cfg0.win 12).xinj (cfg0.grid.coords t) (ix2 r j : S512x1024.Idx) = (ix2 r j : S512x1024.Idx) := by
    funext a
    match a with
    | ⟨0, _⟩ => rfl
    | ⟨1, _⟩ => rfl
  exact (congrArg o hx).trans ((ho r j).trans (congrArg g (emb12 t r j)).symm)

theorem emb13 (t : Fin grid0.N) (r : Fin 512) (j : Fin 1024) :
    ((cfg0.win 13).blk t).view.emb (ix2 r j) = (ix2 ⟨t.val * 512 + r.val, by have := t.isLt; have : grid0.N = 32 := rfl; omega⟩ j : S16384x1024.Idx) := by
  funext a
  apply Fin.ext
  refine (Pipeline.Window.rect_emb_val _ _ _ _).trans ?_
  show cc0_transform_13 (grid0.coords t) a * _ + _ = _
  rw [index13]
  match a with
  | ⟨0, _⟩ => rfl
  | ⟨1, _⟩ => exact (congrArg (· + j.val) (Nat.zero_mul _)).trans (Nat.zero_add _)

theorem covers13 : (cfg0.win 13).Covers := by decide +kernel

theorem out13_block (c : Dev nD) (t : Fin grid0.N) (r : Fin 512) (j : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = normedRows m c (ix2 ⟨t.val * 512 + r.val, by have := t.isLt; have : grid0.N = 32 := rfl; omega⟩ j) := by
  have hR := row_block m c t r ⟨t.val * 512 + r.val, by have := t.isLt; have : grid0.N = 32 := rfl; omega⟩ rfl
  refine (out13_at _ _ _ _ _ _ _ _ _ _ _ _ r j).trans ?_
  exact congrFun (normed_congr (fun k => congrFun hR k) (fun k => blk9 m c t 0 k)) j

theorem arr13 (c : Dev nD) : (dats m 0 c).arrAt 13 cfg0.N = normedRows m c := by
  refine (dats m 0 c).arrAt_eq_of_covers 13 _ covers13 fun t hf y => ?_
  rw [after0_13]
  have ho := out13_block m c t
  generalize out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = o at ho ⊢
  generalize normedRows m c = g at ho ⊢
  obtain ⟨r, j, hy⟩ : ∃ (r : Fin 512) (j : Fin 1024), y = (ix2 r j : S512x1024.Idx) :=
    ⟨y (0 : Fin 2), y (1 : Fin 2), by
      funext a
      match a with
      | ⟨0, _⟩ => rfl
      | ⟨1, _⟩ => rfl⟩
  subst hy
  have hx : (cfg0.win 13).xinj (cfg0.grid.coords t) (ix2 r j : S512x1024.Idx) = (ix2 r j : S512x1024.Idx) := by
    funext a
    match a with
    | ⟨0, _⟩ => rfl
    | ⟨1, _⟩ => rfl
  exact (congrArg o hx).trans ((ho r j).trans (congrArg g (emb13 t r j)).symm)

end Cert.Kernel2Ideal.Work

end
-- ==== Proof.MixRef.lean ====
/- The reference of the mix, read at an index. -/
module

public import proofs.«01_k».proof.Proof.Gen.Reference2Ideal.Run
public import proofs.«01_k».proof.Proof.MixModel

@[expose] public section

noncomputable section

namespace Cert.Reference2Ideal.Value

open Cert.Reference2Ideal Cert.Reference2Ideal.Gen Cert.Mix
open Idealize.ShloMosaic Idealize.ShloMosaic.TcCoe

/-- Each row normed, times the gain. -/
def refNorm (A0 : FVec Ideal S4x4096x1024 .f32) (A3 : FVec Ideal S1x1024 .f32) : FVec Ideal S4x4096x1024 .f32 :=
  mulf (mulf A0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf A0 A0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ A3 shapeCasts_S1x1024_S1024)))

/-- The first gate. -/
def gateA (H : FVec Ideal S4x4096x1024 .f32) (A4 : FVec Ideal S1x1024x4360 .f32) : FVec Ideal S4x4096x1024 .f32 :=
  Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 2312] (Host.dotGeneral dot_S4x4096x1024_S1024x4360_S4x4096x4360_2_0_01_1_n_n none H (shapeCast _ A4 shapeCasts_S1x1024x4360_S1024x4360)) slices_S4x4096x4360_S4x4096x1024_0_0_2312))))

/-- The second gate. -/
def gateB (H : FVec Ideal S4x4096x1024 .f32) (A4 : FVec Ideal S1x1024x4360 .f32) : FVec Ideal S4x4096x1024 .f32 :=
  Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 3336] (Host.dotGeneral dot_S4x4096x1024_S1024x4360_S4x4096x4360_2_0_01_1_n_n none H (shapeCast _ A4 shapeCasts_S1x1024x4360_S1024x4360)) slices_S4x4096x4360_S4x4096x1024_0_0_3336))))

/-- The second branch's heads in the projection's order. -/
def inOrder (A2 : FVec Ideal S4x4096x512 .bf16) : FVec Ideal S4x4096x512 .bf16 :=
  shapeCast _ (transpose S4x4096x2x4x64 [0, 1, 3, 2, 4] (shapeCast _ A2 shapeCasts_S4x4096x512_S4x4096x4x2x64) transposes_S4x4096x4x2x64_S4x4096x2x4x64_0_1_3_2_4) shapeCasts_S4x4096x2x4x64_S4x4096x512

/-- The rows after the mix. -/
def refRow (A0 : FVec Ideal S4x4096x1024 .f32) (A1 A2 : FVec Ideal S4x4096x512 .bf16) (A3 : FVec Ideal S1x1024 .f32)
    (A4 : FVec Ideal S1x1024x4360 .f32) (A5 A6 : FVec Ideal S1x512x1024 .f32) (A7 : FVec Ideal S1x1024x1024 .f32) :
    FVec Ideal S4x4096x1024 .f32 :=
  addf A0 (Host.dotGeneral dot_S4x4096x1024_S1024x1024_S4x4096x1024_2_0_01_1_n_n none (addf (mulf (gateA (refNorm A0 A3) A4) (Host.dotGeneral dot_S4x4096x512_S512x1024_S4x4096x1024_2_0_01_1_n_n none (extf .f32 A1 bitsLt_bf16_f32) (shapeCast _ A5 shapeCasts_S1x512x1024_S512x1024))) (mulf (gateB (refNorm A0 A3) A4) (Host.dotGeneral dot_S4x4096x512_S512x1024_S4x4096x1024_2_0_01_1_n_n none (extf .f32 (inOrder A2) bitsLt_bf16_f32) (shapeCast _ A6 shapeCasts_S1x512x1024_S512x1024)))) (shapeCast _ A7 shapeCasts_S1x1024x1024_S1024x1024))

theorem refNorm_at (X : FVec Ideal S4x4096x1024 .f32) (G : FVec Ideal S1x1024 .f32) (b : Fin 4) (s : Fin 4096) (k : Fin 1024) :
    refNorm X G (ix3 b s k) = normed (fun k => X (ix3 b s k)) (fun k => G (ix2 0 k)) k := by
  unfold refNorm normed
  pointwise

theorem gateA_at (H : FVec Ideal S4x4096x1024 .f32) (W : FVec Ideal S1x1024x4360 .f32) (b : Fin 4) (s : Fin 4096) (q : Fin 1024) :
    gateA H W (ix3 b s q) = Ideal.logistic (∑ k : Fin 1024, H (ix3 b s k) * W (ix3 0 k ⟨2312 + q.val, by omega⟩)) := by
  unfold gateA Ideal.logistic
  pointwise

theorem gateB_at (H : FVec Ideal S4x4096x1024 .f32) (W : FVec Ideal S1x1024x4360 .f32) (b : Fin 4) (s : Fin 4096) (q : Fin 1024) :
    gateB H W (ix3 b s q) = Ideal.logistic (∑ k : Fin 1024, H (ix3 b s k) * W (ix3 0 k ⟨3336 + q.val, by omega⟩)) := by
  unfold gateB Ideal.logistic
  pointwise

theorem inOrder_at (O : FVec Ideal S4x4096x512 .bf16) (b : Fin 4) (s : Fin 4096) (k : Fin 512) :
    inOrder O (ix3 b s k) = O (ix3 b s (ofHead k)) := by
  unfold inOrder ofHead
  pointwise

theorem refRow_at (A0 : FVec Ideal S4x4096x1024 .f32) (A1 A2 : FVec Ideal S4x4096x512 .bf16) (A3 : FVec Ideal S1x1024 .f32)
    (A4 : FVec Ideal S1x1024x4360 .f32) (A5 A6 : FVec Ideal S1x512x1024 .f32) (A7 : FVec Ideal S1x1024x1024 .f32)
    (b : Fin 4) (s : Fin 4096) (j : Fin 1024) :
    refRow A0 A1 A2 A3 A4 A5 A6 A7 (ix3 b s j)
      = mixRow (fun k => A0 (ix3 b s k)) (fun k => A3 (ix2 0 k)) (fun k q => A4 (ix3 0 k ⟨2312 + q.val, by omega⟩))
          (fun k q => A4 (ix3 0 k ⟨3336 + q.val, by omega⟩)) (fun k => A1 (ix3 b s k)) (fun k => A2 (ix3 b s k))
          (fun k q => A5 (ix3 0 k q)) (fun k q => A6 (ix3 0 (toHead k) q)) (fun k q => A7 (ix3 0 k q)) j := by
  have hs : ∀ q : Fin 1024, ∑ k : Fin 512, A2 (ix3 b s (ofHead k)) * A6 (ix3 0 k q) = ∑ k : Fin 512, A2 (ix3 b s k) * A6 (ix3 0 (toHead k) q) :=
    fun q => sum_heads (fun k => A2 (ix3 b s k)) (fun k => A6 (ix3 0 k q))
  unfold refRow mixRow mixed gate
  pointwise [gateA_at, gateB_at, refNorm_at, inOrder_at, hs]

variable (m : (ℓ : Loc nD τ sig) → Buf (Elt Ideal) ℓ) (c : Dev nD)

/-- The first result, read at an index. -/
theorem rows_at (r : Fin 16384) (j : Fin 1024) :
    shapeCast S16384x1024 (refRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) shapeCasts_S4x4096x1024_S16384x1024 (ix2 r j)
      = rowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (fun k q => (m ((c.tc : Thread nD τ).loc main_arg6)) (ix3 0 (toHead k) q)) (m ((c.tc : Thread nD τ).loc main_arg7)) r j := by
  unfold rowOf
  pointwise [refRow_at]

/-- The second. -/
theorem normed_at (r : Fin 16384) (j : Fin 1024) :
    res_main_v61 m c (ix2 r j)
      = normed (rowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (fun k q => (m ((c.tc : Thread nD τ).loc main_arg6)) (ix3 0 (toHead k) q)) (m ((c.tc : Thread nD τ).loc main_arg7)) r) (fun k => (m ((c.tc : Thread nD τ).loc main_arg8)) (ix2 0 k)) j := by
  show truncf .bf16 (shapeCast S16384x1024 (refNorm (refRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)))
    shapeCasts_S4x4096x1024_S16384x1024) bitsLt_bf16_f32 (ix2 r j) = _
  have h : ∀ b s, (fun k => refRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 b s k)) = _ := fun b s => funext fun k => refRow_at _ _ _ _ _ _ _ _ b s k
  unfold rowOf
  pointwise [refNorm_at, h]

end Cert.Reference2Ideal.Value

end
-- ==== Proof.MixClaims.lean ====
/- The mix call: both frames, `preserves`, and the two results' values. -/
module

public import proofs.«01_k».proof.Defs
public import proofs.«01_k».proof.Proof.Gen.Kernel2.Frame
public import proofs.«01_k».proof.Proof.MixKernel
public import proofs.«01_k».proof.Proof.MixRef
public import Idealize.ShloMosaic.Lib.Quiescent

@[expose] public section

noncomputable section

open Idealize.ShloMosaic Idealize.SL.Sem

namespace Cert.Proof

theorem frame_p2 : Cert.quiescent_Kernel2 := fun m ρ _ => Cert.Kernel2.Gen.frame (F := Bits) m ρ

theorem frame_pi2 : Cert.quiescent_Kernel2Ideal := fun m ρ _ => Cert.Kernel2Ideal.Gen.frame (F := Ideal) m ρ

theorem frame_ri2 : Cert.quiescent_Reference2Ideal := fun m ρ _ =>
  θ_run_mono (Cert.Reference2Ideal.Value.run (F := Ideal) m ρ) fun r h => ⟨fun c => (h c).2.2,
      Idealize.ShloMosaic.sem_eq_zero_of_no_sems (by decide) r.2⟩

theorem preserves2 : Cert.preserves_Kernel2_Kernel2Ideal := trivial

section Values

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The arguments the results read agree. -/
structure Agree : Prop where
  a0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  a1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  a2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  a3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  a4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  a5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
  a6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
  a7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
  a8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
variable {m m' c}

open Cert.Reference2Ideal in
theorem rows_eq (h : Agree m m' c) :
    (shapeCast S16384x1024 (Cert.Reference2Ideal.Value.refRow (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)))
        Cert.Reference2Ideal.Facts₀.shapeCasts_S4x4096x1024_S16384x1024 : S16384x1024.Idx → EReal) = Cert.Kernel2Ideal.Work.rows m c := by
  funext i
  obtain ⟨r, j, rfl⟩ : ∃ (r : Fin 16384) (j : Fin 1024), i = ix2 r j :=
    ⟨i (0 : Fin 2), i (1 : Fin 2), by
      funext a
      match a with
      | ⟨0, _⟩ => rfl
      | ⟨1, _⟩ => rfl⟩
  refine (Cert.Reference2Ideal.Value.rows_at m' c r j).trans ?_
  rw [h.a0, h.a1, h.a2, h.a3, h.a4, h.a5, h.a6, h.a7]
  rfl

open Cert.Reference2Ideal in
theorem normed_eq (h : Agree m m' c) :
    (Cert.Reference2Ideal.Value.res_main_v61 m' c : S16384x1024.Idx → EReal) = Cert.Kernel2Ideal.Work.normedRows m c := by
  funext i
  obtain ⟨r, j, rfl⟩ : ∃ (r : Fin 16384) (j : Fin 1024), i = ix2 r j :=
    ⟨i (0 : Fin 2), i (1 : Fin 2), by
      funext a
      match a with
      | ⟨0, _⟩ => rfl
      | ⟨1, _⟩ => rfl⟩
  refine (Cert.Reference2Ideal.Value.normed_at m' c r j).trans ?_
  rw [h.a0, h.a1, h.a2, h.a3, h.a4, h.a5, h.a6, h.a7, h.a8]
  rfl

end Values

theorem algebraic2 : Cert.algebraic_Kernel2Ideal_Reference2Ideal := by
  intro m g m' g' _ hargs
  have ha : ∀ c, Agree m m' c := fun c => by
    obtain ⟨h0, h1, h2, h3, h4, h5, h6, h7, h8, _⟩ := hargs c
    exact ⟨h0, h1, h2, h3, h4, h5, h6, h7, h8⟩
  refine ⟨fun c => Cert.Kernel2Ideal.Work.rows m c, fun c => Cert.Kernel2Ideal.Work.normedRows m c, ?_, ?_⟩
  · refine θ_run_mono (Cert.Kernel2Ideal.Value.run_blocks (F := Ideal) m g) fun r h c => ?_
    obtain ⟨e0, e1, _, hr⟩ := h c
    exact ⟨e0.trans (Cert.Kernel2Ideal.Work.arr12 m c), e1.trans (Cert.Kernel2Ideal.Work.arr13 m c), hr⟩
  · refine θ_run_mono (Cert.Reference2Ideal.Value.run (F := Ideal) m' g') fun r h c => ?_
    obtain ⟨e0, e1, hr⟩ := h c
    exact ⟨e0.trans (rows_eq (ha c)), e1.trans (normed_eq (ha c)), hr⟩

end Cert.Proof

end
-- ==== Proof.QkvModel.lean ====
/- The projection of the normed rows and the norm of a head, one entry of their results. -/
module

public import proofs.«01_k».proof.Proof.MixModel

@[expose] public section

noncomputable section

namespace Cert.Qkv

open Idealize.ShloMosaic

/-- A value that is neither of the two infinities. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {n : Nat} (f : Fin n → ℝ) : ∑ i, (f i : EReal) = ((∑ i, f i : ℝ) : EReal) := by
  induction n with
  | zero => simp
  | succ n ih => rw [Fin.sum_univ_castSucc, Fin.sum_univ_castSucc, ih, EReal.coe_add]

theorem IsReal.sum {n : Nat} {f : Fin n → EReal} (h : ∀ i, IsReal (f i)) : IsReal (∑ i, f i) := by
  choose g hg using h
  exact ⟨∑ i, g i, by rw [← coe_sum]; exact Finset.sum_congr rfl fun i _ => hg i⟩

theorem word_inv64 : (Ideal.ofBits .f32 0x3C800000#32 : EReal) = ((64⁻¹ : ℝ) : EReal) := by
  simp only [Ideal.ofBits, Ideal.ieee]
  norm_num [BitVec.extractLsb', BitVec.toNat, Nat.shiftRight_eq_div_pow, BitVec.ofNat]

theorem word_64 : (Ideal.ofBits .f32 0x42800000#32 : EReal) = ((64 : ℝ) : EReal) := by
  simp only [Ideal.ofBits, Ideal.ieee]
  norm_num [BitVec.extractLsb', BitVec.toNat, Nat.shiftRight_eq_div_pow, BitVec.ofNat]

theorem word_1024 : (Ideal.ofBits .f32 0x44800000#32 : EReal) = ((1024 : ℝ) : EReal) := by
  simp only [Ideal.ofBits, Ideal.ieee]
  norm_num [BitVec.extractLsb', BitVec.toNat, Nat.shiftRight_eq_div_pow, BitVec.ofNat]

theorem word_eps : ∃ e : ℝ, 0 < e ∧ (Ideal.ofBits .f32 0x358637BD#32 : EReal) = (e : EReal) := by
  refine ⟨(2 ^ 23 + 407485 : ℝ) * (2 : ℝ) ^ (-43 : Int), by positivity, ?_⟩
  simp only [Ideal.ofBits, Ideal.ieee]
  norm_num [BitVec.extractLsb', BitVec.toNat, Nat.shiftRight_eq_div_pow, BitVec.ofNat]

theorem div_64 (x : EReal) : Ideal.div x (Ideal.ofBits .f32 0x42800000#32) = x * Ideal.ofBits .f32 0x3C800000#32 := by
  rw [word_64, word_inv64]
  unfold Ideal.div
  rw [if_neg (by norm_num), ← EReal.coe_inv]

theorem rsqrt_real {r : ℝ} (h : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr h.le), if_neg h.ne']

theorem sq_nonneg (x : EReal) : 0 ≤ x * x := by
  induction x using EReal.rec with
  | bot => simp
  | coe r => exact_mod_cast mul_self_nonneg r
  | top => simp

theorem sq_top {x : EReal} (h : ¬ IsReal x) : x * x = ⊤ := by
  induction x using EReal.rec with
  | bot => simp
  | coe r => exact absurd ⟨r, rfl⟩ h
  | top => simp

theorem rsqrt_top : Ideal.rsqrt (⊤ : EReal) = 0 := rfl

/-- A row over the root of its mean square has real entries: where an entry is infinite, the root is, and all entries are zero. -/
theorem scaled_real (X : Fin 1024 → EReal) (k : Fin 1024) :
    IsReal (X k * Ideal.rsqrt (Ideal.div (∑ i : Fin 1024, X i * X i) (Ideal.ofBits .f32 0x44800000#32) + Ideal.ofBits .f32 0x358637BD#32)) := by
  obtain ⟨e, he, hw⟩ := word_eps
  by_cases hX : ∀ k, IsReal (X k)
  · refine (hX k).mul ?_
    choose g hg using hX
    have hs : (∑ i : Fin 1024, X i * X i) = ((∑ i, g i * g i : ℝ) : EReal) := by
      rw [← coe_sum]
      exact Finset.sum_congr rfl fun i _ => by rw [hg i, EReal.coe_mul]
    have hn : (0 : ℝ) ≤ ∑ i, g i * g i := Finset.sum_nonneg fun i _ => mul_self_nonneg _
    rw [hs, hw, word_1024]
    unfold Ideal.div
    rw [if_neg (by norm_num), ← EReal.coe_inv, ← EReal.coe_mul, ← EReal.coe_add]
    exact rsqrt_real (by positivity)
  · obtain ⟨j, hj⟩ := not_forall.1 hX
    have hs : (∑ i : Fin 1024, X i * X i) = ⊤ := by
      refine top_le_iff.1 ?_
      rw [← sq_top hj]
      exact Finset.single_le_sum (f := fun i => X i * X i) (fun i _ => sq_nonneg (X i)) (Finset.mem_univ j)
    rw [hs, hw, word_1024]
    unfold Ideal.div
    rw [if_neg (by norm_num), ← EReal.coe_inv, EReal.top_mul_coe_of_pos (by positivity), EReal.top_add_coe, rsqrt_top, mul_zero]
    exact ⟨0, rfl⟩

/-- The normed row has real entries where the gains are real. -/
theorem normed_real (X : Fin 1024 → EReal) {G : Fin 1024 → EReal} (hG : ∀ k, IsReal (G k)) (k : Fin 1024) : IsReal (Mix.normed X G k) :=
  (scaled_real X k).mul (hG k)

/-- An entry of the projection: the normed row against a column of the weights. -/
def proj (X G W : Fin 1024 → EReal) : EReal := ∑ k : Fin 1024, Mix.normed X G k * W k

theorem proj_real (X : Fin 1024 → EReal) {G W : Fin 1024 → EReal} (hG : ∀ k, IsReal (G k)) (hW : ∀ k, IsReal (W k)) : IsReal (proj X G W) :=
  IsReal.sum fun k => (normed_real X hG k).mul (hW k)

/-- The factor of a head: one over the root of its mean square. -/
def factor (V : Fin 64 → EReal) : EReal :=
  Ideal.rsqrt (Ideal.div (∑ d : Fin 64, V d * V d) (Ideal.ofBits .f32 0x42800000#32) + Ideal.ofBits .f32 0x358637BD#32)

/-- Two heads side by side, each times its factor, as the kernel takes them: the upper head's squares are all the squares less the lower head's. -/
def pair (V : Fin 128 → EReal) (l : Fin 128) : EReal :=
  V l * if l.val < 64 then
      Ideal.rsqrt ((∑ k : Fin 128, if k.val < 64 then V k * V k else 0) * Ideal.ofBits .f32 0x3C800000#32 + Ideal.ofBits .f32 0x358637BD#32)
    else
      Ideal.rsqrt ((∑ k : Fin 128, V k * V k - ∑ k : Fin 128, if k.val < 64 then V k * V k else 0) * Ideal.ofBits .f32 0x3C800000#32
        + Ideal.ofBits .f32 0x358637BD#32)

theorem low_sum (f : Fin 128 → EReal) : (∑ k : Fin 128, if k.val < 64 then f k else 0) = ∑ d : Fin 64, f ⟨d.val, by omega⟩ := by
  have h := Fin.sum_univ_add (a := 64) (b := 64) fun k : Fin (64 + 64) => if k.val < 64 then f k else 0
  refine h.trans ?_
  have h2 : (∑ i : Fin 64, if (Fin.natAdd 64 i).val < 64 then f (Fin.natAdd 64 i) else 0) = 0 :=
    Finset.sum_eq_zero fun i _ => if_neg (by simp [Fin.natAdd])
  rw [h2, add_zero]
  exact Finset.sum_congr rfl fun i _ => if_pos i.isLt

theorem all_sum (f : Fin 128 → EReal) : (∑ k : Fin 128, f k) = (∑ d : Fin 64, f ⟨d.val, by omega⟩) + ∑ d : Fin 64, f ⟨64 + d.val, by omega⟩ :=
  Fin.sum_univ_add (a := 64) (b := 64) fun k : Fin (64 + 64) => f k

theorem add_sub_real {x y : EReal} (hx : IsReal x) (hy : IsReal y) : x + y - x = y := by
  obtain ⟨a, rfl⟩ := hx
  obtain ⟨b, rfl⟩ := hy
  rw [← EReal.coe_add, ← EReal.coe_sub, add_sub_cancel_left]

/-- On real entries the pair is each head times its own factor. -/
theorem pair_eq {V : Fin 128 → EReal} (hV : ∀ k, IsReal (V k)) (l : Fin 128) :
    pair V l = V l * factor (fun d => V ⟨l.val / 64 * 64 + d.val, by omega⟩) := by
  unfold pair factor
  rw [div_64, low_sum]
  congr 1
  by_cases h : l.val < 64
  · rw [if_pos h]
    have h0 : l.val / 64 = 0 := by omega
    simp only [h0, Nat.zero_mul, Nat.zero_add]
  · rw [if_neg h, all_sum, add_sub_real (IsReal.sum fun d => (hV _).mul (hV _)) (IsReal.sum fun d => (hV _).mul (hV _))]
    have h1 : l.val / 64 = 1 := by omega
    simp only [h1, Nat.one_mul]

/-- A head's 64 columns over a row of ones and 63 rows of zeros. -/
abbrev withOnes (V : Fin 64 → EReal) (d : Fin 128) : EReal :=
  if h : d.val < 64 then V ⟨d.val, h⟩ else if d.val - 64 = 0 then 1 else 0

end Cert.Qkv
-- ==== Proof.QkvBlock.lean ====
/- The projection call's results, one block: the heads of a row. -/
module

public import proofs.«01_k».proof.Proof.Gen.Kernel3Ideal.Skeleton
public import proofs.«01_k».proof.Proof.QkvModel

@[expose] public section

noncomputable section

namespace Cert.Kernel3Ideal.Work

open Cert.Kernel3Ideal Cert.Kernel3Ideal.Gen Cert.Qkv
open Idealize.ShloMosaic Idealize.ShloMosaic.TcCoe

theorem pair_congr {V V' : Fin 128 → EReal} {l l' : Fin 128} (hV : ∀ k, V k = V' k) (hl : l = l') : pair V l = pair V' l' := by
  obtain rfl : V = V' := funext hV
  obtain rfl := hl
  rfl

/-- The heads of the block: lane `l`'s pair of heads, at its place, times its gain. -/
abbrev heads (v : Fin 512 → EReal) (g : EReal) (l : Fin 512) : EReal :=
  pair (fun k => v ⟨l.val / 128 * 128 + k.val, by omega⟩) ⟨l.val % 128, by omega⟩ * g

/-- Four pairs of heads side by side. -/
theorem heads_eq (v : Fin 512 → EReal) (g : EReal) (l : Fin 512) :
    (if h : l.val < 128 then pair (fun k => v ⟨k.val, by omega⟩) ⟨l.val, h⟩
      else if h1 : l.val - 128 < 128 then pair (fun k => v ⟨128 + k.val, by omega⟩) ⟨l.val - 128, h1⟩
      else if h2 : l.val - 128 - 128 < 128 then pair (fun k => v ⟨256 + k.val, by omega⟩) ⟨l.val - 128 - 128, h2⟩
      else pair (fun k => v ⟨384 + k.val, by omega⟩) ⟨l.val - 128 - 128 - 128, by omega⟩) * g = heads v g l := by
  unfold heads
  congr 1
  by_cases h : l.val < 128
  · rw [dif_pos h]
    exact pair_congr (fun k => congrArg v (Fin.ext (by show k.val = l.val / 128 * 128 + k.val; omega))) (Fin.ext (by show l.val = l.val % 128; omega))
  rw [dif_neg h]
  by_cases h1 : l.val - 128 < 128
  · rw [dif_pos h1]
    exact pair_congr (fun k => congrArg v (Fin.ext (by show 128 + k.val = l.val / 128 * 128 + k.val; omega)))
      (Fin.ext (by show l.val - 128 = l.val % 128; omega))
  rw [dif_neg h1]
  by_cases h2 : l.val - 128 - 128 < 128
  · rw [dif_pos h2]
    exact pair_congr (fun k => congrArg v (Fin.ext (by show 256 + k.val = l.val / 128 * 128 + k.val; omega)))
      (Fin.ext (by show l.val - 128 - 128 = l.val % 128; omega))
  rw [dif_neg h2]
  exact pair_congr (fun k => congrArg v (Fin.ext (by show 384 + k.val = l.val / 128 * 128 + k.val; omega)))
    (Fin.ext (by show l.val - 128 - 128 - 128 = l.val % 128; omega))

/-! The first queries. -/

theorem fq_mask (r : Fin 512) (l : Fin 128) : k0_pay11 (ix2 r l) = BitVec.ofBool (decide (l.val < 64)) := by
  unfold k0_pay11
  pointwise
  revert l
  decide +kernel

theorem fq_gain (g : FVec Ideal S1x512 .f32) (l : Fin 512) : k0_pay10 g (ix2 0 l) = g (ix2 0 l) := by
  unfold k0_pay10
  pointwise

/-- What the block's store takes. -/
abbrev fqOut (v : FVec Ideal S512x1024 .f32) (g : FVec Ideal S1x512 .f32) : FVec Ideal S1x512x512 .bf16 :=
  k0_pay24 (k0_pay10 g) k0_pay11 (k0_pay12 v) (k0_pay18 k0_pay11 (k0_pay13 v) (k0_pay16 v) (k0_pay17 v) (Scalar.ofBits .f32 0x358637BD#32))
    (k0_pay19 (k0_pay9 v) k0_pay11) (k0_pay20 (k0_pay9 v)) (k0_pay22 (k0_pay9 v) k0_pay11) (k0_pay23 (k0_pay9 v) k0_pay11)

theorem fq_at (v : FVec Ideal S512x1024 .f32) (g : FVec Ideal S1x512 .f32) (r l : Fin 512) :
    fqOut v g (ix3 0 r l) = heads (fun q => v (ix2 r ⟨q.val, by omega⟩)) (g (ix2 0 l)) l := by
  refine Eq.trans ?_ (heads_eq (fun q => v (ix2 r ⟨q.val, by omega⟩)) (g (ix2 0 l)) l)
  unfold fqOut k0_pay24 k0_pay23 k0_pay22 k0_pay21 k0_pay20 k0_pay19 k0_pay18 k0_pay17 k0_pay16 k0_pay15 k0_pay14 k0_pay13 k0_pay12 k0_pay9 pair
  pointwise [fq_mask, fq_gain]

/-! The first keys. -/

theorem fk_mask (r : Fin 512) (l : Fin 128) : k0_pay27 (ix2 r l) = BitVec.ofBool (decide (l.val < 64)) := by
  unfold k0_pay27
  pointwise
  revert l
  decide +kernel

theorem fk_gain (g : FVec Ideal S1x512 .f32) (l : Fin 512) : k0_pay26 g (ix2 0 l) = g (ix2 0 l) := by
  unfold k0_pay26
  pointwise

/-- What the block's store takes. -/
abbrev fkOut (v : FVec Ideal S512x1024 .f32) (g : FVec Ideal S1x512 .f32) : FVec Ideal S1x512x512 .bf16 :=
  k0_pay40 (k0_pay25 v) (k0_pay26 g) k0_pay27 (k0_pay33 k0_pay27 (k0_pay28 v) (k0_pay31 v) (k0_pay32 v) (Scalar.ofBits .f32 0x3C800000#32))
    (k0_pay34 (k0_pay25 v) k0_pay27) (k0_pay35 (k0_pay25 v)) (k0_pay38 (k0_pay25 v) k0_pay27) (k0_pay39 (k0_pay25 v) k0_pay27) (Scalar.ofBits .f32 0x358637BD#32)

theorem fk_at (v : FVec Ideal S512x1024 .f32) (g : FVec Ideal S1x512 .f32) (r l : Fin 512) :
    fkOut v g (ix3 0 r l) = heads (fun q => v (ix2 r ⟨512 + q.val, by omega⟩)) (g (ix2 0 l)) l := by
  refine Eq.trans ?_ (heads_eq (fun q => v (ix2 r ⟨512 + q.val, by omega⟩)) (g (ix2 0 l)) l)
  unfold fkOut k0_pay40 k0_pay39 k0_pay38 k0_pay37 k0_pay36 k0_pay35 k0_pay34 k0_pay33 k0_pay32 k0_pay31 k0_pay30 k0_pay29 k0_pay28 k0_pay25 pair
  pointwise [fk_mask, fk_gain]

/-! The second queries. -/

theorem sq_mask (r : Fin 512) (l : Fin 128) : k0_pay43 (ix2 r l) = BitVec.ofBool (decide (l.val < 64)) := by
  unfold k0_pay43
  pointwise
  revert l
  decide +kernel

theorem sq_gain (g : FVec Ideal S1x512 .f32) (l : Fin 512) : k0_pay42 g (ix2 0 l) = g (ix2 0 l) := by
  unfold k0_pay42
  pointwise

/-- What the block's store takes. -/
abbrev sqOut (v : FVec Ideal S512x640 .f32) (g : FVec Ideal S1x512 .f32) : FVec Ideal S1x512x512 .bf16 :=
  k0_pay57 (k0_pay42 g) k0_pay43 (k0_pay44 (k0_pay41 v)) (k0_pay50 k0_pay43 (k0_pay45 (k0_pay41 v)) (k0_pay48 (k0_pay41 v)) (k0_pay49 (k0_pay41 v)) (Scalar.ofBits .f32 0x3C800000#32))
    (k0_pay51 (k0_pay41 v) k0_pay43) (k0_pay52 (k0_pay41 v)) (k0_pay55 (k0_pay41 v) k0_pay43) (k0_pay56 (k0_pay41 v) k0_pay43) (Scalar.ofBits .f32 0x358637BD#32)

theorem sq_at (v : FVec Ideal S512x640 .f32) (g : FVec Ideal S1x512 .f32) (r l : Fin 512) :
    sqOut v g (ix3 0 r l) = heads (fun q => v (ix2 r ⟨q.val, by omega⟩)) (g (ix2 0 l)) l := by
  refine Eq.trans ?_ (heads_eq (fun q => v (ix2 r ⟨q.val, by omega⟩)) (g (ix2 0 l)) l)
  unfold sqOut k0_pay57 k0_pay56 k0_pay55 k0_pay54 k0_pay53 k0_pay52 k0_pay51 k0_pay50 k0_pay49 k0_pay48 k0_pay47 k0_pay46 k0_pay45 k0_pay44 k0_pay41 pair
  pointwise [sq_mask, sq_gain]

/-! The second keys. -/

theorem sk_mask (r : Fin 512) (l : Fin 128) : k0_pay60 (ix2 r l) = BitVec.ofBool (decide (l.val < 64)) := by
  unfold k0_pay60
  pointwise
  revert l
  decide +kernel

abbrev skOut (v : FVec Ideal S512x640 .f32) (g : FVec Ideal S1x128 .f32) : FVec Ideal S1x512x128 .bf16 :=
  k0_pay65 (k0_pay58 v) (k0_pay59 g) k0_pay60 (k0_pay63 v) (k0_pay64 v)

theorem sk_at (v : FVec Ideal S512x640 .f32) (g : FVec Ideal S1x128 .f32) (r : Fin 512) (l : Fin 128) :
    skOut v g (ix3 0 r l) = pair (fun k => v (ix2 r ⟨512 + k.val, by omega⟩)) l * g (ix2 0 l) := by
  unfold skOut k0_pay65 k0_pay64 k0_pay63 k0_pay62 k0_pay61 k0_pay59 k0_pay58 pair
  pointwise [sk_mask]

/-! The values, transposed, with their row of ones. -/

theorem ones_at (d : Fin 64) (r : Fin 512) : k0_pay66 (F := Ideal) (ix2 d r) = if d.val = 0 then 1 else 0 := by
  unfold k0_pay66
  pointwise
  revert d
  have h : ∀ d : Fin 64, IntOp.cmpi CmpIPredicate.eq (BitVec.ofNat 32 d.val) 0#32 = BitVec.ofBool (decide (d.val = 0)) := by decide +kernel
  intro d
  rw [h d]
  pointwise

theorem fv_tile0 (v : FVec Ideal S512x512 .f32) (d : Fin 128) (r : Fin 512) :
    k0_pay67 v (ix5 0 0 0 d r) = withOnes (fun d => v (ix2 ⟨d.val, by omega⟩ r)) d := by
  unfold k0_pay67
  pointwise [ones_at]

theorem fv_tile1 (v : FVec Ideal S512x512 .f32) (d : Fin 128) (r : Fin 512) :
    k0_pay68 v (ix5 0 0 0 d r) = withOnes (fun d => v (ix2 ⟨64 + d.val, by omega⟩ r)) d := by
  unfold k0_pay68
  pointwise [ones_at]

theorem fv_tile2 (v : FVec Ideal S512x512 .f32) (d : Fin 128) (r : Fin 512) :
    k0_pay70 (k0_pay69 v) (ix5 0 0 0 d r) = withOnes (fun d => v (ix2 ⟨128 + d.val, by omega⟩ r)) d := by
  unfold k0_pay70 k0_pay69
  pointwise [ones_at]

theorem fv_tile3 (v : FVec Ideal S512x512 .f32) (d : Fin 128) (r : Fin 512) :
    k0_pay71 v (k0_pay66 (F := Ideal)) (ix5 0 0 0 d r) = withOnes (fun d => v (ix2 ⟨192 + d.val, by omega⟩ r)) d := by
  unfold k0_pay71
  pointwise [ones_at]

theorem fv_tile4 (v : FVec Ideal S512x512 .f32) (d : Fin 128) (r : Fin 512) :
    k0_pay72 v (k0_pay66 (F := Ideal)) (ix5 0 0 0 d r) = withOnes (fun d => v (ix2 ⟨256 + d.val, by omega⟩ r)) d := by
  unfold k0_pay72
  pointwise [ones_at]

theorem fv_tile5 (v : FVec Ideal S512x512 .f32) (d : Fin 128) (r : Fin 512) :
    k0_pay73 v (k0_pay66 (F := Ideal)) (ix5 0 0 0 d r) = withOnes (fun d => v (ix2 ⟨320 + d.val, by omega⟩ r)) d := by
  unfold k0_pay73
  pointwise [ones_at]

theorem fv_tile6 (v : FVec Ideal S512x512 .f32) (d : Fin 128) (r : Fin 512) :
    k0_pay74 v (k0_pay66 (F := Ideal)) (ix5 0 0 0 d r) = withOnes (fun d => v (ix2 ⟨384 + d.val, by omega⟩ r)) d := by
  unfold k0_pay74
  pointwise [ones_at]

theorem fv_tile7 (v : FVec Ideal S512x512 .f32) (d : Fin 128) (r : Fin 512) :
    k0_pay76 (k0_pay75 v (k0_pay66 (F := Ideal))) (ix5 0 0 0 d r) = withOnes (fun d => v (ix2 ⟨448 + d.val, by omega⟩ r)) d := by
  unfold k0_pay76 k0_pay75
  pointwise [ones_at]

theorem sv_tile0 (v : FVec Ideal S128x512 .f32) (d r : Fin 128) :
    k0_pay78 v (k0_pay66 (F := Ideal)) (ix5 0 0 0 d r) = withOnes (fun d => v (ix2 ⟨d.val, by omega⟩ ⟨r.val, by omega⟩)) d := by
  unfold k0_pay78 k0_pay77
  pointwise [ones_at]

theorem sv_tile1 (v : FVec Ideal S128x512 .f32) (d r : Fin 128) :
    k0_pay79 v (k0_pay66 (F := Ideal)) (ix5 0 0 0 d r) = withOnes (fun d => v (ix2 ⟨d.val, by omega⟩ ⟨128 + r.val, by omega⟩)) d := by
  unfold k0_pay79 k0_pay77
  pointwise [ones_at]

theorem sv_tile2 (v : FVec Ideal S128x512 .f32) (d r : Fin 128) :
    k0_pay80 v (k0_pay66 (F := Ideal)) (ix5 0 0 0 d r) = withOnes (fun d => v (ix2 ⟨d.val, by omega⟩ ⟨256 + r.val, by omega⟩)) d := by
  unfold k0_pay80 k0_pay77
  pointwise [ones_at]

theorem sv_tile3 (v : FVec Ideal S128x512 .f32) (d r : Fin 128) :
    k0_pay81 v (k0_pay66 (F := Ideal)) (ix5 0 0 0 d r) = withOnes (fun d => v (ix2 ⟨d.val, by omega⟩ ⟨384 + r.val, by omega⟩)) d := by
  unfold k0_pay81 k0_pay77
  pointwise [ones_at]

theorem sv_tile4 (v : FVec Ideal S128x512 .f32) (d r : Fin 128) :
    k0_pay83 v (k0_pay66 (F := Ideal)) (ix5 0 0 0 d r) = withOnes (fun d => v (ix2 ⟨64 + d.val, by omega⟩ ⟨r.val, by omega⟩)) d := by
  unfold k0_pay83 k0_pay82
  pointwise [ones_at]

theorem sv_tile5 (v : FVec Ideal S128x512 .f32) (d r : Fin 128) :
    k0_pay85 (k0_pay84 v (k0_pay66 (F := Ideal))) (ix5 0 0 0 d r) = withOnes (fun d => v (ix2 ⟨64 + d.val, by omega⟩ ⟨128 + r.val, by omega⟩)) d := by
  unfold k0_pay85 k0_pay84 k0_pay82
  pointwise [ones_at]

theorem sv_tile6 (v : FVec Ideal S128x512 .f32) (d r : Fin 128) :
    k0_pay86 (k0_pay82 v (k0_pay66 (F := Ideal))) (ix5 0 0 0 d r) = withOnes (fun d => v (ix2 ⟨64 + d.val, by omega⟩ ⟨256 + r.val, by omega⟩)) d := by
  unfold k0_pay86 k0_pay82
  pointwise [ones_at]

theorem sv_tile7 (v : FVec Ideal S128x512 .f32) (d r : Fin 128) :
    k0_pay87 (k0_pay82 v (k0_pay66 (F := Ideal))) (ix5 0 0 0 d r) = withOnes (fun d => v (ix2 ⟨64 + d.val, by omega⟩ ⟨384 + r.val, by omega⟩)) d := by
  unfold k0_pay87 k0_pay82
  pointwise [ones_at]

section Projection

variable (x : Vec Ideal S1x512x1024 .f32) (g : Vec Ideal S1x1024 .f32)

theorem normed_at (r : Fin 512) (k : Fin 1024) :
    k0_pay3 x g (ix2 r k) = Cert.Mix.normed (fun k => x (ix3 0 r k)) (fun k => g (ix2 0 k)) k := by
  unfold k0_pay3 Cert.Mix.normed
  pointwise

theorem proj_at (w : Vec Ideal S1024x1024 .bf16) (r : Fin 512) (q : Fin 1024) :
    k0_pay4 x g w (ix2 r q) = proj (fun k => x (ix3 0 r k)) (fun k => g (ix2 0 k)) (fun k => w (ix2 k q)) := by
  unfold k0_pay4 proj
  pointwise [normed_at]

theorem projs_at (w : Vec Ideal S1024x640 .bf16) (r : Fin 512) (q : Fin 640) :
    k0_pay5 x g w (ix2 r q) = proj (fun k => x (ix3 0 r k)) (fun k => g (ix2 0 k)) (fun k => w (ix2 k q)) := by
  unfold k0_pay5 proj
  pointwise [normed_at]

theorem projvt_at (w : Vec Ideal S512x1024 .bf16) (r : Fin 512) (q : Fin 512) :
    k0_pay7 x g w (ix2 q r) = proj (fun k => x (ix3 0 r k)) (fun k => g (ix2 0 k)) (fun k => w (ix2 q k)) := by
  unfold k0_pay7 proj
  pointwise [normed_at]
  exact Finset.sum_congr rfl fun k _ => mul_comm _ _

theorem projsvt_at (w : Vec Ideal S128x1024 .bf16) (r : Fin 512) (q : Fin 128) :
    k0_pay6 x g w (ix2 q r) = proj (fun k => x (ix3 0 r k)) (fun k => g (ix2 0 k)) (fun k => w (ix2 q k)) := by
  unfold k0_pay6 proj
  pointwise [normed_at]
  exact Finset.sum_congr rfl fun k _ => mul_comm _ _

end Projection

end Cert.Kernel3Ideal.Work
-- ==== Proof.QkvKernel.lean ====
/- The projection call, one grid point: what the body leaves in each result block. -/
module

public import proofs.«01_k».proof.Proof.Gen.Kernel3Ideal.Value
public import proofs.«01_k».proof.Proof.QkvBlock
public import Idealize.ShloMosaic.Lib.Pipeline.ValueKit
public import Idealize.ShloMosaic.Lib.StableHlo.ReadAt
@[expose] public section
noncomputable section
namespace Cert.Kernel3Ideal.Work
open Cert.Kernel3Ideal Cert.Kernel3Ideal.Gen Cert.Qkv
open Idealize.ShloMosaic Idealize.ShloMosaic.TcCoe
variable (m : (ℓ : Loc nD τ sig) → Buf (Elt Ideal) ℓ)

theorem withOnes_congr {V V' : Fin 64 → EReal} {d d' : Fin 128} (hV : ∀ e, V e = V' e) (hd : d = d') : withOnes V d = withOnes V' d' := by
  obtain rfl : V = V' := funext hV
  obtain rfl := hd
  rfl

/-- The first values' block: head, column over ones, row. -/
abbrev fvBlock (v : FVec Ideal S512x512 .f32) : Vec Ideal S1x8x1x128x512 .bf16 := fun y =>
  withOnes (fun d => v (ix2 ⟨(y 1).val * 64 + d.val, by have h : (y 1).val < 8 := (y 1).isLt; omega⟩ (y 4))) (y 3)

theorem fv_piece (v : FVec Ideal S512x512 .f32) (o : Nat) (inb : ∀ a : Fin S1x8x1x128x512.rank, (![0, o, 0, 0, 0] : Fin 5 → Nat) a + S1x1x1x128x512.size a ≤ S1x8x1x128x512.size a) (ho : o < 8)
    (pay : FVec Ideal S1x1x1x128x512 .bf16)
    (hp : ∀ (d : Fin 128) (r : Fin 512), pay (ix5 0 0 0 d r) = withOnes (fun d => v (ix2 ⟨o * 64 + d.val, by omega⟩ r)) d)
    (x : S1x1x1x128x512.Idx) : pay x = fvBlock v ((Rect.unit (s := S1x8x1x128x512) ![0, o, 0, 0, 0] S1x1x1x128x512.size inb).emb x) := by
  have h1 : (x 1).val < 1 := (x 1).isLt
  have hx : x = ix5 0 0 0 (x 3) (x 4) := by
    refine (eq_ix5 x).trans ?_
    have e0 : x 0 = (0 : Fin 1) := Subsingleton.elim (α := Fin 1) _ _
    have e1 : x 1 = (0 : Fin 1) := Subsingleton.elim (α := Fin 1) _ _
    have e2 : x 2 = (0 : Fin 1) := Subsingleton.elim (α := Fin 1) _ _
    rw [e0, e1, e2]
    rfl
  refine (congrArg pay hx).trans ((hp (x 3) (x 4)).trans ?_)
  unfold fvBlock
  refine withOnes_congr (fun e => congrArg v ?_) ?_
  · refine congrArg₂ ix2 (Fin.ext ?_) (Fin.ext ?_)
    · show o * 64 + e.val = (o + 1 * (x 1).val) * 64 + e.val
      omega
    · show (x 4).val = 0 + 1 * (x 4).val
      omega
  · refine Fin.ext ?_
    show (x 3).val = 0 + 1 * (x 3).val
    omega

/-- The second values' block: head, block, column over ones, row. -/
abbrev svBlock (v : FVec Ideal S128x512 .f32) : Vec Ideal S1x2x4x128x128 .bf16 := fun y =>
  withOnes (fun d => v (ix2 ⟨(y 1).val * 64 + d.val, by have h : (y 1).val < 2 := (y 1).isLt; omega⟩
    ⟨(y 2).val * 128 + (y 4).val, by have h : (y 2).val < 4 := (y 2).isLt; have h' : (y 4).val < 128 := (y 4).isLt; omega⟩)) (y 3)

theorem sv_piece (v : FVec Ideal S128x512 .f32) (o n : Nat) (inb : ∀ a : Fin S1x2x4x128x128.rank, (![0, o, n, 0, 0] : Fin 5 → Nat) a + S1x1x1x128x128.size a ≤ S1x2x4x128x128.size a) (ho : o < 2) (hn : n < 4)
    (pay : FVec Ideal S1x1x1x128x128 .bf16)
    (hp : ∀ (d r : Fin 128), pay (ix5 0 0 0 d r) = withOnes (fun d => v (ix2 ⟨o * 64 + d.val, by omega⟩ ⟨n * 128 + r.val, by omega⟩)) d)
    (x : S1x1x1x128x128.Idx) : pay x = svBlock v ((Rect.unit (s := S1x2x4x128x128) ![0, o, n, 0, 0] S1x1x1x128x128.size inb).emb x) := by
  have h1 : (x 1).val < 1 := (x 1).isLt
  have h2 : (x 2).val < 1 := (x 2).isLt
  have hx : x = ix5 0 0 0 (x 3) (x 4) := by
    refine (eq_ix5 x).trans ?_
    have e0 : x 0 = (0 : Fin 1) := Subsingleton.elim (α := Fin 1) _ _
    have e1 : x 1 = (0 : Fin 1) := Subsingleton.elim (α := Fin 1) _ _
    have e2 : x 2 = (0 : Fin 1) := Subsingleton.elim (α := Fin 1) _ _
    rw [e0, e1, e2]
    rfl
  refine (congrArg pay hx).trans ((hp (x 3) (x 4)).trans ?_)
  unfold svBlock
  refine withOnes_congr (fun e => congrArg v ?_) ?_
  · refine congrArg₂ ix2 (Fin.ext ?_) (Fin.ext ?_)
    · show o * 64 + e.val = (o + 1 * (x 1).val) * 64 + e.val
      omega
    · show n * 128 + (x 4).val = (n + 1 * (x 2).val) * 128 + (0 + 1 * (x 4).val)
      omega
  · refine Fin.ext ?_
    show (x 3).val = 0 + 1 * (x 3).val
    omega

/-- The block's stores. -/
abbrev fvStores (v : FVec Ideal S512x512 .f32) : List (View.Piece (Elt Ideal) S1x8x1x128x512 .bf16) :=
    [⟨Rect.unit (s := S1x8x1x128x512) ![0, 7, 0, 0, 0] S1x1x1x128x512.size inb_S1x8x1x128x512_S1x1x1x128x512_0_7_0_0_0, k0_pay76 (k0_pay75 v (k0_pay66 (F := Ideal)))⟩,
      ⟨Rect.unit (s := S1x8x1x128x512) ![0, 6, 0, 0, 0] S1x1x1x128x512.size inb_S1x8x1x128x512_S1x1x1x128x512_0_6_0_0_0, k0_pay74 v (k0_pay66 (F := Ideal))⟩,
      ⟨Rect.unit (s := S1x8x1x128x512) ![0, 5, 0, 0, 0] S1x1x1x128x512.size inb_S1x8x1x128x512_S1x1x1x128x512_0_5_0_0_0, k0_pay73 v (k0_pay66 (F := Ideal))⟩,
      ⟨Rect.unit (s := S1x8x1x128x512) ![0, 4, 0, 0, 0] S1x1x1x128x512.size inb_S1x8x1x128x512_S1x1x1x128x512_0_4_0_0_0, k0_pay72 v (k0_pay66 (F := Ideal))⟩,
      ⟨Rect.unit (s := S1x8x1x128x512) ![0, 3, 0, 0, 0] S1x1x1x128x512.size inb_S1x8x1x128x512_S1x1x1x128x512_0_3_0_0_0, k0_pay71 v (k0_pay66 (F := Ideal))⟩,
      ⟨Rect.unit (s := S1x8x1x128x512) ![0, 2, 0, 0, 0] S1x1x1x128x512.size inb_S1x8x1x128x512_S1x1x1x128x512_0_2_0_0_0, k0_pay70 (k0_pay69 v)⟩,
      ⟨Rect.unit (s := S1x8x1x128x512) ![0, 1, 0, 0, 0] S1x1x1x128x512.size inb_S1x8x1x128x512_S1x1x1x128x512_0_1_0_0_0, k0_pay68 v⟩,
      ⟨Rect.unit (s := S1x8x1x128x512) ![0, 0, 0, 0, 0] S1x1x1x128x512.size inb_S1x8x1x128x512_S1x1x1x128x512_0_0_0_0_0, k0_pay67 v⟩]

theorem fv_stores (v : FVec Ideal S512x512 .f32) (y : S1x8x1x128x512.Idx) : View.canon (fvStores v) y = fvBlock v y := by
  refine View.canon_apply_of_pieces (fvBlock v) (fvStores v) ?_ y ?_
  ·     exact List.forall_mem_cons.2 ⟨fv_piece v 7 inb_S1x8x1x128x512_S1x1x1x128x512_0_7_0_0_0 (by decide) _ fun d r => (fv_tile7 v d r).trans (withOnes_congr (fun e => congrArg v (congrArg₂ ix2 (Fin.ext (by show _ = 7 * 64 + e.val; simp)) rfl)) rfl),
    List.forall_mem_cons.2 ⟨fv_piece v 6 inb_S1x8x1x128x512_S1x1x1x128x512_0_6_0_0_0 (by decide) _ fun d r => (fv_tile6 v d r).trans (withOnes_congr (fun e => congrArg v (congrArg₂ ix2 (Fin.ext (by show _ = 6 * 64 + e.val; simp)) rfl)) rfl),
    List.forall_mem_cons.2 ⟨fv_piece v 5 inb_S1x8x1x128x512_S1x1x1x128x512_0_5_0_0_0 (by decide) _ fun d r => (fv_tile5 v d r).trans (withOnes_congr (fun e => congrArg v (congrArg₂ ix2 (Fin.ext (by show _ = 5 * 64 + e.val; simp)) rfl)) rfl),
    List.forall_mem_cons.2 ⟨fv_piece v 4 inb_S1x8x1x128x512_S1x1x1x128x512_0_4_0_0_0 (by decide) _ fun d r => (fv_tile4 v d r).trans (withOnes_congr (fun e => congrArg v (congrArg₂ ix2 (Fin.ext (by show _ = 4 * 64 + e.val; simp)) rfl)) rfl),
    List.forall_mem_cons.2 ⟨fv_piece v 3 inb_S1x8x1x128x512_S1x1x1x128x512_0_3_0_0_0 (by decide) _ fun d r => (fv_tile3 v d r).trans (withOnes_congr (fun e => congrArg v (congrArg₂ ix2 (Fin.ext (by show _ = 3 * 64 + e.val; simp)) rfl)) rfl),
    List.forall_mem_cons.2 ⟨fv_piece v 2 inb_S1x8x1x128x512_S1x1x1x128x512_0_2_0_0_0 (by decide) _ fun d r => (fv_tile2 v d r).trans (withOnes_congr (fun e => congrArg v (congrArg₂ ix2 (Fin.ext (by show _ = 2 * 64 + e.val; simp)) rfl)) rfl),
    List.forall_mem_cons.2 ⟨fv_piece v 1 inb_S1x8x1x128x512_S1x1x1x128x512_0_1_0_0_0 (by decide) _ fun d r => (fv_tile1 v d r).trans (withOnes_congr (fun e => congrArg v (congrArg₂ ix2 (Fin.ext (by show _ = 1 * 64 + e.val; simp)) rfl)) rfl),
    List.forall_mem_cons.2 ⟨fv_piece v 0 inb_S1x8x1x128x512_S1x1x1x128x512_0_0_0_0_0 (by decide) _ fun d r => (fv_tile0 v d r).trans (withOnes_congr (fun e => congrArg v (congrArg₂ ix2 (Fin.ext (by show _ = 0 * 64 + e.val; simp)) rfl)) rfl),
    fun p hp => absurd hp List.not_mem_nil⟩⟩⟩⟩⟩⟩⟩⟩
  have e0 : (y 0).val < 1 := (y 0).isLt
  have e2 : (y 2).val < 1 := (y 2).isLt
  have e3 : (y 3).val < 128 := (y 3).isLt
  have e4 : (y 4).val < 512 := (y 4).isLt
  have e1 : (y 1).val < 8 := (y 1).isLt
  by_cases c0 : (y 1).val = 0
  · refine ⟨⟨Rect.unit (s := S1x8x1x128x512) ![0, 0, 0, 0, 0] S1x1x1x128x512.size inb_S1x8x1x128x512_S1x1x1x128x512_0_0_0_0_0, k0_pay67 v⟩, List.mem_cons_of_mem _ (List.mem_cons_of_mem _ (List.mem_cons_of_mem _ (List.mem_cons_of_mem _ (List.mem_cons_of_mem _ (List.mem_cons_of_mem _ (List.mem_cons_of_mem _ (List.mem_cons_self))))))), (Rect.mem_set_unit.2 fun a => ?_ : y ∈ (Rect.unit (s := S1x8x1x128x512) ![0, 0, 0, 0, 0] S1x1x1x128x512.size inb_S1x8x1x128x512_S1x1x1x128x512_0_0_0_0_0).set)⟩
    match a with
      | ⟨0, _⟩ => exact ⟨by show 0 ≤ (y 0).val; omega, by show (y 0).val < 0 + 1; omega⟩
      | ⟨1, _⟩ => exact ⟨by show 0 ≤ (y 1).val; omega, by show (y 1).val < 0 + 1; omega⟩
      | ⟨2, _⟩ => exact ⟨by show 0 ≤ (y 2).val; omega, by show (y 2).val < 0 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 512; omega⟩
  by_cases c1 : (y 1).val = 1
  · refine ⟨⟨Rect.unit (s := S1x8x1x128x512) ![0, 1, 0, 0, 0] S1x1x1x128x512.size inb_S1x8x1x128x512_S1x1x1x128x512_0_1_0_0_0, k0_pay68 v⟩, List.mem_cons_of_mem _ (List.mem_cons_of_mem _ (List.mem_cons_of_mem _ (List.mem_cons_of_mem _ (List.mem_cons_of_mem _ (List.mem_cons_of_mem _ (List.mem_cons_self)))))), (Rect.mem_set_unit.2 fun a => ?_ : y ∈ (Rect.unit (s := S1x8x1x128x512) ![0, 1, 0, 0, 0] S1x1x1x128x512.size inb_S1x8x1x128x512_S1x1x1x128x512_0_1_0_0_0).set)⟩
    match a with
      | ⟨0, _⟩ => exact ⟨by show 0 ≤ (y 0).val; omega, by show (y 0).val < 0 + 1; omega⟩
      | ⟨1, _⟩ => exact ⟨by show 1 ≤ (y 1).val; omega, by show (y 1).val < 1 + 1; omega⟩
      | ⟨2, _⟩ => exact ⟨by show 0 ≤ (y 2).val; omega, by show (y 2).val < 0 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 512; omega⟩
  by_cases c2 : (y 1).val = 2
  · refine ⟨⟨Rect.unit (s := S1x8x1x128x512) ![0, 2, 0, 0, 0] S1x1x1x128x512.size inb_S1x8x1x128x512_S1x1x1x128x512_0_2_0_0_0, k0_pay70 (k0_pay69 v)⟩, List.mem_cons_of_mem _ (List.mem_cons_of_mem _ (List.mem_cons_of_mem _ (List.mem_cons_of_mem _ (List.mem_cons_of_mem _ (List.mem_cons_self))))), (Rect.mem_set_unit.2 fun a => ?_ : y ∈ (Rect.unit (s := S1x8x1x128x512) ![0, 2, 0, 0, 0] S1x1x1x128x512.size inb_S1x8x1x128x512_S1x1x1x128x512_0_2_0_0_0).set)⟩
    match a with
      | ⟨0, _⟩ => exact ⟨by show 0 ≤ (y 0).val; omega, by show (y 0).val < 0 + 1; omega⟩
      | ⟨1, _⟩ => exact ⟨by show 2 ≤ (y 1).val; omega, by show (y 1).val < 2 + 1; omega⟩
      | ⟨2, _⟩ => exact ⟨by show 0 ≤ (y 2).val; omega, by show (y 2).val < 0 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 512; omega⟩
  by_cases c3 : (y 1).val = 3
  · refine ⟨⟨Rect.unit (s := S1x8x1x128x512) ![0, 3, 0, 0, 0] S1x1x1x128x512.size inb_S1x8x1x128x512_S1x1x1x128x512_0_3_0_0_0, k0_pay71 v (k0_pay66 (F := Ideal))⟩, List.mem_cons_of_mem _ (List.mem_cons_of_mem _ (List.mem_cons_of_mem _ (List.mem_cons_of_mem _ (List.mem_cons_self)))), (Rect.mem_set_unit.2 fun a => ?_ : y ∈ (Rect.unit (s := S1x8x1x128x512) ![0, 3, 0, 0, 0] S1x1x1x128x512.size inb_S1x8x1x128x512_S1x1x1x128x512_0_3_0_0_0).set)⟩
    match a with
      | ⟨0, _⟩ => exact ⟨by show 0 ≤ (y 0).val; omega, by show (y 0).val < 0 + 1; omega⟩
      | ⟨1, _⟩ => exact ⟨by show 3 ≤ (y 1).val; omega, by show (y 1).val < 3 + 1; omega⟩
      | ⟨2, _⟩ => exact ⟨by show 0 ≤ (y 2).val; omega, by show (y 2).val < 0 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 512; omega⟩
  by_cases c4 : (y 1).val = 4
  · refine ⟨⟨Rect.unit (s := S1x8x1x128x512) ![0, 4, 0, 0, 0] S1x1x1x128x512.size inb_S1x8x1x128x512_S1x1x1x128x512_0_4_0_0_0, k0_pay72 v (k0_pay66 (F := Ideal))⟩, List.mem_cons_of_mem _ (List.mem_cons_of_mem _ (List.mem_cons_of_mem _ (List.mem_cons_self))), (Rect.mem_set_unit.2 fun a => ?_ : y ∈ (Rect.unit (s := S1x8x1x128x512) ![0, 4, 0, 0, 0] S1x1x1x128x512.size inb_S1x8x1x128x512_S1x1x1x128x512_0_4_0_0_0).set)⟩
    match a with
      | ⟨0, _⟩ => exact ⟨by show 0 ≤ (y 0).val; omega, by show (y 0).val < 0 + 1; omega⟩
      | ⟨1, _⟩ => exact ⟨by show 4 ≤ (y 1).val; omega, by show (y 1).val < 4 + 1; omega⟩
      | ⟨2, _⟩ => exact ⟨by show 0 ≤ (y 2).val; omega, by show (y 2).val < 0 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 512; omega⟩
  by_cases c5 : (y 1).val = 5
  · refine ⟨⟨Rect.unit (s := S1x8x1x128x512) ![0, 5, 0, 0, 0] S1x1x1x128x512.size inb_S1x8x1x128x512_S1x1x1x128x512_0_5_0_0_0, k0_pay73 v (k0_pay66 (F := Ideal))⟩, List.mem_cons_of_mem _ (List.mem_cons_of_mem _ (List.mem_cons_self)), (Rect.mem_set_unit.2 fun a => ?_ : y ∈ (Rect.unit (s := S1x8x1x128x512) ![0, 5, 0, 0, 0] S1x1x1x128x512.size inb_S1x8x1x128x512_S1x1x1x128x512_0_5_0_0_0).set)⟩
    match a with
      | ⟨0, _⟩ => exact ⟨by show 0 ≤ (y 0).val; omega, by show (y 0).val < 0 + 1; omega⟩
      | ⟨1, _⟩ => exact ⟨by show 5 ≤ (y 1).val; omega, by show (y 1).val < 5 + 1; omega⟩
      | ⟨2, _⟩ => exact ⟨by show 0 ≤ (y 2).val; omega, by show (y 2).val < 0 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 512; omega⟩
  by_cases c6 : (y 1).val = 6
  · refine ⟨⟨Rect.unit (s := S1x8x1x128x512) ![0, 6, 0, 0, 0] S1x1x1x128x512.size inb_S1x8x1x128x512_S1x1x1x128x512_0_6_0_0_0, k0_pay74 v (k0_pay66 (F := Ideal))⟩, List.mem_cons_of_mem _ (List.mem_cons_self), (Rect.mem_set_unit.2 fun a => ?_ : y ∈ (Rect.unit (s := S1x8x1x128x512) ![0, 6, 0, 0, 0] S1x1x1x128x512.size inb_S1x8x1x128x512_S1x1x1x128x512_0_6_0_0_0).set)⟩
    match a with
      | ⟨0, _⟩ => exact ⟨by show 0 ≤ (y 0).val; omega, by show (y 0).val < 0 + 1; omega⟩
      | ⟨1, _⟩ => exact ⟨by show 6 ≤ (y 1).val; omega, by show (y 1).val < 6 + 1; omega⟩
      | ⟨2, _⟩ => exact ⟨by show 0 ≤ (y 2).val; omega, by show (y 2).val < 0 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 512; omega⟩
  by_cases c7 : (y 1).val = 7
  · refine ⟨⟨Rect.unit (s := S1x8x1x128x512) ![0, 7, 0, 0, 0] S1x1x1x128x512.size inb_S1x8x1x128x512_S1x1x1x128x512_0_7_0_0_0, k0_pay76 (k0_pay75 v (k0_pay66 (F := Ideal)))⟩, List.mem_cons_self, (Rect.mem_set_unit.2 fun a => ?_ : y ∈ (Rect.unit (s := S1x8x1x128x512) ![0, 7, 0, 0, 0] S1x1x1x128x512.size inb_S1x8x1x128x512_S1x1x1x128x512_0_7_0_0_0).set)⟩
    match a with
      | ⟨0, _⟩ => exact ⟨by show 0 ≤ (y 0).val; omega, by show (y 0).val < 0 + 1; omega⟩
      | ⟨1, _⟩ => exact ⟨by show 7 ≤ (y 1).val; omega, by show (y 1).val < 7 + 1; omega⟩
      | ⟨2, _⟩ => exact ⟨by show 0 ≤ (y 2).val; omega, by show (y 2).val < 0 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 512; omega⟩
  omega

/-- The block's stores. -/
abbrev svStores (v : FVec Ideal S128x512 .f32) : List (View.Piece (Elt Ideal) S1x2x4x128x128 .bf16) :=
    [⟨Rect.unit (s := S1x2x4x128x128) ![0, 1, 3, 0, 0] S1x1x1x128x128.size inb_S1x2x4x128x128_S1x1x1x128x128_0_1_3_0_0, k0_pay87 (k0_pay82 v (k0_pay66 (F := Ideal)))⟩,
      ⟨Rect.unit (s := S1x2x4x128x128) ![0, 1, 2, 0, 0] S1x1x1x128x128.size inb_S1x2x4x128x128_S1x1x1x128x128_0_1_2_0_0, k0_pay86 (k0_pay82 v (k0_pay66 (F := Ideal)))⟩,
      ⟨Rect.unit (s := S1x2x4x128x128) ![0, 1, 1, 0, 0] S1x1x1x128x128.size inb_S1x2x4x128x128_S1x1x1x128x128_0_1_1_0_0, k0_pay85 (k0_pay84 v (k0_pay66 (F := Ideal)))⟩,
      ⟨Rect.unit (s := S1x2x4x128x128) ![0, 1, 0, 0, 0] S1x1x1x128x128.size inb_S1x2x4x128x128_S1x1x1x128x128_0_1_0_0_0, k0_pay83 v (k0_pay66 (F := Ideal))⟩,
      ⟨Rect.unit (s := S1x2x4x128x128) ![0, 0, 3, 0, 0] S1x1x1x128x128.size inb_S1x2x4x128x128_S1x1x1x128x128_0_0_3_0_0, k0_pay81 v (k0_pay66 (F := Ideal))⟩,
      ⟨Rect.unit (s := S1x2x4x128x128) ![0, 0, 2, 0, 0] S1x1x1x128x128.size inb_S1x2x4x128x128_S1x1x1x128x128_0_0_2_0_0, k0_pay80 v (k0_pay66 (F := Ideal))⟩,
      ⟨Rect.unit (s := S1x2x4x128x128) ![0, 0, 1, 0, 0] S1x1x1x128x128.size inb_S1x2x4x128x128_S1x1x1x128x128_0_0_1_0_0, k0_pay79 v (k0_pay66 (F := Ideal))⟩,
      ⟨Rect.unit (s := S1x2x4x128x128) ![0, 0, 0, 0, 0] S1x1x1x128x128.size inb_S1x2x4x128x128_S1x1x1x128x128_0_0_0_0_0, k0_pay78 v (k0_pay66 (F := Ideal))⟩]

theorem sv_stores (v : FVec Ideal S128x512 .f32) (y : S1x2x4x128x128.Idx) : View.canon (svStores v) y = svBlock v y := by
  refine View.canon_apply_of_pieces (svBlock v) (svStores v) ?_ y ?_
  ·     exact List.forall_mem_cons.2 ⟨sv_piece v 1 3 inb_S1x2x4x128x128_S1x1x1x128x128_0_1_3_0_0 (by decide) (by decide) _ fun d r => (sv_tile7 v d r).trans (withOnes_congr (fun e => congrArg v (congrArg₂ ix2 (Fin.ext (by show _ = 1 * 64 + e.val; simp)) (Fin.ext (by show _ = 3 * 128 + r.val; simp)))) rfl),
    List.forall_mem_cons.2 ⟨sv_piece v 1 2 inb_S1x2x4x128x128_S1x1x1x128x128_0_1_2_0_0 (by decide) (by decide) _ fun d r => (sv_tile6 v d r).trans (withOnes_congr (fun e => congrArg v (congrArg₂ ix2 (Fin.ext (by show _ = 1 * 64 + e.val; simp)) (Fin.ext (by show _ = 2 * 128 + r.val; simp)))) rfl),
    List.forall_mem_cons.2 ⟨sv_piece v 1 1 inb_S1x2x4x128x128_S1x1x1x128x128_0_1_1_0_0 (by decide) (by decide) _ fun d r => (sv_tile5 v d r).trans (withOnes_congr (fun e => congrArg v (congrArg₂ ix2 (Fin.ext (by show _ = 1 * 64 + e.val; simp)) (Fin.ext (by show _ = 1 * 128 + r.val; simp)))) rfl),
    List.forall_mem_cons.2 ⟨sv_piece v 1 0 inb_S1x2x4x128x128_S1x1x1x128x128_0_1_0_0_0 (by decide) (by decide) _ fun d r => (sv_tile4 v d r).trans (withOnes_congr (fun e => congrArg v (congrArg₂ ix2 (Fin.ext (by show _ = 1 * 64 + e.val; simp)) (Fin.ext (by show _ = 0 * 128 + r.val; simp)))) rfl),
    List.forall_mem_cons.2 ⟨sv_piece v 0 3 inb_S1x2x4x128x128_S1x1x1x128x128_0_0_3_0_0 (by decide) (by decide) _ fun d r => (sv_tile3 v d r).trans (withOnes_congr (fun e => congrArg v (congrArg₂ ix2 (Fin.ext (by show _ = 0 * 64 + e.val; simp)) (Fin.ext (by show _ = 3 * 128 + r.val; simp)))) rfl),
    List.forall_mem_cons.2 ⟨sv_piece v 0 2 inb_S1x2x4x128x128_S1x1x1x128x128_0_0_2_0_0 (by decide) (by decide) _ fun d r => (sv_tile2 v d r).trans (withOnes_congr (fun e => congrArg v (congrArg₂ ix2 (Fin.ext (by show _ = 0 * 64 + e.val; simp)) (Fin.ext (by show _ = 2 * 128 + r.val; simp)))) rfl),
    List.forall_mem_cons.2 ⟨sv_piece v 0 1 inb_S1x2x4x128x128_S1x1x1x128x128_0_0_1_0_0 (by decide) (by decide) _ fun d r => (sv_tile1 v d r).trans (withOnes_congr (fun e => congrArg v (congrArg₂ ix2 (Fin.ext (by show _ = 0 * 64 + e.val; simp)) (Fin.ext (by show _ = 1 * 128 + r.val; simp)))) rfl),
    List.forall_mem_cons.2 ⟨sv_piece v 0 0 inb_S1x2x4x128x128_S1x1x1x128x128_0_0_0_0_0 (by decide) (by decide) _ fun d r => (sv_tile0 v d r).trans (withOnes_congr (fun e => congrArg v (congrArg₂ ix2 (Fin.ext (by show _ = 0 * 64 + e.val; simp)) (Fin.ext (by show _ = 0 * 128 + r.val; simp)))) rfl),
    fun p hp => absurd hp List.not_mem_nil⟩⟩⟩⟩⟩⟩⟩⟩
  have e0 : (y 0).val < 1 := (y 0).isLt
  have e1 : (y 1).val < 2 := (y 1).isLt
  have e2 : (y 2).val < 4 := (y 2).isLt
  have e3 : (y 3).val < 128 := (y 3).isLt
  have e4 : (y 4).val < 128 := (y 4).isLt
  by_cases c0 : (y 1).val = 0 ∧ (y 2).val = 0
  · refine ⟨⟨Rect.unit (s := S1x2x4x128x128) ![0, 0, 0, 0, 0] S1x1x1x128x128.size inb_S1x2x4x128x128_S1x1x1x128x128_0_0_0_0_0, k0_pay78 v (k0_pay66 (F := Ideal))⟩, List.mem_cons_of_mem _ (List.mem_cons_of_mem _ (List.mem_cons_of_mem _ (List.mem_cons_of_mem _ (List.mem_cons_of_mem _ (List.mem_cons_of_mem _ (List.mem_cons_of_mem _ (List.mem_cons_self))))))), (Rect.mem_set_unit.2 fun a => ?_ : y ∈ (Rect.unit (s := S1x2x4x128x128) ![0, 0, 0, 0, 0] S1x1x1x128x128.size inb_S1x2x4x128x128_S1x1x1x128x128_0_0_0_0_0).set)⟩
    match a with
      | ⟨0, _⟩ => exact ⟨by show 0 ≤ (y 0).val; omega, by show (y 0).val < 0 + 1; omega⟩
      | ⟨1, _⟩ => exact ⟨by show 0 ≤ (y 1).val; omega, by show (y 1).val < 0 + 1; omega⟩
      | ⟨2, _⟩ => exact ⟨by show 0 ≤ (y 2).val; omega, by show (y 2).val < 0 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 128; omega⟩
  by_cases c1 : (y 1).val = 0 ∧ (y 2).val = 1
  · refine ⟨⟨Rect.unit (s := S1x2x4x128x128) ![0, 0, 1, 0, 0] S1x1x1x128x128.size inb_S1x2x4x128x128_S1x1x1x128x128_0_0_1_0_0, k0_pay79 v (k0_pay66 (F := Ideal))⟩, List.mem_cons_of_mem _ (List.mem_cons_of_mem _ (List.mem_cons_of_mem _ (List.mem_cons_of_mem _ (List.mem_cons_of_mem _ (List.mem_cons_of_mem _ (List.mem_cons_self)))))), (Rect.mem_set_unit.2 fun a => ?_ : y ∈ (Rect.unit (s := S1x2x4x128x128) ![0, 0, 1, 0, 0] S1x1x1x128x128.size inb_S1x2x4x128x128_S1x1x1x128x128_0_0_1_0_0).set)⟩
    match a with
      | ⟨0, _⟩ => exact ⟨by show 0 ≤ (y 0).val; omega, by show (y 0).val < 0 + 1; omega⟩
      | ⟨1, _⟩ => exact ⟨by show 0 ≤ (y 1).val; omega, by show (y 1).val < 0 + 1; omega⟩
      | ⟨2, _⟩ => exact ⟨by show 1 ≤ (y 2).val; omega, by show (y 2).val < 1 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 128; omega⟩
  by_cases c2 : (y 1).val = 0 ∧ (y 2).val = 2
  · refine ⟨⟨Rect.unit (s := S1x2x4x128x128) ![0, 0, 2, 0, 0] S1x1x1x128x128.size inb_S1x2x4x128x128_S1x1x1x128x128_0_0_2_0_0, k0_pay80 v (k0_pay66 (F := Ideal))⟩, List.mem_cons_of_mem _ (List.mem_cons_of_mem _ (List.mem_cons_of_mem _ (List.mem_cons_of_mem _ (List.mem_cons_of_mem _ (List.mem_cons_self))))), (Rect.mem_set_unit.2 fun a => ?_ : y ∈ (Rect.unit (s := S1x2x4x128x128) ![0, 0, 2, 0, 0] S1x1x1x128x128.size inb_S1x2x4x128x128_S1x1x1x128x128_0_0_2_0_0).set)⟩
    match a with
      | ⟨0, _⟩ => exact ⟨by show 0 ≤ (y 0).val; omega, by show (y 0).val < 0 + 1; omega⟩
      | ⟨1, _⟩ => exact ⟨by show 0 ≤ (y 1).val; omega, by show (y 1).val < 0 + 1; omega⟩
      | ⟨2, _⟩ => exact ⟨by show 2 ≤ (y 2).val; omega, by show (y 2).val < 2 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 128; omega⟩
  by_cases c3 : (y 1).val = 0 ∧ (y 2).val = 3
  · refine ⟨⟨Rect.unit (s := S1x2x4x128x128) ![0, 0, 3, 0, 0] S1x1x1x128x128.size inb_S1x2x4x128x128_S1x1x1x128x128_0_0_3_0_0, k0_pay81 v (k0_pay66 (F := Ideal))⟩, List.mem_cons_of_mem _ (List.mem_cons_of_mem _ (List.mem_cons_of_mem _ (List.mem_cons_of_mem _ (List.mem_cons_self)))), (Rect.mem_set_unit.2 fun a => ?_ : y ∈ (Rect.unit (s := S1x2x4x128x128) ![0, 0, 3, 0, 0] S1x1x1x128x128.size inb_S1x2x4x128x128_S1x1x1x128x128_0_0_3_0_0).set)⟩
    match a with
      | ⟨0, _⟩ => exact ⟨by show 0 ≤ (y 0).val; omega, by show (y 0).val < 0 + 1; omega⟩
      | ⟨1, _⟩ => exact ⟨by show 0 ≤ (y 1).val; omega, by show (y 1).val < 0 + 1; omega⟩
      | ⟨2, _⟩ => exact ⟨by show 3 ≤ (y 2).val; omega, by show (y 2).val < 3 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 128; omega⟩
  by_cases c4 : (y 1).val = 1 ∧ (y 2).val = 0
  · refine ⟨⟨Rect.unit (s := S1x2x4x128x128) ![0, 1, 0, 0, 0] S1x1x1x128x128.size inb_S1x2x4x128x128_S1x1x1x128x128_0_1_0_0_0, k0_pay83 v (k0_pay66 (F := Ideal))⟩, List.mem_cons_of_mem _ (List.mem_cons_of_mem _ (List.mem_cons_of_mem _ (List.mem_cons_self))), (Rect.mem_set_unit.2 fun a => ?_ : y ∈ (Rect.unit (s := S1x2x4x128x128) ![0, 1, 0, 0, 0] S1x1x1x128x128.size inb_S1x2x4x128x128_S1x1x1x128x128_0_1_0_0_0).set)⟩
    match a with
      | ⟨0, _⟩ => exact ⟨by show 0 ≤ (y 0).val; omega, by show (y 0).val < 0 + 1; omega⟩
      | ⟨1, _⟩ => exact ⟨by show 1 ≤ (y 1).val; omega, by show (y 1).val < 1 + 1; omega⟩
      | ⟨2, _⟩ => exact ⟨by show 0 ≤ (y 2).val; omega, by show (y 2).val < 0 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 128; omega⟩
  by_cases c5 : (y 1).val = 1 ∧ (y 2).val = 1
  · refine ⟨⟨Rect.unit (s := S1x2x4x128x128) ![0, 1, 1, 0, 0] S1x1x1x128x128.size inb_S1x2x4x128x128_S1x1x1x128x128_0_1_1_0_0, k0_pay85 (k0_pay84 v (k0_pay66 (F := Ideal)))⟩, List.mem_cons_of_mem _ (List.mem_cons_of_mem _ (List.mem_cons_self)), (Rect.mem_set_unit.2 fun a => ?_ : y ∈ (Rect.unit (s := S1x2x4x128x128) ![0, 1, 1, 0, 0] S1x1x1x128x128.size inb_S1x2x4x128x128_S1x1x1x128x128_0_1_1_0_0).set)⟩
    match a with
      | ⟨0, _⟩ => exact ⟨by show 0 ≤ (y 0).val; omega, by show (y 0).val < 0 + 1; omega⟩
      | ⟨1, _⟩ => exact ⟨by show 1 ≤ (y 1).val; omega, by show (y 1).val < 1 + 1; omega⟩
      | ⟨2, _⟩ => exact ⟨by show 1 ≤ (y 2).val; omega, by show (y 2).val < 1 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 128; omega⟩
  by_cases c6 : (y 1).val = 1 ∧ (y 2).val = 2
  · refine ⟨⟨Rect.unit (s := S1x2x4x128x128) ![0, 1, 2, 0, 0] S1x1x1x128x128.size inb_S1x2x4x128x128_S1x1x1x128x128_0_1_2_0_0, k0_pay86 (k0_pay82 v (k0_pay66 (F := Ideal)))⟩, List.mem_cons_of_mem _ (List.mem_cons_self), (Rect.mem_set_unit.2 fun a => ?_ : y ∈ (Rect.unit (s := S1x2x4x128x128) ![0, 1, 2, 0, 0] S1x1x1x128x128.size inb_S1x2x4x128x128_S1x1x1x128x128_0_1_2_0_0).set)⟩
    match a with
      | ⟨0, _⟩ => exact ⟨by show 0 ≤ (y 0).val; omega, by show (y 0).val < 0 + 1; omega⟩
      | ⟨1, _⟩ => exact ⟨by show 1 ≤ (y 1).val; omega, by show (y 1).val < 1 + 1; omega⟩
      | ⟨2, _⟩ => exact ⟨by show 2 ≤ (y 2).val; omega, by show (y 2).val < 2 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 128; omega⟩
  by_cases c7 : (y 1).val = 1 ∧ (y 2).val = 3
  · refine ⟨⟨Rect.unit (s := S1x2x4x128x128) ![0, 1, 3, 0, 0] S1x1x1x128x128.size inb_S1x2x4x128x128_S1x1x1x128x128_0_1_3_0_0, k0_pay87 (k0_pay82 v (k0_pay66 (F := Ideal)))⟩, List.mem_cons_self, (Rect.mem_set_unit.2 fun a => ?_ : y ∈ (Rect.unit (s := S1x2x4x128x128) ![0, 1, 3, 0, 0] S1x1x1x128x128.size inb_S1x2x4x128x128_S1x1x1x128x128_0_1_3_0_0).set)⟩
    match a with
      | ⟨0, _⟩ => exact ⟨by show 0 ≤ (y 0).val; omega, by show (y 0).val < 0 + 1; omega⟩
      | ⟨1, _⟩ => exact ⟨by show 1 ≤ (y 1).val; omega, by show (y 1).val < 1 + 1; omega⟩
      | ⟨2, _⟩ => exact ⟨by show 3 ≤ (y 2).val; omega, by show (y 2).val < 3 + 1; omega⟩
      | ⟨3, _⟩ => exact ⟨by show 0 ≤ (y 3).val; omega, by show (y 3).val < 0 + 128; omega⟩
      | ⟨4, _⟩ => exact ⟨by show 0 ≤ (y 4).val; omega, by show (y 4).val < 0 + 128; omega⟩
  omega

variable (c : Dev nD) (t : Fin cfg0.N)

abbrev V22 := k0_pay4 (F := Ideal) (iblk m c 0 t) (iblk m c 1 t) (iblk m c 2 t)
abbrev V25 := k0_pay5 (F := Ideal) (iblk m c 0 t) (iblk m c 1 t) (iblk m c 5 t)
abbrev V31 := k0_pay7 (F := Ideal) (iblk m c 0 t) (iblk m c 1 t) (iblk m c 3 t)
abbrev V28 := k0_pay6 (F := Ideal) (iblk m c 0 t) (iblk m c 1 t) (iblk m c 6 t)

theorem fq_out (r : Fin 512) (l : Fin 512) :
    (outsAt0 m c t.val t.isLt).1 (ix3 0 r l) = fqOut (V22 m c t) (iblk m c 8 t) (ix3 0 r l) := by
  by_cases h0 : t.val % 8 = 0
  · rw [outsAt0_A m c t h0]
    dsimp only
    frame_out
  · rw [outsAt0_B m c t h0]
    dsimp only
    frame_out

theorem fk_out (r : Fin 512) (l : Fin 512) :
    (outsAt0 m c t.val t.isLt).2.1 (ix3 0 r l) = fkOut (V22 m c t) (iblk m c 9 t) (ix3 0 r l) := by
  by_cases h0 : t.val % 8 = 0
  · rw [outsAt0_A m c t h0]
    dsimp only
    frame_out
  · rw [outsAt0_B m c t h0]
    dsimp only
    frame_out

theorem sq_out (r : Fin 512) (l : Fin 512) :
    (outsAt0 m c t.val t.isLt).2.2.2.2.1 (ix3 0 r l) = sqOut (V25 m c t) (iblk m c 10 t) (ix3 0 r l) := by
  by_cases h0 : t.val % 8 = 0
  · rw [outsAt0_A m c t h0]
    dsimp only
    frame_out
  · rw [outsAt0_B m c t h0]
    dsimp only
    frame_out

theorem sk_out (r : Fin 512) (l : Fin 128) :
    (outsAt0 m c t.val t.isLt).2.2.2.2.2.1 (ix3 0 r l) = skOut (V25 m c t) (iblk m c 11 t) (ix3 0 r l) := by
  by_cases h0 : t.val % 8 = 0
  · rw [outsAt0_A m c t h0]
    dsimp only
    frame_out
  · rw [outsAt0_B m c t h0]
    dsimp only
    frame_out

theorem fv_out (y : S1x8x1x128x512.Idx) :
    (outsAt0 m c t.val t.isLt).2.2.2.1 y = fvBlock (V31 m c t) y := by
  refine Eq.trans ?_ (fv_stores (V31 m c t) y)
  by_cases h0 : t.val % 8 = 0
  · rw [outsAt0_A m c t h0]
    dsimp only
    frame_out
  · rw [outsAt0_B m c t h0]
    dsimp only
    frame_out

theorem sv_out (y : S1x2x4x128x128.Idx) :
    (outsAt0 m c t.val t.isLt).2.2.2.2.2.2.1 y = svBlock (V28 m c t) y := by
  refine Eq.trans ?_ (sv_stores (V28 m c t) y)
  by_cases h0 : t.val % 8 = 0
  · rw [outsAt0_A m c t h0]
    dsimp only
    frame_out
  · rw [outsAt0_B m c t h0]
    dsimp only
    frame_out

end Cert.Kernel3Ideal.Work

end
-- ==== Proof.TakeColumn.lean ====
/- Taking one of `N` columns by a word per column: `table[:, idx]`, read at an index. -/
module

public import proofs.«01_k».proof.Proof.Take

@[expose] public section

namespace Cert.Work

open Idealize.ShloMosaic

/-- `table[:, idx]` over a matrix: column `b` of the result is the column whose number the word of `b` holds. -/
theorem take_column {α : Type} {N C n : Nat}
    (d : GatherDims ⟨2, ![C, N]⟩ ⟨2, ![n, 1]⟩ ⟨2, ![C, n]⟩)
    (hoff : d.offsetDims = [0]) (hcoll : d.collapsedSliceDims = [1]) (hob : d.operandBatchingDims = [])
    (hsim : d.startIndexMap = [1]) (hivd : d.indexVectorDim = 1)
    (x : (⟨2, ![C, N]⟩ : Shape).Idx → α) (idx : IVec ⟨2, ![n, 1]⟩ 32) (y : Fin C) (b : Fin n)
    (e : Fin N) (he : (idx (ix2 b (0 : Fin 1))).toInt.toNat = e.val) :
    Host.gather d x idx (ix2 y b) = x (ix2 y e) := by
  have hbatch : d.batchDims = [1] := by
    unfold GatherDims.batchDims
    rw [hoff]
    rfl
  have hkept : d.sKept = [0] := by
    unfold GatherDims.sKept
    rw [hcoll, hob]
    rfl
  have hnb : ∀ a, a ∉ d.operandBatchingDims := fun a => by rw [hob]; exact List.not_mem_nil
  have at0 : ∀ X : Fin 2, X = 0 → ((ix2 y b : (⟨2, ![C, n]⟩ : Shape).Idx) X).val = y.val := by rintro _ rfl; rfl
  have at1 : ∀ X : Fin 2, X = 1 → ((ix2 y b : (⟨2, ![C, n]⟩ : Shape).Idx) X).val = b.val := by rintro _ rfl; rfl
  unfold Host.gather
  refine congrArg x (funext fun a => Fin.ext ?_)
  match a with
  | ⟨0, _⟩ =>
    have hm : (0 : Fin 2) ∉ d.startIndexMap := by rw [hsim]; simp
    have hk : (0 : Fin 2) ∈ d.sKept := by rw [hkept]; simp
    show d.start (ix2 y b) idx 0 + d.batchCoord (ix2 y b) 0 + d.offCoord (ix2 y b) 0 = y.val
    rw [d.batchCoord_eq_zero _ _ (hnb 0)]
    unfold GatherDims.start GatherDims.offCoord
    rw [dif_neg hm, dif_pos hk, Nat.zero_add]
    exact at0 _ (entry_eq _ [0] 0 hoff (by rw [hkept]; rfl) (by simp))
  | ⟨1, _⟩ =>
    have hm : (1 : Fin 2) ∈ d.startIndexMap := by rw [hsim]; exact List.mem_singleton.2 rfl
    have hk : (1 : Fin 2) ∉ d.sKept := by rw [hkept]; simp
    have hs : d.sliceSizes 1 = 1 := d.slice_collapsed 1 (by rw [hcoll]; exact List.mem_singleton.2 rfl)
    show d.start (ix2 y b) idx 1 + d.batchCoord (ix2 y b) 1 + d.offCoord (ix2 y b) 1 = e.val
    rw [d.batchCoord_eq_zero _ _ (hnb 1), d.offCoord_eq_zero _ _ hk]
    unfold GatherDims.start
    rw [dif_pos hm]
    have hread : d.siIdx (ix2 y b) ⟨d.startIndexMap.idxOf 1, List.idxOf_lt_length_iff.2 hm⟩ = ix2 b (0 : Fin 1) := by
      funext a'
      apply Fin.ext
      match a' with
      | ⟨0, _⟩ =>
        unfold GatherDims.siIdx
        rw [dif_neg (by rw [hivd]; exact Nat.zero_ne_one)]
        unfold GatherDims.siCoord
        simp only [Fin.val_cast]
        refine at1 _ ?_
        have hall : ∀ X ∈ d.batchDims, X = (1 : Fin 2) := fun X hX => by
          rw [hbatch] at hX
          exact List.mem_singleton.1 hX
        exact hall _ (List.getElem_mem _)
      | ⟨1, _⟩ =>
        unfold GatherDims.siIdx
        rw [dif_pos (by rw [hivd])]
        show List.idxOf (1 : Fin 2) d.startIndexMap = 0
        rw [hsim]
        rfl
    rw [hread, he, hs]
    have := e.isLt
    show min e.val (N - 1) + 0 + 0 = e.val
    omega

end Cert.Work
-- ==== Proof.QkvArray.lean ====
/- The projection call's results, read at an index: the arrays at the call, the windows' blocks, and the result arrays. -/
module

public import proofs.«01_k».proof.Proof.QkvKernel
public import proofs.«01_k».proof.Proof.MixModel
public import proofs.«01_k».proof.Proof.TakeColumn

@[expose] public section

noncomputable section

namespace Cert.Kernel3Ideal.Work

open Cert.Kernel3Ideal Cert.Kernel3Ideal.Gen Cert.Qkv Cert.Mix
open Idealize.ShloMosaic Idealize.ShloMosaic.TcCoe
open Idealize.ShloMosaic.Pipeline (Dat Cfg Window)

variable (m : (ℓ : Loc nD τ sig) → Buf (Elt Ideal) ℓ)

/-- A gain times a constant. -/
abbrev scaled (a w : EReal) : EReal := a * w

/-! The arrays at the call, read at an index. -/

theorem V_x (c : Dev nD) (b : Fin 4) (s : Fin 4096) (k : Fin 1024) : V m c main_arg0 (ix3 b s k) = (m ((c : Thread nD τ).loc main_arg0)) (ix3 b s k) := by
  after_reads_at

theorem V_gain (c : Dev nD) (j : Fin 1024) : V m c main_v23 (ix2 0 j) = (m ((c : Thread nD τ).loc main_arg2)) (ix2 0 j) := by
  after_reads_at

theorem V_wqk (c : Dev nD) (k : Fin 1024) (q : Fin 1024) : V m c main_v2 (ix2 k q) = (m ((c : Thread nD τ).loc main_arg3)) (ix3 0 k ⟨q.val, by omega⟩) := by
  after_reads_at

theorem V_wvt (c : Dev nD) (q : Fin 512) (k : Fin 1024) : V m c main_v5 (ix2 q k) = (m ((c : Thread nD τ).loc main_arg3)) (ix3 0 k ⟨1024 + q.val, by omega⟩) := by
  after_reads_at

theorem V_wsvt (c : Dev nD) (q : Fin 128) (k : Fin 1024) : V m c main_v21 (ix2 q k) = (m ((c : Thread nD τ).loc main_arg3)) (ix3 0 k ⟨2184 + q.val, by omega⟩) := by
  have e : (⟨2184 + q.val, by omega⟩ : Fin 4360) = ⟨1544 + (640 + q.val), by omega⟩ := Fin.ext (by show 2184 + q.val = 1544 + (640 + q.val); omega)
  rw [e]
  after_reads_at

/-- The kernel's table of columns is the order of the heads. -/
theorem table_at : ∀ k : Fin 512, (lit0 (S512.rowMajor (ix1 k))).toInt.toNat = (toHead k).val := by decide +kernel

theorem V_index (c : Dev nD) (k : Fin 512) : V m c main_v14 (ix2 k 0) = lit0 (S512.rowMajor (ix1 k)) := by
  after_reads_at

theorem V_taken (c : Dev nD) (k : Fin 1024) (q : Fin 512) : V m c main_v15 (ix2 k q) = (m ((c : Thread nD τ).loc main_arg3)) (ix3 0 k ⟨1544 + (toHead q).val, by omega⟩) := by
  have h : V m c main_v15 (ix2 k q) = Host.gather gather_S1024x512_S512x1_S1024x512_0_1_n_n_1_1_10241 (V m c main_v10) (V m c main_v14) (ix2 k q) := by
    after_reads_at
  have h' : V m c main_v10 (ix2 k (toHead q)) = (m ((c : Thread nD τ).loc main_arg3)) (ix3 0 k ⟨1544 + (toHead q).val, by omega⟩) := by after_reads_at
  refine h.trans ((Cert.Work.take_column _ rfl rfl rfl rfl rfl _ _ k q (toHead q) ?_).trans h')
  rw [V_index]
  exact table_at q

theorem V_sq (c : Dev nD) (k : Fin 1024) (q : Fin 512) : V m c main_v18 (ix2 k ⟨q.val, by omega⟩) = (m ((c : Thread nD τ).loc main_arg3)) (ix3 0 k ⟨1544 + (toHead q).val, by omega⟩) := by
  refine Eq.trans ?_ (V_taken m c k q)
  after_reads_at
  after_reads_at

theorem V_sk (c : Dev nD) (k : Fin 1024) (q : Fin 128) : V m c main_v18 (ix2 k ⟨512 + q.val, by omega⟩) = (m ((c : Thread nD τ).loc main_arg3)) (ix3 0 k ⟨2056 + q.val, by omega⟩) := by
  have e : (⟨2056 + q.val, by omega⟩ : Fin 4360) = ⟨1544 + (512 + q.val), by omega⟩ := Fin.ext (by show 2056 + q.val = 1544 + (512 + q.val); omega)
  rw [e]
  after_reads_at
  after_reads_at

theorem V_fqg (c : Dev nD) (l : Fin 512) : V m c main_v32 (ix2 0 l) = scaled ((m ((c : Thread nD τ).loc main_arg5)) (ix2 0 ⟨l.val % 64, by omega⟩)) (Ideal.ofBits .f32 0x3E38AA3B#32) := by
  after_reads_at

theorem V_fkg (c : Dev nD) (l : Fin 512) : V m c main_v37 (ix2 0 l) = (m ((c : Thread nD τ).loc main_arg6)) (ix2 0 ⟨l.val % 64, by omega⟩) := by
  after_reads_at

theorem V_sqg (c : Dev nD) (l : Fin 512) : V m c main_v44 (ix2 0 l) = scaled ((m ((c : Thread nD τ).loc main_arg7)) (ix2 0 ⟨l.val % 64, by omega⟩)) (Ideal.ofBits .f32 0x3E000000#32) := by
  after_reads_at

theorem V_skg (c : Dev nD) (l : Fin 128) : V m c main_v49 (ix2 0 l) = (m ((c : Thread nD τ).loc main_arg8)) (ix2 0 ⟨l.val % 64, by omega⟩) := by
  after_reads_at

/-! The windows' blocks at a point. -/

theorem index0 : ∀ t : Fin grid0.N, cc0_transform_0 (grid0.coords t) = ![t.val / 8, t.val % 8, 0] := by decide +kernel
theorem index13 : ∀ t : Fin grid0.N, cc0_transform_13 (grid0.coords t) = ![t.val / 8, t.val % 8, 0] := by decide +kernel
theorem index14 : ∀ t : Fin grid0.N, cc0_transform_14 (grid0.coords t) = ![t.val / 8, t.val % 8, 0] := by decide +kernel
theorem index17 : ∀ t : Fin grid0.N, cc0_transform_17 (grid0.coords t) = ![t.val / 8, t.val % 8, 0] := by decide +kernel
theorem index18 : ∀ t : Fin grid0.N, cc0_transform_18 (grid0.coords t) = ![t.val / 8, t.val % 8, 0] := by decide +kernel
theorem index16 : ∀ t : Fin grid0.N, cc0_transform_16 (grid0.coords t) = ![t.val / 8, 0, t.val % 8, 0, 0] := by decide +kernel
theorem index19 : ∀ t : Fin grid0.N, cc0_transform_19 (grid0.coords t) = ![t.val / 8, 0, t.val % 8, 0, 0] := by decide +kernel

theorem blk0 (c : Dev nD) (t : Fin grid0.N) (r : Fin 512) (k : Fin 1024) (b : Fin 4) (s : Fin 4096) (hb : b.val = t.val / 8) (hs : s.val = t.val % 8 * 512 + r.val) :
    iblk m c 0 t (ix3 0 r k) = (m ((c : Thread nD τ).loc main_arg0)) (ix3 b s k) := by
  refine Eq.trans ?_ (V_x m c b s k)
  unfold iblk
  show V m c main_arg0 (((cfg0.win 0).blk t).view.emb (ix3 0 r k)) = _
  congr 1
  funext a
  apply Fin.ext
  refine (Pipeline.Window.rect_emb_val _ _ _ _).trans ?_
  match a with
  | ⟨0, _⟩ =>
    show cc0_transform_0 (grid0.coords t) 0 * 1 + 0 = b.val
    rw [index0, hb]
    show t.val / 8 * 1 + 0 = t.val / 8
    omega
  | ⟨1, _⟩ =>
    show cc0_transform_0 (grid0.coords t) 1 * 512 + r.val = s.val
    rw [index0, hs]
    rfl
  | ⟨2, _⟩ => exact (congrArg (· + k.val) (Nat.zero_mul _)).trans (Nat.zero_add _)

theorem blk1 (c : Dev nD) (t : Fin grid0.N) (i : Fin 1) (j : Fin 1024) : iblk m c 1 t (ix2 i j) = V m c main_v23 (ix2 i j) := by
  unfold iblk
  show V m c main_v23 (((cfg0.win 1).blk t).view.emb (ix2 i j)) = _
  congr 1
  funext a
  apply Fin.ext
  refine (Pipeline.Window.rect_emb_val _ _ _ _).trans ?_
  match a with
  | ⟨0, _⟩ => exact (congrArg (· + i.val) (Nat.zero_mul _)).trans (Nat.zero_add _)
  | ⟨1, _⟩ => exact (congrArg (· + j.val) (Nat.zero_mul _)).trans (Nat.zero_add _)

theorem blk2 (c : Dev nD) (t : Fin grid0.N) (i : Fin 1024) (j : Fin 1024) : iblk m c 2 t (ix2 i j) = V m c main_v2 (ix2 i j) := by
  unfold iblk
  show V m c main_v2 (((cfg0.win 2).blk t).view.emb (ix2 i j)) = _
  congr 1
  funext a
  apply Fin.ext
  refine (Pipeline.Window.rect_emb_val _ _ _ _).trans ?_
  match a with
  | ⟨0, _⟩ => exact (congrArg (· + i.val) (Nat.zero_mul _)).trans (Nat.zero_add _)
  | ⟨1, _⟩ => exact (congrArg (· + j.val) (Nat.zero_mul _)).trans (Nat.zero_add _)

theorem blk3 (c : Dev nD) (t : Fin grid0.N) (i : Fin 512) (j : Fin 1024) : iblk m c 3 t (ix2 i j) = V m c main_v5 (ix2 i j) := by
  unfold iblk
  show V m c main_v5 (((cfg0.win 3).blk t).view.emb (ix2 i j)) = _
  congr 1
  funext a
  apply Fin.ext
  refine (Pipeline.Window.rect_emb_val _ _ _ _).trans ?_
  match a with
  | ⟨0, _⟩ => exact (congrArg (· + i.val) (Nat.zero_mul _)).trans (Nat.zero_add _)
  | ⟨1, _⟩ => exact (congrArg (· + j.val) (Nat.zero_mul _)).trans (Nat.zero_add _)

theorem blk5 (c : Dev nD) (t : Fin grid0.N) (i : Fin 1024) (j : Fin 640) : iblk m c 5 t (ix2 i j) = V m c main_v18 (ix2 i j) := by
  unfold iblk
  show V m c main_v18 (((cfg0.win 5).blk t).view.emb (ix2 i j)) = _
  congr 1
  funext a
  apply Fin.ext
  refine (Pipeline.Window.rect_emb_val _ _ _ _).trans ?_
  match a with
  | ⟨0, _⟩ => exact (congrArg (· + i.val) (Nat.zero_mul _)).trans (Nat.zero_add _)
  | ⟨1, _⟩ => exact (congrArg (· + j.val) (Nat.zero_mul _)).trans (Nat.zero_add _)

theorem blk6 (c : Dev nD) (t : Fin grid0.N) (i : Fin 128) (j : Fin 1024) : iblk m c 6 t (ix2 i j) = V m c main_v21 (ix2 i j) := by
  unfold iblk
  show V m c main_v21 (((cfg0.win 6).blk t).view.emb (ix2 i j)) = _
  congr 1
  funext a
  apply Fin.ext
  refine (Pipeline.Window.rect_emb_val _ _ _ _).trans ?_
  match a with
  | ⟨0, _⟩ => exact (congrArg (· + i.val) (Nat.zero_mul _)).trans (Nat.zero_add _)
  | ⟨1, _⟩ => exact (congrArg (· + j.val) (Nat.zero_mul _)).trans (Nat.zero_add _)

theorem blk8 (c : Dev nD) (t : Fin grid0.N) (i : Fin 1) (j : Fin 512) : iblk m c 8 t (ix2 i j) = V m c main_v32 (ix2 i j) := by
  unfold iblk
  show V m c main_v32 (((cfg0.win 8).blk t).view.emb (ix2 i j)) = _
  congr 1
  funext a
  apply Fin.ext
  refine (Pipeline.Window.rect_emb_val _ _ _ _).trans ?_
  match a with
  | ⟨0, _⟩ => exact (congrArg (· + i.val) (Nat.zero_mul _)).trans (Nat.zero_add _)
  | ⟨1, _⟩ => exact (congrArg (· + j.val) (Nat.zero_mul _)).trans (Nat.zero_add _)

theorem blk9 (c : Dev nD) (t : Fin grid0.N) (i : Fin 1) (j : Fin 512) : iblk m c 9 t (ix2 i j) = V m c main_v37 (ix2 i j) := by
  unfold iblk
  show V m c main_v37 (((cfg0.win 9).blk t).view.emb (ix2 i j)) = _
  congr 1
  funext a
  apply Fin.ext
  refine (Pipeline.Window.rect_emb_val _ _ _ _).trans ?_
  match a with
  | ⟨0, _⟩ => exact (congrArg (· + i.val) (Nat.zero_mul _)).trans (Nat.zero_add _)
  | ⟨1, _⟩ => exact (congrArg (· + j.val) (Nat.zero_mul _)).trans (Nat.zero_add _)

theorem blk10 (c : Dev nD) (t : Fin grid0.N) (i : Fin 1) (j : Fin 512) : iblk m c 10 t (ix2 i j) = V m c main_v44 (ix2 i j) := by
  unfold iblk
  show V m c main_v44 (((cfg0.win 10).blk t).view.emb (ix2 i j)) = _
  congr 1
  funext a
  apply Fin.ext
  refine (Pipeline.Window.rect_emb_val _ _ _ _).trans ?_
  match a with
  | ⟨0, _⟩ => exact (congrArg (· + i.val) (Nat.zero_mul _)).trans (Nat.zero_add _)
  | ⟨1, _⟩ => exact (congrArg (· + j.val) (Nat.zero_mul _)).trans (Nat.zero_add _)

theorem blk11 (c : Dev nD) (t : Fin grid0.N) (i : Fin 1) (j : Fin 128) : iblk m c 11 t (ix2 i j) = V m c main_v49 (ix2 i j) := by
  unfold iblk
  show V m c main_v49 (((cfg0.win 11).blk t).view.emb (ix2 i j)) = _
  congr 1
  funext a
  apply Fin.ext
  refine (Pipeline.Window.rect_emb_val _ _ _ _).trans ?_
  match a with
  | ⟨0, _⟩ => exact (congrArg (· + i.val) (Nat.zero_mul _)).trans (Nat.zero_add _)
  | ⟨1, _⟩ => exact (congrArg (· + j.val) (Nat.zero_mul _)).trans (Nat.zero_add _)

/-- Row `s` of batch `b`, projected to column `q` of the input projection. -/
def projK (c : Dev nD) (b : Fin 4) (s : Fin 4096) (q : Fin 4360) : EReal :=
  proj (fun k => (m ((c : Thread nD τ).loc main_arg0)) (ix3 b s k)) (fun k => (m ((c : Thread nD τ).loc main_arg2)) (ix2 0 k)) (fun k => (m ((c : Thread nD τ).loc main_arg3)) (ix3 0 k q))

theorem proj_congr {X X' G G' W W' : Fin 1024 → EReal} (hX : ∀ k, X k = X' k) (hG : ∀ k, G k = G' k) (hW : ∀ k, W k = W' k) :
    proj X G W = proj X' G' W' := by
  obtain rfl : X = X' := funext hX
  obtain rfl : G = G' := funext hG
  obtain rfl : W = W' := funext hW
  rfl

section Point

variable (c : Dev nD) (t : Fin grid0.N) (r : Fin 512) (b : Fin 4) (s : Fin 4096) (hb : b.val = t.val / 8) (hs : s.val = t.val % 8 * 512 + r.val)
include hb hs

theorem V22_at (q : Fin 1024) : V22 m c t (ix2 r q) = projK m c b s ⟨q.val, by omega⟩ := by
  refine (proj_at _ _ _ _ _).trans (proj_congr (fun k => ?_) (fun k => ?_) (fun k => ?_))
  · exact blk0 m c t r k b s hb hs
  · exact (blk1 m c t 0 k).trans (V_gain m c k)
  · exact (blk2 m c t k q).trans (V_wqk m c k q)

theorem V25_q (q : Fin 512) : V25 m c t (ix2 r ⟨q.val, by omega⟩) = projK m c b s ⟨1544 + (toHead q).val, by omega⟩ := by
  refine (projs_at _ _ _ _ _).trans (proj_congr (fun k => ?_) (fun k => ?_) (fun k => ?_))
  · exact blk0 m c t r k b s hb hs
  · exact (blk1 m c t 0 k).trans (V_gain m c k)
  · exact (blk5 m c t k _).trans (V_sq m c k q)

theorem V25_k (q : Fin 128) : V25 m c t (ix2 r ⟨512 + q.val, by omega⟩) = projK m c b s ⟨2056 + q.val, by omega⟩ := by
  refine (projs_at _ _ _ _ _).trans (proj_congr (fun k => ?_) (fun k => ?_) (fun k => ?_))
  · exact blk0 m c t r k b s hb hs
  · exact (blk1 m c t 0 k).trans (V_gain m c k)
  · exact (blk5 m c t k _).trans (V_sk m c k q)

theorem V31_at (q : Fin 512) : V31 m c t (ix2 q r) = projK m c b s ⟨1024 + q.val, by omega⟩ := by
  refine (projvt_at _ _ _ _ _).trans (proj_congr (fun k => ?_) (fun k => ?_) (fun k => ?_))
  · exact blk0 m c t r k b s hb hs
  · exact (blk1 m c t 0 k).trans (V_gain m c k)
  · exact (blk3 m c t q k).trans (V_wvt m c q k)

theorem V28_at (q : Fin 128) : V28 m c t (ix2 q r) = projK m c b s ⟨2184 + q.val, by omega⟩ := by
  refine (projsvt_at _ _ _ _ _).trans (proj_congr (fun k => ?_) (fun k => ?_) (fun k => ?_))
  · exact blk0 m c t r k b s hb hs
  · exact (blk1 m c t 0 k).trans (V_gain m c k)
  · exact (blk6 m c t q k).trans (V_wsvt m c q k)

end Point

/-! The result arrays. -/

/-- The first queries, read at batch, row and lane. -/
def fqVal (c : Dev nD) (b : Fin 4) (s : Fin 4096) (l : Fin 512) : EReal :=
  heads (fun q => projK m c b s ⟨q.val, by omega⟩) (scaled ((m ((c : Thread nD τ).loc main_arg5)) (ix2 0 ⟨l.val % 64, by omega⟩)) (Ideal.ofBits .f32 0x3E38AA3B#32)) l

/-- The first queries. -/
def fqArr (c : Dev nD) : S4x4096x512.Idx → EReal := fun i => fqVal m c (i 0) (i 1) (i 2)

theorem fq_block (c : Dev nD) (t : Fin grid0.N) (r : Fin 512) (l : Fin 512) :
    (outsAt0 m c t.val t.isLt).1 (ix3 0 r l)
      = fqArr m c (ix3 ⟨t.val / 8, by have := t.isLt; have : grid0.N = 32 := rfl; omega⟩ ⟨t.val % 8 * 512 + r.val, by omega⟩ l) := by
  refine (fq_out m c t r l).trans ((fq_at _ _ r l).trans ?_)
  show _ = fqVal m c _ _ l
  unfold fqVal
  unfold heads
  refine congrArg₂ (· * ·) (pair_congr (fun k => ?_) rfl) ?_
  · exact V22_at m c t r _ _ rfl rfl ⟨l.val / 128 * 128 + k.val, by omega⟩
  · exact (blk8 m c t 0 l).trans (V_fqg m c l)

theorem emb13 (t : Fin grid0.N) (r : Fin 512) (l : Fin 512) :
    ((cfg0.win 13).blk t).view.emb (ix3 0 r l)
      = (ix3 ⟨t.val / 8, by have := t.isLt; have : grid0.N = 32 := rfl; omega⟩ ⟨t.val % 8 * 512 + r.val, by omega⟩ l : S4x4096x512.Idx) := by
  funext a
  apply Fin.ext
  refine (Pipeline.Window.rect_emb_val _ _ _ _).trans ?_
  show cc0_transform_13 (grid0.coords t) a * _ + _ = _
  rw [index13]
  match a with
  | ⟨0, _⟩ =>
    show t.val / 8 * 1 + 0 = t.val / 8
    omega
  | ⟨1, _⟩ => rfl
  | ⟨2, _⟩ => exact (congrArg (· + l.val) (Nat.zero_mul _)).trans (Nat.zero_add _)

theorem covers13 : (cfg0.win 13).Covers := by decide +kernel

theorem arr13 (c : Dev nD) : (dats m 0 c).arrAt 13 cfg0.N = fqArr m c := by
  refine (dats m 0 c).arrAt_eq_of_covers 13 _ covers13 fun t hf y => ?_
  rw [after0_13]
  have ho := fq_block m c t
  generalize (outsAt0 m c t.val t.isLt).1 = o at ho ⊢
  generalize fqArr m c = g at ho ⊢
  obtain ⟨r, l, hy⟩ : ∃ (r : Fin 512) (l : Fin 512), y = (ix3 0 r l : S1x512x512.Idx) :=
    ⟨y (1 : Fin 3), y (2 : Fin 3), by
      funext a
      match a with
      | ⟨0, _⟩ => exact Subsingleton.elim (α := Fin 1) _ _
      | ⟨1, _⟩ => rfl
      | ⟨2, _⟩ => rfl⟩
  subst hy
  have hx : (cfg0.win 13).xinj (cfg0.grid.coords t) (ix3 0 r l : S1x512x512.Idx) = (ix3 0 r l : S1x512x512.Idx) := by
    funext a
    match a with
    | ⟨0, _⟩ => rfl
    | ⟨1, _⟩ => rfl
    | ⟨2, _⟩ => rfl
  exact (congrArg o hx).trans ((ho r l).trans (congrArg g (emb13 t r l)).symm)

/-- The first keys, read at batch, row and lane. -/
def fkVal (c : Dev nD) (b : Fin 4) (s : Fin 4096) (l : Fin 512) : EReal :=
  heads (fun q => projK m c b s ⟨512 + q.val, by omega⟩) ((m ((c : Thread nD τ).loc main_arg6)) (ix2 0 ⟨l.val % 64, by omega⟩)) l

/-- The first keys. -/
def fkArr (c : Dev nD) : S4x4096x512.Idx → EReal := fun i => fkVal m c (i 0) (i 1) (i 2)

theorem fk_block (c : Dev nD) (t : Fin grid0.N) (r : Fin 512) (l : Fin 512) :
    (outsAt0 m c t.val t.isLt).2.1 (ix3 0 r l)
      = fkArr m c (ix3 ⟨t.val / 8, by have := t.isLt; have : grid0.N = 32 := rfl; omega⟩ ⟨t.val % 8 * 512 + r.val, by omega⟩ l) := by
  refine (fk_out m c t r l).trans ((fk_at _ _ r l).trans ?_)
  show _ = fkVal m c _ _ l
  unfold fkVal
  unfold heads
  refine congrArg₂ (· * ·) (pair_congr (fun k => ?_) rfl) ?_
  · exact V22_at m c t r _ _ rfl rfl ⟨512 + (l.val / 128 * 128 + k.val), by omega⟩
  · exact (blk9 m c t 0 l).trans (V_fkg m c l)

theorem emb14 (t : Fin grid0.N) (r : Fin 512) (l : Fin 512) :
    ((cfg0.win 14).blk t).view.emb (ix3 0 r l)
      = (ix3 ⟨t.val / 8, by have := t.isLt; have : grid0.N = 32 := rfl; omega⟩ ⟨t.val % 8 * 512 + r.val, by omega⟩ l : S4x4096x512.Idx) := by
  funext a
  apply Fin.ext
  refine (Pipeline.Window.rect_emb_val _ _ _ _).trans ?_
  show cc0_transform_14 (grid0.coords t) a * _ + _ = _
  rw [index14]
  match a with
  | ⟨0, _⟩ =>
    show t.val / 8 * 1 + 0 = t.val / 8
    omega
  | ⟨1, _⟩ => rfl
  | ⟨2, _⟩ => exact (congrArg (· + l.val) (Nat.zero_mul _)).trans (Nat.zero_add _)

theorem covers14 : (cfg0.win 14).Covers := by decide +kernel

theorem arr14 (c : Dev nD) : (dats m 0 c).arrAt 14 cfg0.N = fkArr m c := by
  refine (dats m 0 c).arrAt_eq_of_covers 14 _ covers14 fun t hf y => ?_
  rw [after0_14]
  have ho := fk_block m c t
  generalize (outsAt0 m c t.val t.isLt).2.1 = o at ho ⊢
  generalize fkArr m c = g at ho ⊢
  obtain ⟨r, l, hy⟩ : ∃ (r : Fin 512) (l : Fin 512), y = (ix3 0 r l : S1x512x512.Idx) :=
    ⟨y (1 : Fin 3), y (2 : Fin 3), by
      funext a
      match a with
      | ⟨0, _⟩ => exact Subsingleton.elim (α := Fin 1) _ _
      | ⟨1, _⟩ => rfl
      | ⟨2, _⟩ => rfl⟩
  subst hy
  have hx : (cfg0.win 14).xinj (cfg0.grid.coords t) (ix3 0 r l : S1x512x512.Idx) = (ix3 0 r l : S1x512x512.Idx) := by
    funext a
    match a with
    | ⟨0, _⟩ => rfl
    | ⟨1, _⟩ => rfl
    | ⟨2, _⟩ => rfl
  exact (congrArg o hx).trans ((ho r l).trans (congrArg g (emb14 t r l)).symm)

/-- The second queries, read at batch, row and lane. -/
def sqVal (c : Dev nD) (b : Fin 4) (s : Fin 4096) (l : Fin 512) : EReal :=
  heads (fun q => projK m c b s ⟨1544 + (toHead q).val, by omega⟩) (scaled ((m ((c : Thread nD τ).loc main_arg7)) (ix2 0 ⟨l.val % 64, by omega⟩)) (Ideal.ofBits .f32 0x3E000000#32)) l

/-- The second queries. -/
def sqArr (c : Dev nD) : S4x4096x512.Idx → EReal := fun i => sqVal m c (i 0) (i 1) (i 2)

theorem sq_block (c : Dev nD) (t : Fin grid0.N) (r : Fin 512) (l : Fin 512) :
    (outsAt0 m c t.val t.isLt).2.2.2.2.1 (ix3 0 r l)
      = sqArr m c (ix3 ⟨t.val / 8, by have := t.isLt; have : grid0.N = 32 := rfl; omega⟩ ⟨t.val % 8 * 512 + r.val, by omega⟩ l) := by
  refine (sq_out m c t r l).trans ((sq_at _ _ r l).trans ?_)
  show _ = sqVal m c _ _ l
  unfold sqVal
  unfold heads
  refine congrArg₂ (· * ·) (pair_congr (fun k => ?_) rfl) ?_
  · exact V25_q m c t r _ _ rfl rfl ⟨l.val / 128 * 128 + k.val, by omega⟩
  · exact (blk10 m c t 0 l).trans (V_sqg m c l)

theorem emb17 (t : Fin grid0.N) (r : Fin 512) (l : Fin 512) :
    ((cfg0.win 17).blk t).view.emb (ix3 0 r l)
      = (ix3 ⟨t.val / 8, by have := t.isLt; have : grid0.N = 32 := rfl; omega⟩ ⟨t.val % 8 * 512 + r.val, by omega⟩ l : S4x4096x512.Idx) := by
  funext a
  apply Fin.ext
  refine (Pipeline.Window.rect_emb_val _ _ _ _).trans ?_
  show cc0_transform_17 (grid0.coords t) a * _ + _ = _
  rw [index17]
  match a with
  | ⟨0, _⟩ =>
    show t.val / 8 * 1 + 0 = t.val / 8
    omega
  | ⟨1, _⟩ => rfl
  | ⟨2, _⟩ => exact (congrArg (· + l.val) (Nat.zero_mul _)).trans (Nat.zero_add _)

theorem covers17 : (cfg0.win 17).Covers := by decide +kernel

theorem arr17 (c : Dev nD) : (dats m 0 c).arrAt 17 cfg0.N = sqArr m c := by
  refine (dats m 0 c).arrAt_eq_of_covers 17 _ covers17 fun t hf y => ?_
  rw [after0_17]
  have ho := sq_block m c t
  generalize (outsAt0 m c t.val t.isLt).2.2.2.2.1 = o at ho ⊢
  generalize sqArr m c = g at ho ⊢
  obtain ⟨r, l, hy⟩ : ∃ (r : Fin 512) (l : Fin 512), y = (ix3 0 r l : S1x512x512.Idx) :=
    ⟨y (1 : Fin 3), y (2 : Fin 3), by
      funext a
      match a with
      | ⟨0, _⟩ => exact Subsingleton.elim (α := Fin 1) _ _
      | ⟨1, _⟩ => rfl
      | ⟨2, _⟩ => rfl⟩
  subst hy
  have hx : (cfg0.win 17).xinj (cfg0.grid.coords t) (ix3 0 r l : S1x512x512.Idx) = (ix3 0 r l : S1x512x512.Idx) := by
    funext a
    match a with
    | ⟨0, _⟩ => rfl
    | ⟨1, _⟩ => rfl
    | ⟨2, _⟩ => rfl
  exact (congrArg o hx).trans ((ho r l).trans (congrArg g (emb17 t r l)).symm)

/-- The second keys, read at batch, row and lane. -/
def skVal (c : Dev nD) (b : Fin 4) (s : Fin 4096) (l : Fin 128) : EReal :=
  pair (fun k => projK m c b s ⟨2056 + k.val, by omega⟩) l * ((m ((c : Thread nD τ).loc main_arg8)) (ix2 0 ⟨l.val % 64, by omega⟩))

/-- The second keys. -/
def skArr (c : Dev nD) : S4x4096x128.Idx → EReal := fun i => skVal m c (i 0) (i 1) (i 2)

theorem sk_block (c : Dev nD) (t : Fin grid0.N) (r : Fin 512) (l : Fin 128) :
    (outsAt0 m c t.val t.isLt).2.2.2.2.2.1 (ix3 0 r l)
      = skArr m c (ix3 ⟨t.val / 8, by have := t.isLt; have : grid0.N = 32 := rfl; omega⟩ ⟨t.val % 8 * 512 + r.val, by omega⟩ l) := by
  refine (sk_out m c t r l).trans ((sk_at _ _ r l).trans ?_)
  show _ = skVal m c _ _ l
  unfold skVal
  refine congrArg₂ (· * ·) (pair_congr (fun k => ?_) rfl) ?_
  · exact V25_k m c t r _ _ rfl rfl k
  · exact (blk11 m c t 0 l).trans (V_skg m c l)

theorem emb18 (t : Fin grid0.N) (r : Fin 512) (l : Fin 128) :
    ((cfg0.win 18).blk t).view.emb (ix3 0 r l)
      = (ix3 ⟨t.val / 8, by have := t.isLt; have : grid0.N = 32 := rfl; omega⟩ ⟨t.val % 8 * 512 + r.val, by omega⟩ l : S4x4096x128.Idx) := by
  funext a
  apply Fin.ext
  refine (Pipeline.Window.rect_emb_val _ _ _ _).trans ?_
  show cc0_transform_18 (grid0.coords t) a * _ + _ = _
  rw [index18]
  match a with
  | ⟨0, _⟩ =>
    show t.val / 8 * 1 + 0 = t.val / 8
    omega
  | ⟨1, _⟩ => rfl
  | ⟨2, _⟩ => exact (congrArg (· + l.val) (Nat.zero_mul _)).trans (Nat.zero_add _)

theorem covers18 : (cfg0.win 18).Covers := by decide +kernel

theorem arr18 (c : Dev nD) : (dats m 0 c).arrAt 18 cfg0.N = skArr m c := by
  refine (dats m 0 c).arrAt_eq_of_covers 18 _ covers18 fun t hf y => ?_
  rw [after0_18]
  have ho := sk_block m c t
  generalize (outsAt0 m c t.val t.isLt).2.2.2.2.2.1 = o at ho ⊢
  generalize skArr m c = g at ho ⊢
  obtain ⟨r, l, hy⟩ : ∃ (r : Fin 512) (l : Fin 128), y = (ix3 0 r l : S1x512x128.Idx) :=
    ⟨y (1 : Fin 3), y (2 : Fin 3), by
      funext a
      match a with
      | ⟨0, _⟩ => exact Subsingleton.elim (α := Fin 1) _ _
      | ⟨1, _⟩ => rfl
      | ⟨2, _⟩ => rfl⟩
  subst hy
  have hx : (cfg0.win 18).xinj (cfg0.grid.coords t) (ix3 0 r l : S1x512x128.Idx) = (ix3 0 r l : S1x512x128.Idx) := by
    funext a
    match a with
    | ⟨0, _⟩ => rfl
    | ⟨1, _⟩ => rfl
    | ⟨2, _⟩ => rfl
  exact (congrArg o hx).trans ((ho r l).trans (congrArg g (emb18 t r l)).symm)

/-- The first values, read at batch, head, block, column over ones, and row of the block. -/
def fvVal (c : Dev nD) (b : Fin 4) (h : Fin 8) (n : Fin 8) (d : Fin 128) (r : Fin 512) : EReal :=
  withOnes (fun d => projK m c b ⟨n.val * 512 + r.val, by omega⟩ ⟨1024 + (h.val * 64 + d.val), by omega⟩) d

/-- The first values. -/
def fvArr (c : Dev nD) : S4x8x8x128x512.Idx → EReal := fun i => fvVal m c (i 0) (i 1) (i 2) (i 3) (i 4)

theorem fv_block (c : Dev nD) (t : Fin grid0.N) (h : Fin 8) (d : Fin 128) (r : Fin 512) :
    (outsAt0 m c t.val t.isLt).2.2.2.1 (ix5 0 h 0 d r)
      = fvArr m c (ix5 ⟨t.val / 8, by have := t.isLt; have : grid0.N = 32 := rfl; omega⟩ h ⟨t.val % 8, by omega⟩ d r) := by
  refine (fv_out m c t _).trans ?_
  show _ = fvVal m c _ h _ d r
  unfold fvVal fvBlock
  refine withOnes_congr (fun e => ?_) rfl
  exact V31_at m c t r _ _ rfl (by show _ = _; rfl) ⟨h.val * 64 + e.val, by omega⟩

theorem emb16 (t : Fin grid0.N) (h : Fin 8) (d : Fin 128) (r : Fin 512) :
    ((cfg0.win 16).blk t).view.emb (ix5 0 h 0 d r)
      = (ix5 ⟨t.val / 8, by have := t.isLt; have : grid0.N = 32 := rfl; omega⟩ h ⟨t.val % 8, by omega⟩ d r : S4x8x8x128x512.Idx) := by
  funext a
  apply Fin.ext
  refine (Pipeline.Window.rect_emb_val _ _ _ _).trans ?_
  show cc0_transform_16 (grid0.coords t) a * _ + _ = _
  rw [index16]
  match a with
  | ⟨0, _⟩ =>
    show t.val / 8 * 1 + 0 = t.val / 8
    omega
  | ⟨1, _⟩ => exact (congrArg (· + h.val) (Nat.zero_mul _)).trans (Nat.zero_add _)
  | ⟨2, _⟩ =>
    show t.val % 8 * 1 + 0 = t.val % 8
    omega
  | ⟨3, _⟩ => exact (congrArg (· + d.val) (Nat.zero_mul _)).trans (Nat.zero_add _)
  | ⟨4, _⟩ => exact (congrArg (· + r.val) (Nat.zero_mul _)).trans (Nat.zero_add _)

theorem covers16 : (cfg0.win 16).Covers := by decide +kernel

theorem arr16 (c : Dev nD) : (dats m 0 c).arrAt 16 cfg0.N = fvArr m c := by
  refine (dats m 0 c).arrAt_eq_of_covers 16 _ covers16 fun t hf y => ?_
  rw [after0_16]
  have ho := fv_block m c t
  generalize (outsAt0 m c t.val t.isLt).2.2.2.1 = o at ho ⊢
  generalize fvArr m c = g at ho ⊢
  obtain ⟨h, d, r, hy⟩ : ∃ (h : Fin 8) (d : Fin 128) (r : Fin 512), y = (ix5 0 h 0 d r : S1x8x1x128x512.Idx) :=
    ⟨y (1 : Fin 5), y (3 : Fin 5), y (4 : Fin 5), by
      funext a
      match a with
      | ⟨0, _⟩ => exact Subsingleton.elim (α := Fin 1) _ _
      | ⟨1, _⟩ => rfl
      | ⟨2, _⟩ => exact Subsingleton.elim (α := Fin 1) _ _
      | ⟨3, _⟩ => rfl
      | ⟨4, _⟩ => rfl⟩
  subst hy
  have hx : (cfg0.win 16).xinj (cfg0.grid.coords t) (ix5 0 h 0 d r : S1x8x1x128x512.Idx) = (ix5 0 h 0 d r : S1x8x1x128x512.Idx) := by
    funext a
    match a with
    | ⟨0, _⟩ => rfl
    | ⟨1, _⟩ => rfl
    | ⟨2, _⟩ => rfl
    | ⟨3, _⟩ => rfl
    | ⟨4, _⟩ => rfl
  exact (congrArg o hx).trans ((ho h d r).trans (congrArg g (emb16 t h d r)).symm)

/-- The second values, read at batch, head, block, column over ones, and row of the block. -/
def svVal (c : Dev nD) (b : Fin 4) (h : Fin 2) (n : Fin 32) (d : Fin 128) (r : Fin 128) : EReal :=
  withOnes (fun d => projK m c b ⟨n.val * 128 + r.val, by omega⟩ ⟨2184 + (h.val * 64 + d.val), by omega⟩) d

/-- The second values. -/
def svArr (c : Dev nD) : S4x2x32x128x128.Idx → EReal := fun i => svVal m c (i 0) (i 1) (i 2) (i 3) (i 4)

theorem sv_block (c : Dev nD) (t : Fin grid0.N) (h : Fin 2) (n : Fin 4) (d : Fin 128) (r : Fin 128) :
    (outsAt0 m c t.val t.isLt).2.2.2.2.2.2.1 (ix5 0 h n d r)
      = svArr m c (ix5 ⟨t.val / 8, by have := t.isLt; have : grid0.N = 32 := rfl; omega⟩ h ⟨t.val % 8 * 4 + n.val, by omega⟩ d r) := by
  refine (sv_out m c t _).trans ?_
  show _ = svVal m c _ h _ d r
  unfold svVal svBlock
  refine withOnes_congr (fun e => ?_) rfl
  exact V28_at m c t ⟨n.val * 128 + r.val, by omega⟩ _ _ rfl (by show (t.val % 8 * 4 + n.val) * 128 + r.val = t.val % 8 * 512 + (n.val * 128 + r.val); omega) ⟨h.val * 64 + e.val, by omega⟩

theorem emb19 (t : Fin grid0.N) (h : Fin 2) (n : Fin 4) (d : Fin 128) (r : Fin 128) :
    ((cfg0.win 19).blk t).view.emb (ix5 0 h n d r)
      = (ix5 ⟨t.val / 8, by have := t.isLt; have : grid0.N = 32 := rfl; omega⟩ h ⟨t.val % 8 * 4 + n.val, by omega⟩ d r : S4x2x32x128x128.Idx) := by
  funext a
  apply Fin.ext
  refine (Pipeline.Window.rect_emb_val _ _ _ _).trans ?_
  show cc0_transform_19 (grid0.coords t) a * _ + _ = _
  rw [index19]
  match a with
  | ⟨0, _⟩ =>
    show t.val / 8 * 1 + 0 = t.val / 8
    omega
  | ⟨1, _⟩ => exact (congrArg (· + h.val) (Nat.zero_mul _)).trans (Nat.zero_add _)
  | ⟨2, _⟩ =>
    show t.val % 8 * 4 + n.val = t.val % 8 * 4 + n.val
    omega
  | ⟨3, _⟩ => exact (congrArg (· + d.val) (Nat.zero_mul _)).trans (Nat.zero_add _)
  | ⟨4, _⟩ => exact (congrArg (· + r.val) (Nat.zero_mul _)).trans (Nat.zero_add _)

theorem covers19 : (cfg0.win 19).Covers := by decide +kernel

theorem arr19 (c : Dev nD) : (dats m 0 c).arrAt 19 cfg0.N = svArr m c := by
  refine (dats m 0 c).arrAt_eq_of_covers 19 _ covers19 fun t hf y => ?_
  rw [after0_19]
  have ho := sv_block m c t
  generalize (outsAt0 m c t.val t.isLt).2.2.2.2.2.2.1 = o at ho ⊢
  generalize svArr m c = g at ho ⊢
  obtain ⟨h, n, d, r, hy⟩ : ∃ (h : Fin 2) (n : Fin 4) (d : Fin 128) (r : Fin 128), y = (ix5 0 h n d r : S1x2x4x128x128.Idx) :=
    ⟨y (1 : Fin 5), y (2 : Fin 5), y (3 : Fin 5), y (4 : Fin 5), by
      funext a
      match a with
      | ⟨0, _⟩ => exact Subsingleton.elim (α := Fin 1) _ _
      | ⟨1, _⟩ => rfl
      | ⟨2, _⟩ => exact rfl
      | ⟨3, _⟩ => rfl
      | ⟨4, _⟩ => rfl⟩
  subst hy
  have hx : (cfg0.win 19).xinj (cfg0.grid.coords t) (ix5 0 h n d r : S1x2x4x128x128.Idx) = (ix5 0 h n d r : S1x2x4x128x128.Idx) := by
    funext a
    match a with
    | ⟨0, _⟩ => rfl
    | ⟨1, _⟩ => rfl
    | ⟨2, _⟩ => rfl
    | ⟨3, _⟩ => rfl
    | ⟨4, _⟩ => rfl
  exact (congrArg o hx).trans ((ho h n d r).trans (congrArg g (emb19 t h n d r)).symm)

end Cert.Kernel3Ideal.Work

end
-- ==== Proof.QkvRef.lean ====
/- The reference of the projection, read at an index. -/
module

public import proofs.«01_k».proof.Proof.Gen.Reference3Ideal.Run
public import proofs.«01_k».proof.Proof.QkvModel

@[expose] public section

noncomputable section

namespace Cert.Reference3Ideal.Value

open Cert.Reference3Ideal Cert.Reference3Ideal.Gen Cert.Qkv Cert.Mix
open Idealize.ShloMosaic Idealize.ShloMosaic.TcCoe

/-- The normed rows against the whole of the weights. -/
def refProj (A0 : FVec Ideal S4x4096x1024 .f32) (A2 : FVec Ideal S1x1024 .f32) (A3 : FVec Ideal S1x1024x4360 .f32) : FVec Ideal S4x4096x4360 .f32 :=
  Host.dotGeneral dot_S4x4096x1024_S1024x4360_S4x4096x4360_2_0_01_1_n_n none (mulf (mulf A0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf A0 A0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ A2 shapeCasts_S1x1024_S1024)))) (shapeCast _ A3 shapeCasts_S1x1024x4360_S1024x4360)

/-- The first queries: each head over the root of its mean square, times the gain and the scale. -/
def refFq (P : FVec Ideal S4x4096x4360 .f32) (A5 : FVec Ideal S1x64 .f32) : FVec Ideal S4x4096x512 .bf16 :=
  truncf .bf16 (shapeCast _ (mulf (mulf (mulf (shapeCast _ (extractStridedSlice S4x4096x512 ![0, 0, 0] P slices_S4x4096x4360_S4x4096x512_0_0_0) shapeCasts_S4x4096x512_S4x4096x8x64) (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf (shapeCast _ (extractStridedSlice S4x4096x512 ![0, 0, 0] P slices_S4x4096x4360_S4x4096x512_0_0_0) shapeCasts_S4x4096x512_S4x4096x8x64) (shapeCast _ (extractStridedSlice S4x4096x512 ![0, 0, 0] P slices_S4x4096x4360_S4x4096x512_0_0_0) shapeCasts_S4x4096x512_S4x4096x8x64)) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 (shapeCast _ A5 shapeCasts_S1x64_S64)))) (broadcastInDim S4x4096x8x64 ![] bcast_S_S4x4096x8x64 (constant S_ .f32 0x3E38AA3B#32))) shapeCasts_S4x4096x8x64_S4x4096x512) bitsLt_bf16_f32

/-- The first keys. -/
def refFk (P : FVec Ideal S4x4096x4360 .f32) (A6 : FVec Ideal S1x64 .f32) : FVec Ideal S4x4096x512 .bf16 :=
  truncf .bf16 (shapeCast _ (mulf (mulf (shapeCast _ (extractStridedSlice S4x4096x512 ![0, 0, 512] P slices_S4x4096x4360_S4x4096x512_0_0_512) shapeCasts_S4x4096x512_S4x4096x8x64) (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf (shapeCast _ (extractStridedSlice S4x4096x512 ![0, 0, 512] P slices_S4x4096x4360_S4x4096x512_0_0_512) shapeCasts_S4x4096x512_S4x4096x8x64) (shapeCast _ (extractStridedSlice S4x4096x512 ![0, 0, 512] P slices_S4x4096x4360_S4x4096x512_0_0_512) shapeCasts_S4x4096x512_S4x4096x8x64)) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 (shapeCast _ A6 shapeCasts_S1x64_S64)))) shapeCasts_S4x4096x8x64_S4x4096x512) bitsLt_bf16_f32

/-- The first values, a head's rows over a row of ones, in blocks of 512. -/
def refFv (P : FVec Ideal S4x4096x4360 .f32) : FVec Ideal S4x8x8x128x512 .bf16 :=
  truncf .bf16 (concatenate S4x8x8x128x512 3 [⟨S4x8x8x64x512, (transpose S4x8x8x64x512 [0, 3, 1, 4, 2] (shapeCast _ (extractStridedSlice S4x4096x512 ![0, 0, 1024] P slices_S4x4096x4360_S4x4096x512_0_0_1024) shapeCasts_S4x4096x512_S4x8x512x8x64) transposes_S4x8x512x8x64_S4x8x8x64x512_0_3_1_4_2)⟩, ⟨S4x8x8x64x512, (broadcastInDim S4x8x8x64x512 ![3, 4] bcast_S64x1_S4x8x8x64x512_3_4 (broadcastInDim S64x1 ![0] bcast_S64_S64x1_0 (uitofp .f32 (cmpi .eq (iotaInDim S64 32 0) (broadcastInDim S64 ![] bcast_S_S64 (constantI S_ 32 0#32))))))⟩] concatenates_S4x8x8x64x512_S4x8x8x64x512_S4x8x8x128x512_d3) bitsLt_bf16_f32

/-- The second queries, their heads in the order the attention takes them. -/
def refSq (P : FVec Ideal S4x4096x4360 .f32) (A7 : FVec Ideal S1x64 .f32) : FVec Ideal S4x4096x512 .bf16 :=
  truncf .bf16 (shapeCast _ (transpose S4x4096x4x2x64 [0, 1, 3, 2, 4] (shapeCast _ (mulf (mulf (mulf (shapeCast _ (extractStridedSlice S4x4096x512 ![0, 0, 1544] P slices_S4x4096x4360_S4x4096x512_0_0_1544) shapeCasts_S4x4096x512_S4x4096x8x64) (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf (shapeCast _ (extractStridedSlice S4x4096x512 ![0, 0, 1544] P slices_S4x4096x4360_S4x4096x512_0_0_1544) shapeCasts_S4x4096x512_S4x4096x8x64) (shapeCast _ (extractStridedSlice S4x4096x512 ![0, 0, 1544] P slices_S4x4096x4360_S4x4096x512_0_0_1544) shapeCasts_S4x4096x512_S4x4096x8x64)) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 (shapeCast _ A7 shapeCasts_S1x64_S64)))) (broadcastInDim S4x4096x8x64 ![] bcast_S_S4x4096x8x64 (constant S_ .f32 0x3E000000#32))) shapeCasts_S4x4096x8x64_S4x4096x2x4x64) transposes_S4x4096x2x4x64_S4x4096x4x2x64_0_1_3_2_4) shapeCasts_S4x4096x4x2x64_S4x4096x512) bitsLt_bf16_f32

/-- The second keys. -/
def refSk (P : FVec Ideal S4x4096x4360 .f32) (A8 : FVec Ideal S1x64 .f32) : FVec Ideal S4x4096x128 .bf16 :=
  truncf .bf16 (shapeCast _ (mulf (mulf (shapeCast _ (extractStridedSlice S4x4096x128 ![0, 0, 2056] P slices_S4x4096x4360_S4x4096x128_0_0_2056) shapeCasts_S4x4096x128_S4x4096x2x64) (broadcastInDim S4x4096x2x64 ![0, 1, 2, 3] bcast_S4x4096x2x1_S4x4096x2x64_0_1_2_3 (Host.rsqrt (addf (Host.divf (broadcastInDim S4x4096x2x1 ![0, 1, 2] bcast_S4x4096x2_S4x4096x2x1_0_1_2 (Host.reduceAdd (mulf (shapeCast _ (extractStridedSlice S4x4096x128 ![0, 0, 2056] P slices_S4x4096x4360_S4x4096x128_0_0_2056) shapeCasts_S4x4096x128_S4x4096x2x64) (shapeCast _ (extractStridedSlice S4x4096x128 ![0, 0, 2056] P slices_S4x4096x4360_S4x4096x128_0_0_2056) shapeCasts_S4x4096x128_S4x4096x2x64)) (constant S_ .f32 0x00000000#32) reducesTo_S4x4096x2x64_S4x4096x2_d3 h_S_)) (broadcastInDim S4x4096x2x1 ![] bcast_S_S4x4096x2x1 (constant S_ .f32 0x42800000#32))) (broadcastInDim S4x4096x2x1 ![] bcast_S_S4x4096x2x1 (constant S_ .f32 0x358637BD#32)))))) (broadcastInDim S4x4096x2x64 ![0, 1, 2, 3] bcast_S1x1x1x64_S4x4096x2x64_0_1_2_3 (broadcastInDim S1x1x1x64 ![3] bcast_S64_S1x1x1x64_3 (shapeCast _ A8 shapeCasts_S1x64_S64)))) shapeCasts_S4x4096x2x64_S4x4096x128) bitsLt_bf16_f32

/-- The second values, in blocks of 128. -/
def refSv (P : FVec Ideal S4x4096x4360 .f32) : FVec Ideal S4x2x32x128x128 .bf16 :=
  truncf .bf16 (concatenate S4x2x32x128x128 3 [⟨S4x2x32x64x128, (transpose S4x2x32x64x128 [0, 3, 1, 4, 2] (shapeCast _ (extractStridedSlice S4x4096x128 ![0, 0, 2184] P slices_S4x4096x4360_S4x4096x128_0_0_2184) shapeCasts_S4x4096x128_S4x32x128x2x64) transposes_S4x32x128x2x64_S4x2x32x64x128_0_3_1_4_2)⟩, ⟨S4x2x32x64x128, (broadcastInDim S4x2x32x64x128 ![3, 4] bcast_S64x1_S4x2x32x64x128_3_4 (broadcastInDim S64x1 ![0] bcast_S64_S64x1_0 (uitofp .f32 (cmpi .eq (iotaInDim S64 32 0) (broadcastInDim S64 ![] bcast_S_S64 (constantI S_ 32 0#32))))))⟩] concatenates_S4x2x32x64x128_S4x2x32x64x128_S4x2x32x128x128_d3) bitsLt_bf16_f32

theorem refProj_at (A0 : FVec Ideal S4x4096x1024 .f32) (A2 : FVec Ideal S1x1024 .f32) (A3 : FVec Ideal S1x1024x4360 .f32) (b : Fin 4) (s : Fin 4096) (q : Fin 4360) :
    refProj A0 A2 A3 (ix3 b s q) = proj (fun k => A0 (ix3 b s k)) (fun k => A2 (ix2 0 k)) (fun k => A3 (ix3 0 k q)) := by
  unfold refProj proj normed
  pointwise

theorem row_at (d : Fin 128) :
    (FloatOps.uitofp .f32 (IntOp.cmpi CmpIPredicate.eq (BitVec.ofNat 32 (d.val - 64)) 0#32) : Ideal .f32) = if d.val - 64 = 0 then 1 else 0 := by
  have h : ∀ d : Fin 128, IntOp.cmpi CmpIPredicate.eq (BitVec.ofNat 32 (d.val - 64)) 0#32 = BitVec.ofBool (decide (d.val - 64 = 0)) := by decide +kernel
  rw [h d]
  show (((BitVec.ofBool (decide (d.val - 64 = 0))).toNat : ℝ) : EReal) = _
  by_cases h0 : d.val - 64 = 0
  · simp [h0]
  · simp [h0]

variable (P : FVec Ideal S4x4096x4360 .f32)

theorem refFq_at (A : FVec Ideal S1x64 .f32) (b : Fin 4) (s : Fin 4096) (l : Fin 512) :
    refFq P A (ix3 b s l) = P (ix3 b s ⟨l.val, by omega⟩) * factor (fun d => P (ix3 b s ⟨l.val / 64 * 64 + d.val, by omega⟩))
      * A (ix2 0 ⟨l.val % 64, by omega⟩) * Ideal.ofBits .f32 0x3E38AA3B#32 := by
  unfold refFq factor
  pointwise

theorem refFk_at (A : FVec Ideal S1x64 .f32) (b : Fin 4) (s : Fin 4096) (l : Fin 512) :
    refFk P A (ix3 b s l) = P (ix3 b s ⟨512 + l.val, by omega⟩) * factor (fun d => P (ix3 b s ⟨512 + (l.val / 64 * 64 + d.val), by omega⟩))
      * A (ix2 0 ⟨l.val % 64, by omega⟩) := by
  unfold refFk factor
  pointwise

theorem refSq_at (A : FVec Ideal S1x64 .f32) (b : Fin 4) (s : Fin 4096) (l : Fin 512) :
    refSq P A (ix3 b s l) = P (ix3 b s ⟨1544 + (toHead l).val, by omega⟩)
      * factor (fun d => P (ix3 b s ⟨1544 + ((l.val / 64 % 2 * 4 + l.val / 128) * 64 + d.val), by omega⟩))
      * A (ix2 0 ⟨l.val % 64, by omega⟩) * Ideal.ofBits .f32 0x3E000000#32 := by
  unfold refSq factor toHead
  pointwise

theorem refSk_at (A : FVec Ideal S1x64 .f32) (b : Fin 4) (s : Fin 4096) (l : Fin 128) :
    refSk P A (ix3 b s l) = P (ix3 b s ⟨2056 + l.val, by omega⟩) * factor (fun d => P (ix3 b s ⟨2056 + (l.val / 64 * 64 + d.val), by omega⟩))
      * A (ix2 0 ⟨l.val % 64, by omega⟩) := by
  unfold refSk factor
  pointwise

theorem refFv_at (b : Fin 4) (h n : Fin 8) (d : Fin 128) (r : Fin 512) :
    refFv P (ix5 b h n d r) = withOnes (fun d => P (ix3 b ⟨n.val * 512 + r.val, by omega⟩ ⟨1024 + (h.val * 64 + d.val), by omega⟩)) d := by
  unfold refFv
  pointwise [row_at]

theorem refSv_at (b : Fin 4) (h : Fin 2) (n : Fin 32) (d : Fin 128) (r : Fin 128) :
    refSv P (ix5 b h n d r) = withOnes (fun d => P (ix3 b ⟨n.val * 128 + r.val, by omega⟩ ⟨2184 + (h.val * 64 + d.val), by omega⟩)) d := by
  unfold refSv
  pointwise [row_at]

section Results

variable (m : (ℓ : Loc nD τ sig) → Buf (Elt Ideal) ℓ) (c : Dev nD)

/-- The projection of the launch arrays. -/
abbrev projOf : FVec Ideal S4x4096x4360 .f32 :=
  refProj (m ((c.tc : Thread nD τ).loc main_arg0)) (m ((c.tc : Thread nD τ).loc main_arg2)) (m ((c.tc : Thread nD τ).loc main_arg3))

theorem resFq : res_main_v91 m c = refFq (projOf m c) (m ((c.tc : Thread nD τ).loc main_arg5)) := rfl
theorem resFk : res_main_v93 m c = refFk (projOf m c) (m ((c.tc : Thread nD τ).loc main_arg6)) := rfl
theorem resSq : res_main_v104 m c = refSq (projOf m c) (m ((c.tc : Thread nD τ).loc main_arg7)) := rfl
theorem resSk : res_main_v106 m c = refSk (projOf m c) (m ((c.tc : Thread nD τ).loc main_arg8)) := rfl

end Results

end Cert.Reference3Ideal.Value

end
-- ==== Proof.QkvPre.lean ====
/- What the second precondition says of the arrays: every entry of the input, of the gain and of the weights is real. -/
module

public import proofs.«01_k».proof.Proof.Gen.Pre_finite_weights
public import proofs.«01_k».proof.Proof.QkvModel
public import Idealize.ShloMosaic.Lib.ReduceAll

@[expose] public section

namespace Cert.Qkv

open Idealize.ShloMosaic Cert.Pre_finite_weights

instance : Subsingleton S_.Idx := ⟨fun a b => funext fun i => i.elim0⟩

theorem word_top : (Ideal.ofBits .f32 0x7F800000#32 : EReal) = ⊤ := by
  simp only [Ideal.ofBits, Ideal.ieee]
  norm_num [BitVec.extractLsb', BitVec.toNat, Nat.shiftRight_eq_div_pow, BitVec.ofNat]

/-- A bit that says `|x| < ∞` says that `x` is real. -/
theorem real_of_bit (x : EReal) (h : FloatOps.cmpf .olt (FloatOps.absf (F := Ideal) (φ := .f32) x) (Ideal.ofBits .f32 0x7F800000#32) = 1#1) : IsReal x := by
  rw [word_top] at h
  induction x using EReal.rec with
  | bot =>
    have hm : FloatOps.absf (F := Ideal) (φ := .f32) (⊥ : EReal) = ⊤ := by
      show max (⊥ : EReal) (-⊥) = ⊤
      simp
    rw [hm] at h
    exact absurd h (by simp [FloatOps.cmpf, Ideal.cmp])
  | coe r => exact ⟨r, rfl⟩
  | top =>
    have hm : FloatOps.absf (F := Ideal) (φ := .f32) (⊤ : EReal) = ⊤ := by
      show max (⊤ : EReal) (-⊤) = ⊤
      simp
    rw [hm] at h
    exact absurd h (by simp [FloatOps.cmpf, Ideal.cmp])

/-- The printed precondition, read back. -/
theorem real_of_fn (a0 : FVec Ideal S4x4096x1024 .f32) (a1 : FVec Ideal S8x1 .f32) (a2 : FVec Ideal S1x1024 .f32) (a3 : FVec Ideal S1x1024x4360 .f32)
    (a4 : FVec Ideal S1x8 .f32) (a5 a6 a7 a8 : FVec Ideal S1x64 .f32)
    (h : fn (F := Ideal) a0 a1 a2 a3 a4 a5 a6 a7 a8 = fun _ => 1#1) :
    (∀ i, IsReal (a2 i)) ∧ ∀ i, IsReal (a3 i) := by
  have h0 := congrFun h (fun i => i.elim0)
  obtain ⟨h2, h3⟩ := IntOp.andi_eq_one.1 h0
  exact ⟨fun i => real_of_bit _ (Host.reduce_andi_all _ _ _ _ _ h2 i),
    fun i => real_of_bit _ (Host.reduce_andi_all _ _ _ _ _ h3 i)⟩

end Cert.Qkv
-- ==== Proof.QkvClaims.lean ====
/- The projection call: both frames, `preserves`, and the six results' values. -/
module

public import proofs.«01_k».proof.Defs
public import proofs.«01_k».proof.Proof.Gen.Kernel3.Frame
public import proofs.«01_k».proof.Proof.QkvArray
public import proofs.«01_k».proof.Proof.QkvRef
public import proofs.«01_k».proof.Proof.QkvPre
public import Idealize.ShloMosaic.Lib.Quiescent

@[expose] public section

noncomputable section

open Idealize.ShloMosaic Idealize.SL.Sem

namespace Cert.Proof

theorem frame_p3 : Cert.quiescent_Kernel3 := fun m ρ _ => Cert.Kernel3.Gen.frame (F := Bits) m ρ

theorem frame_pi3 : Cert.quiescent_Kernel3Ideal := fun m ρ _ => Cert.Kernel3Ideal.Gen.frame (F := Ideal) m ρ

theorem frame_pi3_pre : Cert.quiescent_Kernel3Ideal_pre_finite_weights := fun m ρ _ => Cert.Kernel3Ideal.Gen.frame (F := Ideal) m ρ

theorem frame_ri3 : Cert.quiescent_Reference3Ideal := fun m ρ _ =>
  θ_run_mono (Cert.Reference3Ideal.Value.run (F := Ideal) m ρ) fun r h => ⟨fun c => (h c).2.2.2.2.2.2,
      Idealize.ShloMosaic.sem_eq_zero_of_no_sems (by decide) r.2⟩

theorem frame_ri3_pre : Cert.quiescent_Reference3Ideal_pre_finite_weights := fun m ρ _ =>
  θ_run_mono (Cert.Reference3Ideal.Value.run (F := Ideal) m ρ) fun r h => ⟨fun c => (h c).2.2.2.2.2.2,
      Idealize.ShloMosaic.sem_eq_zero_of_no_sems (by decide) r.2⟩

theorem preserves3 : Cert.preserves_Kernel3_Kernel3Ideal := trivial

section Heads

open Cert.Qkv

/-- A pair of heads of real entries: each lane over the root of its own head's mean square. -/
theorem heads_real (v : Fin 512 → EReal) (hv : ∀ q, IsReal (v q)) (l : Fin 512) :
    pair (fun k => v ⟨l.val / 128 * 128 + k.val, by omega⟩) ⟨l.val % 128, by omega⟩
      = v l * factor (fun d => v ⟨l.val / 64 * 64 + d.val, by omega⟩) := by
  refine (pair_eq (fun k => hv _) _).trans ?_
  refine congrArg₂ (· * ·) (congrArg v (Fin.ext ?_)) (congrArg factor (funext fun d => congrArg v (Fin.ext ?_)))
  · show l.val / 128 * 128 + l.val % 128 = l.val
    omega
  · show l.val / 128 * 128 + (l.val % 128 / 64 * 64 + d.val) = l.val / 64 * 64 + d.val
    omega

end Heads

section Values

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)

/-- The arguments the results read agree, and the weights of the projection are real. -/
structure Agree3 : Prop where
  a0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  a2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
  a3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
  a5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
  a6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
  a7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
  a8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
  r2 : ∀ i, Cert.Qkv.IsReal (m ((c.tc : Thread Cert.Kernel3Ideal.nD Cert.Kernel3Ideal.τ).loc Cert.Kernel3Ideal.main_arg2) i)
  r3 : ∀ i, Cert.Qkv.IsReal (m ((c.tc : Thread Cert.Kernel3Ideal.nD Cert.Kernel3Ideal.τ).loc Cert.Kernel3Ideal.main_arg3) i)

variable {m m' c}

open Cert.Kernel3Ideal.Work (projK scaled) in
theorem projK_real (h : Agree3 m m' c) (b : Fin 4) (s : Fin 4096) (q : Fin 4360) : Cert.Qkv.IsReal (projK m c b s q) :=
  Cert.Qkv.proj_real _ (fun k => h.r2 _) (fun k => h.r3 _)

open Cert.Reference3Ideal.Value in
theorem proj_eq (h : Agree3 m m' c) (b : Fin 4) (s : Fin 4096) (q : Fin 4360) :
    (projOf m' c (ix3 b s q) : EReal) = Cert.Kernel3Ideal.Work.projK m c b s q := by
  refine (refProj_at _ _ _ b s q).trans ?_
  rw [h.a0, h.a2, h.a3]
  rfl

open Cert.Reference3Ideal.Value in
theorem fq_eq (h : Agree3 m m' c) :
    (refFq (projOf m' c) (m' ((c.tc : Thread Cert.Reference3Ideal.nD Cert.Reference3Ideal.τ).loc Cert.Reference3Ideal.main_arg5)) : (⟨3, ![4, 4096, 512]⟩ : Shape).Idx → EReal) = Cert.Kernel3Ideal.Work.fqArr m c := by
  funext i
  obtain ⟨b, s, l, rfl⟩ : ∃ (b : Fin 4) (s : Fin 4096) (l : Fin 512), i = ix3 b s l := ⟨i 0, i 1, i 2, eq_ix3 i⟩
  refine (refFq_at (projOf m' c) _ b s l).trans ?_
  rw [h.a5]
  show _ = Cert.Kernel3Ideal.Work.fqVal m c b s l
  unfold Cert.Kernel3Ideal.Work.fqVal
  have hp := heads_real (fun q => Cert.Kernel3Ideal.Work.projK m c b s ⟨q.val, by omega⟩) (fun q => projK_real h b s _) l
  refine Eq.trans ?_ (congrArg (· * _) hp).symm
  refine (mul_assoc (G := EReal) _ _ _).trans ?_
  refine congrArg (· * _) (congrArg₂ (· * ·) (proj_eq h b s _) (congrArg Cert.Qkv.factor (funext fun d => ?_)))
  exact proj_eq h b s _

open Cert.Reference3Ideal.Value in
theorem fk_eq (h : Agree3 m m' c) :
    (refFk (projOf m' c) (m' ((c.tc : Thread Cert.Reference3Ideal.nD Cert.Reference3Ideal.τ).loc Cert.Reference3Ideal.main_arg6)) : (⟨3, ![4, 4096, 512]⟩ : Shape).Idx → EReal) = Cert.Kernel3Ideal.Work.fkArr m c := by
  funext i
  obtain ⟨b, s, l, rfl⟩ : ∃ (b : Fin 4) (s : Fin 4096) (l : Fin 512), i = ix3 b s l := ⟨i 0, i 1, i 2, eq_ix3 i⟩
  refine (refFk_at (projOf m' c) _ b s l).trans ?_
  rw [h.a6]
  show _ = Cert.Kernel3Ideal.Work.fkVal m c b s l
  unfold Cert.Kernel3Ideal.Work.fkVal
  have hp := heads_real (fun q => Cert.Kernel3Ideal.Work.projK m c b s ⟨512 + q.val, by omega⟩) (fun q => projK_real h b s _) l
  refine Eq.trans ?_ (congrArg (· * _) hp).symm
  refine congrArg (· * _) (congrArg₂ (· * ·) (proj_eq h b s _) (congrArg Cert.Qkv.factor (funext fun d => ?_)))
  exact proj_eq h b s _

open Cert.Reference3Ideal.Value in
theorem sq_eq (h : Agree3 m m' c) :
    (refSq (projOf m' c) (m' ((c.tc : Thread Cert.Reference3Ideal.nD Cert.Reference3Ideal.τ).loc Cert.Reference3Ideal.main_arg7)) : (⟨3, ![4, 4096, 512]⟩ : Shape).Idx → EReal) = Cert.Kernel3Ideal.Work.sqArr m c := by
  funext i
  obtain ⟨b, s, l, rfl⟩ : ∃ (b : Fin 4) (s : Fin 4096) (l : Fin 512), i = ix3 b s l := ⟨i 0, i 1, i 2, eq_ix3 i⟩
  refine (refSq_at (projOf m' c) _ b s l).trans ?_
  rw [h.a7]
  show _ = Cert.Kernel3Ideal.Work.sqVal m c b s l
  unfold Cert.Kernel3Ideal.Work.sqVal
  have hp := heads_real (fun q => Cert.Kernel3Ideal.Work.projK m c b s ⟨1544 + (Cert.Mix.toHead q).val, by omega⟩) (fun q => projK_real h b s _) l
  refine Eq.trans ?_ (congrArg (· * _) hp).symm
  refine (mul_assoc (G := EReal) _ _ _).trans ?_
  refine congrArg (· * _) (congrArg₂ (· * ·) (proj_eq h b s _) (congrArg Cert.Qkv.factor (funext fun d => ?_)))
  refine (proj_eq h b s _).trans (congrArg (Cert.Kernel3Ideal.Work.projK m c b s) (Fin.ext ?_))
  show 1544 + ((l.val / 64 % 2 * 4 + l.val / 128) * 64 + d.val)
    = 1544 + (((l.val / 64 * 64 + d.val) / 64 % 2 * 4 + (l.val / 64 * 64 + d.val) / 128) * 64 + (l.val / 64 * 64 + d.val) % 64)
  omega

open Cert.Reference3Ideal.Value in
theorem sk_eq (h : Agree3 m m' c) :
    (refSk (projOf m' c) (m' ((c.tc : Thread Cert.Reference3Ideal.nD Cert.Reference3Ideal.τ).loc Cert.Reference3Ideal.main_arg8)) : (⟨3, ![4, 4096, 128]⟩ : Shape).Idx → EReal) = Cert.Kernel3Ideal.Work.skArr m c := by
  funext i
  obtain ⟨b, s, l, rfl⟩ : ∃ (b : Fin 4) (s : Fin 4096) (l : Fin 128), i = ix3 b s l := ⟨i 0, i 1, i 2, eq_ix3 i⟩
  refine (refSk_at (projOf m' c) _ b s l).trans ?_
  rw [h.a8]
  show _ = Cert.Kernel3Ideal.Work.skVal m c b s l
  unfold Cert.Kernel3Ideal.Work.skVal
  have hp := Cert.Qkv.pair_eq (V := fun q => Cert.Kernel3Ideal.Work.projK m c b s ⟨2056 + q.val, by omega⟩) (fun q => projK_real h b s _) l
  refine Eq.trans ?_ (congrArg (· * _) hp).symm
  refine congrArg (· * _) (congrArg₂ (· * ·) (proj_eq h b s _) (congrArg Cert.Qkv.factor (funext fun d => ?_)))
  exact proj_eq h b s _

open Cert.Reference3Ideal.Value in
theorem fv_eq (h : Agree3 m m' c) :
    (refFv (projOf m' c) : (⟨5, ![4, 8, 8, 128, 512]⟩ : Shape).Idx → EReal) = Cert.Kernel3Ideal.Work.fvArr m c := by
  funext i
  obtain ⟨b, e, n, d, r, rfl⟩ : ∃ (b : Fin 4) (e : Fin 8) (n : Fin 8) (d : Fin 128) (r : Fin 512), i = ix5 b e n d r :=
    ⟨i 0, i 1, i 2, i 3, i 4, eq_ix5 i⟩
  refine (refFv_at (projOf m' c) b e n d r).trans ?_
  show _ = Cert.Kernel3Ideal.Work.fvVal m c b e n d r
  unfold Cert.Kernel3Ideal.Work.fvVal
  exact Cert.Kernel3Ideal.Work.withOnes_congr (fun d => proj_eq h b _ _) rfl

open Cert.Reference3Ideal.Value in
theorem sv_eq (h : Agree3 m m' c) :
    (refSv (projOf m' c) : (⟨5, ![4, 2, 32, 128, 128]⟩ : Shape).Idx → EReal) = Cert.Kernel3Ideal.Work.svArr m c := by
  funext i
  obtain ⟨b, e, n, d, r, rfl⟩ : ∃ (b : Fin 4) (e : Fin 2) (n : Fin 32) (d : Fin 128) (r : Fin 128), i = ix5 b e n d r :=
    ⟨i 0, i 1, i 2, i 3, i 4, eq_ix5 i⟩
  refine (refSv_at (projOf m' c) b e n d r).trans ?_
  show _ = Cert.Kernel3Ideal.Work.svVal m c b e n d r
  unfold Cert.Kernel3Ideal.Work.svVal
  exact Cert.Kernel3Ideal.Work.withOnes_congr (fun d => proj_eq h b _ _) rfl

end Values

theorem algebraic3 : Cert.algebraic_Kernel3Ideal_Reference3Ideal_pre_finite_weights := by
  intro m g m' g' hpre hargs
  have ha : ∀ c, Agree3 m m' c := fun c => by
    obtain ⟨h0, _, h2, h3, _, h5, h6, h7, h8⟩ := hargs c
    obtain ⟨r2, r3⟩ := Cert.Qkv.real_of_fn _ _ _ _ _ _ _ _ _ (hpre c)
    exact ⟨h0, h2, h3, h5, h6, h7, h8, r2, r3⟩
  refine ⟨fun c => Cert.Kernel3Ideal.Work.fqArr m c, fun c => Cert.Kernel3Ideal.Work.fkArr m c, fun c => Cert.Kernel3Ideal.Work.fvArr m c,
    fun c => Cert.Kernel3Ideal.Work.sqArr m c, fun c => Cert.Kernel3Ideal.Work.skArr m c, fun c => Cert.Kernel3Ideal.Work.svArr m c, ?_, ?_⟩
  · refine θ_run_mono (Cert.Kernel3Ideal.Value.run_blocks (F := Ideal) m g) fun r h c => ?_
    obtain ⟨e0, e1, _, e3, e4, e5, e6, _, hr⟩ := h c
    exact ⟨e0.trans (Cert.Kernel3Ideal.Work.arr13 m c), e1.trans (Cert.Kernel3Ideal.Work.arr14 m c), e3.trans (Cert.Kernel3Ideal.Work.arr16 m c),
      e4.trans (Cert.Kernel3Ideal.Work.arr17 m c), e5.trans (Cert.Kernel3Ideal.Work.arr18 m c), e6.trans (Cert.Kernel3Ideal.Work.arr19 m c), hr⟩
  · refine θ_run_mono (Cert.Reference3Ideal.Value.run (F := Ideal) m' g') fun r h c => ?_
    obtain ⟨e0, e1, e2, e3, e4, e5, hr⟩ := h c
    exact ⟨e0.trans (fq_eq (ha c)), e1.trans (fk_eq (ha c)), e2.trans (fv_eq (ha c)), e3.trans (sq_eq (ha c)), e4.trans (sk_eq (ha c)),
      e5.trans (sv_eq (ha c)), hr⟩

end Cert.Proof

end
-- ==== Proof.FoxMath.lean ====
/- A softmax in base two taken block by block: the running maximum, and the sums scaled to it. -/
module

public import proofs.«01_k».proof.Proof.QkvModel

@[expose] public section

noncomputable section

namespace Cert.Fox

open Idealize.ShloMosaic Cert.Qkv

/-- Two to the power of minus `u`. -/
def down (u : ℝ) : EReal := ((Real.rpow 2 (-u) : ℝ) : EReal)

theorem pow_pos (u : ℝ) : (0 : ℝ) < Real.rpow 2 u := Real.rpow_pos_of_pos (by norm_num) u

theorem pow_add (a b : ℝ) : Real.rpow 2 (a + b) = Real.rpow 2 a * Real.rpow 2 b := Real.rpow_add (by norm_num) a b

/-- A positive real factor comes out of a sum. -/
theorem mul_add_real {c : ℝ} (hc : 0 < c) (x y : EReal) : (c : EReal) * (x + y) = (c : EReal) * x + (c : EReal) * y :=
  EReal.left_distrib_of_nonneg_of_ne_top (EReal.coe_nonneg.2 hc.le) (EReal.coe_ne_top c) x y

theorem mul_sum_real {c : ℝ} (hc : 0 < c) {n : Nat} (f : Fin n → EReal) : (c : EReal) * ∑ j, f j = ∑ j, (c : EReal) * f j := by
  induction n with
  | zero => simp
  | succ n ih => rw [Fin.sum_univ_castSucc, Fin.sum_univ_castSucc, mul_add_real hc, ih]

/-- The power of a difference with a real. -/
theorem exp2_sub {t : EReal} (ht : t ≠ ⊤) (u : ℝ) : Ideal.exp2 (t - (u : EReal)) = down u * Ideal.exp2 t := by
  induction t using EReal.rec with
  | bot =>
    rw [EReal.bot_sub]
    show (0 : EReal) = down u * 0
    rw [mul_zero]
  | coe r =>
    rw [← EReal.coe_sub, sub_eq_neg_add]
    show ((Real.rpow 2 (-u + r) : ℝ) : EReal) = ((Real.rpow 2 (-u) : ℝ) : EReal) * ((Real.rpow 2 r : ℝ) : EReal)
    rw [pow_add, EReal.coe_mul]
  | top => exact absurd rfl ht

theorem fold_ne_top {n : Nat} {b : EReal} (hb : b ≠ ⊤) (t : Fin n → EReal) (ht : ∀ j, t j ≠ ⊤) :
    (Finset.univ : Finset (Fin n)).fold max b t ≠ ⊤ := by
  have h : (Finset.univ : Finset (Fin n)).fold max b t < ⊤ :=
    (Finset.fold_max_lt _).2 ⟨lt_top_iff_ne_top.2 hb, fun j _ => lt_top_iff_ne_top.2 (ht j)⟩
  exact h.ne

theorem real_of_ne {x : EReal} (h : x ≠ ⊤) (h' : x ≠ ⊥) : IsReal x := ⟨x.toReal, (EReal.coe_toReal h h').symm⟩

/-- The maximum of a first block is real when one score is. -/
theorem fold_real {n : Nat} (t : Fin n → EReal) (ht : ∀ j, t j ≠ ⊤) (j : Fin n) (hj : IsReal (t j)) {b : EReal} (hb : b = ⊥) :
    IsReal ((Finset.univ : Finset (Fin n)).fold max b t) := by
  subst hb
  refine real_of_ne (fold_ne_top (by simp) t ht) fun h => ?_
  obtain ⟨r, hr⟩ := hj
  have h1 : t j ≤ (Finset.univ : Finset (Fin n)).fold max ⊥ t := (Finset.le_fold_max _).2 (Or.inr ⟨j, Finset.mem_univ j, le_refl _⟩)
  rw [h, hr] at h1
  exact EReal.coe_ne_bot r (le_bot_iff.1 h1)

/-- So is the maximum with a real. -/
theorem max_real {n : Nat} (u : ℝ) (t : Fin n → EReal) (ht : ∀ j, t j ≠ ⊤) {b : EReal} (hb : b = ⊥) :
    IsReal (max (u : EReal) ((Finset.univ : Finset (Fin n)).fold max b t)) := by
  subst hb
  refine real_of_ne (fun h => ?_) fun h => ?_
  · rcases max_eq_top.1 h with h1 | h1
    · exact EReal.coe_ne_top u h1
    · exact fold_ne_top (by simp) t ht h1
  · exact EReal.coe_ne_bot u (max_eq_bot.1 h).1

/-- A block's sum, scaled to a maximum. -/
theorem block_sum {n : Nat} (u : ℝ) (t v : Fin n → EReal) (ht : ∀ j, t j ≠ ⊤) :
    ∑ j, v j * Ideal.exp2 (t j - (u : EReal)) = down u * ∑ j, v j * Ideal.exp2 (t j) := by
  unfold down
  rw [mul_sum_real (pow_pos _)]
  refine Finset.sum_congr rfl fun j _ => ?_
  rw [exp2_sub (ht j)]
  unfold down
  exact mul_left_comm _ _ _

/-- The running sum, moved to a new maximum, with the new block added. -/
theorem step_sum {n : Nat} (u u' : ℝ) (t v : Fin n → EReal) (ht : ∀ j, t j ≠ ⊤) (N : EReal) :
    Ideal.exp2 ((u : EReal) - (u' : EReal)) * (down u * N) + ∑ j, v j * Ideal.exp2 (t j - (u' : EReal))
      = down u' * (N + ∑ j, v j * Ideal.exp2 (t j)) := by
  rw [block_sum u' t v ht, exp2_sub (EReal.coe_ne_top u)]
  have h : down u' * Ideal.exp2 (u : EReal) * (down u * N) = down u' * N := by
    have e : Ideal.exp2 (u : EReal) * down u = 1 := by
      show ((Real.rpow 2 u : ℝ) : EReal) * ((Real.rpow 2 (-u) : ℝ) : EReal) = 1
      rw [← EReal.coe_mul, ← pow_add, add_neg_cancel]
      show (((2 : ℝ) ^ (0 : ℝ) : ℝ) : EReal) = 1
      rw [Real.rpow_zero]
      rfl
    rw [mul_assoc, ← mul_assoc (Ideal.exp2 _), e, one_mul]
  rw [h]
  unfold down
  rw [mul_add_real (pow_pos _)]

/-- The scale of the sums cancels in their quotient. -/
theorem quotient (u : ℝ) (N : EReal) {D : ℝ} (hD : 0 < D) : Ideal.div (down u * N) (down u * (D : EReal)) = Ideal.div N (D : EReal) := by
  unfold Ideal.div down
  have hc := pow_pos (-u)
  rw [← EReal.coe_mul, if_neg (by rw [← EReal.coe_zero, EReal.coe_eq_coe_iff]; positivity), if_neg (by rw [← EReal.coe_zero, EReal.coe_eq_coe_iff]; positivity),
    ← EReal.coe_inv, ← EReal.coe_inv, mul_inv, EReal.coe_mul, mul_mul_mul_comm, ← EReal.coe_mul, mul_inv_cancel₀ hc.ne', EReal.coe_one, one_mul]

theorem exp2_nonneg_real {t : EReal} (ht : t ≠ ⊤) : ∃ r : ℝ, 0 ≤ r ∧ Ideal.exp2 t = (r : EReal) := by
  induction t using EReal.rec with
  | bot => exact ⟨0, le_refl _, rfl⟩
  | coe r => exact ⟨_, (pow_pos r).le, rfl⟩
  | top => exact absurd rfl ht

theorem exp2_pos_real {t : EReal} (ht : IsReal t) : ∃ r : ℝ, 0 < r ∧ Ideal.exp2 t = (r : EReal) := by
  obtain ⟨r, rfl⟩ := ht
  exact ⟨_, pow_pos r, rfl⟩

theorem exp2_bot : Ideal.exp2 ⊥ = 0 := rfl

/-- A sum of nonnegative reals is one. -/
theorem sum_nonneg_real {n : Nat} (f : Fin n → EReal) (hf : ∀ j, ∃ r : ℝ, 0 ≤ r ∧ f j = (r : EReal)) : ∃ r : ℝ, 0 ≤ r ∧ ∑ j, f j = (r : EReal) := by
  choose g hg using hf
  exact ⟨∑ j, g j, Finset.sum_nonneg fun j _ => (hg j).1, by rw [← coe_sum]; exact Finset.sum_congr rfl fun j _ => (hg j).2⟩

/-- It is positive when one of them is. -/
theorem sum_pos_real {n : Nat} (f : Fin n → EReal) (hf : ∀ j, ∃ r : ℝ, 0 ≤ r ∧ f j = (r : EReal)) (i : Fin n) (hi : ∃ r : ℝ, 0 < r ∧ f i = (r : EReal)) :
    ∃ r : ℝ, 0 < r ∧ ∑ j, f j = (r : EReal) := by
  choose g hg using hf
  obtain ⟨r, hr, hi⟩ := hi
  have e : g i = r := EReal.coe_eq_coe_iff.1 ((hg i).2.symm.trans hi)
  refine ⟨∑ j, g j, ?_, by rw [← coe_sum]; exact Finset.sum_congr rfl fun j _ => (hg j).2⟩
  exact Finset.sum_pos' (fun j _ => (hg j).1) ⟨i, Finset.mem_univ i, by rw [e]; exact hr⟩

theorem sub_real {x : EReal} (h : IsReal x) (f : ℝ) : IsReal (x - (f : EReal)) := by
  obtain ⟨r, rfl⟩ := h
  exact ⟨r - f, (EReal.coe_sub r f).symm⟩

theorem sub_ne_top {x : EReal} (h : IsReal x) (f : ℝ) : x - (f : EReal) ≠ ⊤ := by
  obtain ⟨r, hr⟩ := sub_real h f
  rw [hr]
  exact EReal.coe_ne_top r

/-- The greatest of two blocks is real when one score of the second is. -/
theorem greatest_real {n k : Nat} (t : Fin n → EReal) (t' : Fin k → EReal) (ht : ∀ j, t j ≠ ⊤) (ht' : ∀ j, t' j ≠ ⊤) (j : Fin k) (hj : IsReal (t' j))
    {b : EReal} (hb : b = ⊥) : IsReal (max ((Finset.univ : Finset (Fin n)).fold max b t) ((Finset.univ : Finset (Fin k)).fold max b t')) := by
  obtain ⟨u, hu⟩ := fold_real t' ht' j hj hb
  rw [hu, max_comm]
  exact max_real u t ht hb

theorem down_add (a b : ℝ) : down (a + b) = down b * down a := by
  unfold down
  rw [neg_add_rev, pow_add, EReal.coe_mul]

/-- A weight taken from a score less two reals, and zero where the score is masked. -/
theorem scaled (p : Prop) [Decidable p] {x : EReal} (hx : IsReal x) (f T : ℝ) :
    Ideal.exp2 ((if p then x - (f : EReal) else ⊥) - (T : EReal)) = down (f + T) * (if p then Ideal.exp2 x else 0) := by
  split
  · rw [exp2_sub (sub_ne_top hx f), exp2_sub (fun h => by obtain ⟨r, rfl⟩ := hx; exact EReal.coe_ne_top r h), down_add, mul_assoc]
  · rw [EReal.bot_sub, mul_zero]
    rfl

/-- Weights with a common scale give the quotient of those without it. -/
theorem scaled_quotient {n k : Nat} (u : ℝ) (W w v : Fin n → EReal) (W' w' v' : Fin k → EReal) (hW : ∀ x, W x = down u * w x) (hW' : ∀ x, W' x = down u * w' x)
    {D : ℝ} (hD : 0 < D) (hs : ∑ x, w x + ∑ x, w' x = (D : EReal)) :
    Ideal.div (∑ x, W x * v x + ∑ x, v' x * W' x) (∑ x, W x + ∑ x, W' x) = Ideal.div (∑ x, w x * v x + ∑ x, v' x * w' x) (∑ x, w x + ∑ x, w' x) := by
  have h1 : ∑ x, W x * v x + ∑ x, v' x * W' x = down u * (∑ x, w x * v x + ∑ x, v' x * w' x) := by
    unfold down
    rw [mul_add_real (pow_pos _), mul_sum_real (pow_pos _), mul_sum_real (pow_pos _)]
    refine congrArg₂ (fun x y : EReal => x + y) (Finset.sum_congr rfl fun x _ => ?_) (Finset.sum_congr rfl fun x _ => ?_)
    · rw [hW, mul_assoc]; rfl
    · rw [hW', mul_left_comm]; rfl
  have h2 : ∑ x, W x + ∑ x, W' x = down u * (∑ x, w x + ∑ x, w' x) := by
    unfold down
    rw [mul_add_real (pow_pos _), mul_sum_real (pow_pos _), mul_sum_real (pow_pos _)]
    exact congrArg₂ (fun x y : EReal => x + y) (Finset.sum_congr rfl fun x _ => hW x) (Finset.sum_congr rfl fun x _ => hW' x)
  rw [h1, h2, hs, quotient u _ hD]

end Cert.Fox
-- ==== Proof.FoxPay.lean ====
/- The forgetting attention, what its stores take: the scores of a tile, the running maximum, and the sums. -/
module

public import proofs.«01_k».proof.Proof.Gen.Kernel4Ideal.Skeleton
public import proofs.«01_k».proof.Proof.FoxMath
public import Idealize.ShloMosaic.Lib.Pipeline.ValueKit
public import Idealize.ShloMosaic.Lib.StableHlo.ReadAt

@[expose] public section

noncomputable section

namespace Cert.Kernel4Ideal.Work

open Cert.Kernel4Ideal Cert.Kernel4Ideal.Gen Cert.Qkv Cert.Fox
open Idealize.ShloMosaic Idealize.ShloMosaic.TcCoe

/-- What each query column takes from a key row: its head's lanes of the query, then the picks of its head's three parts of the bias. -/
def wide (i : grid0.Coords) (q : Vec Ideal S1x512x128 .bf16) (x : Fin 1024) (l : Fin 256) : EReal :=
  (k0_pay21 (k0_pay18 i q) (k0_pay19 i) (k0_pay20 q) : FVec Ideal S1024x256 .bf16) (ix2 x l)

/-- A key row against a query column. -/
def score (W : Fin 1024 → Fin 256 → EReal) (k g : Fin 128 → EReal) (x : Fin 1024) : EReal :=
  ∑ l : Fin 128, k l * W x ⟨l.val, by omega⟩ + ∑ l : Fin 128, g l * W x ⟨128 + l.val, by omega⟩

theorem word_bot : (Ideal.ofBits .f32 4286578688#32 : EReal) = ⊥ := by
  simp only [Ideal.ofBits, Ideal.ieee]
  norm_num [BitVec.extractLsb', BitVec.toNat, Nat.shiftRight_eq_div_pow, BitVec.ofNat]

theorem mask_bot : (Named.named κ "mask" 4048155338#32 : Ideal .f32) = (⊥ : EReal) :=
  (IdealRules.named_const.statement κ "mask" .f32 4048155338#32 ⊥ rfl).2.2

/-- The least upper bound of a block of scores. -/
def top {n : Nat} (t : Fin n → EReal) : EReal := (Finset.univ : Finset (Fin n)).fold max (Ideal.ofBits .f32 4286578688#32) t

theorem pay22_at (i : grid0.Coords) (q : Vec Ideal S1x512x128 .bf16) (k g : Vec Ideal S1x512x128 .bf16) (j : Fin 512) (x : Fin 1024) :
    k0_pay22 (k0_pay18 i q) (k0_pay19 i) (k0_pay20 q) k g (ix2 j x)
      = score (wide i q) (fun l => k (ix3 0 j l)) (fun l => g (ix3 0 j l)) x := by
  unfold k0_pay22
  pointwise
  rfl

/-- A key row of the first block, where it is one. -/
def metaScore (W : Fin 1024 → Fin 256 → EReal) (k g : Fin 128 → Fin 128 → EReal) (x : Fin 1024) (j : Fin 128) : EReal :=
  if 112 ≤ j.val then score W (k j) (g j) x else ⊥

theorem meta_bit (j : Fin 128) : IntOp.cmpi CmpIPredicate.sge (BitVec.ofNat 32 j.val) 112#32 = BitVec.ofBool (decide (112 ≤ j.val)) := by
  revert j
  decide +kernel

theorem select_bit {α : Type} (p : Prop) [Decidable p] (a b : α) : Scalar.select (BitVec.ofBool (decide p)) a b = if p then a else b := by
  by_cases h : p
  · simp [h, Scalar.select]
  · simp [h, Scalar.select]

theorem pay25_at (i : grid0.Coords) (q : Vec Ideal S1x512x128 .bf16) (k g : Vec Ideal S128x128 .bf16) (j : Fin 128) (x : Fin 1024) :
    k0_pay25 (k0_pay18 i q) (k0_pay19 i) (k0_pay20 q) k g (ix2 j x)
      = metaScore (wide i q) (fun j l => k (ix2 j l)) (fun j l => g (ix2 j l)) x j := by
  unfold k0_pay25
  pointwise
  rw [meta_bit, select_bit, mask_bot]
  rfl

theorem pay26_at (i : grid0.Coords) (q : Vec Ideal S1x512x128 .bf16) (k g : Vec Ideal S128x128 .bf16) (x : Fin 1024) :
    k0_pay26 (k0_pay18 i q) (k0_pay19 i) (k0_pay20 q) k g (ix2 0 x)
      = top (metaScore (wide i q) (fun j l => k (ix2 j l)) (fun j l => g (ix2 j l)) x) := by
  unfold k0_pay26
  pointwise
  exact congrArg top (funext fun j => pay25_at i q k g j x)

theorem pay27_at (i : grid0.Coords) (q : Vec Ideal S1x512x128 .bf16) (k g : Vec Ideal S128x128 .bf16) (j : Fin 128) (x : Fin 1024) :
    k0_pay27 (k0_pay18 i q) (k0_pay19 i) (k0_pay20 q) k g (ix2 j x)
      = Ideal.exp2 (metaScore (wide i q) (fun j l => k (ix2 j l)) (fun j l => g (ix2 j l)) x j
          - top (metaScore (wide i q) (fun j l => k (ix2 j l)) (fun j l => g (ix2 j l)) x)) := by
  unfold k0_pay27
  pointwise
  exact congrArg₂ (fun a b : EReal => Ideal.exp2 (a - b)) (pay25_at i q k g j x) (pay26_at i q k g x)

theorem pay28_at (i : grid0.Coords) (q : Vec Ideal S1x512x128 .bf16) (k g : Vec Ideal S128x128 .bf16) (j : Fin 128) (x : Fin 512) :
    k0_pay28 (k0_pay18 i q) (k0_pay19 i) (k0_pay20 q) k g (ix2 j x)
      = k0_pay27 (k0_pay18 i q) (k0_pay19 i) (k0_pay20 q) k g (ix2 j ⟨x.val, by omega⟩) := by
  unfold k0_pay28
  pointwise

theorem pay29_at (v : FVec Ideal S128x128 .bf16) (p : FVec Ideal S128x512 .bf16) (d : Fin 128) (r : Fin 512) :
    k0_pay29 v p (constant S128x512 .f32 0#32) (ix3 0 d r) = ((∑ j : Fin 128, v (ix2 d j) * p (ix2 j r) : EReal) : Ideal .f32) := by
  unfold k0_pay29
  pointwise

theorem pay30_at (v : FVec Ideal S128x128 .bf16) (p : FVec Ideal S128x1024 .bf16) (d : Fin 128) (r : Fin 512) :
    k0_pay30 v p (ix3 0 d r) = ((∑ j : Fin 128, v (ix2 d j) * p (ix2 j ⟨512 + r.val, by omega⟩) : EReal) : Ideal .f32) := by
  unfold k0_pay30
  pointwise

theorem pay31_at (v : FVec Ideal S1x1024 .f32) : k0_pay31 v = v := by
  funext y
  obtain ⟨a, x, rfl⟩ : ∃ (a : Fin 1) (x : Fin 1024), y = ix2 a x := ⟨y 0, y 1, eq_ix2 y⟩
  unfold k0_pay31
  pointwise

theorem pay23_at (v : Vec Ideal S1x128x128 .bf16) (d j : Fin 128) : k0_pay23 v (ix2 d j) = v (ix3 0 d j) := by
  unfold k0_pay23
  pointwise

theorem pay24_at (v : Vec Ideal S1x128x128 .bf16) (d j : Fin 128) : k0_pay24 v (ix2 d j) = v (ix3 0 d j) := by
  unfold k0_pay24
  pointwise

theorem pay40_at (v : Vec Ideal S1x1x1x128x512 .bf16) (d : Fin 128) (j : Fin 512) : k0_pay40 v (ix2 d j) = v (ix5 0 0 0 d j) := by
  unfold k0_pay40
  pointwise
  try rfl

theorem pay41_at (v : Vec Ideal S1x1x1x128x512 .bf16) (d : Fin 128) (j : Fin 512) : k0_pay41 v (ix2 d j) = v (ix5 0 0 0 d j) := by
  unfold k0_pay41
  pointwise
  try rfl

/-- The last tile's scores: of the keys no later than the query. -/
def lastScore (S : Fin 512 → EReal) (x : Fin 1024) (j : Fin 512) : EReal := if j.val ≤ x.val % 512 then S j else ⊥

theorem last_bit_row (x : Fin 1024) : (IntOp.andi (BitVec.ofNat 32 x.val) 511#32 : BitVec 32) = BitVec.ofNat 32 (x.val % 512) := by
  revert x
  decide +kernel

theorem last_bit (j : Fin 512) (x : Fin 1024) :
    IntOp.cmpi CmpIPredicate.sle (BitVec.ofNat 32 j.val) (IntOp.andi (BitVec.ofNat 32 x.val) 511#32) = BitVec.ofBool (decide (j.val ≤ x.val % 512)) := by
  rw [last_bit_row]
  have h1 : j.val < 512 := j.isLt
  have h2 : x.val % 512 < 512 := Nat.mod_lt _ (by norm_num)
  generalize x.val % 512 = n at h2
  generalize j.val = k at h1
  unfold IntOp.cmpi
  show BitVec.ofBool (BitVec.sle _ _) = _
  congr 1
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

theorem pay43_at (S : Vec Ideal S512x1024 .f32) (j : Fin 512) (x : Fin 1024) :
    k0_pay43 S k0_pay42 (Named.named κ "mask" 4048155338#32) (ix2 j x) = lastScore (fun j => S (ix2 j x)) x j := by
  unfold k0_pay43 k0_pay42
  pointwise
  rw [last_bit, select_bit, mask_bot]
  rfl

theorem pay44_at (S : Vec Ideal S512x1024 .f32) (M : Vec Ideal S1x1024 .f32) (x : Fin 1024) :
    k0_pay44 S k0_pay42 (Named.named κ "mask" 4048155338#32) M (ix2 0 x) = max (M (ix2 0 x)) (top (lastScore (fun j => S (ix2 j x)) x)) := by
  unfold k0_pay44
  pointwise
  exact congrArg (fun t => max (M (ix2 0 x)) (top t)) (funext fun j => pay43_at S j x)

theorem pay45_at (S : Vec Ideal S512x1024 .f32) (M : Vec Ideal S1x1024 .f32) (j : Fin 512) (x : Fin 1024) :
    k0_pay45 S k0_pay42 (Named.named κ "mask" 4048155338#32) M (ix2 j x)
      = Ideal.exp2 (lastScore (fun j => S (ix2 j x)) x j - max (M (ix2 0 x)) (top (lastScore (fun j => S (ix2 j x)) x))) := by
  unfold k0_pay45
  pointwise
  exact congrArg₂ (fun a b : EReal => Ideal.exp2 (a - b)) (pay43_at S j x) (pay44_at S M x)

theorem pay46_at (S : Vec Ideal S512x1024 .f32) (M : Vec Ideal S1x1024 .f32) (x : Fin 1024) :
    k0_pay46 S k0_pay42 (Named.named κ "mask" 4048155338#32) M M (ix2 0 x)
      = Ideal.exp2 (M (ix2 0 x) - max (M (ix2 0 x)) (top (lastScore (fun j => S (ix2 j x)) x))) := by
  unfold k0_pay46
  pointwise
  exact congrArg (fun b : EReal => Ideal.exp2 ((M (ix2 0 x) : EReal) - b)) (pay44_at S M x)

/-- A sum moved from one maximum to the next, with a block added. -/
def moved {n : Nat} (m m' : EReal) (A : EReal) (v t : Fin n → EReal) : EReal := Ideal.exp2 (m - m') * A + ∑ j, v j * Ideal.exp2 (t j - m')

theorem pay47_at (S : Vec Ideal S512x1024 .f32) (V : FVec Ideal S128x512 .bf16) (M : Vec Ideal S1x1024 .f32) (A : Vec Ideal S1x128x512 .f32) (d : Fin 128) (r : Fin 512) :
    k0_pay47 S V k0_pay42 (Named.named κ "mask" 4048155338#32) M M A (ix3 0 d r)
      = moved (M (ix2 0 ⟨r.val, by omega⟩)) (max (M (ix2 0 ⟨r.val, by omega⟩)) (top (lastScore (fun j => S (ix2 j ⟨r.val, by omega⟩)) ⟨r.val, by omega⟩)))
          (A (ix3 0 d r)) (fun j => V (ix2 d j)) (lastScore (fun j => S (ix2 j ⟨r.val, by omega⟩)) ⟨r.val, by omega⟩) := by
  unfold k0_pay47
  pointwise
  unfold moved
  exact congrArg₂ (fun a b : EReal => a * (A (ix3 0 d r) : EReal) + b) (pay46_at S M _)
    (Finset.sum_congr rfl fun j _ => congrArg (fun a : EReal => (V (ix2 d j) : EReal) * a) (pay45_at S M j _))

theorem pay48_at (S : Vec Ideal S512x1024 .f32) (V : FVec Ideal S128x512 .bf16) (M : Vec Ideal S1x1024 .f32) (A : Vec Ideal S1x128x512 .f32) (d : Fin 128) (r : Fin 512) :
    k0_pay48 S V k0_pay42 (Named.named κ "mask" 4048155338#32) M M A (ix3 0 d r)
      = moved (M (ix2 0 ⟨512 + r.val, by omega⟩)) (max (M (ix2 0 ⟨512 + r.val, by omega⟩)) (top (lastScore (fun j => S (ix2 j ⟨512 + r.val, by omega⟩)) ⟨512 + r.val, by omega⟩)))
          (A (ix3 0 d r)) (fun j => V (ix2 d j)) (lastScore (fun j => S (ix2 j ⟨512 + r.val, by omega⟩)) ⟨512 + r.val, by omega⟩) := by
  unfold k0_pay48
  pointwise
  unfold moved
  exact congrArg₂ (fun a b : EReal => a * (A (ix3 0 d r) : EReal) + b) (pay46_at S M _)
    (Finset.sum_congr rfl fun j _ => congrArg (fun a : EReal => (V (ix2 d j) : EReal) * a) (pay45_at S M j _))

theorem pay32_at (P : FVec Ideal S128x512 .f32) (c : FVec Ideal S1x512 .f32) (A : Vec Ideal S1x128x512 .f32) (d : Fin 128) (r : Fin 512) :
    k0_pay32 P c A (ix3 0 d r) = ((c (ix2 0 r) * A (ix3 0 d r) + P (ix2 d r) : EReal) : Ideal .f32) := by
  unfold k0_pay32
  pointwise

theorem pay33_at (V : FVec Ideal S128x512 .bf16) (P : FVec Ideal S512x1024 .bf16) (c : FVec Ideal S1x1024 .f32) (A : Vec Ideal S1x128x512 .f32) (d : Fin 128) (r : Fin 512) :
    k0_pay33 V P c A (ix3 0 d r)
      = ((c (ix2 0 ⟨512 + r.val, by omega⟩) * A (ix3 0 d r) + ∑ j : Fin 512, V (ix2 d j) * P (ix2 j ⟨512 + r.val, by omega⟩) : EReal) : Ideal .f32) := by
  unfold k0_pay33
  pointwise

theorem pay34_at (v : FVec Ideal S1x1024 .f32) (x : Fin 1024) : k0_pay34 v (ix2 0 x) = v (ix2 0 x) := by
  unfold k0_pay34
  pointwise

theorem pay35_at (v : FVec Ideal S512x1024 .f32) (j : Fin 512) (x : Fin 1024) : k0_pay35 v (ix2 j x) = v (ix2 j x) := by
  unfold k0_pay35
  pointwise

/-- A block's results: a head's rows over its row of ones. -/
theorem pay2_at (v w : Vec Ideal S1x128x512 .f32) (l : Fin 128) (r : Fin 512) :
    k0_pay2 v w (ix3 0 r l) = if h : l.val < 64 then Ideal.div (v (ix3 0 l r)) (v (ix3 0 64 r))
      else Ideal.div (w (ix3 0 ⟨l.val - 64, by omega⟩ r)) (w (ix3 0 64 r)) := by
  unfold k0_pay2
  pointwise

end Cert.Kernel4Ideal.Work

end
-- ==== Proof.FoxTrip.lean ====
/- The forgetting attention, one trip of the walk over the key tiles. -/
module

public import proofs.«01_k».proof.Proof.Gen.Kernel4Ideal.Value
public import proofs.«01_k».proof.Proof.FoxPay
public import Idealize.ShloMosaic.Lib.VecWindow
public import Idealize.ShloMosaic.Lib.WritesUnit

@[expose] public section

noncomputable section

namespace Cert.Kernel4Ideal.Work

open Cert.Kernel4Ideal Cert.Kernel4Ideal.Gen Cert.Qkv Cert.Fox
open Idealize.ShloMosaic Idealize.ShloMosaic.TcCoe

theorem trips1 (i : grid0.Coords) : (k0_t1_loop i).trips = (i 2).val := by
  have h : ∀ n : Fin 8, Scf.trips (0#32) (Scalar.addi 0#32 (Scalar.muli (Scalar.divsi (Scalar.subi (BitVec.ofNat 32 n.val) 0#32) 1#32) 1#32)) 1#32 = n.val := by
    decide +kernel
  exact h (i 2)

theorem trips2 (i : grid0.Coords) : (k0_t2_loop i).trips = 0 := by
  have h : ∀ n : Fin 8, (fun v : BitVec 32 => Scf.trips (Scalar.addi 0#32 (Scalar.muli (Scalar.divsi (Scalar.subi v 0#32) 1#32) 1#32))
      (Scalar.addi 0#32 (Scalar.subi v 0#32)) 1#32) (BitVec.ofNat 32 n.val) = 0 := by
    decide +kernel
  exact h (i 2)

theorem trip_lt (i : grid0.Coords) (k : Fin (k0_t1_loop i).trips) : k.val < 7 := by
  have h : k.val < (i 2).val := (trips1 i) ▸ k.isLt
  have h2 : (i 2).val < 8 := (i 2).isLt
  omega

theorem off1 (i : grid0.Coords) (k : Fin (k0_t1_loop i).trips) : k0_off1 i k = ![0, (k.val + 1) * 512, 0] := by
  have h : ∀ n : Fin 7, (Scalar.indexCast (Scalar.muli (Scalar.addi (Scf.iv 0#32 1#32 n.val) 1#32) 512#32)).toNat = (n.val + 1) * 512 := by decide +kernel
  exact congrArg (fun n : Nat => (![0, n, 0] : Fin 3 → Nat)) (h ⟨k.val, trip_lt i k⟩)

theorem off2 (i : grid0.Coords) (k : Fin (k0_t1_loop i).trips) : k0_off2 i k = ![0, 0, k.val, 0, 0] := by
  have h : ∀ n : Fin 7, (Scalar.indexCast (Scf.iv 0#32 1#32 n.val)).toNat = n.val := by decide +kernel
  exact congrArg (fun n : Nat => (![0, 0, n, 0, 0] : Fin 5 → Nat)) (h ⟨k.val, trip_lt i k⟩)

theorem off3 (i : grid0.Coords) (k : Fin (k0_t1_loop i).trips) : k0_off3 i k = ![0, 1, k.val, 0, 0] := by
  have h : ∀ n : Fin 7, (Scalar.indexCast (Scf.iv 0#32 1#32 n.val)).toNat = n.val := by decide +kernel
  exact congrArg (fun n : Nat => (![0, 1, n, 0, 0] : Fin 5 → Nat)) (h ⟨k.val, trip_lt i k⟩)

theorem off7 (i : grid0.Coords) : k0_off7 i = ![0, 0, (i 2).val, 0, 0] := by
  have h : ∀ n : Fin 8, (Scalar.indexCast (BitVec.ofNat 32 n.val)).toNat = n.val := by decide +kernel
  exact congrArg (fun n : Nat => (![0, 0, n, 0, 0] : Fin 5 → Nat)) (h (i 2))

theorem off8 (i : grid0.Coords) : k0_off8 i = ![0, 1, (i 2).val, 0, 0] := by
  have h : ∀ n : Fin 8, (Scalar.indexCast (BitVec.ofNat 32 n.val)).toNat = n.val := by decide +kernel
  exact congrArg (fun n : Nat => (![0, 1, n, 0, 0] : Fin 5 → Nat)) (h (i 2))

/-- A load of a box reads what the view reads at the box's place. -/
theorem readAt_at {sig : RefSig} {κ : Kind} {sp : Space} {s : Shape} {e : EltTy} (v : View sig κ sp s e) (f : v.ty.Contents (Elt Ideal))
    {off size : Fin s.rank → ℕ} (inb : ∀ a, off a + size a ≤ s.size a) (x : (Rect.unit off size inb).shape.Idx) (y : s.Idx) (off' : Fin s.rank → ℕ) (ho : off = off')
    (h : ∀ a, (y a).val = off' a + (x a).val) : v.readAt (Elt Ideal) (Rect.unit off size inb).toLoadRect f x = v.read (Elt Ideal) f y := by
  subst ho
  exact congrArg (v.read (Elt Ideal) f) (funext fun a => Fin.ext (by
    show off a + 1 * (x a).val = (y a).val
    have := h a
    omega))

variable (c : Dev nD) (i : grid0.Coords)
  (arg3 : Memref sig .tc .vmem S1x512x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x2x8x128x512 .bf16) (harg6 : arg6.IsWhole)
  (arg7 : Memref sig .tc .vmem S128x128 .bf16) (harg7 : arg7.IsWhole)
  (arg8 : Memref sig .tc .vmem S128x128 .bf16) (harg8 : arg8.IsWhole)
  (arg9 : Memref sig .tc .vmem S2x128x128 .bf16) (harg9 : arg9.IsWhole)
  (arg10 : Memref sig .tc .vmem S1x512x128 .bf16) (harg10 : arg10.IsWhole)
  (arg11 : Memref sig .tc .vmem S1x1024 .f32) (harg11 : arg11.IsWhole)
  (arg12 : Memref sig .tc .vmem S2x128x512 .f32) (harg12 : arg12.IsWhole)
  (arg13 : Memref sig .tc .vmem S512x1024 .f32) (harg13 : arg13.IsWhole)
  (w2 : BitVec 32) (W : FVec Ideal S1024x256 .bf16) (v62 v64 : FVec Ideal S128x128 .bf16) (v68 : FVec Ideal S1x1024 .f32) (v72 : FVec Ideal S128x1024 .bf16)
  (v73 : FVec Ideal S128x512 .bf16) (z : FVec Ideal S128x512 .f32)
  (X4 : BufTy.Contents (Elt Ideal) arg4.view.ty) (X5 : BufTy.Contents (Elt Ideal) arg5.view.ty) (X6 : BufTy.Contents (Elt Ideal) arg6.view.ty)
  (k : Fin (k0_t1_loop i).trips)
  (f11 : BufTy.Contents (Elt Ideal) arg11.view.ty) (f12 : BufTy.Contents (Elt Ideal) arg12.view.ty) (f13 : BufTy.Contents (Elt Ideal) arg13.view.ty)

/-- The new running maximum, from the old and the tile's scores. -/
abbrev newTop (x : Fin 1024) : EReal :=
  max (arg11.view.read (Elt Ideal) f11 (ix2 0 x) : EReal) (top fun j : Fin 512 => (arg13.view.read (Elt Ideal) f13 (ix2 j x) : EReal))

theorem v180_at (x : Fin 1024) : (trip_k0_t1.sl.v180 arg11 arg13 f11 f13 : FVec Ideal S1x1024 .f32) (ix2 0 x) = newTop arg11 arg13 f11 f13 x := by
  unfold trip_k0_t1.sl.v180 trip_k0_t1.sl.v178 trip_k0_t1.sl.v177
  rw [View.readAt_full, View.readAt_full]
  pointwise
  rfl

theorem v187_at (x : Fin 1024) : (trip_k0_t1.sl.v187 arg11 arg13 f11 f13 : FVec Ideal S1x1024 .f32) (ix2 0 x)
    = Ideal.exp2 ((arg11.view.read (Elt Ideal) f11 (ix2 0 x) : EReal) - newTop arg11 arg13 f11 f13 x) := by
  unfold trip_k0_t1.sl.v187 trip_k0_t1.sl.v186
  rw [View.readAt_full]
  pointwise
  rw [v180_at]
  rfl

theorem v184_at (j : Fin 512) (x : Fin 1024) : (trip_k0_t1.sl.v184 arg11 arg13 f11 f13 : FVec Ideal S512x1024 .bf16) (ix2 j x)
    = Ideal.exp2 ((arg13.view.read (Elt Ideal) f13 (ix2 j x) : EReal) - newTop arg11 arg13 f11 f13 x) := by
  unfold trip_k0_t1.sl.v184 trip_k0_t1.sl.v183 trip_k0_t1.sl.v182 trip_k0_t1.sl.v181
  rw [View.readAt_full]
  pointwise
  rw [v180_at]
  rfl

theorem v173_at (d : Fin 128) (j : Fin 512) : (trip_k0_t1.sl.v173 i arg6 X6 k : FVec Ideal S128x512 .bf16) (ix2 d j)
    = arg6.view.read (Elt Ideal) X6 (ix5 0 0 ⟨k.val, by have := trip_lt i k; omega⟩ d j) := by
  unfold trip_k0_t1.sl.v173
  pointwise
  refine readAt_at arg6.view X6 _ _ _ _ (off2 i k) fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

theorem v176_at (d : Fin 128) (j : Fin 512) : (trip_k0_t1.sl.v176 i arg6 X6 k : FVec Ideal S128x512 .bf16) (ix2 d j)
    = arg6.view.read (Elt Ideal) X6 (ix5 0 1 ⟨k.val, by have := trip_lt i k; omega⟩ d j) := by
  unfold trip_k0_t1.sl.v176
  pointwise
  refine readAt_at arg6.view X6 _ _ _ _ (off3 i k) fun a => ?_
  match a with
  | ⟨0, _⟩ => rfl
  | ⟨1, _⟩ => rfl
  | ⟨2, _⟩ => rfl
  | ⟨3, _⟩ => exact (Nat.zero_add _).symm
  | ⟨4, _⟩ => exact (Nat.zero_add _).symm

theorem v164_at (j : Fin 512) (l : Fin 128) : (trip_k0_t1.sl.v164 i arg4 X4 k : FVec Ideal S512x128 .bf16) (ix2 j l)
    = arg4.view.read (Elt Ideal) X4 (ix3 0 ⟨(k.val + 1) * 512 + j.val, by have := trip_lt i k; omega⟩ l) := by
  unfold trip_k0_t1.sl.v164
  pointwise
  refine readAt_at arg4.view X4 _ _ _ _ (off1 i k) fun a => ?_
  match a with
  | ⟨0, _⟩ => rfl
  | ⟨1, _⟩ => rfl
  | ⟨2, _⟩ => exact (Nat.zero_add _).symm

theorem v167_at (j : Fin 512) (l : Fin 128) : (trip_k0_t1.sl.v167 i arg5 X5 k : FVec Ideal S512x128 .bf16) (ix2 j l)
    = arg5.view.read (Elt Ideal) X5 (ix3 0 ⟨(k.val + 1) * 512 + j.val, by have := trip_lt i k; omega⟩ l) := by
  unfold trip_k0_t1.sl.v167
  pointwise
  refine readAt_at arg5.view X5 _ _ _ _ (off1 i k) fun a => ?_
  match a with
  | ⟨0, _⟩ => rfl
  | ⟨1, _⟩ => rfl
  | ⟨2, _⟩ => exact (Nat.zero_add _).symm

theorem v169_at (j : Fin 512) (x : Fin 1024) : (trip_k0_t1.sl.v169 i arg4 arg5 W X4 X5 k : FVec Ideal S512x1024 .f32) (ix2 j x)
    = score (fun x l => W (ix2 x l))
        (fun l => arg4.view.read (Elt Ideal) X4 (ix3 0 ⟨(k.val + 1) * 512 + j.val, by have := trip_lt i k; omega⟩ l))
        (fun l => arg5.view.read (Elt Ideal) X5 (ix3 0 ⟨(k.val + 1) * 512 + j.val, by have := trip_lt i k; omega⟩ l)) x := by
  unfold trip_k0_t1.sl.v169 trip_k0_t1.sl.v168 trip_k0_t1.sl.cst_92
  pointwise
  unfold score
  exact congrArg₂ (fun a b : EReal => a + b)
    (Finset.sum_congr rfl fun l _ => congrArg (fun a : EReal => a * (W (ix2 x ⟨l.val, by omega⟩) : EReal)) (v164_at i arg4 X4 k j l))
    (Finset.sum_congr rfl fun l _ => congrArg (fun a : EReal => a * (W (ix2 x ⟨128 + l.val, by omega⟩) : EReal)) (v167_at i arg5 X5 k j l))

theorem trip_top (x : Fin 1024) :
    arg11.view.read (Elt Ideal) (arg11.view.writes (Elt Ideal) f11 (tripL_k0_t1 Variants.none c none i arg3 harg3 arg4 harg4 arg5 harg5 arg6 harg6 arg7 harg7 arg8 harg8 arg9 harg9 arg10 harg10 arg11 harg11 arg12 harg12 arg13 harg13 w2 W v62 v64 v68 v72 v73 z X4 X5 X6 k f11 f12 f13).1) (ix2 0 x) = newTop arg11 arg13 f11 f13 x := by
  unfold tripL_k0_t1 trip_k0_t1
  dsimp only
  refine (congrFun (View.read_writes_full arg11.view f11 _ _ []) (ix2 0 x)).trans ?_
  exact (pay34_at _ x).trans (v180_at arg11 arg13 f11 f13 x)

theorem trip_tile (j : Fin 512) (x : Fin 1024) :
    arg13.view.read (Elt Ideal) (arg13.view.writes (Elt Ideal) f13 (tripL_k0_t1 Variants.none c none i arg3 harg3 arg4 harg4 arg5 harg5 arg6 harg6 arg7 harg7 arg8 harg8 arg9 harg9 arg10 harg10 arg11 harg11 arg12 harg12 arg13 harg13 w2 W v62 v64 v68 v72 v73 z X4 X5 X6 k f11 f12 f13).2.2) (ix2 j x)
      = score (fun x l => W (ix2 x l))
        (fun l => arg4.view.read (Elt Ideal) X4 (ix3 0 ⟨(k.val + 1) * 512 + j.val, by have := trip_lt i k; omega⟩ l))
        (fun l => arg5.view.read (Elt Ideal) X5 (ix3 0 ⟨(k.val + 1) * 512 + j.val, by have := trip_lt i k; omega⟩ l)) x := by
  unfold tripL_k0_t1 trip_k0_t1
  dsimp only
  refine (congrFun (View.read_writes_full arg13.view f13 _ _ []) (ix2 j x)).trans ?_
  exact (pay35_at _ j x).trans (v169_at i arg4 arg5 W X4 X5 k j x)

theorem trip_sum (a : Fin 2) (d : Fin 128) (r : Fin 512) :
    arg12.view.read (Elt Ideal) (arg12.view.writes (Elt Ideal) f12 (tripL_k0_t1 Variants.none c none i arg3 harg3 arg4 harg4 arg5 harg5 arg6 harg6 arg7 harg7 arg8 harg8 arg9 harg9 arg10 harg10 arg11 harg11 arg12 harg12 arg13 harg13 w2 W v62 v64 v68 v72 v73 z X4 X5 X6 k f11 f12 f13).2.1) (ix3 a d r)
      = moved (arg11.view.read (Elt Ideal) f11 (ix2 0 ⟨a.val * 512 + r.val, by omega⟩) : EReal) (newTop arg11 arg13 f11 f13 ⟨a.val * 512 + r.val, by omega⟩)
          (arg12.view.read (Elt Ideal) f12 (ix3 a d r)) (fun j : Fin 512 => arg6.view.read (Elt Ideal) X6 (ix5 0 a ⟨k.val, by have := trip_lt i k; omega⟩ d j))
          (fun j : Fin 512 => arg13.view.read (Elt Ideal) f13 (ix2 j ⟨a.val * 512 + r.val, by omega⟩)) := by
  unfold tripL_k0_t1 trip_k0_t1
  dsimp only
  unfold moved
  match a with
  | ⟨0, _⟩ =>
    refine (View.read_writes_cons_unit_of_not_mem arg12.view f12 inb_S2x128x512_S1x128x512_1_0_0 _ _ (ix3 0 d r) rfl 0 (Or.inl (by show 0 < 1; omega))).trans ?_
    refine (View.read_writes_cons_unit_of_mem arg12.view f12 inb_S2x128x512_S1x128x512_0_0_0 _ _ (ix3 0 d r) (ix3 0 d r) rfl fun a => ?_).trans ?_
    · match a with
      | ⟨0, _⟩ => rfl
      | ⟨1, _⟩ => exact (Nat.zero_add _).symm
      | ⟨2, _⟩ => exact (Nat.zero_add _).symm
    refine (pay32_at _ _ _ d r).trans ?_
    refine congrArg₂ (fun a b : EReal => a + b) (congrArg₂ (fun a b : EReal => a * b) ?_ ?_) ?_
    · unfold trip_k0_t1.sl.v190
      pointwise
      refine (v187_at arg11 arg13 f11 f13 _).trans ?_
      congr 4 <;> exact Fin.ext (by simp)
    · refine readAt_at arg12.view f12 _ _ _ _ rfl fun a => ?_
      match a with
      | ⟨0, _⟩ => rfl
      | ⟨1, _⟩ => exact (Nat.zero_add _).symm
      | ⟨2, _⟩ => exact (Nat.zero_add _).symm
    · unfold trip_k0_t1.sl.v189 trip_k0_t1.sl.v188 trip_k0_t1.sl.cst_108
      pointwise
      refine Finset.sum_congr rfl fun j _ => congrArg₂ (fun a b : EReal => a * b) (v173_at i arg6 X6 k d j) ((v184_at arg11 arg13 f11 f13 j _).trans ?_)
      congr 4 <;> exact Fin.ext (by simp)
  | ⟨1, _⟩ =>
    refine (View.read_writes_cons_unit_of_mem arg12.view f12 inb_S2x128x512_S1x128x512_1_0_0 _ _ (ix3 1 d r) (ix3 0 d r) rfl fun a => ?_).trans ?_
    · match a with
      | ⟨0, _⟩ => rfl
      | ⟨1, _⟩ => exact (Nat.zero_add _).symm
      | ⟨2, _⟩ => exact (Nat.zero_add _).symm
    refine (pay33_at _ _ _ _ d r).trans ?_
    refine congrArg₂ (fun a b : EReal => a + b) (congrArg₂ (fun a b : EReal => a * b) ?_ ?_) ?_
    · refine (v187_at arg11 arg13 f11 f13 _).trans ?_
      congr 4 <;> exact Fin.ext (by simp)
    · refine readAt_at arg12.view f12 _ _ _ _ rfl fun a => ?_
      match a with
      | ⟨0, _⟩ => rfl
      | ⟨1, _⟩ => exact (Nat.zero_add _).symm
      | ⟨2, _⟩ => exact (Nat.zero_add _).symm
    · refine Finset.sum_congr rfl fun j _ => congrArg₂ (fun a b : EReal => a * b) (v176_at i arg6 X6 k d j) ((v184_at arg11 arg13 f11 f13 j _).trans ?_)
      congr 4 <;> exact Fin.ext (by simp)

end Cert.Kernel4Ideal.Work

end
-- ==== Proof.FoxLoop.lean ====
/- The forgetting attention, the walk over the key tiles: what the running maximum and sums hold before each trip. -/
module

public import proofs.«01_k».proof.Proof.FoxTrip

@[expose] public section

noncomputable section

namespace Cert.Kernel4Ideal.Work

open Cert.Kernel4Ideal Cert.Kernel4Ideal.Gen Cert.Qkv Cert.Fox
open Idealize.ShloMosaic Idealize.ShloMosaic.TcCoe

/-- A head's query row as a column. -/
abbrev col (a : Fin 2) (r : Fin 512) : Fin 1024 := ⟨a.val * 512 + r.val, by omega⟩

/-- The running maximum and the sums: the sums `N` scaled to a real maximum. -/
def Running (M : Vec Ideal S1x1024 .f32) (A : Vec Ideal S2x128x512 .f32) (N : Fin 2 → Fin 512 → Fin 128 → EReal) : Prop :=
  ∀ (a : Fin 2) (r : Fin 512), ∃ u : ℝ, M (ix2 0 (col a r)) = (u : EReal) ∧ ∀ d : Fin 128, A (ix3 a d r) = down u * N a r d

/-- One block more. -/
theorem moved_running {n : Nat} (u : ℝ) (t v : Fin n → EReal) (ht : ∀ j, t j ≠ ⊤) :
    ∃ u' : ℝ, max (u : EReal) (top t) = (u' : EReal) ∧ ∀ (v : Fin n → EReal) (N : EReal),
      moved (u : EReal) (max (u : EReal) (top t)) (down u * N) v t = down u' * (N + ∑ j, v j * Ideal.exp2 (t j)) := by
  obtain ⟨u', hu⟩ := max_real u t ht word_bot
  have hu' : max (u : EReal) (top t) = (u' : EReal) := hu
  refine ⟨u', hu', fun v N => ?_⟩
  rw [hu']
  exact step_sum u u' t v ht N

/-- The first block. -/
theorem first_running {n : Nat} (t : Fin n → EReal) (ht : ∀ j, t j ≠ ⊤) (j : Fin n) (hj : IsReal (t j)) :
    ∃ u : ℝ, top t = (u : EReal) ∧ ∀ v : Fin n → EReal, ∑ j, v j * Ideal.exp2 (t j - top t) = down u * ∑ j, v j * Ideal.exp2 (t j) := by
  obtain ⟨u, hu⟩ := fold_real t ht j hj word_bot
  have hu' : top t = (u : EReal) := hu
  refine ⟨u, hu', fun v => ?_⟩
  rw [hu']
  exact block_sum u t v ht

/-- The sums after the tiles before `n`. -/
def upTo (N0 : Fin 2 → Fin 512 → Fin 128 → EReal) (T : Nat → Fin 1024 → Fin 512 → EReal) (V : Fin 2 → Nat → Fin 128 → Fin 512 → EReal) :
    Nat → Fin 2 → Fin 512 → Fin 128 → EReal
  | 0 => N0
  | n + 1 => fun a r d => upTo N0 T V n a r d + ∑ j : Fin 512, V a n d j * Ideal.exp2 (T n (col a r) j)

variable (c : Dev nD) (i : grid0.Coords)
  (arg3 : Memref sig .tc .vmem S1x512x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x2x8x128x512 .bf16) (harg6 : arg6.IsWhole)
  (arg7 : Memref sig .tc .vmem S128x128 .bf16) (harg7 : arg7.IsWhole)
  (arg8 : Memref sig .tc .vmem S128x128 .bf16) (harg8 : arg8.IsWhole)
  (arg9 : Memref sig .tc .vmem S2x128x128 .bf16) (harg9 : arg9.IsWhole)
  (arg10 : Memref sig .tc .vmem S1x512x128 .bf16) (harg10 : arg10.IsWhole)
  (arg11 : Memref sig .tc .vmem S1x1024 .f32) (harg11 : arg11.IsWhole)
  (arg12 : Memref sig .tc .vmem S2x128x512 .f32) (harg12 : arg12.IsWhole)
  (arg13 : Memref sig .tc .vmem S512x1024 .f32) (harg13 : arg13.IsWhole)
  (w2 : BitVec 32) (W : FVec Ideal S1024x256 .bf16) (v62 v64 : FVec Ideal S128x128 .bf16) (v68 : FVec Ideal S1x1024 .f32) (v72 : FVec Ideal S128x1024 .bf16)
  (v73 : FVec Ideal S128x512 .bf16) (z : FVec Ideal S128x512 .f32)
  (X4 : BufTy.Contents (Elt Ideal) arg4.view.ty) (X5 : BufTy.Contents (Elt Ideal) arg5.view.ty) (X6 : BufTy.Contents (Elt Ideal) arg6.view.ty)
  (g11 : BufTy.Contents (Elt Ideal) arg11.view.ty) (g12 : BufTy.Contents (Elt Ideal) arg12.view.ty) (g13 : BufTy.Contents (Elt Ideal) arg13.view.ty)
  (N0 : Fin 2 → Fin 512 → Fin 128 → EReal) (T : Nat → Fin 1024 → Fin 512 → EReal) (V : Fin 2 → Nat → Fin 128 → Fin 512 → EReal)

/-- Before trip `n`: the sums of the tiles before it, and the scores of its own tile. -/
def Before (n : Nat) : Prop :=
  Running (arg11.view.read (Elt Ideal) (arg11.view.writes (Elt Ideal) g11 (pb_k0_t1 (F := Ideal) Variants.none c none i arg3 harg3 arg4 harg4 arg5 harg5 arg6 harg6 arg7 harg7 arg8 harg8 arg9 harg9 arg10 harg10 arg11 harg11 arg12 harg12 arg13 harg13 w2 W v62 v64 v68 v72 v73 z X4 X5 X6 g11 g12 g13 n).1))
      (arg12.view.read (Elt Ideal) (arg12.view.writes (Elt Ideal) g12 (pb_k0_t1 (F := Ideal) Variants.none c none i arg3 harg3 arg4 harg4 arg5 harg5 arg6 harg6 arg7 harg7 arg8 harg8 arg9 harg9 arg10 harg10 arg11 harg11 arg12 harg12 arg13 harg13 w2 W v62 v64 v68 v72 v73 z X4 X5 X6 g11 g12 g13 n).2.1)) (upTo N0 T V n)
    ∧ ∀ (x : Fin 1024) (j : Fin 512), arg13.view.read (Elt Ideal) (arg13.view.writes (Elt Ideal) g13 (pb_k0_t1 (F := Ideal) Variants.none c none i arg3 harg3 arg4 harg4 arg5 harg5 arg6 harg6 arg7 harg7 arg8 harg8 arg9 harg9 arg10 harg10 arg11 harg11 arg12 harg12 arg13 harg13 w2 W v62 v64 v68 v72 v73 z X4 X5 X6 g11 g12 g13 n).2.2) (ix2 j x) = T n x j

/-- The scores and the values of the tiles, as the memrefs hold them. -/
structure Tiles : Prop where
  scores : ∀ (n : Nat) (h : n < 8) (x : Fin 1024) (j : Fin 512), T n x j = score (fun x l => W (ix2 x l))
    (fun l => arg4.view.read (Elt Ideal) X4 (ix3 0 ⟨n * 512 + j.val, by omega⟩ l)) (fun l => arg5.view.read (Elt Ideal) X5 (ix3 0 ⟨n * 512 + j.val, by omega⟩ l)) x
  values : ∀ (n : Nat) (h : n < 8) (a : Fin 2) (d : Fin 128) (j : Fin 512), V a n d j = arg6.view.read (Elt Ideal) X6 (ix5 0 a ⟨n, h⟩ d j)
  low : ∀ (n : Nat) (x : Fin 1024) (j : Fin 512), T n x j ≠ ⊤

theorem before_all (ht : Tiles arg4 arg5 arg6 W X4 X5 X6 T V)
    (h0 : Running (arg11.view.read (Elt Ideal) g11) (arg12.view.read (Elt Ideal) g12) N0)
    (h1 : ∀ (x : Fin 1024) (j : Fin 512), arg13.view.read (Elt Ideal) g13 (ix2 j x) = T 0 x j) :
    ∀ n : Nat, n ≤ (k0_t1_loop i).trips → Before c i arg3 harg3 arg4 harg4 arg5 harg5 arg6 harg6 arg7 harg7 arg8 harg8 arg9 harg9 arg10 harg10 arg11 harg11 arg12 harg12 arg13 harg13 w2 W v62 v64 v68 v72 v73 z X4 X5 X6 g11 g12 g13 N0 T V n := by
  intro n
  induction n with
  | zero => exact fun _ => ⟨h0, h1⟩
  | succ n ih =>
    intro hn
    obtain ⟨hr, hs⟩ := ih (by omega)
    have hlt := trip_lt i ⟨n, hn⟩
    simp only at hlt
    have hsucc := pb_k0_t1_succ (F := Ideal) Variants.none c none i arg3 harg3 arg4 harg4 arg5 harg5 arg6 harg6 arg7 harg7 arg8 harg8 arg9 harg9 arg10 harg10 arg11 harg11 arg12 harg12 arg13 harg13 w2 W v62 v64 v68 v72 v73 z X4 X5 X6 g11 g12 g13 ⟨n, hn⟩
    simp only at hsucc
    unfold Before
    rw [hsucc]
    dsimp only
    rw [View.writes_append, View.writes_append, View.writes_append]
    refine ⟨fun a r => ?_, fun x j => ?_⟩
    · obtain ⟨u, hu, hA⟩ := hr a r
      obtain ⟨u', hu', hN⟩ := moved_running u (T n (col a r)) (T n (col a r)) (ht.low n _)
      have htop : newTop arg11 arg13 (arg11.view.writes (Elt Ideal) g11 (pb_k0_t1 (F := Ideal) Variants.none c none i arg3 harg3 arg4 harg4 arg5 harg5 arg6 harg6 arg7 harg7 arg8 harg8 arg9 harg9 arg10 harg10 arg11 harg11 arg12 harg12 arg13 harg13 w2 W v62 v64 v68 v72 v73 z X4 X5 X6 g11 g12 g13 n).1) (arg13.view.writes (Elt Ideal) g13 (pb_k0_t1 (F := Ideal) Variants.none c none i arg3 harg3 arg4 harg4 arg5 harg5 arg6 harg6 arg7 harg7 arg8 harg8 arg9 harg9 arg10 harg10 arg11 harg11 arg12 harg12 arg13 harg13 w2 W v62 v64 v68 v72 v73 z X4 X5 X6 g11 g12 g13 n).2.2) (col a r)
          = max (u : EReal) (top (T n (col a r))) :=
        congrArg₂ max hu (congrArg top (funext fun j => hs _ j))
      refine ⟨u', ?_, fun d => ?_⟩
      · exact (trip_top _ _ _ _ _ _ _ _ _ _ _ _ _ _ _ _ _ _ _ _ _ _ _ _ _ _ _ _ _ _ _ _ _ _ _ _ _ _ _ _).trans (htop.trans hu')
      · refine (trip_sum _ _ _ _ _ _ _ _ _ _ _ _ _ _ _ _ _ _ _ _ _ _ _ _ _ _ _ _ _ _ _ _ _ _ _ _ _ _ _ a d r).trans ?_
        rw [htop, hu, hA d]
        refine Eq.trans ?_ (hN (V a n d) (upTo N0 T V n a r d))
        exact congrArg₂ (moved _ _ _) (funext fun j => (ht.values n (by omega) a d j).symm) (funext fun j => hs _ j)
    · refine (trip_tile _ _ _ _ _ _ _ _ _ _ _ _ _ _ _ _ _ _ _ _ _ _ _ _ _ _ _ _ _ _ _ _ _ _ _ _ _ _ _ _ _).trans ?_
      exact (ht.scores (n + 1) (by omega) x j).symm

end Cert.Kernel4Ideal.Work

end
-- ==== Proof.FoxRun.lean ====
/- The forgetting attention, one block of rows: the sums the walk leaves, and their quotients. -/
module

public import proofs.«01_k».proof.Proof.FoxLoop

@[expose] public section

noncomputable section

namespace Cert.Kernel4Ideal.Work

open Cert.Kernel4Ideal Cert.Kernel4Ideal.Gen Cert.Qkv Cert.Fox
open Idealize.ShloMosaic Idealize.ShloMosaic.TcCoe

section Values

variable (i : grid0.Coords) (x0 : Vec Ideal S1x512x128 .bf16) (x1 x2 : Vec Ideal S1x4096x128 .bf16) (x3 : Vec Ideal S1x2x8x128x512 .bf16)
  (x4 x5 : Vec Ideal S128x128 .bf16) (x6 : Vec Ideal S2x128x128 .bf16)

/-- The scores of tile `n`. -/
def tile (n : Nat) (x : Fin 1024) (j : Fin 512) : EReal :=
  if h : n < 8 then score (wide i x0) (fun l => x1 (ix3 0 ⟨n * 512 + j.val, by omega⟩ l)) (fun l => x2 (ix3 0 ⟨n * 512 + j.val, by omega⟩ l)) x else 0

/-- The values of tile `n`. -/
def vals (a : Fin 2) (n : Nat) (d : Fin 128) (j : Fin 512) : EReal := if h : n < 8 then x3 (ix5 0 a ⟨n, h⟩ d j) else 0

/-- The scores of the first block. -/
abbrev first (x : Fin 1024) (j : Fin 128) : EReal := metaScore (wide i x0) (fun j l => x4 (ix2 j l)) (fun j l => x5 (ix2 j l)) x j

/-- The sums of the first block. -/
def firstSum (a : Fin 2) (r : Fin 512) (d : Fin 128) : EReal := ∑ j : Fin 128, x6 (ix3 a d j) * Ideal.exp2 (first i x0 x4 x5 (col a r) j)

/-- The sums of a row: the first block's, the tiles' before its own, and its own tile's. -/
def rowSum (a : Fin 2) (r : Fin 512) (d : Fin 128) : EReal :=
  upTo (firstSum i x0 x4 x5 x6) (tile i x0 x1 x2) (vals x3) (i 2).val a r d
    + ∑ j : Fin 512, vals x3 a (i 2).val d j * Ideal.exp2 (lastScore (tile i x0 x1 x2 (i 2).val (col a r)) (col a r) j)

/-- No score is positive infinity, and the last key of the first block has a real one. -/
structure Tame : Prop where
  low : ∀ (n : Nat) (x : Fin 1024) (j : Fin 512), tile i x0 x1 x2 n x j ≠ ⊤
  lowFirst : ∀ (x : Fin 1024) (j : Fin 128), first i x0 x4 x5 x j ≠ ⊤
  real : ∀ x : Fin 1024, IsReal (first i x0 x4 x5 x 127)

end Values

variable (c : Dev nD) (i : grid0.Coords)
  (arg3 : Memref sig .tc .vmem S1x512x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x2x8x128x512 .bf16) (harg6 : arg6.IsWhole)
  (arg7 : Memref sig .tc .vmem S128x128 .bf16) (harg7 : arg7.IsWhole)
  (arg8 : Memref sig .tc .vmem S128x128 .bf16) (harg8 : arg8.IsWhole)
  (arg9 : Memref sig .tc .vmem S2x128x128 .bf16) (harg9 : arg9.IsWhole)
  (arg10 : Memref sig .tc .vmem S1x512x128 .bf16) (harg10 : arg10.IsWhole)
  (arg11 : Memref sig .tc .vmem S1x1024 .f32) (harg11 : arg11.IsWhole)
  (arg12 : Memref sig .tc .vmem S2x128x512 .f32) (harg12 : arg12.IsWhole)
  (arg13 : Memref sig .tc .vmem S512x1024 .f32) (harg13 : arg13.IsWhole)
  (x0 : Vec Ideal S1x512x128 .bf16) (x1 x2 : Vec Ideal S1x4096x128 .bf16) (x3 : Vec Ideal S1x2x8x128x512 .bf16)
  (x4 x5 : Vec Ideal S128x128 .bf16) (x6 : Vec Ideal S2x128x128 .bf16)

/-- The running maximum at the walk's start. -/
abbrev g11 : BufTy.Contents (Elt Ideal) arg11.view.ty :=
  arg11.view.writes (Elt Ideal) arg11.view.junk (kernelRun0_A.sl.HS0_1 c i arg3 harg3 arg7 harg7 arg8 harg8 x0 x4 x5)

/-- The sums at the walk's start. -/
abbrev g12 : BufTy.Contents (Elt Ideal) arg12.view.ty :=
  arg12.view.writes (Elt Ideal) arg12.view.junk (kernelRun0_A.sl.HS1_2 c i arg3 harg3 arg7 harg7 arg8 harg8 arg9 harg9 x0 x4 x5 x6)

/-- The first tile's scores. -/
abbrev g13 : BufTy.Contents (Elt Ideal) arg13.view.ty :=
  arg13.view.writes (Elt Ideal) arg13.view.junk (kernelRun0_A.sl.HS2_1 c i arg3 harg3 arg4 harg4 arg5 harg5 x0 x1 x2)

theorem r_eq : kernelRun0_A.sl.r c i arg3 harg3 x0 = k0_pay18 i x0 := by
  unfold kernelRun0_A.sl.r
  rw [View.readAt_full, harg3.read_unread]

theorem r1_eq : kernelRun0_A.sl.r_1 c arg3 harg3 x0 = k0_pay20 x0 := by
  unfold kernelRun0_A.sl.r_1
  rw [View.readAt_full, harg3.read_unread]

theorem r5_eq : kernelRun0_A.sl.r_5 c i arg3 harg3 arg7 harg7 arg8 harg8 x0 x4 x5 = k0_pay26 (k0_pay18 i x0) (k0_pay19 i) (k0_pay20 x0) x4 x5 := by
  unfold kernelRun0_A.sl.r_5
  rw [r_eq, r1_eq, View.readAt_full, View.readAt_full, harg7.read_unread, harg8.read_unread]

theorem r6_eq : kernelRun0_A.sl.r_6 c i arg3 harg3 arg7 harg7 arg8 harg8 x0 x4 x5 = k0_pay27 (k0_pay18 i x0) (k0_pay19 i) (k0_pay20 x0) x4 x5 := by
  unfold kernelRun0_A.sl.r_6
  rw [r_eq, r1_eq, View.readAt_full, View.readAt_full, harg7.read_unread, harg8.read_unread]

theorem r7_eq : kernelRun0_A.sl.r_7 c i arg3 harg3 arg7 harg7 arg8 harg8 x0 x4 x5 = k0_pay28 (k0_pay18 i x0) (k0_pay19 i) (k0_pay20 x0) x4 x5 := by
  unfold kernelRun0_A.sl.r_7
  rw [r_eq, r1_eq, View.readAt_full, View.readAt_full, harg7.read_unread, harg8.read_unread]

theorem r3_at (d j : Fin 128) : kernelRun0_A.sl.r_3 c arg9 harg9 x6 (ix2 d j) = x6 (ix3 0 d j) := by
  unfold kernelRun0_A.sl.r_3
  refine (pay23_at _ d j).trans ((readAt_at arg9.view (harg9.unread x6) _ (ix3 0 d j) (ix3 0 d j) _ rfl fun a => ?_).trans (congrFun (harg9.read_unread x6) _))
  match a with
  | ⟨0, _⟩ => rfl
  | ⟨1, _⟩ => exact (Nat.zero_add _).symm
  | ⟨2, _⟩ => exact (Nat.zero_add _).symm

theorem r4_at (d j : Fin 128) : kernelRun0_A.sl.r_4 c arg9 harg9 x6 (ix2 d j) = x6 (ix3 1 d j) := by
  unfold kernelRun0_A.sl.r_4
  refine (pay24_at _ d j).trans ((readAt_at arg9.view (harg9.unread x6) _ (ix3 0 d j) (ix3 1 d j) _ rfl fun a => ?_).trans (congrFun (harg9.read_unread x6) _))
  match a with
  | ⟨0, _⟩ => rfl
  | ⟨1, _⟩ => exact (Nat.zero_add _).symm
  | ⟨2, _⟩ => exact (Nat.zero_add _).symm

theorem r8_at (d : Fin 128) (j : Fin 512) : kernelRun0_A.sl.r_8 i arg6 harg6 x3 (ix2 d j) = vals x3 0 (i 2).val d j := by
  unfold kernelRun0_A.sl.r_8 vals
  have h8 : (i 2).val < 8 := (i 2).isLt
  rw [dif_pos h8]
  refine (pay40_at _ d j).trans ((readAt_at arg6.view (harg6.unread x3) _ (ix5 0 0 0 d j) (ix5 0 0 ⟨(i 2).val, h8⟩ d j) _ (off7 i) fun a => ?_).trans (congrFun (harg6.read_unread x3) _))
  match a with
  | ⟨0, _⟩ => rfl
  | ⟨1, _⟩ => rfl
  | ⟨2, _⟩ => rfl
  | ⟨3, _⟩ => exact (Nat.zero_add _).symm
  | ⟨4, _⟩ => exact (Nat.zero_add _).symm

theorem r9_at (d : Fin 128) (j : Fin 512) : kernelRun0_A.sl.r_9 i arg6 harg6 x3 (ix2 d j) = vals x3 1 (i 2).val d j := by
  unfold kernelRun0_A.sl.r_9 vals
  have h8 : (i 2).val < 8 := (i 2).isLt
  rw [dif_pos h8]
  refine (pay41_at _ d j).trans ((readAt_at arg6.view (harg6.unread x3) _ (ix5 0 0 0 d j) (ix5 0 1 ⟨(i 2).val, h8⟩ d j) _ (off8 i) fun a => ?_).trans (congrFun (harg6.read_unread x3) _))
  match a with
  | ⟨0, _⟩ => rfl
  | ⟨1, _⟩ => rfl
  | ⟨2, _⟩ => rfl
  | ⟨3, _⟩ => exact (Nat.zero_add _).symm
  | ⟨4, _⟩ => exact (Nat.zero_add _).symm

theorem g11_at (x : Fin 1024) : arg11.view.read (Elt Ideal) (g11 c i arg3 harg3 arg7 harg7 arg8 harg8 arg11 x0 x4 x5) (ix2 0 x) = top (first i x0 x4 x5 x) := by
  unfold g11 kernelRun0_A.sl.HS0_1
  refine (congrFun (View.read_writes_full arg11.view _ _ _ []) (ix2 0 x)).trans ?_
  rw [pay31_at, r5_eq]
  exact pay26_at i x0 x4 x5 x

theorem g13_at (x : Fin 1024) (j : Fin 512) :
    arg13.view.read (Elt Ideal) (g13 c i arg3 harg3 arg4 harg4 arg5 harg5 arg13 x0 x1 x2) (ix2 j x) = tile i x0 x1 x2 0 x j := by
  unfold g13 kernelRun0_A.sl.HS2_1
  refine (congrFun (View.read_writes_full arg13.view _ _ _ []) (ix2 j x)).trans ?_
  rw [r_eq, r1_eq]
  refine (pay22_at i x0 _ _ j x).trans ?_
  unfold tile
  rw [dif_pos (by norm_num)]
  refine congrArg₂ (fun a b => score (wide i x0) a b x) (funext fun l => ?_) (funext fun l => ?_)
  · refine (readAt_at arg4.view (harg4.unread x1) _ (ix3 0 j l) (ix3 0 ⟨0 * 512 + j.val, by omega⟩ l) _ rfl fun a => ?_).trans (congrFun (harg4.read_unread x1) _)
    match a with
    | ⟨0, _⟩ => rfl
    | ⟨1, _⟩ => show 0 * 512 + j.val = 0 + j.val; omega
    | ⟨2, _⟩ => exact (Nat.zero_add _).symm
  · refine (readAt_at arg5.view (harg5.unread x2) _ (ix3 0 j l) (ix3 0 ⟨0 * 512 + j.val, by omega⟩ l) _ rfl fun a => ?_).trans (congrFun (harg5.read_unread x2) _)
    match a with
    | ⟨0, _⟩ => rfl
    | ⟨1, _⟩ => show 0 * 512 + j.val = 0 + j.val; omega
    | ⟨2, _⟩ => exact (Nat.zero_add _).symm

theorem g12_at (a : Fin 2) (d : Fin 128) (r : Fin 512) :
    arg12.view.read (Elt Ideal) (g12 c i arg3 harg3 arg7 harg7 arg8 harg8 arg9 harg9 arg12 x0 x4 x5 x6) (ix3 a d r)
      = ((∑ j : Fin 128, x6 (ix3 a d j) * Ideal.exp2 (first i x0 x4 x5 (col a r) j - top (first i x0 x4 x5 (col a r))) : EReal) : Ideal .f32) := by
  unfold g12 kernelRun0_A.sl.HS1_2
  rw [r6_eq, r7_eq]
  match a with
  | ⟨0, _⟩ =>
    refine (View.read_writes_cons_unit_of_not_mem arg12.view _ inb_S2x128x512_S1x128x512_1_0_0 _ _ (ix3 0 d r) rfl 0 (Or.inl (by show 0 < 1; omega))).trans ?_
    refine (View.read_writes_cons_unit_of_mem arg12.view _ inb_S2x128x512_S1x128x512_0_0_0 _ _ (ix3 0 d r) (ix3 0 d r) rfl fun a => ?_).trans ?_
    · match a with
      | ⟨0, _⟩ => rfl
      | ⟨1, _⟩ => exact (Nat.zero_add _).symm
      | ⟨2, _⟩ => exact (Nat.zero_add _).symm
    refine (pay29_at _ _ d r).trans ?_
    refine Finset.sum_congr rfl fun j _ => congrArg₂ (fun a b : EReal => a * b) (r3_at c arg9 harg9 x6 d j) ?_
    refine (pay28_at i x0 x4 x5 j r).trans ((pay27_at i x0 x4 x5 j _).trans ?_)
    have hc : (⟨r.val, by omega⟩ : Fin 1024) = col ⟨0, by omega⟩ r := Fin.ext (by show r.val = 0 * 512 + r.val; omega)
    rw [hc]
  | ⟨1, _⟩ =>
    refine (View.read_writes_cons_unit_of_mem arg12.view _ inb_S2x128x512_S1x128x512_1_0_0 _ _ (ix3 1 d r) (ix3 0 d r) rfl fun a => ?_).trans ?_
    · match a with
      | ⟨0, _⟩ => rfl
      | ⟨1, _⟩ => exact (Nat.zero_add _).symm
      | ⟨2, _⟩ => exact (Nat.zero_add _).symm
    refine (pay30_at _ _ d r).trans ?_
    refine Finset.sum_congr rfl fun j _ => congrArg₂ (fun a b : EReal => a * b) (r4_at c arg9 harg9 x6 d j) ?_
    refine (pay27_at i x0 x4 x5 j _).trans ?_
    have hc : (⟨512 + r.val, by omega⟩ : Fin 1024) = col ⟨1, by omega⟩ r := Fin.ext (by show 512 + r.val = 1 * 512 + r.val; omega)
    rw [hc]

/-- The walk's maximum, sums and scores at its end. -/
abbrev endM : Vec Ideal S1x1024 .f32 := arg11.view.read (Elt Ideal) (arg11.view.writes (Elt Ideal) (g11 c i arg3 harg3 arg7 harg7 arg8 harg8 arg11 x0 x4 x5) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_A.sl.r_2 c i arg3 harg3 x0) (kernelRun0_A.sl.r_3 c arg9 harg9 x6) (kernelRun0_A.sl.r_4 c arg9 harg9 x6) (kernelRun0_A.sl.r_5 c i arg3 harg3 arg7 harg7 arg8 harg8 x0 x4 x5) (kernelRun0_A.sl.r_6 c i arg3 harg3 arg7 harg7 arg8 harg8 x0 x4 x5) (kernelRun0_A.sl.r_7 c i arg3 harg3 arg7 harg7 arg8 harg8 x0 x4 x5) kernelRun0_A.sl.cst_31 (harg4.unread x1) (harg5.unread x2) (harg6.unread x3) (g11 c i arg3 harg3 arg7 harg7 arg8 harg8 arg11 x0 x4 x5) (g12 c i arg3 harg3 arg7 harg7 arg8 harg8 arg9 harg9 arg12 x0 x4 x5 x6) (g13 c i arg3 harg3 arg4 harg4 arg5 harg5 arg13 x0 x1 x2) (k0_t1_loop i).trips).1)
abbrev endA : Vec Ideal S2x128x512 .f32 := arg12.view.read (Elt Ideal) (arg12.view.writes (Elt Ideal) (g12 c i arg3 harg3 arg7 harg7 arg8 harg8 arg9 harg9 arg12 x0 x4 x5 x6) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_A.sl.r_2 c i arg3 harg3 x0) (kernelRun0_A.sl.r_3 c arg9 harg9 x6) (kernelRun0_A.sl.r_4 c arg9 harg9 x6) (kernelRun0_A.sl.r_5 c i arg3 harg3 arg7 harg7 arg8 harg8 x0 x4 x5) (kernelRun0_A.sl.r_6 c i arg3 harg3 arg7 harg7 arg8 harg8 x0 x4 x5) (kernelRun0_A.sl.r_7 c i arg3 harg3 arg7 harg7 arg8 harg8 x0 x4 x5) kernelRun0_A.sl.cst_31 (harg4.unread x1) (harg5.unread x2) (harg6.unread x3) (g11 c i arg3 harg3 arg7 harg7 arg8 harg8 arg11 x0 x4 x5) (g12 c i arg3 harg3 arg7 harg7 arg8 harg8 arg9 harg9 arg12 x0 x4 x5 x6) (g13 c i arg3 harg3 arg4 harg4 arg5 harg5 arg13 x0 x1 x2) (k0_t1_loop i).trips).2.1)
abbrev endS : Vec Ideal S512x1024 .f32 := arg13.view.read (Elt Ideal) (arg13.view.writes (Elt Ideal) (g13 c i arg3 harg3 arg4 harg4 arg5 harg5 arg13 x0 x1 x2) (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (kernelRun0_A.sl.r_2 c i arg3 harg3 x0) (kernelRun0_A.sl.r_3 c arg9 harg9 x6) (kernelRun0_A.sl.r_4 c arg9 harg9 x6) (kernelRun0_A.sl.r_5 c i arg3 harg3 arg7 harg7 arg8 harg8 x0 x4 x5) (kernelRun0_A.sl.r_6 c i arg3 harg3 arg7 harg7 arg8 harg8 x0 x4 x5) (kernelRun0_A.sl.r_7 c i arg3 harg3 arg7 harg7 arg8 harg8 x0 x4 x5) kernelRun0_A.sl.cst_31 (harg4.unread x1) (harg5.unread x2) (harg6.unread x3) (g11 c i arg3 harg3 arg7 harg7 arg8 harg8 arg11 x0 x4 x5) (g12 c i arg3 harg3 arg7 harg7 arg8 harg8 arg9 harg9 arg12 x0 x4 x5 x6) (g13 c i arg3 harg3 arg4 harg4 arg5 harg5 arg13 x0 x1 x2) (k0_t1_loop i).trips).2.2)

theorem end_all (ht : Tame i x0 x1 x2 x4 x5) :
    Running (endM c i arg3 harg3 arg4 harg4 arg5 harg5 arg6 harg6 arg7 harg7 arg8 harg8 arg9 harg9 arg10 harg10 arg11 harg11 arg12 harg12 arg13 harg13 x0 x1 x2 x3 x4 x5 x6) (endA c i arg3 harg3 arg4 harg4 arg5 harg5 arg6 harg6 arg7 harg7 arg8 harg8 arg9 harg9 arg10 harg10 arg11 harg11 arg12 harg12 arg13 harg13 x0 x1 x2 x3 x4 x5 x6) (upTo (firstSum i x0 x4 x5 x6) (tile i x0 x1 x2) (vals x3) (i 2).val)
      ∧ ∀ (x : Fin 1024) (j : Fin 512), endS c i arg3 harg3 arg4 harg4 arg5 harg5 arg6 harg6 arg7 harg7 arg8 harg8 arg9 harg9 arg10 harg10 arg11 harg11 arg12 harg12 arg13 harg13 x0 x1 x2 x3 x4 x5 x6 (ix2 j x) = tile i x0 x1 x2 (i 2).val x j := by
  have hb := before_all c i arg3 harg3 arg4 harg4 arg5 harg5 arg6 harg6 arg7 harg7 arg8 harg8 arg9 harg9 arg10 harg10 arg11 harg11 arg12 harg12 arg13 harg13 (BitVec.ofNat 32 (i 2).val) (kernelRun0_A.sl.r_2 c i arg3 harg3 x0) (kernelRun0_A.sl.r_3 c arg9 harg9 x6) (kernelRun0_A.sl.r_4 c arg9 harg9 x6)
    (kernelRun0_A.sl.r_5 c i arg3 harg3 arg7 harg7 arg8 harg8 x0 x4 x5) (kernelRun0_A.sl.r_6 c i arg3 harg3 arg7 harg7 arg8 harg8 x0 x4 x5)
    (kernelRun0_A.sl.r_7 c i arg3 harg3 arg7 harg7 arg8 harg8 x0 x4 x5) kernelRun0_A.sl.cst_31 (harg4.unread x1) (harg5.unread x2) (harg6.unread x3)
    (g11 c i arg3 harg3 arg7 harg7 arg8 harg8 arg11 x0 x4 x5) (g12 c i arg3 harg3 arg7 harg7 arg8 harg8 arg9 harg9 arg12 x0 x4 x5 x6) (g13 c i arg3 harg3 arg4 harg4 arg5 harg5 arg13 x0 x1 x2)
    (firstSum i x0 x4 x5 x6) (tile i x0 x1 x2) (vals x3)
    ⟨fun n h x j => ?_, fun n h a d j => ?_, ht.low⟩ (fun a r => ?_) (g13_at c i arg3 harg3 arg4 harg4 arg5 harg5 arg13 x0 x1 x2)
    (k0_t1_loop i).trips (le_refl _)
  · rw [← trips1 i]
    exact hb
  · unfold tile
    rw [dif_pos h]
    unfold kernelRun0_A.sl.r_2
    rw [r_eq, r1_eq, harg4.read_unread, harg5.read_unread]
    rfl
  · unfold vals
    rw [dif_pos h, harg6.read_unread]
  · obtain ⟨u, hu, hN⟩ := first_running (first i x0 x4 x5 (col a r)) (ht.lowFirst _) 127 (ht.real _)
    refine ⟨u, (g11_at c i arg3 harg3 arg7 harg7 arg8 harg8 arg11 x0 x4 x5 _).trans hu, fun d => ?_⟩
    refine (g12_at c i arg3 harg3 arg7 harg7 arg8 harg8 arg9 harg9 arg12 x0 x4 x5 x6 a d r).trans ?_
    exact hN fun j => x6 (ix3 a d j)

theorem v107_eq : kernelRun0_A.sl.v107 c i arg3 harg3 arg4 harg4 arg5 harg5 arg6 harg6 arg7 harg7 arg8 harg8 arg9 harg9 arg10 harg10 arg11 harg11 arg12 harg12 arg13 harg13 x0 x1 x2 x3 x4 x5 x6 = endM c i arg3 harg3 arg4 harg4 arg5 harg5 arg6 harg6 arg7 harg7 arg8 harg8 arg9 harg9 arg10 harg10 arg11 harg11 arg12 harg12 arg13 harg13 x0 x1 x2 x3 x4 x5 x6 := by
  unfold kernelRun0_A.sl.v107 View.readCov
  rw [View.readAt_full, show Scf.trips (k0_t2_loop i).lb (k0_t2_loop i).ub (k0_t2_loop i).st = 0 from trips2 i]
  simp only [pb_k0_t2, List.nil_append]
  rw [View.writes_append]

theorem v95_eq : kernelRun0_A.sl.v95 c i arg3 harg3 arg4 harg4 arg5 harg5 arg6 harg6 arg7 harg7 arg8 harg8 arg9 harg9 arg10 harg10 arg11 harg11 arg12 harg12 arg13 harg13 x0 x1 x2 x3 x4 x5 x6 = endS c i arg3 harg3 arg4 harg4 arg5 harg5 arg6 harg6 arg7 harg7 arg8 harg8 arg9 harg9 arg10 harg10 arg11 harg11 arg12 harg12 arg13 harg13 x0 x1 x2 x3 x4 x5 x6 := by
  unfold kernelRun0_A.sl.v95 View.readCov
  rw [View.readAt_full, show Scf.trips (k0_t2_loop i).lb (k0_t2_loop i).ub (k0_t2_loop i).st = 0 from trips2 i]
  simp only [pb_k0_t2, List.nil_append]
  rw [View.writes_append]

theorem v119_at (d : Fin 128) (r : Fin 512) : kernelRun0_A.sl.v119 c i arg3 harg3 arg4 harg4 arg5 harg5 arg6 harg6 arg7 harg7 arg8 harg8 arg9 harg9 arg10 harg10 arg11 harg11 arg12 harg12 arg13 harg13 x0 x1 x2 x3 x4 x5 x6 (ix3 0 d r) = endA c i arg3 harg3 arg4 harg4 arg5 harg5 arg6 harg6 arg7 harg7 arg8 harg8 arg9 harg9 arg10 harg10 arg11 harg11 arg12 harg12 arg13 harg13 x0 x1 x2 x3 x4 x5 x6 (ix3 0 d r) := by
  unfold kernelRun0_A.sl.v119 View.readCov
  rw [show Scf.trips (k0_t2_loop i).lb (k0_t2_loop i).ub (k0_t2_loop i).st = 0 from trips2 i]
  simp only [pb_k0_t2, List.nil_append]
  rw [View.writes_append]
  refine readAt_at arg12.view _ _ (ix3 0 d r) (ix3 0 d r) _ rfl fun a => ?_
  match a with
  | ⟨0, _⟩ => rfl
  | ⟨1, _⟩ => exact (Nat.zero_add _).symm
  | ⟨2, _⟩ => exact (Nat.zero_add _).symm

theorem v130_at (d : Fin 128) (r : Fin 512) : kernelRun0_A.sl.v130 c i arg3 harg3 arg4 harg4 arg5 harg5 arg6 harg6 arg7 harg7 arg8 harg8 arg9 harg9 arg10 harg10 arg11 harg11 arg12 harg12 arg13 harg13 x0 x1 x2 x3 x4 x5 x6 (ix3 0 d r) = endA c i arg3 harg3 arg4 harg4 arg5 harg5 arg6 harg6 arg7 harg7 arg8 harg8 arg9 harg9 arg10 harg10 arg11 harg11 arg12 harg12 arg13 harg13 x0 x1 x2 x3 x4 x5 x6 (ix3 1 d r) := by
  unfold kernelRun0_A.sl.v130 View.readCov kernelRun0_A.sl.HS1_1
  rw [show Scf.trips (k0_t2_loop i).lb (k0_t2_loop i).ub (k0_t2_loop i).st = 0 from trips2 i]
  simp only [pb_k0_t2, List.nil_append]
  refine (readAt_at arg12.view _ _ (ix3 0 d r) (ix3 1 d r) _ rfl fun a => ?_).trans ?_
  · match a with
    | ⟨0, _⟩ => rfl
    | ⟨1, _⟩ => exact (Nat.zero_add _).symm
    | ⟨2, _⟩ => exact (Nat.zero_add _).symm
  refine (View.read_writes_cons_unit_of_not_mem arg12.view _ inb_S2x128x512_S1x128x512_0_0_0 _ _ (ix3 1 d r) rfl 0 (Or.inr (by show 0 + 1 ≤ 1; omega))).trans ?_
  rw [View.writes_append]

theorem v141_at (d : Fin 128) (r : Fin 512) : kernelRun0_A.sl.v141 c i arg3 harg3 arg4 harg4 arg5 harg5 arg6 harg6 arg7 harg7 arg8 harg8 arg9 harg9 arg10 harg10 arg11 harg11 arg12 harg12 arg13 harg13 x0 x1 x2 x3 x4 x5 x6 (ix3 0 d r)
    = moved (endM c i arg3 harg3 arg4 harg4 arg5 harg5 arg6 harg6 arg7 harg7 arg8 harg8 arg9 harg9 arg10 harg10 arg11 harg11 arg12 harg12 arg13 harg13 x0 x1 x2 x3 x4 x5 x6 (ix2 0 (col 0 r))) (max (endM c i arg3 harg3 arg4 harg4 arg5 harg5 arg6 harg6 arg7 harg7 arg8 harg8 arg9 harg9 arg10 harg10 arg11 harg11 arg12 harg12 arg13 harg13 x0 x1 x2 x3 x4 x5 x6 (ix2 0 (col 0 r))) (top (lastScore (fun j => endS c i arg3 harg3 arg4 harg4 arg5 harg5 arg6 harg6 arg7 harg7 arg8 harg8 arg9 harg9 arg10 harg10 arg11 harg11 arg12 harg12 arg13 harg13 x0 x1 x2 x3 x4 x5 x6 (ix2 j (col 0 r))) (col 0 r))))
        (endA c i arg3 harg3 arg4 harg4 arg5 harg5 arg6 harg6 arg7 harg7 arg8 harg8 arg9 harg9 arg10 harg10 arg11 harg11 arg12 harg12 arg13 harg13 x0 x1 x2 x3 x4 x5 x6 (ix3 0 d r)) (fun j => vals x3 0 (i 2).val d j) (lastScore (fun j => endS c i arg3 harg3 arg4 harg4 arg5 harg5 arg6 harg6 arg7 harg7 arg8 harg8 arg9 harg9 arg10 harg10 arg11 harg11 arg12 harg12 arg13 harg13 x0 x1 x2 x3 x4 x5 x6 (ix2 j (col 0 r))) (col 0 r)) := by
  unfold kernelRun0_A.sl.v141 View.readCov kernelRun0_A.sl.HS1_2_1 kernelRun0_A.sl.HS1_1
  refine (readAt_at arg12.view _ _ (ix3 0 d r) (ix3 0 d r) _ rfl fun a => ?_).trans ?_
  · match a with
    | ⟨0, _⟩ => rfl
    | ⟨1, _⟩ => exact (Nat.zero_add _).symm
    | ⟨2, _⟩ => exact (Nat.zero_add _).symm
  refine (View.read_writes_cons_unit_of_not_mem arg12.view _ inb_S2x128x512_S1x128x512_1_0_0 _ _ (ix3 0 d r) rfl 0 (Or.inl (by show 0 < 1; omega))).trans ?_
  refine (View.read_writes_cons_unit_of_mem arg12.view _ inb_S2x128x512_S1x128x512_0_0_0 _ _ (ix3 0 d r) (ix3 0 d r) rfl fun a => ?_).trans ?_
  · match a with
    | ⟨0, _⟩ => rfl
    | ⟨1, _⟩ => exact (Nat.zero_add _).symm
    | ⟨2, _⟩ => exact (Nat.zero_add _).symm
  rw [v95_eq, v107_eq]
  refine (pay47_at _ _ _ _ d r).trans ?_
  rw [v119_at]
  have hc : (⟨r.val, by omega⟩ : Fin 1024) = col 0 r := Fin.ext (by show r.val = 0 * 512 + r.val; omega)
  rw [hc]
  exact congrArg (fun v => moved _ _ _ v _) (funext fun j => r8_at i arg6 harg6 x3 d j)

theorem v147_at (d : Fin 128) (r : Fin 512) : kernelRun0_A.sl.v147 c i arg3 harg3 arg4 harg4 arg5 harg5 arg6 harg6 arg7 harg7 arg8 harg8 arg9 harg9 arg10 harg10 arg11 harg11 arg12 harg12 arg13 harg13 x0 x1 x2 x3 x4 x5 x6 (ix3 0 d r)
    = moved (endM c i arg3 harg3 arg4 harg4 arg5 harg5 arg6 harg6 arg7 harg7 arg8 harg8 arg9 harg9 arg10 harg10 arg11 harg11 arg12 harg12 arg13 harg13 x0 x1 x2 x3 x4 x5 x6 (ix2 0 (col 1 r))) (max (endM c i arg3 harg3 arg4 harg4 arg5 harg5 arg6 harg6 arg7 harg7 arg8 harg8 arg9 harg9 arg10 harg10 arg11 harg11 arg12 harg12 arg13 harg13 x0 x1 x2 x3 x4 x5 x6 (ix2 0 (col 1 r))) (top (lastScore (fun j => endS c i arg3 harg3 arg4 harg4 arg5 harg5 arg6 harg6 arg7 harg7 arg8 harg8 arg9 harg9 arg10 harg10 arg11 harg11 arg12 harg12 arg13 harg13 x0 x1 x2 x3 x4 x5 x6 (ix2 j (col 1 r))) (col 1 r))))
        (endA c i arg3 harg3 arg4 harg4 arg5 harg5 arg6 harg6 arg7 harg7 arg8 harg8 arg9 harg9 arg10 harg10 arg11 harg11 arg12 harg12 arg13 harg13 x0 x1 x2 x3 x4 x5 x6 (ix3 1 d r)) (fun j => vals x3 1 (i 2).val d j) (lastScore (fun j => endS c i arg3 harg3 arg4 harg4 arg5 harg5 arg6 harg6 arg7 harg7 arg8 harg8 arg9 harg9 arg10 harg10 arg11 harg11 arg12 harg12 arg13 harg13 x0 x1 x2 x3 x4 x5 x6 (ix2 j (col 1 r))) (col 1 r)) := by
  unfold kernelRun0_A.sl.v147 View.readCov kernelRun0_A.sl.HS1_2_1
  refine (readAt_at arg12.view _ _ (ix3 0 d r) (ix3 1 d r) _ rfl fun a => ?_).trans ?_
  · match a with
    | ⟨0, _⟩ => rfl
    | ⟨1, _⟩ => exact (Nat.zero_add _).symm
    | ⟨2, _⟩ => exact (Nat.zero_add _).symm
  refine (View.read_writes_cons_unit_of_mem arg12.view _ inb_S2x128x512_S1x128x512_1_0_0 _ _ (ix3 1 d r) (ix3 0 d r) rfl fun a => ?_).trans ?_
  · match a with
    | ⟨0, _⟩ => rfl
    | ⟨1, _⟩ => exact (Nat.zero_add _).symm
    | ⟨2, _⟩ => exact (Nat.zero_add _).symm
  rw [v95_eq, v107_eq]
  refine (pay48_at _ _ _ _ d r).trans ?_
  rw [v130_at]
  have hc : (⟨512 + r.val, by omega⟩ : Fin 1024) = col 1 r := Fin.ext (by show 512 + r.val = 1 * 512 + r.val; omega)
  rw [hc]
  exact congrArg (fun v => moved _ _ _ v _) (funext fun j => r9_at i arg6 harg6 x3 d j)

theorem last_low {S : Fin 512 → EReal} (hS : ∀ j, S j ≠ ⊤) (x : Fin 1024) (j : Fin 512) : lastScore S x j ≠ ⊤ := by
  unfold lastScore
  split
  · exact hS j
  · simp

/-- The sums after the last tile, of each head. -/
theorem final_sum (ht : Tame i x0 x1 x2 x4 x5) (a : Fin 2) (r : Fin 512) : ∃ u : ℝ, ∀ d : Fin 128,
    moved (endM c i arg3 harg3 arg4 harg4 arg5 harg5 arg6 harg6 arg7 harg7 arg8 harg8 arg9 harg9 arg10 harg10 arg11 harg11 arg12 harg12 arg13 harg13 x0 x1 x2 x3 x4 x5 x6 (ix2 0 (col a r))) (max (endM c i arg3 harg3 arg4 harg4 arg5 harg5 arg6 harg6 arg7 harg7 arg8 harg8 arg9 harg9 arg10 harg10 arg11 harg11 arg12 harg12 arg13 harg13 x0 x1 x2 x3 x4 x5 x6 (ix2 0 (col a r))) (top (lastScore (fun j => endS c i arg3 harg3 arg4 harg4 arg5 harg5 arg6 harg6 arg7 harg7 arg8 harg8 arg9 harg9 arg10 harg10 arg11 harg11 arg12 harg12 arg13 harg13 x0 x1 x2 x3 x4 x5 x6 (ix2 j (col a r))) (col a r))))
        (endA c i arg3 harg3 arg4 harg4 arg5 harg5 arg6 harg6 arg7 harg7 arg8 harg8 arg9 harg9 arg10 harg10 arg11 harg11 arg12 harg12 arg13 harg13 x0 x1 x2 x3 x4 x5 x6 (ix3 a d r)) (fun j => vals x3 a (i 2).val d j) (lastScore (fun j => endS c i arg3 harg3 arg4 harg4 arg5 harg5 arg6 harg6 arg7 harg7 arg8 harg8 arg9 harg9 arg10 harg10 arg11 harg11 arg12 harg12 arg13 harg13 x0 x1 x2 x3 x4 x5 x6 (ix2 j (col a r))) (col a r))
      = down u * rowSum i x0 x1 x2 x3 x4 x5 x6 a r d := by
  obtain ⟨hr, hs⟩ := end_all c i arg3 harg3 arg4 harg4 arg5 harg5 arg6 harg6 arg7 harg7 arg8 harg8 arg9 harg9 arg10 harg10 arg11 harg11 arg12 harg12 arg13 harg13 x0 x1 x2 x3 x4 x5 x6 ht
  obtain ⟨u, hu, hA⟩ := hr a r
  obtain ⟨u', _, hN⟩ := moved_running u (lastScore (tile i x0 x1 x2 (i 2).val (col a r)) (col a r)) (lastScore (tile i x0 x1 x2 (i 2).val (col a r)) (col a r))
    (last_low (ht.low _ _) _)
  have hS : (fun j => endS c i arg3 harg3 arg4 harg4 arg5 harg5 arg6 harg6 arg7 harg7 arg8 harg8 arg9 harg9 arg10 harg10 arg11 harg11 arg12 harg12 arg13 harg13 x0 x1 x2 x3 x4 x5 x6 (ix2 j (col a r)) : Fin 512 → EReal) = tile i x0 x1 x2 (i 2).val (col a r) := funext fun j => hs _ j
  refine ⟨u', fun d => ?_⟩
  rw [hu, hA d, hS]
  exact hN _ _

theorem out_pay (y : S1x512x128.Idx) : out0_A_7 c i arg3 harg3 arg4 harg4 arg5 harg5 arg6 harg6 arg7 harg7 arg8 harg8 arg9 harg9 arg10 harg10 arg11 harg11 arg12 harg12 arg13 harg13 x0 x1 x2 x3 x4 x5 x6 y = k0_pay2 (kernelRun0_A.sl.v141 c i arg3 harg3 arg4 harg4 arg5 harg5 arg6 harg6 arg7 harg7 arg8 harg8 arg9 harg9 arg10 harg10 arg11 harg11 arg12 harg12 arg13 harg13 x0 x1 x2 x3 x4 x5 x6) (kernelRun0_A.sl.v147 c i arg3 harg3 arg4 harg4 arg5 harg5 arg6 harg6 arg7 harg7 arg8 harg8 arg9 harg9 arg10 harg10 arg11 harg11 arg12 harg12 arg13 harg13 x0 x1 x2 x3 x4 x5 x6) y := by
  unfold out0_A_7 kernelRun0_A
  dsimp only
  exact congrFun (View.read_writes_full VO0_7 _ _ _ []) y

/-- A block of the result, head 0 of the pair. -/
theorem out0_at (ht : Tame i x0 x1 x2 x4 x5) (r : Fin 512) (d : Fin 64)
    (hD : ∃ D : ℝ, 0 < D ∧ rowSum i x0 x1 x2 x3 x4 x5 x6 0 r 64 = (D : EReal)) :
    out0_A_7 c i arg3 harg3 arg4 harg4 arg5 harg5 arg6 harg6 arg7 harg7 arg8 harg8 arg9 harg9 arg10 harg10 arg11 harg11 arg12 harg12 arg13 harg13 x0 x1 x2 x3 x4 x5 x6 (ix3 0 r ⟨0 * 64 + d.val, by omega⟩)
      = Ideal.div (rowSum i x0 x1 x2 x3 x4 x5 x6 0 r ⟨d.val, by omega⟩) (rowSum i x0 x1 x2 x3 x4 x5 x6 0 r 64) := by
  obtain ⟨u, hu⟩ := final_sum c i arg3 harg3 arg4 harg4 arg5 harg5 arg6 harg6 arg7 harg7 arg8 harg8 arg9 harg9 arg10 harg10 arg11 harg11 arg12 harg12 arg13 harg13 x0 x1 x2 x3 x4 x5 x6 ht 0 r
  obtain ⟨D, hD0, hD⟩ := hD
  have hpay := pay2_at (kernelRun0_A.sl.v141 c i arg3 harg3 arg4 harg4 arg5 harg5 arg6 harg6 arg7 harg7 arg8 harg8 arg9 harg9 arg10 harg10 arg11 harg11 arg12 harg12 arg13 harg13 x0 x1 x2 x3 x4 x5 x6) (kernelRun0_A.sl.v147 c i arg3 harg3 arg4 harg4 arg5 harg5 arg6 harg6 arg7 harg7 arg8 harg8 arg9 harg9 arg10 harg10 arg11 harg11 arg12 harg12 arg13 harg13 x0 x1 x2 x3 x4 x5 x6) ⟨0 * 64 + d.val, by omega⟩ r
  rw [dif_pos (by show 0 * 64 + d.val < 64; omega)] at hpay
  have hi : (⟨0 * 64 + d.val, by omega⟩ : Fin 128) = ⟨d.val, by omega⟩ := Fin.ext (by show 0 * 64 + d.val = d.val; omega)
  refine Eq.trans (b := k0_pay2 (kernelRun0_A.sl.v141 c i arg3 harg3 arg4 harg4 arg5 harg5 arg6 harg6 arg7 harg7 arg8 harg8 arg9 harg9 arg10 harg10 arg11 harg11 arg12 harg12 arg13 harg13 x0 x1 x2 x3 x4 x5 x6) (kernelRun0_A.sl.v147 c i arg3 harg3 arg4 harg4 arg5 harg5 arg6 harg6 arg7 harg7 arg8 harg8 arg9 harg9 arg10 harg10 arg11 harg11 arg12 harg12 arg13 harg13 x0 x1 x2 x3 x4 x5 x6) (ix3 0 r ⟨0 * 64 + d.val, by omega⟩)) ?_ (hpay.trans ?_)
  · exact out_pay c i arg3 harg3 arg4 harg4 arg5 harg5 arg6 harg6 arg7 harg7 arg8 harg8 arg9 harg9 arg10 harg10 arg11 harg11 arg12 harg12 arg13 harg13 x0 x1 x2 x3 x4 x5 x6 _
  refine (congrArg₂ Ideal.div ((v141_at c i arg3 harg3 arg4 harg4 arg5 harg5 arg6 harg6 arg7 harg7 arg8 harg8 arg9 harg9 arg10 harg10 arg11 harg11 arg12 harg12 arg13 harg13 x0 x1 x2 x3 x4 x5 x6 _ r).trans (hu _)) ((v141_at c i arg3 harg3 arg4 harg4 arg5 harg5 arg6 harg6 arg7 harg7 arg8 harg8 arg9 harg9 arg10 harg10 arg11 harg11 arg12 harg12 arg13 harg13 x0 x1 x2 x3 x4 x5 x6 64 r).trans (hu _))).trans ?_
  rw [hD, quotient u _ hD0]
  exact congrArg (fun k => Ideal.div (rowSum i x0 x1 x2 x3 x4 x5 x6 0 r k) (D : EReal)) hi

/-- A block of the result, head 1 of the pair. -/
theorem out1_at (ht : Tame i x0 x1 x2 x4 x5) (r : Fin 512) (d : Fin 64)
    (hD : ∃ D : ℝ, 0 < D ∧ rowSum i x0 x1 x2 x3 x4 x5 x6 1 r 64 = (D : EReal)) :
    out0_A_7 c i arg3 harg3 arg4 harg4 arg5 harg5 arg6 harg6 arg7 harg7 arg8 harg8 arg9 harg9 arg10 harg10 arg11 harg11 arg12 harg12 arg13 harg13 x0 x1 x2 x3 x4 x5 x6 (ix3 0 r ⟨1 * 64 + d.val, by omega⟩)
      = Ideal.div (rowSum i x0 x1 x2 x3 x4 x5 x6 1 r ⟨d.val, by omega⟩) (rowSum i x0 x1 x2 x3 x4 x5 x6 1 r 64) := by
  obtain ⟨u, hu⟩ := final_sum c i arg3 harg3 arg4 harg4 arg5 harg5 arg6 harg6 arg7 harg7 arg8 harg8 arg9 harg9 arg10 harg10 arg11 harg11 arg12 harg12 arg13 harg13 x0 x1 x2 x3 x4 x5 x6 ht 1 r
  obtain ⟨D, hD0, hD⟩ := hD
  have hpay := pay2_at (kernelRun0_A.sl.v141 c i arg3 harg3 arg4 harg4 arg5 harg5 arg6 harg6 arg7 harg7 arg8 harg8 arg9 harg9 arg10 harg10 arg11 harg11 arg12 harg12 arg13 harg13 x0 x1 x2 x3 x4 x5 x6) (kernelRun0_A.sl.v147 c i arg3 harg3 arg4 harg4 arg5 harg5 arg6 harg6 arg7 harg7 arg8 harg8 arg9 harg9 arg10 harg10 arg11 harg11 arg12 harg12 arg13 harg13 x0 x1 x2 x3 x4 x5 x6) ⟨1 * 64 + d.val, by omega⟩ r
  rw [dif_neg (by show ¬ 1 * 64 + d.val < 64; omega)] at hpay
  have hi : (⟨1 * 64 + d.val - 64, by omega⟩ : Fin 128) = ⟨d.val, by omega⟩ := Fin.ext (by show 1 * 64 + d.val - 64 = d.val; omega)
  refine Eq.trans (b := k0_pay2 (kernelRun0_A.sl.v141 c i arg3 harg3 arg4 harg4 arg5 harg5 arg6 harg6 arg7 harg7 arg8 harg8 arg9 harg9 arg10 harg10 arg11 harg11 arg12 harg12 arg13 harg13 x0 x1 x2 x3 x4 x5 x6) (kernelRun0_A.sl.v147 c i arg3 harg3 arg4 harg4 arg5 harg5 arg6 harg6 arg7 harg7 arg8 harg8 arg9 harg9 arg10 harg10 arg11 harg11 arg12 harg12 arg13 harg13 x0 x1 x2 x3 x4 x5 x6) (ix3 0 r ⟨1 * 64 + d.val, by omega⟩)) ?_ (hpay.trans ?_)
  · exact out_pay c i arg3 harg3 arg4 harg4 arg5 harg5 arg6 harg6 arg7 harg7 arg8 harg8 arg9 harg9 arg10 harg10 arg11 harg11 arg12 harg12 arg13 harg13 x0 x1 x2 x3 x4 x5 x6 _
  refine (congrArg₂ Ideal.div ((v147_at c i arg3 harg3 arg4 harg4 arg5 harg5 arg6 harg6 arg7 harg7 arg8 harg8 arg9 harg9 arg10 harg10 arg11 harg11 arg12 harg12 arg13 harg13 x0 x1 x2 x3 x4 x5 x6 _ r).trans (hu _)) ((v147_at c i arg3 harg3 arg4 harg4 arg5 harg5 arg6 harg6 arg7 harg7 arg8 harg8 arg9 harg9 arg10 harg10 arg11 harg11 arg12 harg12 arg13 harg13 x0 x1 x2 x3 x4 x5 x6 64 r).trans (hu _))).trans ?_
  rw [hD, quotient u _ hD0]
  exact congrArg (fun k => Ideal.div (rowSum i x0 x1 x2 x3 x4 x5 x6 1 r k) (D : EReal)) hi

end Cert.Kernel4Ideal.Work

end
-- ==== Proof.FoxScore.lean ====
/- The forgetting attention's score: the wide rows single out one head's lanes and its three biases. -/
module

public import proofs.«01_k».proof.Proof.FoxRun

@[expose] public section

noncomputable section

namespace Cert.Kernel4Ideal.Work

open Cert.Kernel4Ideal Cert.Kernel4Ideal.Gen Cert.Qkv Cert.Fox
open Idealize.ShloMosaic Idealize.ShloMosaic.TcCoe

theorem key_bit (l : Fin 128) : IntOp.cmpi CmpIPredicate.slt (BitVec.ofNat 32 l.val) 64#32 = BitVec.ofBool (decide (l.val < 64)) := by
  revert l
  decide +kernel

theorem key_bit' (l : Fin 128) : IntOp.cmpi CmpIPredicate.sge (BitVec.ofNat 32 l.val) 64#32 = BitVec.ofBool (decide (¬ l.val < 64)) := by
  revert l
  decide +kernel

theorem aug_bit (p : Fin 4) (l : Fin 128) : IntOp.andi (IntOp.cmpi CmpIPredicate.slt (BitVec.ofNat 32 l.val) 24#32)
    (IntOp.cmpi CmpIPredicate.eq (IntOp.andi (BitVec.ofNat 32 l.val) 7#32) (Scalar.addi (Scalar.muli (2#32) (BitVec.ofNat 32 p.val)) 0#32))
      = BitVec.ofBool (decide (l.val < 24 ∧ l.val % 8 = 2 * p.val)) := by
  revert p l
  decide +kernel

theorem aug_bit' (p : Fin 4) (l : Fin 128) : IntOp.andi (IntOp.cmpi CmpIPredicate.slt (BitVec.ofNat 32 l.val) 24#32)
    (IntOp.cmpi CmpIPredicate.eq (IntOp.andi (BitVec.ofNat 32 l.val) 7#32) (Scalar.addi (Scalar.muli (2#32) (BitVec.ofNat 32 p.val)) 1#32))
      = BitVec.ofBool (decide (l.val < 24 ∧ l.val % 8 = 2 * p.val + 1)) := by
  revert p l
  decide +kernel

variable (i : grid0.Coords) (q : Vec Ideal S1x512x128 .bf16) (r : Fin 512) (l : Fin 128)

theorem wide0_key : wide i q ⟨r.val, by omega⟩ ⟨l.val, by omega⟩ = if l.val < 64 then q (ix3 0 r l) else 0 := by
  unfold wide k0_pay21 k0_pay18 k0_pay19 k0_pay20 k0_pay17
  pointwise
  rw [key_bit, select_bit]

theorem wide0_aug : wide i q ⟨r.val, by omega⟩ ⟨128 + l.val, by omega⟩ = if l.val < 24 ∧ l.val % 8 = 2 * (i 1).val then 1 else 0 := by
  unfold wide k0_pay21 k0_pay18 k0_pay19 k0_pay20 k0_pay17
  pointwise
  rw [show (i 1).val = (⟨(i 1).val, (i 1).isLt⟩ : Fin 4).val from rfl, aug_bit, select_bit]

theorem wide1_key : wide i q ⟨512 + r.val, by omega⟩ ⟨l.val, by omega⟩ = if ¬ l.val < 64 then q (ix3 0 r l) else 0 := by
  unfold wide k0_pay21 k0_pay18 k0_pay19 k0_pay20 k0_pay17
  pointwise
  rw [key_bit', select_bit]

theorem wide1_aug : wide i q ⟨512 + r.val, by omega⟩ ⟨128 + l.val, by omega⟩ = if l.val < 24 ∧ l.val % 8 = 2 * (i 1).val + 1 then 1 else 0 := by
  unfold wide k0_pay21 k0_pay18 k0_pay19 k0_pay20 k0_pay17
  pointwise
  rw [show (i 1).val = (⟨(i 1).val, (i 1).isLt⟩ : Fin 4).val from rfl, aug_bit', select_bit]

/-- A sum over a head's half of the lanes. -/
theorem half_sum (a : Fin 2) (k v : Fin 128 → EReal) :
    ∑ l : Fin 128, k l * (if l.val / 64 = a.val then v l else 0) = ∑ d : Fin 64, k ⟨a.val * 64 + d.val, by omega⟩ * v ⟨a.val * 64 + d.val, by omega⟩ := by
  have h := Fin.sum_univ_add (a := 64) (b := 64) fun l : Fin 128 => k l * (if l.val / 64 = a.val then v l else 0)
  refine h.trans ?_
  match a with
  | ⟨0, _⟩ =>
    refine Eq.trans (congrArg₂ (fun x y : EReal => x + y) (Finset.sum_congr rfl fun d _ => ?_) (Finset.sum_eq_zero fun d _ => ?_)) (add_zero _)
    · have e : (Fin.castAdd 64 d : Fin 128) = ⟨0 * 64 + d.val, by omega⟩ := Fin.ext (by show d.val = 0 * 64 + d.val; omega)
      rw [e, if_pos (by show (0 * 64 + d.val) / 64 = 0; omega)]
    · rw [if_neg (by show ¬ (64 + d.val) / 64 = 0; omega)]
      exact mul_zero _
  | ⟨1, _⟩ =>
    refine Eq.trans (congrArg₂ (fun x y : EReal => x + y) (Finset.sum_eq_zero fun d _ => ?_) (Finset.sum_congr rfl fun d _ => ?_)) (zero_add _)
    · rw [if_neg (by show ¬ d.val / 64 = 1; omega)]
      exact mul_zero _
    · have e : (Fin.natAdd 64 d : Fin 128) = ⟨1 * 64 + d.val, by omega⟩ := Fin.ext (by show 64 + d.val = 1 * 64 + d.val; omega)
      rw [e, if_pos (by show (1 * 64 + d.val) / 64 = 1; omega)]

theorem three_lanes : ∀ h : Fin 8, (Finset.univ.filter fun l : Fin 128 => l.val < 24 ∧ l.val % 8 = h.val)
    = {⟨h.val, by omega⟩, ⟨8 + h.val, by omega⟩, ⟨16 + h.val, by omega⟩} := by decide +kernel

/-- A sum over the three lanes of a head. -/
theorem lane_sum (h : Fin 8) (g : Fin 128 → EReal) :
    ∑ l : Fin 128, g l * (if l.val < 24 ∧ l.val % 8 = h.val then 1 else 0) = g ⟨h.val, by omega⟩ + g ⟨8 + h.val, by omega⟩ + g ⟨16 + h.val, by omega⟩ := by
  simp only [mul_ite, mul_one, mul_zero]
  rw [← Finset.sum_filter, three_lanes, Finset.sum_insert, Finset.sum_insert, Finset.sum_singleton, add_assoc]
  · simp
  · simp

/-- A head of the pair. -/
abbrev headOf (a : Fin 2) : Fin 8 := ⟨2 * (i 1).val + a.val, by have : (i 1).val < 4 := (i 1).isLt; omega⟩

theorem wide_key (a : Fin 2) : wide i q (col a r) ⟨l.val, by omega⟩ = if l.val / 64 = a.val then q (ix3 0 r l) else 0 := by
  have hl := l.isLt
  obtain rfl | rfl : a = 0 ∨ a = 1 := by omega
  · have hc : col 0 r = (⟨r.val, by omega⟩ : Fin 1024) := Fin.ext (by show 0 * 512 + r.val = r.val; omega)
    rw [hc, wide0_key]
    refine if_congr ?_ rfl rfl
    show l.val < 64 ↔ l.val / 64 = 0
    omega
  · have hc : col 1 r = (⟨512 + r.val, by omega⟩ : Fin 1024) := Fin.ext (by show 1 * 512 + r.val = 512 + r.val; omega)
    rw [hc, wide1_key]
    refine if_congr ?_ rfl rfl
    show ¬ l.val < 64 ↔ l.val / 64 = 1
    omega

theorem wide_aug (a : Fin 2) : wide i q (col a r) ⟨128 + l.val, by omega⟩ = if l.val < 24 ∧ l.val % 8 = (headOf i a).val then 1 else 0 := by
  obtain rfl | rfl : a = 0 ∨ a = 1 := by omega
  · have hc : col 0 r = (⟨r.val, by omega⟩ : Fin 1024) := Fin.ext (by show 0 * 512 + r.val = r.val; omega)
    rw [hc, wide0_aug]
    rfl
  · have hc : col 1 r = (⟨512 + r.val, by omega⟩ : Fin 1024) := Fin.ext (by show 1 * 512 + r.val = 512 + r.val; omega)
    rw [hc, wide1_aug]
    rfl

/-- A score is a head's inner product, and its three biases. -/
theorem score_at (a : Fin 2) (h : Fin 8) (hh : headOf i a = h) (k g : Fin 128 → EReal) :
    score (wide i q) k g (col a r)
      = (∑ d : Fin 64, k ⟨a.val * 64 + d.val, by omega⟩ * q (ix3 0 r ⟨a.val * 64 + d.val, by omega⟩) : EReal)
        + (g ⟨h.val, by omega⟩ + g ⟨8 + h.val, by omega⟩ + g ⟨16 + h.val, by omega⟩) := by
  subst hh
  unfold score
  refine congrArg₂ (fun x y : EReal => x + y) ?_ ?_
  · refine (Finset.sum_congr rfl fun l _ => congrArg (fun w : EReal => k l * w) (wide_key i q r l a)).trans ?_
    exact half_sum a k fun l => q (ix3 0 r l)
  · refine (Finset.sum_congr rfl fun l _ => congrArg (fun w : EReal => g l * w) (wide_aug i q r l a)).trans ?_
    exact lane_sum (headOf i a) g

end Cert.Kernel4Ideal.Work

end
-- ==== Proof.FoxArray.lean ====
/- The forgetting attention's blocks, read at an index: the arrays at the call and the windows' blocks. -/
module

public import proofs.«01_k».proof.Proof.FoxScore
public import Idealize.ShloMosaic.Lib.StableHlo.ReadAt

@[expose] public section

noncomputable section

namespace Cert.Kernel4Ideal.Work

open Cert.Kernel4Ideal Cert.Kernel4Ideal.Gen Cert.Qkv Cert.Fox
open Idealize.ShloMosaic Idealize.ShloMosaic.TcCoe
open Idealize.ShloMosaic.Pipeline (Dat Cfg Window)

variable (m : (ℓ : Loc nD τ sig) → Buf (Elt Ideal) ℓ)

/-! The arrays at the call, read at an index. -/

theorem V_arg0 (c : Dev nD) (b : Fin 4) (s : Fin 4096) (l : Fin 512) : V m c main_arg0 (ix3 b s l) = (m ((c : Thread nD τ).loc main_arg0)) (ix3 b s l) := by
  after_reads_at

theorem V_arg1 (c : Dev nD) (b : Fin 4) (s : Fin 4096) (l : Fin 512) : V m c main_arg1 (ix3 b s l) = (m ((c : Thread nD τ).loc main_arg1)) (ix3 b s l) := by
  after_reads_at

theorem V_arg2 (c : Dev nD) (b : Fin 4) (s : Fin 4096) (l : Fin 128) : V m c main_arg2 (ix3 b s l) = (m ((c : Thread nD τ).loc main_arg2)) (ix3 b s l) := by
  after_reads_at

theorem V_arg3 (c : Dev nD) (b : Fin 4) (h n : Fin 8) (d : Fin 128) (j : Fin 512) : V m c main_arg3 (ix5 b h n d j) = (m ((c : Thread nD τ).loc main_arg3)) (ix5 b h n d j) := by
  after_reads_at

theorem V_km (c : Dev nD) (j : Fin 128) (l : Fin 512) : V m c main_v0 (ix2 j l) = (m ((c : Thread nD τ).loc main_arg4)) (ix3 0 j l) := by
  after_reads_at

theorem V_augm (c : Dev nD) (j l : Fin 128) : V m c main_v1 (ix2 j l) = (m ((c : Thread nD τ).loc main_arg5)) (ix3 0 j l) := by
  after_reads_at

theorem V_vtm (c : Dev nD) (h : Fin 8) (d j : Fin 128) : V m c main_v2 (ix3 h d j) = (m ((c : Thread nD τ).loc main_arg6)) (ix5 0 h 0 d j) := by
  after_reads_at

/-! The point's batch, pair of heads and tile of rows. -/

theorem bound (t : Fin grid0.N) : t.val < 128 := lt_of_lt_of_eq t.isLt rfl

/-- The point's batch. -/
abbrev bt (t : Fin grid0.N) : Fin 4 := ⟨t.val / 32, by have := bound t; omega⟩

/-- A head of the point's pair. -/
abbrev hd (t : Fin grid0.N) (a : Fin 2) : Fin 8 := ⟨2 * (t.val / 8 % 4) + a.val, by omega⟩

/-- A row of the point's tile. -/
abbrev row (t : Fin grid0.N) (r : Fin 512) : Fin 4096 := ⟨t.val % 8 * 512 + r.val, by omega⟩

/-- A lane of the point's pair. -/
abbrev lane (t : Fin grid0.N) (l : Fin 128) : Fin 512 := ⟨t.val / 8 % 4 * 128 + l.val, by omega⟩

theorem coord1 : ∀ t : Fin grid0.N, ((grid0.coords t) 1).val = t.val / 8 % 4 := by decide +kernel
theorem coord2 : ∀ t : Fin grid0.N, ((grid0.coords t) 2).val = t.val % 8 := by decide +kernel

theorem index0 : ∀ t : Fin grid0.N, cc0_transform_0 (grid0.coords t) = ![t.val / 32, t.val % 8, t.val / 8 % 4] := by decide +kernel
theorem index1 : ∀ t : Fin grid0.N, cc0_transform_1 (grid0.coords t) = ![t.val / 32, 0, t.val / 8 % 4] := by decide +kernel
theorem index2 : ∀ t : Fin grid0.N, cc0_transform_2 (grid0.coords t) = ![t.val / 32, 0, 0] := by decide +kernel
theorem index3 : ∀ t : Fin grid0.N, cc0_transform_3 (grid0.coords t) = ![t.val / 32, t.val / 8 % 4, 0, 0, 0] := by decide +kernel
theorem index4 : ∀ t : Fin grid0.N, cc0_transform_4 (grid0.coords t) = ![0, t.val / 8 % 4] := by decide +kernel
theorem index5 : ∀ t : Fin grid0.N, cc0_transform_5 (grid0.coords t) = ![0, 0] := by decide +kernel
theorem index6 : ∀ t : Fin grid0.N, cc0_transform_6 (grid0.coords t) = ![t.val / 8 % 4, 0, 0] := by decide +kernel
theorem index7 : ∀ t : Fin grid0.N, cc0_transform_7 (grid0.coords t) = ![t.val / 32, t.val % 8, t.val / 8 % 4] := by decide +kernel

theorem blk0 (c : Dev nD) (t : Fin grid0.N) (r : Fin 512) (l : Fin 128) : iblk m c 0 t (ix3 0 r l) = (m ((c : Thread nD τ).loc main_arg0)) (ix3 (bt t) (row t r) (lane t l)) := by
  refine Eq.trans ?_ (V_arg0 m c _ _ _)
  unfold iblk
  show V m c main_arg0 (((cfg0.win 0).blk t).view.emb (ix3 0 r l)) = V m c main_arg0 (ix3 (bt t) (row t r) (lane t l))
  congr 1
  funext x
  apply Fin.ext
  refine (Pipeline.Window.rect_emb_val _ _ _ _).trans ?_
  match x with
  | ⟨0, _⟩ =>
    show cc0_transform_0 (grid0.coords t) 0 * 1 + 0 = t.val / 32
    rw [index0]
    show t.val / 32 * 1 + 0 = t.val / 32
    omega
  | ⟨1, _⟩ =>
    show cc0_transform_0 (grid0.coords t) 1 * 512 + r.val = t.val % 8 * 512 + r.val
    rw [index0]
    show t.val % 8 * 512 + r.val = t.val % 8 * 512 + r.val
    omega
  | ⟨2, _⟩ =>
    show cc0_transform_0 (grid0.coords t) 2 * 128 + l.val = t.val / 8 % 4 * 128 + l.val
    rw [index0]
    show t.val / 8 % 4 * 128 + l.val = t.val / 8 % 4 * 128 + l.val
    omega

theorem blk1 (c : Dev nD) (t : Fin grid0.N) (s : Fin 4096) (l : Fin 128) : iblk m c 1 t (ix3 0 s l) = (m ((c : Thread nD τ).loc main_arg1)) (ix3 (bt t) s (lane t l)) := by
  refine Eq.trans ?_ (V_arg1 m c _ _ _)
  unfold iblk
  show V m c main_arg1 (((cfg0.win 1).blk t).view.emb (ix3 0 s l)) = V m c main_arg1 (ix3 (bt t) s (lane t l))
  congr 1
  funext x
  apply Fin.ext
  refine (Pipeline.Window.rect_emb_val _ _ _ _).trans ?_
  match x with
  | ⟨0, _⟩ =>
    show cc0_transform_1 (grid0.coords t) 0 * 1 + 0 = t.val / 32
    rw [index1]
    show t.val / 32 * 1 + 0 = t.val / 32
    omega
  | ⟨1, _⟩ =>
    show cc0_transform_1 (grid0.coords t) 1 * 4096 + s.val = s.val
    rw [index1]
    show 0 * 4096 + s.val = s.val
    omega
  | ⟨2, _⟩ =>
    show cc0_transform_1 (grid0.coords t) 2 * 128 + l.val = t.val / 8 % 4 * 128 + l.val
    rw [index1]
    show t.val / 8 % 4 * 128 + l.val = t.val / 8 % 4 * 128 + l.val
    omega

theorem blk2 (c : Dev nD) (t : Fin grid0.N) (s : Fin 4096) (l : Fin 128) : iblk m c 2 t (ix3 0 s l) = (m ((c : Thread nD τ).loc main_arg2)) (ix3 (bt t) s l) := by
  refine Eq.trans ?_ (V_arg2 m c _ _ _)
  unfold iblk
  show V m c main_arg2 (((cfg0.win 2).blk t).view.emb (ix3 0 s l)) = V m c main_arg2 (ix3 (bt t) s l)
  congr 1
  funext x
  apply Fin.ext
  refine (Pipeline.Window.rect_emb_val _ _ _ _).trans ?_
  match x with
  | ⟨0, _⟩ =>
    show cc0_transform_2 (grid0.coords t) 0 * 1 + 0 = t.val / 32
    rw [index2]
    show t.val / 32 * 1 + 0 = t.val / 32
    omega
  | ⟨1, _⟩ =>
    show cc0_transform_2 (grid0.coords t) 1 * 4096 + s.val = s.val
    rw [index2]
    show 0 * 4096 + s.val = s.val
    omega
  | ⟨2, _⟩ =>
    show cc0_transform_2 (grid0.coords t) 2 * 128 + l.val = l.val
    rw [index2]
    show 0 * 128 + l.val = l.val
    omega

theorem blk3 (c : Dev nD) (t : Fin grid0.N) (a : Fin 2) (n : Fin 8) (d : Fin 128) (j : Fin 512) : iblk m c 3 t (ix5 0 a n d j) = (m ((c : Thread nD τ).loc main_arg3)) (ix5 (bt t) (hd t a) n d j) := by
  refine Eq.trans ?_ (V_arg3 m c _ _ _ _ _)
  unfold iblk
  show V m c main_arg3 (((cfg0.win 3).blk t).view.emb (ix5 0 a n d j)) = V m c main_arg3 (ix5 (bt t) (hd t a) n d j)
  congr 1
  funext x
  apply Fin.ext
  refine (Pipeline.Window.rect_emb_val _ _ _ _).trans ?_
  match x with
  | ⟨0, _⟩ =>
    show cc0_transform_3 (grid0.coords t) 0 * 1 + 0 = t.val / 32
    rw [index3]
    show t.val / 32 * 1 + 0 = t.val / 32
    omega
  | ⟨1, _⟩ =>
    show cc0_transform_3 (grid0.coords t) 1 * 2 + a.val = 2 * (t.val / 8 % 4) + a.val
    rw [index3]
    show t.val / 8 % 4 * 2 + a.val = 2 * (t.val / 8 % 4) + a.val
    omega
  | ⟨2, _⟩ =>
    show cc0_transform_3 (grid0.coords t) 2 * 8 + n.val = n.val
    rw [index3]
    show 0 * 8 + n.val = n.val
    omega
  | ⟨3, _⟩ =>
    show cc0_transform_3 (grid0.coords t) 3 * 128 + d.val = d.val
    rw [index3]
    show 0 * 128 + d.val = d.val
    omega
  | ⟨4, _⟩ =>
    show cc0_transform_3 (grid0.coords t) 4 * 512 + j.val = j.val
    rw [index3]
    show 0 * 512 + j.val = j.val
    omega

theorem blk4 (c : Dev nD) (t : Fin grid0.N) (j l : Fin 128) : iblk m c 4 t (ix2 j l) = (m ((c : Thread nD τ).loc main_arg4)) (ix3 0 j (lane t l)) := by
  refine Eq.trans ?_ (V_km m c _ _)
  unfold iblk
  show V m c main_v0 (((cfg0.win 4).blk t).view.emb (ix2 j l)) = V m c main_v0 (ix2 j (lane t l))
  congr 1
  funext x
  apply Fin.ext
  refine (Pipeline.Window.rect_emb_val _ _ _ _).trans ?_
  match x with
  | ⟨0, _⟩ =>
    show cc0_transform_4 (grid0.coords t) 0 * 128 + j.val = j.val
    rw [index4]
    show 0 * 128 + j.val = j.val
    omega
  | ⟨1, _⟩ =>
    show cc0_transform_4 (grid0.coords t) 1 * 128 + l.val = t.val / 8 % 4 * 128 + l.val
    rw [index4]
    show t.val / 8 % 4 * 128 + l.val = t.val / 8 % 4 * 128 + l.val
    omega

theorem blk5 (c : Dev nD) (t : Fin grid0.N) (j l : Fin 128) : iblk m c 5 t (ix2 j l) = (m ((c : Thread nD τ).loc main_arg5)) (ix3 0 j l) := by
  refine Eq.trans ?_ (V_augm m c _ _)
  unfold iblk
  show V m c main_v1 (((cfg0.win 5).blk t).view.emb (ix2 j l)) = V m c main_v1 (ix2 j l)
  congr 1
  funext x
  apply Fin.ext
  refine (Pipeline.Window.rect_emb_val _ _ _ _).trans ?_
  match x with
  | ⟨0, _⟩ =>
    show cc0_transform_5 (grid0.coords t) 0 * 128 + j.val = j.val
    rw [index5]
    show 0 * 128 + j.val = j.val
    omega
  | ⟨1, _⟩ =>
    show cc0_transform_5 (grid0.coords t) 1 * 128 + l.val = l.val
    rw [index5]
    show 0 * 128 + l.val = l.val
    omega

theorem blk6 (c : Dev nD) (t : Fin grid0.N) (a : Fin 2) (d j : Fin 128) : iblk m c 6 t (ix3 a d j) = (m ((c : Thread nD τ).loc main_arg6)) (ix5 0 (hd t a) 0 d j) := by
  refine Eq.trans ?_ (V_vtm m c _ _ _)
  unfold iblk
  show V m c main_v2 (((cfg0.win 6).blk t).view.emb (ix3 a d j)) = V m c main_v2 (ix3 (hd t a) d j)
  congr 1
  funext x
  apply Fin.ext
  refine (Pipeline.Window.rect_emb_val _ _ _ _).trans ?_
  match x with
  | ⟨0, _⟩ =>
    show cc0_transform_6 (grid0.coords t) 0 * 2 + a.val = 2 * (t.val / 8 % 4) + a.val
    rw [index6]
    show t.val / 8 % 4 * 2 + a.val = 2 * (t.val / 8 % 4) + a.val
    omega
  | ⟨1, _⟩ =>
    show cc0_transform_6 (grid0.coords t) 1 * 128 + d.val = d.val
    rw [index6]
    show 0 * 128 + d.val = d.val
    omega
  | ⟨2, _⟩ =>
    show cc0_transform_6 (grid0.coords t) 2 * 128 + j.val = j.val
    rw [index6]
    show 0 * 128 + j.val = j.val
    omega

theorem emb7 (t : Fin grid0.N) (r : Fin 512) (l : Fin 128) :
    ((cfg0.win 7).blk t).view.emb (ix3 0 r l) = (ix3 (bt t) (row t r) (lane t l) : S4x4096x512.Idx) := by
  funext x
  apply Fin.ext
  refine (Pipeline.Window.rect_emb_val _ _ _ _).trans ?_
  match x with
  | ⟨0, _⟩ =>
    show cc0_transform_7 (grid0.coords t) 0 * 1 + 0 = t.val / 32
    rw [index7]
    show t.val / 32 * 1 + 0 = t.val / 32
    omega
  | ⟨1, _⟩ =>
    show cc0_transform_7 (grid0.coords t) 1 * 512 + r.val = t.val % 8 * 512 + r.val
    rw [index7]
    show t.val % 8 * 512 + r.val = t.val % 8 * 512 + r.val
    omega
  | ⟨2, _⟩ =>
    show cc0_transform_7 (grid0.coords t) 2 * 128 + l.val = t.val / 8 % 4 * 128 + l.val
    rw [index7]
    show t.val / 8 % 4 * 128 + l.val = t.val / 8 % 4 * 128 + l.val
    omega

theorem covers7 : (cfg0.win 7).Covers := by decide +kernel

/-- The result array is one that every block agrees with. -/
theorem arr7 (c : Dev nD) (g : S4x4096x512.Idx → EReal)
    (hg : ∀ (t : Fin grid0.N) (r : Fin 512) (l : Fin 128), outsAt0 m c t (ix3 0 r l) = g (ix3 (bt t) (row t r) (lane t l))) :
    (dats m 0 c).arrAt 7 cfg0.N = g := by
  refine (dats m 0 c).arrAt_eq_of_covers 7 _ covers7 fun t hf y => ?_
  rw [after0_7]
  have ho := hg t
  generalize outsAt0 m c t = o at ho ⊢
  obtain ⟨r, l, hy⟩ : ∃ (r : Fin 512) (l : Fin 128), y = (ix3 0 r l : S1x512x128.Idx) :=
    ⟨y (1 : Fin 3), y (2 : Fin 3), by
      funext a
      match a with
      | ⟨0, _⟩ => exact Subsingleton.elim (α := Fin 1) _ _
      | ⟨1, _⟩ => rfl
      | ⟨2, _⟩ => rfl⟩
  subst hy
  have hx : (cfg0.win 7).xinj (cfg0.grid.coords t) (ix3 0 r l : S1x512x128.Idx) = (ix3 0 r l : S1x512x128.Idx) := by
    funext a
    match a with
    | ⟨0, _⟩ => rfl
    | ⟨1, _⟩ => rfl
    | ⟨2, _⟩ => rfl
  exact (congrArg o hx).trans ((ho r l).trans (congrArg g (emb7 t r l)).symm)

end Cert.Kernel4Ideal.Work

end
-- ==== Proof.FoxRef.lean ====
/- The reference of the forgetting attention, read at an index. -/
module

public import proofs.«01_k».proof.Proof.Gen.Reference4Ideal.Run
public import proofs.«01_k».proof.Proof.FoxMath
public import Idealize.ShloMosaic.Lib.Pipeline.ValueKit
public import Idealize.ShloMosaic.Lib.StableHlo.ReadAt

@[expose] public section

noncomputable section

namespace Cert.Reference4Ideal.Value

open Cert.Reference4Ideal Cert.Reference4Ideal.Gen Cert.Qkv Cert.Fox
open Idealize.ShloMosaic Idealize.ShloMosaic.TcCoe

/-- The queries by head. -/
def refQ (A0 : FVec Ideal S4x4096x512 .bf16) : FVec Ideal S4x8x4096x64 .f32 :=
  transpose S4x8x4096x64 [0, 2, 1, 3] (shapeCast _ (extf .f32 A0 bitsLt_bf16_f32) shapeCasts_S4x4096x512_S4x4096x8x64) transposes_S4x4096x8x64_S4x8x4096x64_0_2_1_3

/-- The keys by head. -/
def refK (A1 : FVec Ideal S4x4096x512 .bf16) : FVec Ideal S4x8x4096x64 .f32 :=
  transpose S4x8x4096x64 [0, 2, 1, 3] (shapeCast _ (extf .f32 A1 bitsLt_bf16_f32) shapeCasts_S4x4096x512_S4x4096x8x64) transposes_S4x4096x8x64_S4x8x4096x64_0_2_1_3

/-- The bias of the keys by head. -/
def refB (A2 : FVec Ideal S4x4096x128 .bf16) : FVec Ideal S4x8x4096 .f32 :=
  transpose S4x8x4096 [0, 2, 1] (addf (addf (extractStridedSlice S4x4096x8 ![0, 0, 0] (extf .f32 A2 bitsLt_bf16_f32) slices_S4x4096x128_S4x4096x8_0_0_0) (extractStridedSlice S4x4096x8 ![0, 0, 8] (extf .f32 A2 bitsLt_bf16_f32) slices_S4x4096x128_S4x4096x8_0_0_8)) (extractStridedSlice S4x4096x8 ![0, 0, 16] (extf .f32 A2 bitsLt_bf16_f32) slices_S4x4096x128_S4x4096x8_0_0_16)) transposes_S4x4096x8_S4x8x4096_0_2_1

/-- The bias of the first block. -/
def refBm (A5 : FVec Ideal S1x128x128 .bf16) : FVec Ideal S1x8x128 .f32 :=
  transpose S1x8x128 [0, 2, 1] (addf (addf (extractStridedSlice S1x128x8 ![0, 0, 0] (extf .f32 A5 bitsLt_bf16_f32) slices_S1x128x128_S1x128x8_0_0_0) (extractStridedSlice S1x128x8 ![0, 0, 8] (extf .f32 A5 bitsLt_bf16_f32) slices_S1x128x128_S1x128x8_0_0_8)) (extractStridedSlice S1x128x8 ![0, 0, 16] (extf .f32 A5 bitsLt_bf16_f32) slices_S1x128x128_S1x128x8_0_0_16)) transposes_S1x128x8_S1x8x128_0_2_1

/-- The keys of the first block. -/
def refKm (A4 : FVec Ideal S1x128x512 .bf16) : FVec Ideal S8x128x64 .f32 :=
  shapeCast _ (transpose S1x8x128x64 [0, 2, 1, 3] (shapeCast _ (extf .f32 A4 bitsLt_bf16_f32) shapeCasts_S1x128x512_S1x128x8x64) transposes_S1x128x8x64_S1x8x128x64_0_2_1_3) shapeCasts_S1x8x128x64_S8x128x64

/-- The scores. -/
def refS (A0 : FVec Ideal S4x4096x512 .bf16) (A1 : FVec Ideal S4x4096x512 .bf16) (A2 : FVec Ideal S4x4096x128 .bf16) : FVec Ideal S4x8x4096x4096 .f32 :=
  addf (Host.dotGeneral dot_S4x8x4096x64_S4x8x4096x64_S4x8x4096x4096_3_3_2_2_01_01 none (refQ A0) (refK A1)) (broadcastInDim S4x8x4096x4096 ![0, 1, 2, 3] bcast_S4x8x1x4096_S4x8x4096x4096_0_1_2_3 (broadcastInDim S4x8x1x4096 ![0, 1, 3] bcast_S4x8x4096_S4x8x1x4096_0_1_3 (refB A2)))

/-- The scores of the first block. -/
def refSm (A0 : FVec Ideal S4x4096x512 .bf16) (A4 : FVec Ideal S1x128x512 .bf16) (A5 : FVec Ideal S1x128x128 .bf16) : FVec Ideal S4x8x4096x128 .f32 :=
  addf (transpose S4x8x4096x128 [2, 0, 3, 1] (Host.dotGeneral dot_S8x128x64_S4x8x4096x64_S8x128x4x4096_2_3_1_02_0_1 none (refKm A4) (refQ A0)) transposes_S8x128x4x4096_S4x8x4096x128_2_0_3_1) (broadcastInDim S4x8x4096x128 ![0, 1, 2, 3] bcast_S1x8x1x128_S4x8x4096x128_0_1_2_3 (broadcastInDim S1x8x1x128 ![0, 1, 3] bcast_S1x8x128_S1x8x1x128_0_1_3 (refBm A5)))

/-- The scores less the query's own forget sum, with negative infinity at the keys later than the query. -/
def refL (A0 : FVec Ideal S4x4096x512 .bf16) (A1 : FVec Ideal S4x4096x512 .bf16) (A2 : FVec Ideal S4x4096x128 .bf16) : FVec Ideal S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (subf (refS A0 A1 A2) (broadcastInDim S4x8x4096x4096 ![0, 1, 2, 3] bcast_S4x8x4096x1_S4x8x4096x4096_0_1_2_3 (broadcastInDim S4x8x4096x1 ![0, 1, 2] bcast_S4x8x4096_S4x8x4096x1_0_1_2 (refB A2)))) (broadcastInDim S4x8x4096x4096 ![] bcast_S_S4x8x4096x4096 (id (constant S_ .f32 0xFF800000#32)))

/-- The same of the first block, with negative infinity at its padding. -/
def refLm (A0 : FVec Ideal S4x4096x512 .bf16) (A2 : FVec Ideal S4x4096x128 .bf16) (A4 : FVec Ideal S1x128x512 .bf16) (A5 : FVec Ideal S1x128x128 .bf16) : FVec Ideal S4x8x4096x128 .f32 :=
  select (broadcastInDim S4x8x4096x128 ![3] bcast_S128_S4x8x4096x128_3 (cmpi .sge (iotaInDim S128 32 0) (broadcastInDim S128 ![] bcast_S_S128 (constantI S_ 32 112#32)))) (subf (refSm A0 A4 A5) (broadcastInDim S4x8x4096x128 ![0, 1, 2, 3] bcast_S4x8x4096x1_S4x8x4096x128_0_1_2_3 (broadcastInDim S4x8x4096x1 ![0, 1, 2] bcast_S4x8x4096_S4x8x4096x1_0_1_2 (refB A2)))) (broadcastInDim S4x8x4096x128 ![] bcast_S_S4x8x4096x128 (id (constant S_ .f32 0xFF800000#32)))

/-- A row's greatest score. -/
def refT (A0 : FVec Ideal S4x4096x512 .bf16) (A1 : FVec Ideal S4x4096x512 .bf16) (A2 : FVec Ideal S4x4096x128 .bf16) (A4 : FVec Ideal S1x128x512 .bf16) (A5 : FVec Ideal S1x128x128 .bf16) : FVec Ideal S4x8x4096 .f32 :=
  maximumf (Host.reduce FloatOps.maximumf (refL A0 A1 A2) (constant S_ .f32 0xFF800000#32) reducesTo_S4x8x4096x4096_S4x8x4096_d3 h_S_) (Host.reduce FloatOps.maximumf (refLm A0 A2 A4 A5) (constant S_ .f32 0xFF800000#32) reducesTo_S4x8x4096x128_S4x8x4096_d3 h_S_)

/-- The weights: two to the power of the scores less the row's greatest. -/
def refW (A0 : FVec Ideal S4x4096x512 .bf16) (A1 : FVec Ideal S4x4096x512 .bf16) (A2 : FVec Ideal S4x4096x128 .bf16) (A4 : FVec Ideal S1x128x512 .bf16) (A5 : FVec Ideal S1x128x128 .bf16) : FVec Ideal S4x8x4096x4096 .f32 :=
  Host.powf (broadcastInDim S4x8x4096x4096 ![] bcast_S_S4x8x4096x4096 (constant S_ .f32 0x40000000#32)) (subf (refL A0 A1 A2) (broadcastInDim S4x8x4096x4096 ![0, 1, 2, 3] bcast_S4x8x4096x1_S4x8x4096x4096_0_1_2_3 (broadcastInDim S4x8x4096x1 ![0, 1, 2] bcast_S4x8x4096_S4x8x4096x1_0_1_2 (refT A0 A1 A2 A4 A5))))

/-- The weights of the first block. -/
def refWm (A0 : FVec Ideal S4x4096x512 .bf16) (A1 : FVec Ideal S4x4096x512 .bf16) (A2 : FVec Ideal S4x4096x128 .bf16) (A4 : FVec Ideal S1x128x512 .bf16) (A5 : FVec Ideal S1x128x128 .bf16) : FVec Ideal S4x8x4096x128 .f32 :=
  Host.powf (broadcastInDim S4x8x4096x128 ![] bcast_S_S4x8x4096x128 (constant S_ .f32 0x40000000#32)) (subf (refLm A0 A2 A4 A5) (broadcastInDim S4x8x4096x128 ![0, 1, 2, 3] bcast_S4x8x4096x1_S4x8x4096x128_0_1_2_3 (broadcastInDim S4x8x4096x1 ![0, 1, 2] bcast_S4x8x4096_S4x8x4096x1_0_1_2 (refT A0 A1 A2 A4 A5))))

/-- The values by head. -/
def refV (A3 : FVec Ideal S4x8x8x128x512 .bf16) : FVec Ideal S4x8x4096x64 .f32 :=
  shapeCast _ (transpose S4x8x8x512x64 [0, 1, 2, 4, 3] (extf .f32 (extractStridedSlice S4x8x8x64x512 ![0, 0, 0, 0, 0] A3 slices_S4x8x8x128x512_S4x8x8x64x512_0_0_0_0_0) bitsLt_bf16_f32) transposes_S4x8x8x64x512_S4x8x8x512x64_0_1_2_4_3) shapeCasts_S4x8x8x512x64_S4x8x4096x64

/-- The values of the first block. -/
def refVm (A6 : FVec Ideal S1x8x1x128x128 .bf16) : FVec Ideal S8x128x64 .f32 :=
  shapeCast _ (shapeCast _ (transpose S1x8x1x128x64 [0, 1, 2, 4, 3] (extf .f32 (extractStridedSlice S1x8x1x64x128 ![0, 0, 0, 0, 0] A6 slices_S1x8x1x128x128_S1x8x1x64x128_0_0_0_0_0) bitsLt_bf16_f32) transposes_S1x8x1x64x128_S1x8x1x128x64_0_1_2_4_3) shapeCasts_S1x8x1x128x64_S1x8x128x64) shapeCasts_S1x8x128x64_S8x128x64

/-- The result. -/
def refO (A0 : FVec Ideal S4x4096x512 .bf16) (A1 : FVec Ideal S4x4096x512 .bf16) (A2 : FVec Ideal S4x4096x128 .bf16) (A3 : FVec Ideal S4x8x8x128x512 .bf16) (A4 : FVec Ideal S1x128x512 .bf16) (A5 : FVec Ideal S1x128x128 .bf16) (A6 : FVec Ideal S1x8x1x128x128 .bf16) : FVec Ideal S4x4096x512 .bf16 :=
  truncf .bf16 (shapeCast _ (transpose S4x4096x8x64 [0, 2, 1, 3] (Host.divf (addf (Host.dotGeneral dot_S4x8x4096x4096_S4x8x4096x64_S4x8x4096x64_3_2_2_3_01_01 none (refW A0 A1 A2 A4 A5) (refV A3)) (transpose S4x8x4096x64 [2, 0, 3, 1] (Host.dotGeneral dot_S8x128x64_S4x8x4096x128_S8x64x4x4096_1_3_2_02_0_1 none (refVm A6) (refWm A0 A1 A2 A4 A5)) transposes_S8x64x4x4096_S4x8x4096x64_2_0_3_1)) (broadcastInDim S4x8x4096x64 ![0, 1, 2, 3] bcast_S4x8x4096x1_S4x8x4096x64_0_1_2_3 (broadcastInDim S4x8x4096x1 ![0, 1, 2] bcast_S4x8x4096_S4x8x4096x1_0_1_2 (addf (Host.reduceAdd (refW A0 A1 A2 A4 A5) (constant S_ .f32 0x00000000#32) reducesTo_S4x8x4096x4096_S4x8x4096_d3 h_S_) (Host.reduceAdd (refWm A0 A1 A2 A4 A5) (constant S_ .f32 0x00000000#32) reducesTo_S4x8x4096x128_S4x8x4096_d3 h_S_))))) transposes_S4x8x4096x64_S4x4096x8x64_0_2_1_3) shapeCasts_S4x4096x8x64_S4x4096x512) bitsLt_bf16_f32

theorem res_eq (m : (ℓ : Loc nD τ sig) → Buf (Elt Ideal) ℓ) (c : Dev nD) :
    res_out0 m c = refO (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

/-- The sum of a bias's three parts. -/
abbrev biased (a b c : EReal) : EReal := a + b + c

theorem word_bot : (Ideal.ofBits .f32 0xFF800000#32 : EReal) = ⊥ := by
  simp only [Ideal.ofBits, Ideal.ieee]
  norm_num [BitVec.extractLsb', BitVec.toNat, Nat.shiftRight_eq_div_pow, BitVec.ofNat]

theorem word_two : (Ideal.ofBits .f32 0x40000000#32 : EReal) = ((2 : ℝ) : EReal) := by
  simp only [Ideal.ofBits, Ideal.ieee]
  norm_num [BitVec.extractLsb', BitVec.toNat, Nat.shiftRight_eq_div_pow, BitVec.ofNat]

theorem pow_two (y : EReal) : Ideal.pow (Ideal.ofBits .f32 0x40000000#32) y = Ideal.exp2 y := by
  rw [word_two]
  induction y using EReal.rec with
  | bot =>
    show (if (2 : ℝ) < 0 then (⊥ : EReal) else if (1 : ℝ) < 2 then 0 else if (2 : ℝ) = 1 then 1 else ⊤) = 0
    norm_num
  | coe r => rfl
  | top =>
    show (if (2 : ℝ) < 0 then (⊥ : EReal) else if (1 : ℝ) < 2 then ⊤ else if (2 : ℝ) = 1 then 1 else 0) = ⊤
    norm_num

theorem sle_bit (a b : Nat) (ha : a < 65536) (hb : b < 65536) : IntOp.cmpi .sle (BitVec.ofNat 32 a) (BitVec.ofNat 32 b) = BitVec.ofBool (decide (a ≤ b)) := by
  show BitVec.ofBool ((BitVec.ofNat 32 a).sle (BitVec.ofNat 32 b)) = _
  congr 1
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact decide_eq_decide.2 Int.ofNat_le

theorem select_dec {α : Type} (p : Prop) [Decidable p] (a b : α) : Scalar.select (BitVec.ofBool (decide p)) a b = if p then a else b := by
  by_cases hp : p
  · rw [if_pos hp, decide_eq_true hp]; rfl
  · rw [if_neg hp, decide_eq_false hp]; rfl

variable (A0 : FVec Ideal S4x4096x512 .bf16) (A1 : FVec Ideal S4x4096x512 .bf16) (A2 : FVec Ideal S4x4096x128 .bf16) (A3 : FVec Ideal S4x8x8x128x512 .bf16) (A4 : FVec Ideal S1x128x512 .bf16) (A5 : FVec Ideal S1x128x128 .bf16) (A6 : FVec Ideal S1x8x1x128x128 .bf16)

theorem refQ_at (b : Fin 4) (h : Fin 8) (s : Fin 4096) (d : Fin 64) : refQ A0 (ix4 b h s d) = A0 (ix3 b s ⟨h.val * 64 + d.val, by omega⟩) := by
  unfold refQ
  pointwise

theorem refK_at (b : Fin 4) (h : Fin 8) (s : Fin 4096) (d : Fin 64) : refK A1 (ix4 b h s d) = A1 (ix3 b s ⟨h.val * 64 + d.val, by omega⟩) := by
  unfold refK
  pointwise

theorem refB_at (b : Fin 4) (h : Fin 8) (s : Fin 4096) : refB A2 (ix3 b h s)
    = biased (A2 (ix3 b s ⟨h.val, by omega⟩)) (A2 (ix3 b s ⟨8 + h.val, by omega⟩)) (A2 (ix3 b s ⟨16 + h.val, by omega⟩)) := by
  unfold refB
  pointwise

theorem refBm_at (h : Fin 8) (s : Fin 128) : refBm A5 (ix3 0 h s)
    = biased (A5 (ix3 0 s ⟨h.val, by omega⟩)) (A5 (ix3 0 s ⟨8 + h.val, by omega⟩)) (A5 (ix3 0 s ⟨16 + h.val, by omega⟩)) := by
  unfold refBm
  pointwise

theorem refKm_at (h : Fin 8) (s : Fin 128) (d : Fin 64) : refKm A4 (ix3 h s d) = A4 (ix3 0 s ⟨h.val * 64 + d.val, by omega⟩) := by
  unfold refKm
  pointwise

theorem refS_at (b : Fin 4) (h : Fin 8) (s t : Fin 4096) : refS A0 A1 A2 (ix4 b h s t)
    = ((∑ x : Fin 64, refQ A0 (ix4 b h s x) * refK A1 (ix4 b h t x) + refB A2 (ix3 b h t) : EReal) : Ideal .f32) := by
  unfold refS
  pointwise

theorem refSm_at (b : Fin 4) (h : Fin 8) (s : Fin 4096) (t : Fin 128) : refSm A0 A4 A5 (ix4 b h s t)
    = ((∑ x : Fin 64, refKm A4 (ix3 h t x) * refQ A0 (ix4 b h s x) + refBm A5 (ix3 0 h t) : EReal) : Ideal .f32) := by
  unfold refSm
  pointwise

theorem refL_at (b : Fin 4) (h : Fin 8) (s t : Fin 4096) : refL A0 A1 A2 (ix4 b h s t)
    = if t.val ≤ s.val then ((refS A0 A1 A2 (ix4 b h s t) - refB A2 (ix3 b h s) : EReal) : Ideal .f32) else ((⊥ : EReal) : Ideal .f32) := by
  unfold refL
  pointwise
  have hb : IntOp.cmpi .sle (BitVec.ofNat 32 t.val) (BitVec.ofNat 32 s.val) = BitVec.ofBool (decide (t.val ≤ s.val)) := sle_bit _ _ (by omega) (by omega)
  rw [hb, select_dec]
  split
  · rfl
  · exact word_bot

theorem refLm_at (b : Fin 4) (h : Fin 8) (s : Fin 4096) (t : Fin 128) : refLm A0 A2 A4 A5 (ix4 b h s t)
    = if 112 ≤ t.val then ((refSm A0 A4 A5 (ix4 b h s t) - refB A2 (ix3 b h s) : EReal) : Ideal .f32) else ((⊥ : EReal) : Ideal .f32) := by
  unfold refLm
  pointwise
  have hb : IntOp.cmpi .sge (BitVec.ofNat 32 t.val) (112#32) = BitVec.ofBool (decide (112 ≤ t.val)) := sle_bit 112 _ (by omega) (by omega)
  rw [hb, select_dec]
  split
  · rfl
  · exact word_bot

theorem most_at (v : FVec Ideal S4x8x4096x4096 .f32) (z : FVec Ideal S_ .f32) (b : Fin 4) (h : Fin 8) (s : Fin 4096) :
    @Eq EReal (@Host.reduce _ (Ideal .f32) _ _ _ FloatOps.maximumf v z reducesTo_S4x8x4096x4096_S4x8x4096_d3 h_S_ (ix3 b h s))
      (@Finset.fold (Fin 4096) EReal (@max EReal _) _ _ (z (Shape.Idx.first h_S_)) (fun k : Fin 4096 => v (ix4 b h s k)) Finset.univ) := by
  simp only [pointwise]

theorem most'_at (v : FVec Ideal S4x8x4096x128 .f32) (z : FVec Ideal S_ .f32) (b : Fin 4) (h : Fin 8) (s : Fin 4096) :
    @Eq EReal (@Host.reduce _ (Ideal .f32) _ _ _ FloatOps.maximumf v z reducesTo_S4x8x4096x128_S4x8x4096_d3 h_S_ (ix3 b h s))
      (@Finset.fold (Fin 128) EReal (@max EReal _) _ _ (z (Shape.Idx.first h_S_)) (fun k : Fin 128 => v (ix4 b h s k)) Finset.univ) := by
  simp only [pointwise]

theorem both_at (x y : FVec Ideal S4x8x4096 .f32) (i : S4x8x4096.Idx) (p q : EReal) (hx : @Eq EReal (x i) p) (hy : @Eq EReal (y i) q) :
    @Eq EReal (maximumf x y i) (@max EReal _ p q) := by
  rw [← hx, ← hy]
  rfl

theorem most2_at (v : FVec Ideal S4x8x4096x4096 .f32) (w : FVec Ideal S4x8x4096x128 .f32) (b : Fin 4) (h : Fin 8) (s : Fin 4096) :
    @Eq EReal (maximumf (Host.reduce FloatOps.maximumf v (constant S_ .f32 0xFF800000#32) reducesTo_S4x8x4096x4096_S4x8x4096_d3 h_S_) (Host.reduce FloatOps.maximumf w (constant S_ .f32 0xFF800000#32) reducesTo_S4x8x4096x128_S4x8x4096_d3 h_S_) (ix3 b h s))
      (@max EReal _ (@Finset.fold (Fin 4096) EReal (@max EReal _) _ _ (Ideal.ofBits .f32 0xFF800000#32) (fun k : Fin 4096 => v (ix4 b h s k)) Finset.univ) (@Finset.fold (Fin 128) EReal (@max EReal _) _ _ (Ideal.ofBits .f32 0xFF800000#32) (fun k : Fin 128 => w (ix4 b h s k)) Finset.univ)) :=
  both_at _ _ _ _ _ (most_at v _ b h s) (most'_at w _ b h s)

theorem refT_at (b : Fin 4) (h : Fin 8) (s : Fin 4096) : @Eq EReal (refT A0 A1 A2 A4 A5 (ix3 b h s))
    (@max EReal _ (@Finset.fold (Fin 4096) EReal (@max EReal _) _ _ (Ideal.ofBits .f32 0xFF800000#32) (fun k : Fin 4096 => refL A0 A1 A2 (ix4 b h s k)) Finset.univ)
      (@Finset.fold (Fin 128) EReal (@max EReal _) _ _ (Ideal.ofBits .f32 0xFF800000#32) (fun k : Fin 128 => refLm A0 A2 A4 A5 (ix4 b h s k)) Finset.univ)) := by
  unfold refT
  exact most2_at (refL A0 A1 A2) (refLm A0 A2 A4 A5) b h s

theorem refW_at (b : Fin 4) (h : Fin 8) (s t : Fin 4096) : refW A0 A1 A2 A4 A5 (ix4 b h s t)
    = Ideal.exp2 (refL A0 A1 A2 (ix4 b h s t) - refT A0 A1 A2 A4 A5 (ix3 b h s) : EReal) := by
  unfold refW
  pointwise
  exact pow_two _

theorem refWm_at (b : Fin 4) (h : Fin 8) (s : Fin 4096) (t : Fin 128) : refWm A0 A1 A2 A4 A5 (ix4 b h s t)
    = Ideal.exp2 (refLm A0 A2 A4 A5 (ix4 b h s t) - refT A0 A1 A2 A4 A5 (ix3 b h s) : EReal) := by
  unfold refWm
  pointwise
  exact pow_two _

theorem refV_at (b : Fin 4) (h : Fin 8) (s : Fin 4096) (d : Fin 64) : refV A3 (ix4 b h s d) = A3 (ix5 b h ⟨s.val / 512, by omega⟩ ⟨d.val, by omega⟩ ⟨s.val % 512, by omega⟩) := by
  unfold refV
  pointwise

theorem refVm_at (h : Fin 8) (s : Fin 128) (d : Fin 64) : refVm A6 (ix3 h s d) = A6 (ix5 0 h 0 ⟨d.val, by omega⟩ s) := by
  unfold refVm
  pointwise

theorem refO_at (b : Fin 4) (s : Fin 4096) (l : Fin 512) : refO A0 A1 A2 A3 A4 A5 A6 (ix3 b s l)
    = Ideal.div (∑ x : Fin 4096, refW A0 A1 A2 A4 A5 (ix4 b ⟨l.val / 64, by omega⟩ s x) * refV A3 (ix4 b ⟨l.val / 64, by omega⟩ x ⟨l.val % 64, by omega⟩)
        + ∑ x : Fin 128, refVm A6 (ix3 ⟨l.val / 64, by omega⟩ x ⟨l.val % 64, by omega⟩) * refWm A0 A1 A2 A4 A5 (ix4 b ⟨l.val / 64, by omega⟩ s x))
      (∑ x : Fin 4096, refW A0 A1 A2 A4 A5 (ix4 b ⟨l.val / 64, by omega⟩ s x) + ∑ x : Fin 128, refWm A0 A1 A2 A4 A5 (ix4 b ⟨l.val / 64, by omega⟩ s x)) := by
  unfold refO
  pointwise

end Cert.Reference4Ideal.Value

end
-- ==== Proof.FoxSum.lean ====
/- Sums over 4096 keys, by tiles of 512: the keys no later than a row are the tiles before its own and the head of its own. -/
module

public import proofs.«01_k».proof.Proof.FoxLoop

@[expose] public section

noncomputable section

namespace Cert.Fox

open Cert.Qkv Idealize.ShloMosaic Cert.Kernel4Ideal.Work

theorem tiles_sum (F : Fin 4096 → EReal) (G : Nat → Fin 512 → EReal)
    (h : ∀ (n : Nat) (hn : n < 8) (j : Fin 512), F ⟨n * 512 + j.val, by omega⟩ = G n j) : ∑ x : Fin 4096, F x = ∑ n ∈ Finset.range 8, ∑ j : Fin 512, G n j := by
  rw [Finset.sum_range]
  have e := (Equiv.sum_comp (finProdFinEquiv (m := 8) (n := 512)) F).symm
  refine e.trans ((Fintype.sum_prod_type _).trans ?_)
  refine Finset.sum_congr rfl fun n _ => Finset.sum_congr rfl fun j _ => ?_
  refine Eq.trans (congrArg F (Fin.ext ?_)) (h n.val n.isLt j)
  show j.val + 512 * n.val = n.val * 512 + j.val
  omega

theorem upTo_eq (N0 : Fin 2 → Fin 512 → Fin 128 → EReal) (T : Nat → Fin 1024 → Fin 512 → EReal) (V : Fin 2 → Nat → Fin 128 → Fin 512 → EReal)
    (n : Nat) (a : Fin 2) (r : Fin 512) (d : Fin 128) :
    upTo N0 T V n a r d = N0 a r d + ∑ k ∈ Finset.range n, ∑ j : Fin 512, V a k d j * Ideal.exp2 (T k (col a r) j) := by
  induction n with
  | zero =>
    rw [Finset.sum_range_zero, add_zero]
    rfl
  | succ n ih =>
    rw [Finset.sum_range_succ, ← add_assoc, ← ih]
    rfl

/-- The tiles before a row's own, and the head of its own. -/
theorem row_sum (N0 : Fin 2 → Fin 512 → Fin 128 → EReal) (T : Nat → Fin 1024 → Fin 512 → EReal) (V : Fin 2 → Nat → Fin 128 → Fin 512 → EReal)
    (n : Nat) (hn : n < 8) (a : Fin 2) (r : Fin 512) (d : Fin 128) (F : Fin 4096 → EReal)
    (hF : ∀ (k : Nat) (hk : k < 8) (j : Fin 512), F ⟨k * 512 + j.val, by omega⟩
      = if k * 512 + j.val ≤ n * 512 + r.val then V a k d j * Ideal.exp2 (T k (col a r) j) else 0) :
    upTo N0 T V n a r d + ∑ j : Fin 512, V a n d j * Ideal.exp2 (lastScore (T n (col a r)) (col a r) j) = ∑ x : Fin 4096, F x + N0 a r d := by
  rw [tiles_sum F _ hF, upTo_eq, add_assoc, add_comm (N0 a r d)]
  refine congrArg (fun z : EReal => z + N0 a r d) ?_
  have hsub : ∑ k ∈ Finset.range (n + 1), ∑ j : Fin 512, (if k * 512 + j.val ≤ n * 512 + r.val then V a k d j * Ideal.exp2 (T k (col a r) j) else 0)
      = ∑ k ∈ Finset.range 8, ∑ j : Fin 512, (if k * 512 + j.val ≤ n * 512 + r.val then V a k d j * Ideal.exp2 (T k (col a r) j) else 0) := by
    refine Finset.sum_subset (fun k hk => Finset.mem_range.2 (by have := Finset.mem_range.1 hk; omega)) fun k _ hk => Finset.sum_eq_zero fun j _ => ?_
    have hk' : ¬ k < n + 1 := fun h => hk (Finset.mem_range.2 h)
    exact if_neg (by omega)
  rw [← hsub, Finset.sum_range_succ]
  refine congrArg₂ (fun x y : EReal => x + y) (Finset.sum_congr rfl fun k hk => Finset.sum_congr rfl fun j _ => ?_) (Finset.sum_congr rfl fun j _ => ?_)
  · have := Finset.mem_range.1 hk
    exact (if_pos (by omega)).symm
  · unfold lastScore
    have hc : (col a r).val % 512 = r.val := by show (a.val * 512 + r.val) % 512 = r.val; omega
    rw [hc]
    by_cases hj : j.val ≤ r.val
    · rw [if_pos hj, if_pos (by omega)]
    · rw [if_neg hj, if_neg (by omega), exp2_bot, mul_zero]

end Cert.Fox

end
-- ==== Proof.FoxEq.lean ====
/- The forgetting attention's result is the reference's, entry by entry. -/
module

public import proofs.«01_k».proof.Proof.FoxArray
public import proofs.«01_k».proof.Proof.FoxRef
public import proofs.«01_k».proof.Proof.FoxSum

@[expose] public section

noncomputable section

namespace Cert.Kernel4Ideal.Work

open Cert.Kernel4Ideal Cert.Kernel4Ideal.Gen Cert.Qkv Cert.Fox
open Idealize.ShloMosaic Idealize.ShloMosaic.TcCoe
open Cert.Reference4Ideal.Value (refQ refK refB refBm refKm refS refSm refL refLm refT refW refWm refV refVm refO biased)

variable (m : (ℓ : Loc nD τ sig) → Buf (Elt Ideal) ℓ) (c : Dev nD)

abbrev A0 : FVec Ideal S4x4096x512 .bf16 := m ((c : Thread nD τ).loc main_arg0)
abbrev A1 : FVec Ideal S4x4096x512 .bf16 := m ((c : Thread nD τ).loc main_arg1)
abbrev A2 : FVec Ideal S4x4096x128 .bf16 := m ((c : Thread nD τ).loc main_arg2)
abbrev A3 : FVec Ideal S4x8x8x128x512 .bf16 := m ((c : Thread nD τ).loc main_arg3)
abbrev A4 : FVec Ideal S1x128x512 .bf16 := m ((c : Thread nD τ).loc main_arg4)
abbrev A5 : FVec Ideal S1x128x128 .bf16 := m ((c : Thread nD τ).loc main_arg5)
abbrev A6 : FVec Ideal S1x8x1x128x128 .bf16 := m ((c : Thread nD τ).loc main_arg6)

/-- The scores' arguments are real, and the values' row of ones holds ones. -/
structure Fit : Prop where
  r0 : ∀ i, IsReal (A0 m c i)
  r1 : ∀ i, IsReal (A1 m c i)
  r2 : ∀ i, IsReal (A2 m c i)
  r4 : ∀ i, IsReal (A4 m c i)
  r5 : ∀ i, IsReal (A5 m c i)
  ones : ∀ (b : Fin 4) (h n : Fin 8) (j : Fin 512), (A3 m c (ix5 b h n 64 j) : EReal) = 1
  ones' : ∀ (h : Fin 8) (j : Fin 128), (A6 m c (ix5 0 h 0 64 j) : EReal) = 1

/-- A score of the reference. -/
def sc (b : Fin 4) (h : Fin 8) (s x : Fin 4096) : EReal := refS (A0 m c) (A1 m c) (A2 m c) (ix4 b h s x)

/-- A score of the reference's first block. -/
def scm (b : Fin 4) (h : Fin 8) (s : Fin 4096) (j : Fin 128) : EReal := refSm (A0 m c) (A4 m c) (A5 m c) (ix4 b h s j)

/-- A weight before it is scaled to the row's greatest score and to the query's own forget sum. -/
def wt (b : Fin 4) (h : Fin 8) (s x : Fin 4096) : EReal := if x.val ≤ s.val then Ideal.exp2 (sc m c b h s x) else 0

/-- The same of the first block. -/
def wtm (b : Fin 4) (h : Fin 8) (s : Fin 4096) (j : Fin 128) : EReal := if 112 ≤ j.val then Ideal.exp2 (scm m c b h s j) else 0

theorem sc_eq (b : Fin 4) (h : Fin 8) (s x : Fin 4096) : sc m c b h s x
    = (∑ d : Fin 64, A0 m c (ix3 b s ⟨h.val * 64 + d.val, by omega⟩) * A1 m c (ix3 b x ⟨h.val * 64 + d.val, by omega⟩) : EReal)
      + biased (A2 m c (ix3 b x ⟨h.val, by omega⟩)) (A2 m c (ix3 b x ⟨8 + h.val, by omega⟩)) (A2 m c (ix3 b x ⟨16 + h.val, by omega⟩)) := by
  unfold sc
  refine (Cert.Reference4Ideal.Value.refS_at _ _ _ b h s x).trans (congrArg₂ (fun x y : EReal => x + y) (Finset.sum_congr rfl fun d _ => ?_) ?_)
  · exact congrArg₂ (fun x y : EReal => x * y) (Cert.Reference4Ideal.Value.refQ_at _ b h s d) (Cert.Reference4Ideal.Value.refK_at _ b h x d)
  · exact Cert.Reference4Ideal.Value.refB_at _ b h x

theorem scm_eq (b : Fin 4) (h : Fin 8) (s : Fin 4096) (j : Fin 128) : scm m c b h s j
    = (∑ d : Fin 64, A4 m c (ix3 0 j ⟨h.val * 64 + d.val, by omega⟩) * A0 m c (ix3 b s ⟨h.val * 64 + d.val, by omega⟩) : EReal)
      + biased (A5 m c (ix3 0 j ⟨h.val, by omega⟩)) (A5 m c (ix3 0 j ⟨8 + h.val, by omega⟩)) (A5 m c (ix3 0 j ⟨16 + h.val, by omega⟩)) := by
  unfold scm
  refine (Cert.Reference4Ideal.Value.refSm_at _ _ _ b h s j).trans (congrArg₂ (fun x y : EReal => x + y) (Finset.sum_congr rfl fun d _ => ?_) ?_)
  · exact congrArg₂ (fun x y : EReal => x * y) (Cert.Reference4Ideal.Value.refKm_at _ h j d) (Cert.Reference4Ideal.Value.refQ_at _ b h s d)
  · exact Cert.Reference4Ideal.Value.refBm_at _ h j

theorem wt_eq (b : Fin 4) (h : Fin 8) (s x : Fin 4096) : wt m c b h s x = if x.val ≤ s.val then Ideal.exp2 (sc m c b h s x) else 0 := rfl

theorem wtm_eq (b : Fin 4) (h : Fin 8) (s : Fin 4096) (j : Fin 128) : wtm m c b h s j = if 112 ≤ j.val then Ideal.exp2 (scm m c b h s j) else 0 := rfl

variable {m c}

theorem sc_real (hf : Fit m c) (b : Fin 4) (h : Fin 8) (s x : Fin 4096) : IsReal (sc m c b h s x) := by
  rw [sc_eq]
  exact (IsReal.sum fun d => (hf.r0 _).mul (hf.r1 _)).add (((hf.r2 _).add (hf.r2 _)).add (hf.r2 _))

theorem scm_real (hf : Fit m c) (b : Fin 4) (h : Fin 8) (s : Fin 4096) (j : Fin 128) : IsReal (scm m c b h s j) := by
  rw [scm_eq]
  exact (IsReal.sum fun d => (hf.r4 _).mul (hf.r0 _)).add (((hf.r5 _).add (hf.r5 _)).add (hf.r5 _))

theorem real_ne_top {x : EReal} (h : IsReal x) : x ≠ ⊤ := by
  obtain ⟨r, rfl⟩ := h
  exact EReal.coe_ne_top r

theorem wt_nonneg (hf : Fit m c) (b : Fin 4) (h : Fin 8) (s x : Fin 4096) : ∃ r : ℝ, 0 ≤ r ∧ wt m c b h s x = (r : EReal) := by
  rw [wt_eq]
  split
  · exact exp2_nonneg_real (real_ne_top (sc_real hf b h s x))
  · exact ⟨0, le_refl _, rfl⟩

theorem wtm_nonneg (hf : Fit m c) (b : Fin 4) (h : Fin 8) (s : Fin 4096) (j : Fin 128) : ∃ r : ℝ, 0 ≤ r ∧ wtm m c b h s j = (r : EReal) := by
  rw [wtm_eq]
  split
  · exact exp2_nonneg_real (real_ne_top (scm_real hf b h s j))
  · exact ⟨0, le_refl _, rfl⟩

/-- A row's greatest score and the query's own forget sum, as one scale. -/
theorem scale (hf : Fit m c) (b : Fin 4) (h : Fin 8) (s : Fin 4096) :
    ∃ u : ℝ, (∀ x, @Eq EReal (refW (A0 m c) (A1 m c) (A2 m c) (A4 m c) (A5 m c) (ix4 b h s x)) (down u * wt m c b h s x))
      ∧ ∀ j, @Eq EReal (refWm (A0 m c) (A1 m c) (A2 m c) (A4 m c) (A5 m c) (ix4 b h s j)) (down u * wtm m c b h s j) := by
  obtain ⟨f, hB⟩ : IsReal (refB (A2 m c) (ix3 b h s)) := by
    rw [Cert.Reference4Ideal.Value.refB_at]
    exact ((hf.r2 _).add (hf.r2 _)).add (hf.r2 _)
  have hL : ∀ x, @Eq EReal (refL (A0 m c) (A1 m c) (A2 m c) (ix4 b h s x)) (if x.val ≤ s.val then sc m c b h s x - (f : EReal) else ⊥) := fun x => by
    refine (Cert.Reference4Ideal.Value.refL_at _ _ _ b h s x).trans ?_
    rw [hB]
    rfl
  have hM : ∀ j, @Eq EReal (refLm (A0 m c) (A2 m c) (A4 m c) (A5 m c) (ix4 b h s j)) (if 112 ≤ j.val then scm m c b h s j - (f : EReal) else ⊥) := fun j => by
    refine (Cert.Reference4Ideal.Value.refLm_at _ _ _ _ b h s j).trans ?_
    rw [hB]
    rfl
  obtain ⟨T, hT⟩ : IsReal (refT (A0 m c) (A1 m c) (A2 m c) (A4 m c) (A5 m c) (ix3 b h s)) := by
    rw [Cert.Reference4Ideal.Value.refT_at, funext hL, funext hM]
    refine greatest_real _ _ (fun x => ?_) (fun j => ?_) 127 ?_ Cert.Reference4Ideal.Value.word_bot
    · split
      · exact sub_ne_top (sc_real hf b h s x) f
      · exact bot_ne_top
    · split
      · exact sub_ne_top (scm_real hf b h s j) f
      · exact bot_ne_top
    · rw [if_pos (by decide)]
      exact sub_real (scm_real hf b h s 127) f
  refine ⟨f + T, fun x => ?_, fun j => ?_⟩
  · refine (Cert.Reference4Ideal.Value.refW_at _ _ _ _ _ b h s x).trans ?_
    rw [hL, hT, wt_eq]
    exact scaled _ (sc_real hf b h s x) f T
  · refine (Cert.Reference4Ideal.Value.refWm_at _ _ _ _ _ b h s j).trans ?_
    rw [hM, hT, wtm_eq]
    exact scaled _ (scm_real hf b h s j) f T

/-- A row's weights add up to a positive real. -/
theorem weights_pos (hf : Fit m c) (b : Fin 4) (h : Fin 8) (s : Fin 4096) :
    ∃ D : ℝ, 0 < D ∧ ∑ x : Fin 4096, wt m c b h s x + ∑ j : Fin 128, wtm m c b h s j = (D : EReal) := by
  obtain ⟨r, hr0, hr⟩ := sum_nonneg_real _ (wt_nonneg hf b h s)
  obtain ⟨r', hr0', hr'⟩ := sum_pos_real _ (wtm_nonneg hf b h s) 127 (by
    rw [wtm_eq, if_pos (by decide)]
    exact exp2_pos_real (scm_real hf b h s 127))
  exact ⟨r + r', by positivity, by rw [hr, hr', EReal.coe_add]⟩

variable (m c)

theorem head_eq (t : Fin grid0.N) (a : Fin 2) : headOf (grid0.coords t) a = hd t a :=
  Fin.ext (by show 2 * ((grid0.coords t) 1).val + a.val = 2 * (t.val / 8 % 4) + a.val; rw [coord1])

theorem lane_eq (t : Fin grid0.N) (a : Fin 2) (d : Fin 64) :
    lane t ⟨a.val * 64 + d.val, by omega⟩ = ⟨(hd t a).val * 64 + d.val, by have := (hd t a).isLt; omega⟩ :=
  Fin.ext (by show t.val / 8 % 4 * 128 + (a.val * 64 + d.val) = (2 * (t.val / 8 % 4) + a.val) * 64 + d.val; omega)

theorem tile_eq (t : Fin grid0.N) (n : Nat) (hn : n < 8) (a : Fin 2) (r j : Fin 512) :
    tile (grid0.coords t) (iblk m c 0 t) (iblk m c 1 t) (iblk m c 2 t) n (col a r) j = sc m c (bt t) (hd t a) (row t r) ⟨n * 512 + j.val, by omega⟩ := by
  unfold tile
  rw [dif_pos hn, score_at _ _ _ a (hd t a) (head_eq t a), sc_eq]
  refine congrArg₂ (fun x y : EReal => x + y) (Finset.sum_congr rfl fun d _ => ?_)
    (congrArg₂ (fun x y : EReal => x + y) (congrArg₂ (fun x y : EReal => x + y) (blk2 m c t _ _) (blk2 m c t _ _)) (blk2 m c t _ _))
  rw [← lane_eq]
  refine (mul_comm (G := EReal) _ _).trans ?_
  exact congrArg₂ (fun x y : EReal => x * y) (blk0 m c t r _) (blk1 m c t _ _)

theorem first_eq (t : Fin grid0.N) (a : Fin 2) (r : Fin 512) (j : Fin 128) :
    first (grid0.coords t) (iblk m c 0 t) (iblk m c 4 t) (iblk m c 5 t) (col a r) j = if 112 ≤ j.val then scm m c (bt t) (hd t a) (row t r) j else ⊥ := by
  unfold first metaScore
  by_cases hj : 112 ≤ j.val
  · rw [if_pos hj, if_pos hj, score_at _ _ _ a (hd t a) (head_eq t a), scm_eq]
    refine congrArg₂ (fun x y : EReal => x + y) (Finset.sum_congr rfl fun d _ => ?_)
      (congrArg₂ (fun x y : EReal => x + y) (congrArg₂ (fun x y : EReal => x + y) (blk5 m c t _ _) (blk5 m c t _ _)) (blk5 m c t _ _))
    rw [← lane_eq]
    exact congrArg₂ (fun x y : EReal => x * y) (blk4 m c t j _) (blk0 m c t r _)
  · rw [if_neg hj, if_neg hj]

theorem vals_eq (t : Fin grid0.N) (a : Fin 2) (n : Nat) (hn : n < 8) (d : Fin 128) (j : Fin 512) :
    vals (iblk m c 3 t) a n d j = A3 m c (ix5 (bt t) (hd t a) ⟨n, hn⟩ d j) := by
  unfold vals
  rw [dif_pos hn]
  exact blk3 m c t a ⟨n, hn⟩ d j

theorem all_cols (P : Fin 1024 → Prop) (h : ∀ a r, P (col a r)) (x : Fin 1024) : P x := by
  have e : x = col ⟨x.val / 512, by omega⟩ ⟨x.val % 512, by omega⟩ := Fin.ext (by show x.val = x.val / 512 * 512 + x.val % 512; omega)
  rw [e]
  exact h _ _

theorem tame (hf : Fit m c) (t : Fin grid0.N) : Tame (grid0.coords t) (iblk m c 0 t) (iblk m c 1 t) (iblk m c 2 t) (iblk m c 4 t) (iblk m c 5 t) where
  low n x j := by
    by_cases hn : n < 8
    · exact all_cols (fun x => tile (grid0.coords t) (iblk m c 0 t) (iblk m c 1 t) (iblk m c 2 t) n x j ≠ ⊤)
        (fun a r => by rw [tile_eq m c t n hn]; exact real_ne_top (sc_real hf _ _ _ _)) x
    · unfold tile
      rw [dif_neg hn]
      exact EReal.zero_ne_top
  lowFirst x j := all_cols (fun x => first (grid0.coords t) (iblk m c 0 t) (iblk m c 4 t) (iblk m c 5 t) x j ≠ ⊤)
    (fun a r => by
      rw [first_eq m c t]
      split
      · exact real_ne_top (scm_real hf _ _ _ _)
      · exact bot_ne_top) x
  real x := all_cols (fun x => IsReal (first (grid0.coords t) (iblk m c 0 t) (iblk m c 4 t) (iblk m c 5 t) x 127))
    (fun a r => by
      rw [first_eq m c t, if_pos (by decide)]
      exact scm_real hf _ _ _ _) x

/-- A row's sum of a block is the reference's sum over all keys. -/
theorem row_eq (t : Fin grid0.N) (a : Fin 2) (r : Fin 512) (d : Fin 128) (v : Fin 4096 → EReal) (vm : Fin 128 → EReal)
    (hv : ∀ (n : Nat) (hn : n < 8) (j : Fin 512), (A3 m c (ix5 (bt t) (hd t a) ⟨n, hn⟩ d j) : EReal) = v ⟨n * 512 + j.val, by omega⟩)
    (hvm : ∀ j : Fin 128, (A6 m c (ix5 0 (hd t a) 0 d j) : EReal) = vm j) :
    rowSum (grid0.coords t) (iblk m c 0 t) (iblk m c 1 t) (iblk m c 2 t) (iblk m c 3 t) (iblk m c 4 t) (iblk m c 5 t) (iblk m c 6 t) a r d
      = ∑ x : Fin 4096, wt m c (bt t) (hd t a) (row t r) x * v x + ∑ j : Fin 128, vm j * wtm m c (bt t) (hd t a) (row t r) j := by
  unfold rowSum
  have h2 : ((grid0.coords t) 2).val = t.val % 8 := coord2 t
  have hq : t.val % 8 < 8 := Nat.mod_lt _ (by norm_num)
  refine (row_sum _ _ _ ((grid0.coords t) 2).val (by omega) a r d (fun x => wt m c (bt t) (hd t a) (row t r) x * v x) fun k hk j => ?_).trans ?_
  · rw [vals_eq m c t a k hk, tile_eq m c t k hk, hv k hk j, h2]
    rw [wt_eq]
    show (if k * 512 + j.val ≤ t.val % 8 * 512 + r.val then _ else _) * _ = _
    by_cases hc : k * 512 + j.val ≤ t.val % 8 * 512 + r.val
    · rw [if_pos hc, if_pos hc]
      exact mul_comm (G := EReal) _ _
    · rw [if_neg hc, if_neg hc, zero_mul]
  · refine congrArg (fun z : EReal => _ + z) ?_
    unfold firstSum
    refine Finset.sum_congr rfl fun j _ => congrArg₂ (fun x y : EReal => x * y) ((blk6 m c t a d j).trans (hvm j)) ?_
    rw [first_eq, wtm_eq]
    split
    · rfl
    · exact exp2_bot

/-- The reference's result. -/
abbrev result : S4x4096x512.Idx → EReal := refO (A0 m c) (A1 m c) (A2 m c) (A3 m c) (A4 m c) (A5 m c) (A6 m c)

theorem result_at (hf : Fit m c) (b : Fin 4) (s : Fin 4096) (h : Fin 8) (d : Fin 64) : result m c (ix3 b s ⟨h.val * 64 + d.val, by omega⟩)
    = Ideal.div (∑ x : Fin 4096, wt m c b h s x * refV (A3 m c) (ix4 b h x d) + ∑ j : Fin 128, refVm (A6 m c) (ix3 h j d) * wtm m c b h s j)
      (∑ x : Fin 4096, wt m c b h s x + ∑ j : Fin 128, wtm m c b h s j) := by
  refine (Cert.Reference4Ideal.Value.refO_at _ _ _ _ _ _ _ b s _).trans ?_
  have h1 : (⟨(h.val * 64 + d.val) / 64, by omega⟩ : Fin 8) = h := Fin.ext (by show (h.val * 64 + d.val) / 64 = h.val; omega)
  have h2 : (⟨(h.val * 64 + d.val) % 64, by omega⟩ : Fin 64) = d := Fin.ext (by show (h.val * 64 + d.val) % 64 = d.val; omega)
  dsimp only
  rw [h1, h2]
  obtain ⟨u, hw, hm⟩ := scale hf b h s
  obtain ⟨D, hD, hs⟩ := weights_pos hf b h s
  exact scaled_quotient u _ _ _ _ _ _ hw hm hD hs

theorem ones_eq (hf : Fit m c) (t : Fin grid0.N) (a : Fin 2) (r : Fin 512) :
    rowSum (grid0.coords t) (iblk m c 0 t) (iblk m c 1 t) (iblk m c 2 t) (iblk m c 3 t) (iblk m c 4 t) (iblk m c 5 t) (iblk m c 6 t) a r 64
      = ∑ x : Fin 4096, wt m c (bt t) (hd t a) (row t r) x + ∑ j : Fin 128, wtm m c (bt t) (hd t a) (row t r) j := by
  refine (row_eq m c t a r 64 (fun _ => 1) (fun _ => 1) (fun n hn j => hf.ones _ _ _ _) (fun j => hf.ones' _ _)).trans ?_
  simp only [mul_one, one_mul]

theorem quotient_eq (hf : Fit m c) (t : Fin grid0.N) (a : Fin 2) (r : Fin 512) (d : Fin 64) :
    Ideal.div (rowSum (grid0.coords t) (iblk m c 0 t) (iblk m c 1 t) (iblk m c 2 t) (iblk m c 3 t) (iblk m c 4 t) (iblk m c 5 t) (iblk m c 6 t) a r ⟨d.val, by omega⟩)
      (rowSum (grid0.coords t) (iblk m c 0 t) (iblk m c 1 t) (iblk m c 2 t) (iblk m c 3 t) (iblk m c 4 t) (iblk m c 5 t) (iblk m c 6 t) a r 64)
      = result m c (ix3 (bt t) (row t r) (lane t ⟨a.val * 64 + d.val, by omega⟩)) := by
  rw [lane_eq, result_at m c hf, ones_eq m c hf t a r]
  refine congrArg (fun z : EReal => Ideal.div z _) ?_
  refine row_eq m c t a r ⟨d.val, by omega⟩ (fun x => refV (A3 m c) (ix4 (bt t) (hd t a) x d)) (fun j => refVm (A6 m c) (ix3 (hd t a) j d)) (fun n hn j => ?_) (fun j => ?_)
  · refine Eq.trans ?_ (Cert.Reference4Ideal.Value.refV_at _ _ _ _ _).symm
    have h1 : (⟨(n * 512 + j.val) / 512, by omega⟩ : Fin 8) = ⟨n, hn⟩ := Fin.ext (by show (n * 512 + j.val) / 512 = n; omega)
    have h2 : (⟨(n * 512 + j.val) % 512, by omega⟩ : Fin 512) = j := Fin.ext (by show (n * 512 + j.val) % 512 = j.val; omega)
    dsimp only
    rw [h1, h2]
  · exact (Cert.Reference4Ideal.Value.refVm_at _ _ _ _).symm

/-- A block of the result is the reference's. -/
theorem block_eq (hf : Fit m c) (t : Fin grid0.N) (r : Fin 512) (l : Fin 128) : outsAt0 m c t (ix3 0 r l) = result m c (ix3 (bt t) (row t r) (lane t l)) := by
  have hD : ∀ a : Fin 2, ∃ D : ℝ, 0 < D ∧ rowSum (grid0.coords t) (iblk m c 0 t) (iblk m c 1 t) (iblk m c 2 t) (iblk m c 3 t) (iblk m c 4 t) (iblk m c 5 t) (iblk m c 6 t) a r 64 = (D : EReal) := fun a => by
    obtain ⟨D, h0, h⟩ := weights_pos hf (bt t) (hd t a) (row t r)
    exact ⟨D, h0, (ones_eq m c hf t a r).trans h⟩
  unfold outsAt0
  by_cases hl : l.val < 64
  · have e : l = ⟨0 * 64 + (⟨l.val, hl⟩ : Fin 64).val, by omega⟩ := Fin.ext (by show l.val = 0 * 64 + l.val; omega)
    rw [e]
    exact (out0_at _ _ _ _ _ _ _ _ _ _ _ _ _ _ _ _ _ _ _ _ _ _ _ _ _ _ _ _ _ _ _ (tame m c hf t) r ⟨l.val, hl⟩ (hD 0)).trans (quotient_eq m c hf t 0 r ⟨l.val, hl⟩)
  · have e : l = ⟨1 * 64 + (⟨l.val - 64, by omega⟩ : Fin 64).val, by omega⟩ := Fin.ext (by show l.val = 1 * 64 + (l.val - 64); omega)
    rw [e]
    exact (out1_at _ _ _ _ _ _ _ _ _ _ _ _ _ _ _ _ _ _ _ _ _ _ _ _ _ _ _ _ _ _ _ (tame m c hf t) r ⟨l.val - 64, by omega⟩ (hD 1)).trans (quotient_eq m c hf t 1 r ⟨l.val - 64, by omega⟩)

/-- The result array is the reference's. -/
theorem array_eq (hf : Fit m c) : (dats m 0 c).arrAt 7 cfg0.N = result m c := arr7 m c _ (block_eq m c hf)

end Cert.Kernel4Ideal.Work

end
-- ==== Proof.FoxPre.lean ====
/- What the third precondition says of the arrays: the scores' arguments are real, and the values' row of ones holds ones. -/
module

public import proofs.«01_k».proof.Proof.Gen.Pre_finite_scores
public import proofs.«01_k».proof.Proof.QkvPre
public import Idealize.ShloMosaic.Lib.Pipeline.ValueKit
public import Idealize.ShloMosaic.Lib.StableHlo.ReadAt

@[expose] public section

noncomputable section

namespace Cert.Fox

open Idealize.ShloMosaic Cert.Pre_finite_scores Cert.Pre_finite_scores.Facts Cert.Qkv

theorem word_one : (Ideal.ofBits .f32 0x3F800000#32 : EReal) = 1 := by
  simp only [Ideal.ofBits, Ideal.ieee]
  norm_num [BitVec.extractLsb', BitVec.toNat, Nat.shiftRight_eq_div_pow, BitVec.ofNat]

/-- A bit that says `x = 1`. -/
theorem one_of_bit (x : EReal) (h : FloatOps.cmpf (F := Ideal) (φ := .f32) .oeq x (Ideal.ofBits .f32 0x3F800000#32) = 1#1) : x = 1 := by
  rw [word_one] at h
  by_contra hx
  exact absurd h (by simp [FloatOps.cmpf, Ideal.cmp, hx])

/-- The row of ones of the values. -/
def onesRow (a3 : FVec Ideal S4x8x8x128x512 .bf16) : FVec Ideal S4x8x8x512 .f32 :=
  extf .f32 (shapeCast S4x8x8x512 (extractStridedSlice S4x8x8x1x512 ![0, 0, 0, 64, 0] a3 slices_S4x8x8x128x512_S4x8x8x1x512_0_0_0_64_0) shapeCasts_S4x8x8x1x512_S4x8x8x512) bitsLt_bf16_f32

/-- The row of ones of the first block's values. -/
def onesRow' (a6 : FVec Ideal S1x8x1x128x128 .bf16) : FVec Ideal S1x8x1x128 .f32 :=
  extf .f32 (shapeCast S1x8x1x128 (extractStridedSlice S1x8x1x1x128 ![0, 0, 0, 64, 0] a6 slices_S1x8x1x128x128_S1x8x1x1x128_0_0_0_64_0) shapeCasts_S1x8x1x1x128_S1x8x1x128) bitsLt_bf16_f32

theorem onesRow_at (a3 : FVec Ideal S4x8x8x128x512 .bf16) (b : Fin 4) (h n : Fin 8) (j : Fin 512) : onesRow a3 (ix4 b h n j) = a3 (ix5 b h n 64 j) := by
  unfold onesRow
  pointwise

theorem onesRow'_at (a6 : FVec Ideal S1x8x1x128x128 .bf16) (h : Fin 8) (j : Fin 128) : onesRow' a6 (ix4 0 h 0 j) = a6 (ix5 0 h 0 64 j) := by
  unfold onesRow'
  pointwise

/-- The printed precondition, read back. -/
theorem scores_of_fn (a0 a1 : FVec Ideal S4x4096x512 .bf16) (a2 : FVec Ideal S4x4096x128 .bf16) (a3 : FVec Ideal S4x8x8x128x512 .bf16)
    (a4 : FVec Ideal S1x128x512 .bf16) (a5 : FVec Ideal S1x128x128 .bf16) (a6 : FVec Ideal S1x8x1x128x128 .bf16)
    (h : fn (F := Ideal) a0 a1 a2 a3 a4 a5 a6 = fun _ => 1#1) :
    (∀ i, IsReal (a0 i)) ∧ (∀ i, IsReal (a1 i)) ∧ (∀ i, IsReal (a2 i)) ∧ (∀ i, IsReal (a4 i)) ∧ (∀ i, IsReal (a5 i))
      ∧ (∀ (b : Fin 4) (h n : Fin 8) (j : Fin 512), (a3 (ix5 b h n 64 j) : EReal) = 1) ∧ ∀ (h : Fin 8) (j : Fin 128), (a6 (ix5 0 h 0 64 j) : EReal) = 1 := by
  have h0 := congrFun h (fun i => i.elim0)
  unfold fn fn_part1 fn_part2 at h0
  obtain ⟨h28, h41⟩ := IntOp.andi_eq_one.1 h0
  obtain ⟨h34, h40⟩ := IntOp.andi_eq_one.1 h41
  obtain ⟨h22, h27⟩ := IntOp.andi_eq_one.1 h28
  obtain ⟨h16, h21⟩ := IntOp.andi_eq_one.1 h22
  obtain ⟨h10, h15⟩ := IntOp.andi_eq_one.1 h16
  obtain ⟨h4, h9⟩ := IntOp.andi_eq_one.1 h10
  refine ⟨fun i => real_of_bit _ (Host.reduce_andi_all _ _ _ _ _ h4 i), fun i => real_of_bit _ (Host.reduce_andi_all _ _ _ _ _ h9 i),
    fun i => real_of_bit _ (Host.reduce_andi_all _ _ _ _ _ h15 i), fun i => real_of_bit _ (Host.reduce_andi_all _ _ _ _ _ h21 i),
    fun i => real_of_bit _ (Host.reduce_andi_all _ _ _ _ _ h27 i), fun b h n j => ?_, fun h j => ?_⟩
  · exact (onesRow_at a3 b h n j).symm.trans (one_of_bit _ (Host.reduce_andi_all _ _ _ _ _ h34 (ix4 b h n j)))
  · exact (onesRow'_at a6 h j).symm.trans (one_of_bit _ (Host.reduce_andi_all _ _ _ _ _ h40 (ix4 0 h 0 j)))

end Cert.Fox

end
-- ==== Proof.FoxClaims.lean ====
/- The forgetting attention's call: both frames, `preserves`, and the result's value. -/
module

public import proofs.«01_k».proof.Defs
public import proofs.«01_k».proof.Proof.Gen.Kernel4.Frame
public import proofs.«01_k».proof.Proof.FoxEq
public import proofs.«01_k».proof.Proof.FoxPre
public import Idealize.ShloMosaic.Lib.Quiescent

@[expose] public section

noncomputable section

open Idealize.ShloMosaic Idealize.SL.Sem

namespace Cert.Proof

theorem frame_p4 : Cert.quiescent_Kernel4 := fun m ρ _ => Cert.Kernel4.Gen.frame (F := Bits) m ρ

theorem frame_pi4 : Cert.quiescent_Kernel4Ideal := fun m ρ _ => Cert.Kernel4Ideal.Gen.frame (F := Ideal) m ρ

theorem frame_pi4_pre : Cert.quiescent_Kernel4Ideal_pre_finite_scores := fun m ρ _ => Cert.Kernel4Ideal.Gen.frame (F := Ideal) m ρ

theorem frame_ri4 : Cert.quiescent_Reference4Ideal := fun m ρ _ =>
  θ_run_mono (Cert.Reference4Ideal.Value.run (F := Ideal) m ρ) fun r h => ⟨fun c => (h c).2,
      Idealize.ShloMosaic.sem_eq_zero_of_no_sems (by decide) r.2⟩

theorem frame_ri4_pre : Cert.quiescent_Reference4Ideal_pre_finite_scores := fun m ρ _ =>
  θ_run_mono (Cert.Reference4Ideal.Value.run (F := Ideal) m ρ) fun r h => ⟨fun c => (h c).2,
      Idealize.ShloMosaic.sem_eq_zero_of_no_sems (by decide) r.2⟩

/-- The mask's constant is named, and its name reads as negative infinity. -/
theorem preserves4 : Cert.preserves_Kernel4_Kernel4Ideal := IdealRules.named_const.statement _ "mask" .f32 4048155338#32 ⊥ rfl

theorem algebraic4 : Cert.algebraic_Kernel4Ideal_Reference4Ideal_pre_finite_scores := by
  intro m g m' g' hpre hargs
  have hf : ∀ c, Cert.Kernel4Ideal.Work.Fit m c := fun c => by
    obtain ⟨r0, r1, r2, r4, r5, o3, o6⟩ := Cert.Fox.scores_of_fn _ _ _ _ _ _ _ (hpre c)
    exact ⟨r0, r1, r2, r4, r5, o3, o6⟩
  refine ⟨fun c => Cert.Kernel4Ideal.Work.result m c, ?_, ?_⟩
  · refine θ_run_mono (Cert.Kernel4Ideal.Value.run_blocks (F := Ideal) m g) fun r h c => ?_
    obtain ⟨e0, hr⟩ := h c
    exact ⟨e0.trans (Cert.Kernel4Ideal.Work.array_eq m c (hf c)), hr⟩
  · refine θ_run_mono (Cert.Reference4Ideal.Value.run (F := Ideal) m' g') fun r h c => ?_
    obtain ⟨e0, hr⟩ := h c
    obtain ⟨h0, h1, h2, h3, h4, h5, h6⟩ := hargs c
    refine ⟨e0.trans ((Cert.Reference4Ideal.Value.res_eq m' c).trans ?_), hr⟩
    rw [h0, h1, h2, h3, h4, h5, h6]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite_weights
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_scores
public import proofs.«01_k».proof.Proof.Claims
public import proofs.«01_k».proof.Proof.Algebraic
public import proofs.«01_k».proof.Proof.MixClaims
public import proofs.«01_k».proof.Proof.QkvClaims
public import proofs.«01_k».proof.Proof.FoxClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_in_range.Gen.facts, Cert.Pre_finite_weights.Gen.facts, Cert.Pre_finite_scores.Gen.facts,
  frame_p, frame_pi, frame_ri, frame_ri_pre, frame_p2, frame_pi2, frame_ri2, frame_p3, frame_pi3, frame_pi3_pre, frame_ri3, frame_ri3_pre,
  frame_p4, frame_pi4, frame_pi4_pre, frame_ri4, frame_ri4_pre,
  preserves, algebraic, preserves2, algebraic2, preserves3, algebraic3, preserves4, algebraic4⟩

end Cert.Proof

end
